-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)) (v4 : (c : Dev Cert.Kernel5Ideal.nD) → Buf (Elt Ideal) ((c.tc : Thread Cert.Kernel5Ideal.nD Cert.Kernel5Ideal.τ).loc Cert.Kernel5Ideal.main_v20_4)) (v5 : (c : Dev Cert.Kernel5Ideal.nD) → Buf (Elt Ideal) ((c.tc : Thread Cert.Kernel5Ideal.nD Cert.Kernel5Ideal.τ).loc Cert.Kernel5Ideal.main_v20_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_v20_4) = v4 c
          ∧ r.2.mem ((c.tc : Thread Cert.Kernel5Ideal.nD Cert.Kernel5Ideal.τ).loc Cert.Kernel5Ideal.main_v20_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v132) = v0 c
          ∧ r.2.mem ((c.tc : Thread Cert.Reference5Ideal.nD Cert.Reference5Ideal.τ).loc Cert.Reference5Ideal.main_v133) = v1 c
          ∧ r.2.mem ((c.tc : Thread Cert.Reference5Ideal.nD Cert.Reference5Ideal.τ).loc Cert.Reference5Ideal.main_v134) = v2 c
          ∧ r.2.mem ((c.tc : Thread Cert.Reference5Ideal.nD Cert.Reference5Ideal.τ).loc Cert.Reference5Ideal.main_v135) = v3 c
          ∧ r.2.mem ((c.tc : Thread Cert.Reference5Ideal.nD Cert.Reference5Ideal.τ).loc Cert.Reference5Ideal.main_v130) = v4 c
          ∧ r.2.mem ((c.tc : Thread Cert.Reference5Ideal.nD Cert.Reference5Ideal.τ).loc Cert.Reference5Ideal.main_v142) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S33792x1024 : Shape := ⟨2, ![33792, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S32768x1024 : Shape := ⟨2, ![32768, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S64x1024 : Shape := ⟨2, ![64, 1024]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![65], ![false]⟩

def k0_mult1 (i : grid0.Coords) : BitVec 32 :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32_4 : BitVec 32 := 1#32
  let v17 : BitVec 32 := Scalar.subi v2 c1_i32_4
  let v18 : BitVec 32 := Scalar.select v16 v17 v2
  let c4224_i32 : BitVec 32 := 4224#32
  let v19 : BitVec 32 := Scalar.muli v18 c4224_i32
  let c64_i32 : BitVec 32 := 64#32
  let v20 : BitVec 32 := Scalar.addi v19 c64_i32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  v32
def k0_mult2 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32_5 : BitVec 32 := 1#32
  let v17 : BitVec 32 := Scalar.subi v2 c1_i32_5
  let v18 : BitVec 32 := Scalar.select v16 v17 v2
  let c4224_i32 : BitVec 32 := 4224#32
  let v19 : BitVec 32 := Scalar.muli v18 c4224_i32
  let c64_i32 : BitVec 32 := 64#32
  let v20 : BitVec 32 := Scalar.addi v19 c64_i32
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  v32
def k0_cond2 (i : grid0.Coords) : BitVec 1 :=
  let arg0 : BitVec 32 := BitVec.ofNat 32 (i 0).val
  let c64_i32 : BitVec 32 := 64#32
  let v3 : BitVec 1 := Scalar.cmpi .slt arg0 c64_i32
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 1 := Scalar.andi v3 v14
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c64_i32_7 : BitVec 32 := 64#32
  let v18 : BitVec 1 := Scalar.cmpi .slt arg0 c64_i32_7
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c1_i32_14 : BitVec 32 := 1#32
  let v29 : BitVec 1 := Scalar.cmpi .eq v28 c1_i32_14
  let v30 : BitVec 1 := Scalar.andi v18 v29
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c64_i32_16 : BitVec 32 := 64#32
  let v33 : BitVec 1 := Scalar.cmpi .eq arg0 c64_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4224_i32 : BitVec 32 := 4224#32
  let v19 : BitVec 32 := Scalar.muli v18 c4224_i32
  let c64_i32 : BitVec 32 := 64#32
  let v20 : BitVec 32 := Scalar.addi v19 c64_i32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  let v33 : BitVec 32 := v32
  let c0_i32_11 : BitVec 32 := 0#32
  let c0_i32_12 : BitVec 32 := 0#32
  ![v33.toNat, c0_i32_11.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4224_i32 : BitVec 32 := 4224#32
  let v19 : BitVec 32 := Scalar.muli v18 c4224_i32
  let c64_i32 : BitVec 32 := 64#32
  let v20 : BitVec 32 := Scalar.addi v19 c64_i32
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  let v33 : BitVec 32 := v32
  let c0_i32_12 : BitVec 32 := 0#32
  let c0_i32_13 : BitVec 32 := 0#32
  ![v33.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S33792x1024 : Shape := ⟨2, ![33792, 1024]⟩
abbrev S1024 : Shape := ⟨1, ![1024]⟩
abbrev S1024x5632 : Shape := ⟨2, ![1024, 5632]⟩
abbrev S2816x1024 : Shape := ⟨2, ![2816, 1024]⟩
abbrev S8x4224x1024 : Shape := ⟨3, ![8, 4224, 1024]⟩
abbrev S8x4112x1024 : Shape := ⟨3, ![8, 4112, 1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S8x4112x5632 : Shape := ⟨3, ![8, 4112, 5632]⟩
abbrev S8x4112x2816 : Shape := ⟨3, ![8, 4112, 2816]⟩
abbrev S8x4096x1024 : Shape := ⟨3, ![8, 4096, 1024]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8x4224x1024, .f32⟩
  | .hbm, ⟨6, _⟩ => ⟨S8x4112x1024, .f32⟩
  | .hbm, ⟨7, _⟩ => ⟨S8x4112x1024, .f32⟩
  | .hbm, ⟨8, _⟩ => ⟨S_, .f32⟩
  | .hbm, ⟨9, _⟩ => ⟨S8x4112, .f32⟩
  | .hbm, ⟨10, _⟩ => ⟨S8x4112x1, .f32⟩
  | .hbm, ⟨11, _⟩ => ⟨S_, .f32⟩
  | .hbm, ⟨12, _⟩ => ⟨S8x4112x1, .f32⟩
  | .hbm, ⟨13, _⟩ => ⟨S8x4112x1, .f32⟩
  | .hbm, ⟨14, _⟩ => ⟨S_, .f32⟩
  | .hbm, ⟨15, _⟩ => ⟨S8x4112x1, .f32⟩
  | .hbm, ⟨16, _⟩ => ⟨S8x4112x1, .f32⟩
  | .hbm, ⟨17, _⟩ => ⟨S8x4112x1, .f32⟩
  | .hbm, ⟨18, _⟩ => ⟨S8x4112x1024, .f32⟩
  | .hbm, ⟨19, _⟩ => ⟨S8x4112x1024, .f32⟩
  | .hbm, ⟨20, _⟩ => ⟨S1x1x1024, .f32⟩
  | .hbm, ⟨21, _⟩ => ⟨S8x4112x1024, .f32⟩
  | .hbm, ⟨22, _⟩ => ⟨S8x4112x1024, .f32⟩
  | .hbm, ⟨23, _⟩ => ⟨S8x4112x5632, .f32⟩
  | .hbm, ⟨24, _⟩ => ⟨S8x4112x2816, .f32⟩
  | .hbm, ⟨25, _⟩ => ⟨S8x4112x2816, .f32⟩
  | .hbm, ⟨26, _⟩ => ⟨S8x4112x2816, .f32⟩
  | .hbm, ⟨27, _⟩ => ⟨S8x4112x2816, .f32⟩
  | .hbm, ⟨28, _⟩ => ⟨S_, .f32⟩
  | .hbm, ⟨29, _⟩ => ⟨S8x4112x2816, .f32⟩
  | .hbm, ⟨30, _⟩ => ⟨S8x4112x2816, .f32⟩
  | .hbm, ⟨31, _⟩ => ⟨S_, .f32⟩
  | .hbm, ⟨32, _⟩ => ⟨S8x4112x2816, .f32⟩
  | .hbm, ⟨33, _⟩ => ⟨S8x4112x2816, .f32⟩
  | .hbm, ⟨34, _⟩ => ⟨S8x4112x2816, .f32⟩
  | .hbm, ⟨35, _⟩ => ⟨S8x4112x2816, .f32⟩
  | .hbm, ⟨36, _⟩ => ⟨S8x4112x1024, .f32⟩
  | .hbm, ⟨37, _⟩ => ⟨S8x4112x1024, .f32⟩
  | .hbm, ⟨38, _⟩ => ⟨S_, .f32⟩
  | .hbm, ⟨39, _⟩ => ⟨S8x4112, .f32⟩
  | .hbm, ⟨40, _⟩ => ⟨S8x4112x1, .f32⟩
  | .hbm, ⟨41, _⟩ => ⟨S_, .f32⟩
  | .hbm, ⟨42, _⟩ => ⟨S8x4112x1, .f32⟩
  | .hbm, ⟨43, _⟩ => ⟨S8x4112x1, .f32⟩
  | .hbm, ⟨44, _⟩ => ⟨S_, .f32⟩
  | .hbm, ⟨45, _⟩ => ⟨S8x4112x1, .f32⟩
  | .hbm, ⟨46, _⟩ => ⟨S8x4112x1, .f32⟩
  | .hbm, ⟨47, _⟩ => ⟨S8x4112x1, .f32⟩
  | .hbm, ⟨48, _⟩ => ⟨S8x4112x1024, .f32⟩
  | .hbm, ⟨49, _⟩ => ⟨S8x4112x1024, .f32⟩
  | .hbm, ⟨50, _⟩ => ⟨S1x1x1024, .f32⟩
  | .hbm, ⟨51, _⟩ => ⟨S8x4112x1024, .f32⟩
  | .hbm, ⟨52, _⟩ => ⟨S8x4112x1024, .f32⟩
  | .hbm, ⟨53, _⟩ => ⟨S_, .f32⟩
  | .hbm, ⟨54, _⟩ => ⟨S8x4112x1024, .f32⟩
  | .hbm, ⟨55, _⟩ => ⟨S8x4112x1024, .f32⟩
  | .hbm, ⟨56, _⟩ => ⟨S8x4112x1024, .f32⟩
  | .hbm, ⟨57, _⟩ => ⟨S8x4096x1024, .f32⟩
  | .hbm, ⟨58, _⟩ => ⟨S32768x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel2.lean ====
abbrev S33792x1024 : Shape := ⟨2, ![33792, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S64x1024 : Shape := ⟨2, ![64, 1024]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![67], ![false]⟩

def k0_cond2 (i : grid0.Coords) : BitVec 1 :=
  let arg0 : BitVec 32 := BitVec.ofNat 32 (i 0).val
  let c66_i32 : BitVec 32 := 66#32
  let v3 : BitVec 1 := Scalar.cmpi .slt arg0 c66_i32
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 1 := Scalar.andi v3 v14
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c66_i32_7 : BitVec 32 := 66#32
  let v18 : BitVec 1 := Scalar.cmpi .slt arg0 c66_i32_7
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c1_i32_14 : BitVec 32 := 1#32
  let v29 : BitVec 1 := Scalar.cmpi .eq v28 c1_i32_14
  let v30 : BitVec 1 := Scalar.andi v18 v29
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c66_i32_16 : BitVec 32 := 66#32
  let v33 : BitVec 1 := Scalar.cmpi .eq arg0 c66_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c65_i32 : BitVec 32 := 65#32
  let v1 : BitVec 32 := Scalar.minsi v0 c65_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S33792x1024 : Shape := ⟨2, ![33792, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x5632 : Shape := ⟨2, ![33792, 5632]⟩
abbrev S33792x2816 : Shape := ⟨2, ![33792, 2816]⟩

abbrev nBuf : Space → Nat
  | .hbm => 55
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S33792x1024, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x1024, .f32⟩
  | .hbm, ⟨17, _⟩ => ⟨S33792x1024, .f32⟩
  | .hbm, ⟨18, _⟩ => ⟨S1x1024, .f32⟩
  | .hbm, ⟨19, _⟩ => ⟨S33792x1024, .f32⟩
  | .hbm, ⟨20, _⟩ => ⟨S33792x1024, .f32⟩
  | .hbm, ⟨21, _⟩ => ⟨S33792x5632, .f32⟩
  | .hbm, ⟨22, _⟩ => ⟨S33792x2816, .f32⟩
  | .hbm, ⟨23, _⟩ => ⟨S33792x2816, .f32⟩
  | .hbm, ⟨24, _⟩ => ⟨S33792x2816, .f32⟩
  | .hbm, ⟨25, _⟩ => ⟨S33792x2816, .f32⟩
  | .hbm, ⟨26, _⟩ => ⟨S_, .f32⟩
  | .hbm, ⟨27, _⟩ => ⟨S33792x2816, .f32⟩
  | .hbm, ⟨28, _⟩ => ⟨S33792x2816, .f32⟩
  | .hbm, ⟨29, _⟩ => ⟨S_, .f32⟩
  | .hbm, ⟨30, _⟩ => ⟨S33792x2816, .f32⟩
  | .hbm, ⟨31, _⟩ => ⟨S33792x2816, .f32⟩
  | .hbm, ⟨32, _⟩ => ⟨S33792x2816, .f32⟩
  | .hbm, ⟨33, _⟩ => ⟨S33792x2816, .f32⟩
  | .hbm, ⟨34, _⟩ => ⟨S33792x1024, .f32⟩
  | .hbm, ⟨35, _⟩ => ⟨S33792x1024, .f32⟩
  | .hbm, ⟨36, _⟩ => ⟨S_, .f32⟩
  | .hbm, ⟨37, _⟩ => ⟨S33792, .f32⟩
  | .hbm, ⟨38, _⟩ => ⟨S33792x1, .f32⟩
  | .hbm, ⟨39, _⟩ => ⟨S_, .f32⟩
  | .hbm, ⟨40, _⟩ => ⟨S33792x1, .f32⟩
  | .hbm, ⟨41, _⟩ => ⟨S33792x1, .f32⟩
  | .hbm, ⟨42, _⟩ => ⟨S_, .f32⟩
  | .hbm, ⟨43, _⟩ => ⟨S33792x1, .f32⟩
  | .hbm, ⟨44, _⟩ => ⟨S33792x1, .f32⟩
  | .hbm, ⟨45, _⟩ => ⟨S33792x1, .f32⟩
  | .hbm, ⟨46, _⟩ => ⟨S33792x1024, .f32⟩
  | .hbm, ⟨47, _⟩ => ⟨S33792x1024, .f32⟩
  | .hbm, ⟨48, _⟩ => ⟨S1x1024, .f32⟩
  | .hbm, ⟨49, _⟩ => ⟨S33792x1024, .f32⟩
  | .hbm, ⟨50, _⟩ => ⟨S33792x1024, .f32⟩
  | .hbm, ⟨51, _⟩ => ⟨S_, .f32⟩
  | .hbm, ⟨52, _⟩ => ⟨S33792x1024, .f32⟩
  | .hbm, ⟨53, _⟩ => ⟨S33792x1024, .f32⟩
  | .hbm, ⟨54, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S64x1024 : Shape := ⟨2, ![64, 1024]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 1 := Scalar.andi v3 v14
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c64_i32_7 : BitVec 32 := 64#32
  let v18 : BitVec 1 := Scalar.cmpi .slt arg0 c64_i32_7
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c1_i32_14 : BitVec 32 := 1#32
  let v29 : BitVec 1 := Scalar.cmpi .eq v28 c1_i32_14
  let v30 : BitVec 1 := Scalar.andi v18 v29
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c64_i32_16 : BitVec 32 := 64#32
  let v33 : BitVec 1 := Scalar.cmpi .eq arg0 c64_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel4.lean ====
abbrev S33792x1024 : Shape := ⟨2, ![33792, 1024]⟩
abbrev S33792x512 : Shape := ⟨2, ![33792, 512]⟩
abbrev S33792x3072 : Shape := ⟨2, ![33792, 3072]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1x128 : Shape := ⟨2, ![1, 128]⟩
abbrev S1x1024 : Shape := ⟨2, ![1, 1024]⟩
abbrev S1024x512 : Shape := ⟨2, ![1024, 512]⟩
abbrev S1024x3072 : Shape := ⟨2, ![1024, 3072]⟩
abbrev S1024x128 : Shape := ⟨2, ![1024, 128]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S33792x1024, .f32⟩
  | .hbm, ⟨1, _⟩ => ⟨S33792x512, .bf16⟩
  | .hbm, ⟨2, _⟩ => ⟨S33792x512, .bf16⟩
  | .hbm, ⟨3, _⟩ => ⟨S33792x512, .bf16⟩
  | .hbm, ⟨4, _⟩ => ⟨S33792x512, .bf16⟩
  | .hbm, ⟨5, _⟩ => ⟨S33792x3072, .bf16⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1x128, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S33792x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x3072, .bf16⟩
  | .local _ .vmem, ⟨11, _⟩ => ⟨S1024x3072, .bf16⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S33792x1024 : Shape := ⟨2, ![33792, 1024]⟩
abbrev S33792x512 : Shape := ⟨2, ![33792, 512]⟩
abbrev S33792x3072 : Shape := ⟨2, ![33792, 3072]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S33792x4x128 : Shape := ⟨3, ![33792, 4, 128]⟩
abbrev S_ : Shape := ⟨0, ![]⟩
abbrev S33792x4 : Shape := ⟨2, ![33792, 4]⟩
abbrev S33792x4x1 : Shape := ⟨3, ![33792, 4, 1]⟩
abbrev S1x1x128 : Shape := ⟨3, ![1, 1, 128]⟩
abbrev S33792x3x1024 : Shape := ⟨3, ![33792, 3, 1024]⟩
abbrev S33792x1x1024 : Shape := ⟨3, ![33792, 1, 1024]⟩
abbrev S33792 : Shape := ⟨1, ![33792]⟩
abbrev S33792x1 : Shape := ⟨2, ![33792, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x512, .bf16⟩
  | .hbm, ⟨2, _⟩ => ⟨S33792x512, .bf16⟩
  | .hbm, ⟨3, _⟩ => ⟨S33792x512, .bf16⟩
  | .hbm, ⟨4, _⟩ => ⟨S33792x512, .bf16⟩
  | .hbm, ⟨5, _⟩ => ⟨S33792x3072, .bf16⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S33792x512, .f32⟩
  | .hbm, ⟨13, _⟩ => ⟨S33792x4x128, .f32⟩
  | .hbm, ⟨14, _⟩ => ⟨S33792x4x128, .f32⟩
  | .hbm, ⟨15, _⟩ => ⟨S_, .f32⟩
  | .hbm, ⟨16, _⟩ => ⟨S33792x4, .f32⟩
  | .hbm, ⟨17, _⟩ => ⟨S33792x4x1, .f32⟩
  | .hbm, ⟨18, _⟩ => ⟨S_, .f32⟩
  | .hbm, ⟨19, _⟩ => ⟨S33792x4x1, .f32⟩
  | .hbm, ⟨20, _⟩ => ⟨S33792x4x1, .f32⟩
  | .hbm, ⟨21, _⟩ => ⟨S_, .f32⟩
  | .hbm, ⟨22, _⟩ => ⟨S33792x4x1, .f32⟩
  | .hbm, ⟨23, _⟩ => ⟨S33792x4x1, .f32⟩
  | .hbm, ⟨24, _⟩ => ⟨S33792x4x1, .f32⟩
  | .hbm, ⟨25, _⟩ => ⟨S33792x4x128, .f32⟩
  | .hbm, ⟨26, _⟩ => ⟨S33792x4x128, .f32⟩
  | .hbm, ⟨27, _⟩ => ⟨S1x1x128, .f32⟩
  | .hbm, ⟨28, _⟩ => ⟨S33792x4x128, .f32⟩
  | .hbm, ⟨29, _⟩ => ⟨S33792x4x128, .f32⟩
  | .hbm, ⟨30, _⟩ => ⟨S33792x512, .f32⟩
  | .hbm, ⟨31, _⟩ => ⟨S33792x4x128, .f32⟩
  | .hbm, ⟨32, _⟩ => ⟨S33792x4x128, .f32⟩
  | .hbm, ⟨33, _⟩ => ⟨S33792x4x128, .f32⟩
  | .hbm, ⟨34, _⟩ => ⟨S_, .f32⟩
  | .hbm, ⟨35, _⟩ => ⟨S33792x4x128, .f32⟩
  | .hbm, ⟨36, _⟩ => ⟨S33792x4x128, .f32⟩
  | .hbm, ⟨37, _⟩ => ⟨S_, .f32⟩
  | .hbm, ⟨38, _⟩ => ⟨S33792x4x128, .f32⟩
  | .hbm, ⟨39, _⟩ => ⟨S33792x4x128, .f32⟩
  | .hbm, ⟨40, _⟩ => ⟨S33792x4x128, .f32⟩
  | .hbm, ⟨41, _⟩ => ⟨S33792x4x128, .f32⟩
  | .hbm, ⟨42, _⟩ => ⟨S33792x512, .f32⟩
  | .hbm, ⟨43, _⟩ => ⟨S33792x1024, .f32⟩
  | .hbm, ⟨44, _⟩ => ⟨S33792x512, .f32⟩
  | .hbm, ⟨45, _⟩ => ⟨S33792x1024, .f32⟩
  | .hbm, ⟨46, _⟩ => ⟨S33792x512, .f32⟩
  | .hbm, ⟨47, _⟩ => ⟨S33792x1024, .f32⟩
  | .hbm, ⟨48, _⟩ => ⟨S33792x3072, .f32⟩
  | .hbm, ⟨49, _⟩ => ⟨S33792x3x1024, .f32⟩
  | .hbm, ⟨50, _⟩ => ⟨S33792x1x1024, .f32⟩
  | .hbm, ⟨51, _⟩ => ⟨S33792x1024, .f32⟩
  | .hbm, ⟨52, _⟩ => ⟨S33792x1024, .f32⟩
  | .hbm, ⟨53, _⟩ => ⟨S33792x1x1024, .f32⟩
  | .hbm, ⟨54, _⟩ => ⟨S33792x1024, .f32⟩
  | .hbm, ⟨55, _⟩ => ⟨S33792x1024, .f32⟩
  | .hbm, ⟨56, _⟩ => ⟨S33792x1024, .f32⟩
  | .hbm, ⟨57, _⟩ => ⟨S33792x1x1024, .f32⟩
  | .hbm, ⟨58, _⟩ => ⟨S33792x1024, .f32⟩
  | .hbm, ⟨59, _⟩ => ⟨S33792x1024, .f32⟩
  | .hbm, ⟨60, _⟩ => ⟨S33792x1024, .f32⟩
  | .hbm, ⟨61, _⟩ => ⟨S33792x1024, .f32⟩
  | .hbm, ⟨62, _⟩ => ⟨S33792x1024, .f32⟩
  | .hbm, ⟨63, _⟩ => ⟨S_, .f32⟩
  | .hbm, ⟨64, _⟩ => ⟨S33792, .f32⟩
  | .hbm, ⟨65, _⟩ => ⟨S33792x1, .f32⟩
  | .hbm, ⟨66, _⟩ => ⟨S_, .f32⟩
  | .hbm, ⟨67, _⟩ => ⟨S33792x1, .f32⟩
  | .hbm, ⟨68, _⟩ => ⟨S33792x1, .f32⟩
  | .hbm, ⟨69, _⟩ => ⟨S_, .f32⟩
  | .hbm, ⟨70, _⟩ => ⟨S33792x1, .f32⟩
  | .hbm, ⟨71, _⟩ => ⟨S33792x1, .f32⟩
  | .hbm, ⟨72, _⟩ => ⟨S33792x1, .f32⟩
  | .hbm, ⟨73, _⟩ => ⟨S33792x1024, .f32⟩
  | .hbm, ⟨74, _⟩ => ⟨S33792x1024, .f32⟩
  | .hbm, ⟨75, _⟩ => ⟨S1x1024, .f32⟩
  | .hbm, ⟨76, _⟩ => ⟨S33792x1024, .f32⟩
  | .hbm, ⟨77, _⟩ => ⟨S33792x1024, .f32⟩
  | .hbm, ⟨78, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]
-- ==== Kernel5.lean ====
abbrev S33792x1024 : Shape := ⟨2, ![33792, 1024]⟩
abbrev S1024 : Shape := ⟨1, ![1024]⟩
abbrev S1024x7184 : Shape := ⟨2, ![1024, 7184]⟩
abbrev S512x1024 : Shape := ⟨2, ![512, 1024]⟩
abbrev S3x512 : Shape := ⟨2, ![3, 512]⟩
abbrev S3x1536 : Shape := ⟨2, ![3, 1536]⟩
abbrev S2x4 : Shape := ⟨2, ![2, 4]⟩
abbrev S1024x16 : Shape := ⟨2, ![1024, 16]⟩
abbrev S_ : Shape := ⟨0, ![]⟩
abbrev S1024x128 : Shape := ⟨2, ![1024, 128]⟩
abbrev S8x128 : Shape := ⟨2, ![8, 128]⟩
abbrev S8 : Shape := ⟨1, ![8]⟩
abbrev S1 : Shape := ⟨1, ![1]⟩
abbrev S2 : Shape := ⟨1, ![2]⟩
abbrev S1x1024 : Shape := ⟨2, ![1, 1024]⟩
abbrev S1024x4096 : Shape := ⟨2, ![1024, 4096]⟩
abbrev S1024x3072 : Shape := ⟨2, ![1024, 3072]⟩
abbrev S33792x512 : Shape := ⟨2, ![33792, 512]⟩
abbrev S33792x1536 : Shape := ⟨2, ![33792, 1536]⟩
abbrev S33792x128 : Shape := ⟨2, ![33792, 128]⟩
abbrev S33792x3072 : Shape := ⟨2, ![33792, 3072]⟩
abbrev S1024x1024 : Shape := ⟨2, ![1024, 1024]⟩
abbrev S8x1024 : Shape := ⟨2, ![8, 1024]⟩
abbrev S1024x512 : Shape := ⟨2, ![1024, 512]⟩
abbrev S1024x1536 : Shape := ⟨2, ![1024, 1536]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S16x3072 : Shape := ⟨2, ![16, 3072]⟩
abbrev S1x3072 : Shape := ⟨2, ![1, 3072]⟩
abbrev S128x128 : Shape := ⟨2, ![128, 128]⟩
abbrev S128x1 : Shape := ⟨2, ![128, 1]⟩
abbrev S1x128 : Shape := ⟨2, ![1, 128]⟩
abbrev S1x512 : Shape := ⟨2, ![1, 512]⟩
abbrev S1x1536 : Shape := ⟨2, ![1, 1536]⟩

abbrev nBuf : Space → Nat
  | .hbm => 41
  | .vmem => 27
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x7184, .f32⟩
  | .hbm, ⟨3, _⟩ => ⟨S512x1024, .f32⟩
  | .hbm, ⟨4, _⟩ => ⟨S3x512, .f32⟩
  | .hbm, ⟨5, _⟩ => ⟨S3x1536, .f32⟩
  | .hbm, ⟨6, _⟩ => ⟨S2x4, .f32⟩
  | .hbm, ⟨7, _⟩ => ⟨S2x4, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S_, .f32⟩
  | .hbm, ⟨14, _⟩ => ⟨S8x128, .f32⟩
  | .hbm, ⟨15, _⟩ => ⟨S8, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x128, .f32⟩
  | .hbm, ⟨29, _⟩ => ⟨S1x1024, .f32⟩
  | .hbm, ⟨30, _⟩ => ⟨S1024x4096, .f32⟩
  | .hbm, ⟨31, _⟩ => ⟨S1024x4096, .bf16⟩
  | .hbm, ⟨32, _⟩ => ⟨S1024x3072, .f32⟩
  | .hbm, ⟨33, _⟩ => ⟨S1024x3072, .bf16⟩
  | .hbm, ⟨34, _⟩ => ⟨S512x1024, .bf16⟩
  | .hbm, ⟨35, _⟩ => ⟨S33792x1024, .bf16⟩
  | .hbm, ⟨36, _⟩ => ⟨S33792x512, .bf16⟩
  | .hbm, ⟨37, _⟩ => ⟨S33792x1536, .bf16⟩
  | .hbm, ⟨38, _⟩ => ⟨S33792x512, .bf16⟩
  | .hbm, ⟨39, _⟩ => ⟨S33792x128, .f32⟩
  | .hbm, ⟨40, _⟩ => ⟨S33792x3072, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x4096, .bf16⟩
  | .local _ .vmem, ⟨8, _⟩ => ⟨S1024x128, .bf16⟩
  | .local _ .vmem, ⟨9, _⟩ => ⟨S1024x3072, .bf16⟩
  | .local _ .vmem, ⟨10, _⟩ => ⟨S512x1024, .bf16⟩
  | .local _ .vmem, ⟨11, _⟩ => ⟨S3x512, .f32⟩
  | .local _ .vmem, ⟨12, _⟩ => ⟨S3x1536, .f32⟩
  | .local _ .vmem, ⟨13, _⟩ => ⟨S8x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x1536, .bf16⟩
  | .local _ .vmem, ⟨19, _⟩ => ⟨S1024x1536, .bf16⟩
  | .local _ .vmem, ⟨20, _⟩ => ⟨S1024x512, .bf16⟩
  | .local _ .vmem, ⟨21, _⟩ => ⟨S1024x512, .bf16⟩
  | .local _ .vmem, ⟨22, _⟩ => ⟨S1024x128, .f32⟩
  | .local _ .vmem, ⟨23, _⟩ => ⟨S1024x128, .f32⟩
  | .local _ .vmem, ⟨24, _⟩ => ⟨S1024x3072, .bf16⟩
  | .local _ .vmem, ⟨25, _⟩ => ⟨S1024x3072, .bf16⟩
  | .local _ .vmem, ⟨26, _⟩ => ⟨S1024x128, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v20_4 : Ref sig .tc := ⟨.hbm, 39, rfl⟩
abbrev main_v20_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v3 : BitVec 1 := Scalar.cmpi .slt arg0 c33_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c33_i32_2 : BitVec 32 := 33#32
  let v6 : BitVec 1 := Scalar.cmpi .eq arg0 c33_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.minsi arg0 c32_i32
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.minsi arg0 c32_i32
  let c1_i32 : BitVec 32 := 1#32
  let v1 : BitVec 32 := Scalar.addi v0 c1_i32
  let c128_i32 : BitVec 32 := 128#32
  let v2 : BitVec 32 := Scalar.muli v1 c128_i32
  let c4223_i32 : BitVec 32 := 4223#32
  let v3 : BitVec 32 := Scalar.minsi v2 c4223_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S33792x1024 : Shape := ⟨2, ![33792, 1024]⟩
abbrev S1024 : Shape := ⟨1, ![1024]⟩
abbrev S1024x7184 : Shape := ⟨2, ![1024, 7184]⟩
abbrev S512x1024 : Shape := ⟨2, ![512, 1024]⟩
abbrev S3x512 : Shape := ⟨2, ![3, 512]⟩
abbrev S3x1536 : Shape := ⟨2, ![3, 1536]⟩
abbrev S2x4 : Shape := ⟨2, ![2, 4]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x7184 : Shape := ⟨2, ![33792, 7184]⟩
abbrev S33792x512 : Shape := ⟨2, ![33792, 512]⟩
abbrev S33792x1536 : Shape := ⟨2, ![33792, 1536]⟩
abbrev S33792x8 : Shape := ⟨2, ![33792, 8]⟩
abbrev S33792x3072 : Shape := ⟨2, ![33792, 3072]⟩
abbrev S33794x512 : Shape := ⟨2, ![33794, 512]⟩
abbrev S1x512 : Shape := ⟨2, ![1, 512]⟩
abbrev S512 : Shape := ⟨1, ![512]⟩
abbrev S33794x1536 : Shape := ⟨2, ![33794, 1536]⟩
abbrev S1x1536 : Shape := ⟨2, ![1, 1536]⟩
abbrev S1536 : Shape := ⟨1, ![1536]⟩
abbrev S33792x4x128 : Shape := ⟨3, ![33792, 4, 128]⟩
abbrev S33792x4 : Shape := ⟨2, ![33792, 4]⟩
abbrev S33792x4x1 : Shape := ⟨3, ![33792, 4, 1]⟩
abbrev S8 : Shape := ⟨1, ![8]⟩
abbrev S120 : Shape := ⟨1, ![120]⟩
abbrev S33792x120 : Shape := ⟨2, ![33792, 120]⟩
abbrev S1x120 : Shape := ⟨2, ![1, 120]⟩
abbrev S8x4224x8 : Shape := ⟨3, ![8, 4224, 8]⟩
abbrev S8x4112x8 : Shape := ⟨3, ![8, 4112, 8]⟩
abbrev S528x64x8 : Shape := ⟨3, ![528, 64, 8]⟩
abbrev S8x4224x120 : Shape := ⟨3, ![8, 4224, 120]⟩
abbrev S8x4112x120 : Shape := ⟨3, ![8, 4112, 120]⟩
abbrev S528x64x120 : Shape := ⟨3, ![528, 64, 120]⟩
abbrev S528x64x4 : Shape := ⟨3, ![528, 64, 4]⟩
abbrev S528x64x116 : Shape := ⟨3, ![528, 64, 116]⟩
abbrev S528x64x128 : Shape := ⟨3, ![528, 64, 128]⟩
abbrev S33792x128 : Shape := ⟨2, ![33792, 128]⟩

abbrev nBuf : Space → Nat
  | .hbm => 202
  | .vmem => 0
  | .smem => 0
  | _ => 0

abbrev hbmTy0_0 (i : Nat) : BufTy := match i % 128 with
  | 0 => ⟨S33792x1024, .f32⟩
  | 1 => ⟨S1024, .f32⟩
  | 2 => ⟨S1024x7184, .f32⟩
  | 3 => ⟨S512x1024, .f32⟩
  | 4 => ⟨S3x512, .f32⟩
  | 5 => ⟨S3x1536, .f32⟩
  | 6 => ⟨S2x4, .f32⟩
  | 7 => ⟨S2x4, .f32⟩
  | 8 => ⟨S33792x1024, .f32⟩
  | 9 => ⟨S_, .f32⟩
  | 10 => ⟨S33792, .f32⟩
  | 11 => ⟨S33792x1, .f32⟩
  | 12 => ⟨S_, .f32⟩
  | 13 => ⟨S33792x1, .f32⟩
  | 14 => ⟨S33792x1, .f32⟩
  | 15 => ⟨S_, .f32⟩
  | 16 => ⟨S33792x1, .f32⟩
  | 17 => ⟨S33792x1, .f32⟩
  | 18 => ⟨S33792x1, .f32⟩
  | 19 => ⟨S33792x1024, .f32⟩
  | 20 => ⟨S33792x1024, .f32⟩
  | 21 => ⟨S1x1024, .f32⟩
  | 22 => ⟨S33792x1024, .f32⟩
  | 23 => ⟨S33792x1024, .f32⟩
  | 24 => ⟨S33792x7184, .f32⟩
  | 25 => ⟨S33792x512, .f32⟩
  | 26 => ⟨S33792x1536, .f32⟩
  | 27 => ⟨S33792x1536, .f32⟩
  | 28 => ⟨S33792x512, .f32⟩
  | 29 => ⟨S33792x8, .f32⟩
  | 30 => ⟨S33792x8, .f32⟩
  | 31 => ⟨S33792x3072, .f32⟩
  | 32 => ⟨S33792x512, .f32⟩
  | 33 => ⟨S33792x512, .f32⟩
  | 34 => ⟨S33792x512, .f32⟩
  | 35 => ⟨S33792x512, .f32⟩
  | 36 => ⟨S_, .i32⟩
  | 37 => ⟨S_, .f32⟩
  | 38 => ⟨S33794x512, .f32⟩
  | 39 => ⟨S1x512, .f32⟩
  | 40 => ⟨S512, .f32⟩
  | 41 => ⟨S33792x512, .f32⟩
  | 42 => ⟨S1x512, .f32⟩
  | 43 => ⟨S33792x512, .f32⟩
  | 44 => ⟨S33792x512, .f32⟩
  | 45 => ⟨S1x512, .f32⟩
  | 46 => ⟨S512, .f32⟩
  | 47 => ⟨S33792x512, .f32⟩
  | 48 => ⟨S1x512, .f32⟩
  | 49 => ⟨S33792x512, .f32⟩
  | 50 => ⟨S33792x512, .f32⟩
  | 51 => ⟨S33792x512, .f32⟩
  | 52 => ⟨S1x512, .f32⟩
  | 53 => ⟨S512, .f32⟩
  | 54 => ⟨S33792x512, .f32⟩
  | 55 => ⟨S1x512, .f32⟩
  | 56 => ⟨S33792x512, .f32⟩
  | 57 => ⟨S33792x512, .f32⟩
  | 58 => ⟨S33792x512, .f32⟩
  | 59 => ⟨S33792x512, .f32⟩
  | 60 => ⟨S_, .i32⟩
  | 61 => ⟨S_, .f32⟩
  | 62 => ⟨S33794x1536, .f32⟩
  | 63 => ⟨S1x1536, .f32⟩
  | 64 => ⟨S1536, .f32⟩
  | 65 => ⟨S33792x1536, .f32⟩
  | 66 => ⟨S1x1536, .f32⟩
  | 67 => ⟨S33792x1536, .f32⟩
  | 68 => ⟨S33792x1536, .f32⟩
  | 69 => ⟨S1x1536, .f32⟩
  | 70 => ⟨S1536, .f32⟩
  | 71 => ⟨S33792x1536, .f32⟩
  | 72 => ⟨S1x1536, .f32⟩
  | 73 => ⟨S33792x1536, .f32⟩
  | 74 => ⟨S33792x1536, .f32⟩
  | 75 => ⟨S33792x1536, .f32⟩
  | 76 => ⟨S1x1536, .f32⟩
  | 77 => ⟨S1536, .f32⟩
  | 78 => ⟨S33792x1536, .f32⟩
  | 79 => ⟨S1x1536, .f32⟩
  | 80 => ⟨S33792x1536, .f32⟩
  | 81 => ⟨S33792x1536, .f32⟩
  | 82 => ⟨S33792x1536, .f32⟩
  | 83 => ⟨S33792x1536, .f32⟩
  | 84 => ⟨S33792x1536, .f32⟩
  | 85 => ⟨S_, .f32⟩
  | 86 => ⟨S33792x1536, .f32⟩
  | 87 => ⟨S33792x1536, .f32⟩
  | 88 => ⟨S_, .f32⟩
  | 89 => ⟨S33792x1536, .f32⟩
  | 90 => ⟨S33792x1536, .f32⟩
  | 91 => ⟨S33792x1536, .f32⟩
  | 92 => ⟨S33792x512, .f32⟩
  | 93 => ⟨S33792x512, .f32⟩
  | 94 => ⟨S33792x512, .f32⟩
  | 95 => ⟨S33792x4x128, .f32⟩
  | 96 => ⟨S33792x4x128, .f32⟩
  | 97 => ⟨S_, .f32⟩
  | 98 => ⟨S33792x4, .f32⟩
  | 99 => ⟨S33792x4x1, .f32⟩
  | 100 => ⟨S_, .f32⟩
  | 101 => ⟨S33792x4x1, .f32⟩
  | 102 => ⟨S33792x4x1, .f32⟩
  | 103 => ⟨S33792x4x1, .f32⟩
  | 104 => ⟨S33792x4x128, .f32⟩
  | 105 => ⟨S33792x4x128, .f32⟩
  | 106 => ⟨S_, .f32⟩
  | 107 => ⟨S33792x4x128, .f32⟩
  | 108 => ⟨S33792x4x128, .f32⟩
  | 109 => ⟨S33792x4x128, .f32⟩
  | 110 => ⟨S33792x4x128, .f32⟩
  | 111 => ⟨S_, .f32⟩
  | 112 => ⟨S33792x4, .f32⟩
  | 113 => ⟨S33792x4x1, .f32⟩
  | 114 => ⟨S_, .f32⟩
  | 115 => ⟨S33792x4x1, .f32⟩
  | 116 => ⟨S33792x4x1, .f32⟩
  | 117 => ⟨S33792x4x1, .f32⟩
  | 118 => ⟨S33792x4x128, .f32⟩
  | 119 => ⟨S33792x4x128, .f32⟩
  | 120 => ⟨S33792x512, .f32⟩
  | 121 => ⟨S33792x512, .f32⟩
  | 122 => ⟨S33792x1536, .f32⟩
  | 123 => ⟨S33792x8, .f32⟩
  | 124 => ⟨S33792x8, .f32⟩
  | 125 => ⟨S_, .f32⟩
  | 126 => ⟨S33792x8, .f32⟩
  | 127 => ⟨S33792x8, .f32⟩
  | _ => ⟨S33792x1024, .f32⟩

abbrev hbmTy0_1 (i : Nat) : BufTy := match i % 128 with
  | 0 => ⟨S_, .f32⟩
  | 1 => ⟨S33792x8, .f32⟩
  | 2 => ⟨S33792x8, .f32⟩
  | 3 => ⟨S8, .f32⟩
  | 4 => ⟨S_, .i32⟩
  | 5 => ⟨S_, .f32⟩
  | 6 => ⟨S120, .f32⟩
  | 7 => ⟨S120, .f32⟩
  | 8 => ⟨S120, .f32⟩
  | 9 => ⟨S_, .i32⟩
  | 10 => ⟨S_, .f32⟩
  | 11 => ⟨S33792x120, .f32⟩
  | 12 => ⟨S8, .f32⟩
  | 13 => ⟨S_, .i32⟩
  | 14 => ⟨S_, .f32⟩
  | 15 => ⟨S120, .f32⟩
  | 16 => ⟨S1x120, .f32⟩
  | 17 => ⟨S33792x120, .f32⟩
  | 18 => ⟨S33792x120, .f32⟩
  | 19 => ⟨S_, .f32⟩
  | 20 => ⟨S33792x120, .f32⟩
  | 21 => ⟨S33792x120, .f32⟩
  | 22 => ⟨S33792x120, .f32⟩
  | 23 => ⟨S33792x120, .f32⟩
  | 24 => ⟨S33792x120, .i1⟩
  | 25 => ⟨S33792x120, .f32⟩
  | 26 => ⟨S33792x120, .f32⟩
  | 27 => ⟨S33792x120, .f32⟩
  | 28 => ⟨S33792x120, .f32⟩
  | 29 => ⟨S33792x120, .f32⟩
  | 30 => ⟨S33792x120, .f32⟩
  | 31 => ⟨S33792x120, .f32⟩
  | 32 => ⟨S33792x120, .f32⟩
  | 33 => ⟨S1x120, .f32⟩
  | 34 => ⟨S33792x120, .f32⟩
  | 35 => ⟨S33792x120, .f32⟩
  | 36 => ⟨S8x4224x8, .f32⟩
  | 37 => ⟨S8x4112x8, .f32⟩
  | 38 => ⟨S_, .i32⟩
  | 39 => ⟨S_, .f32⟩
  | 40 => ⟨S8x4224x8, .f32⟩
  | 41 => ⟨S528x64x8, .f32⟩
  | 42 => ⟨S8x4224x120, .f32⟩
  | 43 => ⟨S8x4112x120, .f32⟩
  | 44 => ⟨S_, .i32⟩
  | 45 => ⟨S_, .f32⟩
  | 46 => ⟨S8x4224x120, .f32⟩
  | 47 => ⟨S528x64x120, .f32⟩
  | 48 => ⟨S_, .f32⟩
  | 49 => ⟨S_, .f32⟩
  | 50 => ⟨S528x64x120, .f32⟩
  | 51 => ⟨S528x64x120, .f32⟩
  | 52 => ⟨S_, .f32⟩
  | 53 => ⟨S_, .f32⟩
  | 54 => ⟨S528x64x120, .f32⟩
  | 55 => ⟨S528x64x120, .f32⟩
  | 56 => ⟨S528x64x4, .f32⟩
  | 57 => ⟨S528x64x116, .f32⟩
  | 58 => ⟨S528x64x128, .f32⟩
  | 59 => ⟨S33792x128, .f32⟩
  | 60 => ⟨S33792x1024, .f32⟩
  | 61 => ⟨S33792x1024, .bf16⟩
  | 62 => ⟨S33792x512, .bf16⟩
  | 63 => ⟨S33792x1536, .bf16⟩
  | 64 => ⟨S33792x512, .bf16⟩
  | 65 => ⟨S33792x3072, .f32⟩
  | 66 => ⟨S33792x3072, .f32⟩
  | 67 => ⟨S_, .f32⟩
  | 68 => ⟨S33792x3072, .f32⟩
  | 69 => ⟨S33792x3072, .f32⟩
  | 70 => ⟨S_, .f32⟩
  | 71 => ⟨S33792x3072, .f32⟩
  | 72 => ⟨S33792x3072, .f32⟩
  | 73 => ⟨S33792x3072, .bf16⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_2 : Ref sig .tc := ⟨.hbm, 60, rfl⟩
abbrev main_call1_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_3 : Ref sig .tc := ⟨.hbm, 97, rfl⟩
abbrev main_v74 : Ref sig .tc := ⟨.hbm, 98, rfl⟩
abbrev main_v75 : Ref sig .tc := ⟨.hbm, 99, rfl⟩
abbrev main_cst_4 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_5 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_6 : Ref sig .tc := ⟨.hbm, 111, rfl⟩
abbrev main_v85 : Ref sig .tc := ⟨.hbm, 112, rfl⟩
abbrev main_v86 : Ref sig .tc := ⟨.hbm, 113, rfl⟩
abbrev main_cst_7 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_8 : Ref sig .tc := ⟨.hbm, 125, rfl⟩
abbrev main_v97 : Ref sig .tc := ⟨.hbm, 126, rfl⟩
abbrev main_v98 : Ref sig .tc := ⟨.hbm, 127, rfl⟩
abbrev main_cst_9 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_c_10 : Ref sig .tc := ⟨.hbm, 132, rfl⟩
abbrev main_call3_v0 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_11 : Ref sig .tc := ⟨.hbm, 137, rfl⟩
abbrev main_call4_v0 : Ref sig .tc := ⟨.hbm, 138, rfl⟩
abbrev main_v105 : Ref sig .tc := ⟨.hbm, 139, rfl⟩
abbrev main_v106 : Ref sig .tc := ⟨.hbm, 140, rfl⟩
abbrev main_c_12 : Ref sig .tc := ⟨.hbm, 141, rfl⟩
abbrev main_call5_v0 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call6_cst : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_c_13 : Ref sig .tc := ⟨.hbm, 166, rfl⟩
abbrev main_call7_v0 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_c_14 : Ref sig .tc := ⟨.hbm, 172, rfl⟩
abbrev main_call8_v0 : Ref sig .tc := ⟨.hbm, 173, rfl⟩
abbrev main_v121 : Ref sig .tc := ⟨.hbm, 174, rfl⟩
abbrev main_v122 : Ref sig .tc := ⟨.hbm, 175, rfl⟩
abbrev main_call9_call0_cst : Ref sig .tc := ⟨.hbm, 176, rfl⟩
abbrev main_call9_call0_v0 : Ref sig .tc := ⟨.hbm, 177, rfl⟩
abbrev main_v123 : Ref sig .tc := ⟨.hbm, 178, rfl⟩
abbrev main_v124 : Ref sig .tc := ⟨.hbm, 179, rfl⟩
abbrev main_call11_call0_cst : Ref sig .tc := ⟨.hbm, 180, rfl⟩
abbrev main_call11_call0_v0 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_15 : Ref sig .tc := ⟨.hbm, 195, rfl⟩
abbrev main_v138 : Ref sig .tc := ⟨.hbm, 196, rfl⟩
abbrev main_v139 : Ref sig .tc := ⟨.hbm, 197, rfl⟩
abbrev main_cst_16 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩

abbrev nD : Nat := 1
abbrev τ : Topo := Topo.v7x

variable {F : FTy → Type} [FloatOps F]
-- ==== Proof.Points.lean ====
/- What the run of the feed-forward kernel shares between its points: at which points each branch of the body is
   taken, the staging buffers as the body gets them, and what a point computes from the blocks it is given. -/
module

public import proofs.«01_k».proof.Proof.Gen.KernelIdeal.Frame
public import proofs.«01_k».proof.Proof.Gen.KernelIdeal.Skeleton
public import Idealize.ShloMosaic.Lib.Pipeline.Value
public import Idealize.ShloMosaic.Lib.ValueIdxCore

@[expose] public section

set_option maxRecDepth 16384

noncomputable section

namespace Cert.KernelIdeal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which branches a point takes -/

/-- The first branch: the fill before the first tile. -/
abbrev isFirst (i : grid0.Coords) : Prop :=
  (Scalar.cmpi .ne (Scalar.extui (Scalar.cmpi .eq (BitVec.ofNat 32 (i 0).val) 0#32)) 0#32) = 1#1
/-- The second branch: an even tile. -/
abbrev isEven (i : grid0.Coords) : Prop := k0_cond2 i = 1#1
/-- The third branch: an odd tile. -/
abbrev isOdd (i : grid0.Coords) : Prop := k0_cond3 i = 1#1
/-- The fourth branch: the point after the last tile. -/
abbrev isLast (i : grid0.Coords) : Prop := k0_cond4 i = 1#1

theorem isFirst_iff (t : Fin cfg0.N) : isFirst (grid0.coords t) ↔ t.val = 0 :=
  (by decide +kernel : ∀ t : Fin grid0.N, isFirst (grid0.coords t) ↔ t.val = 0) t
theorem isEven_iff (t : Fin cfg0.N) : isEven (grid0.coords t) ↔ t.val % 2 = 0 ∧ t.val ≠ 64 :=
  (by decide +kernel : ∀ t : Fin grid0.N, isEven (grid0.coords t) ↔ t.val % 2 = 0 ∧ t.val ≠ 64) t
theorem isOdd_iff (t : Fin cfg0.N) : isOdd (grid0.coords t) ↔ t.val % 2 = 1 :=
  (by decide +kernel : ∀ t : Fin grid0.N, isOdd (grid0.coords t) ↔ t.val % 2 = 1) t
theorem isLast_iff (t : Fin cfg0.N) : isLast (grid0.coords t) ↔ t.val = 64 :=
  (by decide +kernel : ∀ t : Fin grid0.N, isLast (grid0.coords t) ↔ t.val = 64) t

/-- The output is written at every point. -/
theorem live6 (t : Fin cfg0.N) : cfg0.idle 6 (grid0.coords t) = false :=
  (by decide +kernel : ∀ t : Fin grid0.N, cfg0.idle 6 (grid0.coords t) = false) t

/-! ## The buffers a point works on -/

abbrev buf0 (t : Fin cfg0.N) : Memref sig .tc .vmem S512x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S512x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1024 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1024 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x5632 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S2816x1024 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S512x1024 .f32 := win0_6.stage (cfg0.slots t 6)
abbrev whole6 (t : Fin cfg0.N) : (buf6 t).IsWhole := hstage0_6 ((cfg0.slots t 6).cast nbuf0_6)
abbrev keep0 : Memref sig .tc .vmem S512x1024 .bf16 := Memref.whole cc0_scratch0
abbrev keep1 : Memref sig .tc .vmem S512x1024 .bf16 := Memref.whole cc0_scratch1
abbrev keep2 : Memref sig .tc .vmem S512x1024 .f32 := Memref.whole cc0_scratch2
abbrev keep3 : Memref sig .tc .vmem S512x1024 .f32 := Memref.whole cc0_scratch3
abbrev keep4 : Memref sig .tc .vmem S512x2816 .bf16 := Memref.whole cc0_scratch4

/-- What the pipeline hands the body beside the windows: the five scratch buffers at any contents. -/
theorem ΦA_eq (c : Dev nD) :
    (Pipeline.ΦA spec0 c : sProp 𝕄)
      = iprop(iprop((∃ d, owns (c : Thread nD τ) keep0 fullShare d) ∗ (∃ d, owns (c : Thread nD τ) keep1 fullShare d) ∗ (∃ d, owns (c : Thread nD τ) keep2 fullShare d) ∗ (∃ d, owns (c : Thread nD τ) keep3 fullShare d) ∗ (∃ d, owns (c : Thread nD τ) keep4 fullShare d)) ∗ (∃ r, prngReg c r)) := by
  unfold Pipeline.ΦA; rw [scopedRest0_eq]; simp only [keep0, keep1, keep2, keep3, keep4, owns_whole]; try rfl

/-! ## What a point computes -/

/-- Column block `k` (256 columns) of the first feed-forward weight's half starting at column `o`. -/
def wiCols (wi : Vec F S1024x5632 .bf16) (o : ℕ) (k : ℕ) : Vec F S1024x256 .bf16 :=
  fun j => wi (ix2 ⟨(j 0).val, (j 0).isLt⟩ ⟨(o + 256 * k + (j 1).val) % 5632, Nat.mod_lt _ (by decide)⟩)

/-- The gated hidden activations of a tile: 256 columns at a time. -/
def hidden (xn : Vec F S512x1024 .bf16) (wi : Vec F S1024x5632 .bf16) : Vec F S512x2816 .bf16 :=
  fun i => k0_pay28 xn (wiCols wi 0 ((i 1).val / 256)) xn (wiCols wi 2816 ((i 1).val / 256))
    (ix2 ⟨(i 0).val, (i 0).isLt⟩ ⟨(i 1).val % 256, Nat.mod_lt _ (by decide)⟩)

/-- The hidden activations times the second weight. -/
def down (xn : Vec F S512x1024 .bf16) (wi : Vec F S1024x5632 .bf16) (wo : Vec F S2816x1024 .bf16) : Vec F S512x1024 .f32 :=
  k0_pay57 (hidden xn wi) wo

/-- Rows `64 k .. 64 k + 63` of a tile. -/
def slab {e : EltTy} (x : Vec F S512x1024 e) (k : ℕ) : Vec F S64x1024 e :=
  fun j => x (ix2 ⟨(64 * k + (j 0).val) % 512, Nat.mod_lt _ (by decide)⟩ ⟨(j 1).val, (j 1).isLt⟩)

/-- A tile normalised, 64 rows at a time. -/
def normed (x : Vec F S512x1024 .f32) (g : Vec F S1x1024 .f32) : Vec F S512x1024 .bf16 :=
  fun i => k0_pay29 (slab x ((i 0).val / 64)) g (ix2 ⟨(i 0).val % 64, Nat.mod_lt _ (by decide)⟩ ⟨(i 1).val, (i 1).isLt⟩)

/-- A tile plus half the normalised product, 64 rows at a time. -/
def added (x y : Vec F S512x1024 .f32) (g : Vec F S1x1024 .f32) : Vec F S512x1024 .f32 :=
  fun i => k0_pay30 (slab x ((i 0).val / 64)) (slab y ((i 0).val / 64)) g
    (ix2 ⟨(i 0).val % 64, Nat.mod_lt _ (by decide)⟩ ⟨(i 1).val, (i 1).isLt⟩)

/-! ## What the stores of a point leave is that -/

/-- Rows `64 k ..` of a tile, read through the rectangle the body loads them by. -/
theorem ld_slab {e : EltTy} (x : Vec F S512x1024 e) (k : ℕ) (hk : k < 8)
    (inb : ∀ a, (![64 * k, 0] : Fin 2 → ℕ) a + S64x1024.size a ≤ S512x1024.size a) :
    View.ld x (Rect.unit (s := S512x1024) ![64 * k, 0] S64x1024.size inb) = slab x k := by
  funext j
  unfold slab
  refine congrArg x (funext fun a => ?_)
  have hj : (j 0).val < 64 := (j 0).isLt
  match a with
  | ⟨0, _⟩ => exact Fin.ext (show 64 * k + 1 * (j 0).val = (64 * k + (j 0).val) % 512 by omega)
  | ⟨1, _⟩ => exact Fin.ext (show 0 + 1 * (j 1).val = (j 1).val by omega)

theorem normed_piece (x : Vec F S512x1024 .f32) (g : Vec F S1x1024 .f32) (k : ℕ) (hk : k < 8)
    (inb : ∀ a, (![64 * k, 0] : Fin 2 → ℕ) a + S64x1024.size a ≤ S512x1024.size a) (j : S64x1024.Idx) :
    k0_pay29 (View.ld x (Rect.unit (s := S512x1024) ![64 * k, 0] S64x1024.size inb)) g j
      = normed x g ((Rect.unit (s := S512x1024) ![64 * k, 0] S64x1024.size inb).emb j) := by
  have hj : (j 0).val < 64 := (j 0).isLt
  have e0 : (64 * k + 1 * (j 0).val) / 64 = k := by omega
  rw [ld_slab x k hk inb]
  show _ = k0_pay29 (slab x ((64 * k + 1 * (j 0).val) / 64)) g _
  rw [e0]
  refine congrArg _ (funext fun a => ?_)
  match a with
  | ⟨0, _⟩ => exact Fin.ext (show (j 0).val = (64 * k + 1 * (j 0).val) % 64 by omega)
  | ⟨1, _⟩ => exact Fin.ext (show (j 1).val = 0 + 1 * (j 1).val by omega)

theorem added_piece (x y : Vec F S512x1024 .f32) (g : Vec F S1x1024 .f32) (k : ℕ) (hk : k < 8)
    (inb : ∀ a, (![64 * k, 0] : Fin 2 → ℕ) a + S64x1024.size a ≤ S512x1024.size a) (j : S64x1024.Idx) :
    k0_pay30 (View.ld x (Rect.unit (s := S512x1024) ![64 * k, 0] S64x1024.size inb))
        (View.ld y (Rect.unit (s := S512x1024) ![64 * k, 0] S64x1024.size inb)) g j
      = added x y g ((Rect.unit (s := S512x1024) ![64 * k, 0] S64x1024.size inb).emb j) := by
  have hj : (j 0).val < 64 := (j 0).isLt
  have e0 : (64 * k + 1 * (j 0).val) / 64 = k := by omega
  rw [ld_slab x k hk inb, ld_slab y k hk inb]
  show _ = k0_pay30 (slab x ((64 * k + 1 * (j 0).val) / 64)) (slab y ((64 * k + 1 * (j 0).val) / 64)) g _
  rw [e0]
  refine congrArg _ (funext fun a => ?_)
  match a with
  | ⟨0, _⟩ => exact Fin.ext (show (j 0).val = (64 * k + 1 * (j 0).val) % 64 by omega)
  | ⟨1, _⟩ => exact Fin.ext (show (j 1).val = 0 + 1 * (j 1).val by omega)

/-- A block of 256 columns of the first weight, read through the rectangle the body loads it by. -/
theorem ld_wiCols (wi : Vec F S1024x5632 .bf16) (o k : ℕ) (ho : o + 256 * k + 256 ≤ 5632)
    (inb : ∀ a, (![0, o + 256 * k] : Fin 2 → ℕ) a + S1024x256.size a ≤ S1024x5632.size a) :
    View.ld wi (Rect.unit (s := S1024x5632) ![0, o + 256 * k] S1024x256.size inb) = wiCols wi o k := by
  funext j
  unfold wiCols
  refine congrArg wi (funext fun a => ?_)
  have hj : (j 1).val < 256 := (j 1).isLt
  match a with
  | ⟨0, _⟩ => exact Fin.ext (show 0 + 1 * (j 0).val = (j 0).val by omega)
  | ⟨1, _⟩ => exact Fin.ext (show o + 256 * k + 1 * (j 1).val = (o + 256 * k + (j 1).val) % 5632 by omega)

theorem hidden_piece (xn : Vec F S512x1024 .bf16) (wi : Vec F S1024x5632 .bf16) (k : ℕ) (hk : k < 11)
    (inb : ∀ a, (![0, 256 * k] : Fin 2 → ℕ) a + S512x256.size a ≤ S512x2816.size a)
    (inb0 : ∀ a, (![0, 0 + 256 * k] : Fin 2 → ℕ) a + S1024x256.size a ≤ S1024x5632.size a)
    (inb1 : ∀ a, (![0, 2816 + 256 * k] : Fin 2 → ℕ) a + S1024x256.size a ≤ S1024x5632.size a) (j : S512x256.Idx) :
    k0_pay28 xn (View.ld wi (Rect.unit (s := S1024x5632) ![0, 0 + 256 * k] S1024x256.size inb0)) xn
        (View.ld wi (Rect.unit (s := S1024x5632) ![0, 2816 + 256 * k] S1024x256.size inb1)) j
      = hidden xn wi ((Rect.unit (s := S512x2816) ![0, 256 * k] S512x256.size inb).emb j) := by
  have hj : (j 1).val < 256 := (j 1).isLt
  have e0 : (256 * k + 1 * (j 1).val) / 256 = k := by omega
  rw [ld_wiCols wi 0 k (by omega) inb0, ld_wiCols wi 2816 k (by omega) inb1]
  show _ = k0_pay28 xn (wiCols wi 0 ((256 * k + 1 * (j 1).val) / 256)) xn (wiCols wi 2816 ((256 * k + 1 * (j 1).val) / 256)) _
  rw [e0]
  refine congrArg _ (funext fun a => ?_)
  match a with
  | ⟨0, _⟩ => exact Fin.ext (show (j 0).val = 0 + 1 * (j 0).val by omega)
  | ⟨1, _⟩ => exact Fin.ext (show (j 1).val = (256 * k + 1 * (j 1).val) % 256 by omega)

/-- The offsets of a store of a whole buffer. -/
theorem offsets_zero : (![0, 0] : Fin 2 → ℕ) = fun _ => 0 := by funext a; match a with | ⟨0, _⟩ => rfl | ⟨1, _⟩ => rfl

/-- A load of part of a buffer just stored whole reads that part of what was stored. -/
theorem readCov_slab {S : Shape} {e : EltTy} (v : View sig .tc .vmem S e) {off : Fin S.rank → ℕ} (h : off = fun _ => 0)
    (inb : ∀ a, off a + S.size a ≤ S.size a) (w : Vec F S e) (r : Rect S) :
    v.readCov [(⟨Rect.unit off S.size inb, w⟩ : View.Piece (Elt F) S e)] r.toLoadRect = View.ld w r := by
  rw [View.readCov_eq_canon_ld v _ r (fun y => ⟨_, List.mem_singleton_self _, View.mem_set_unit_zero h inb y⟩),
    View.canon_unit_zero h]

/-- A buffer covered by pieces that are all parts of `G` reads `G`. -/
theorem read_writes_of_pieces {s : Shape} {e : EltTy} (v : View sig .tc .vmem s e) (f : v.ty.Contents (Elt F)) (G : Vec F s e)
    (L : List (View.Piece (Elt F) s e)) (hc : ∀ y, ∃ p ∈ L, y ∈ p.1.set) (hL : ∀ p ∈ L, ∀ x : p.1.shape.Idx, p.2 x = G (p.1.emb x)) :
    v.read (Elt F) (v.writes (Elt F) f L) = G :=
  (View.read_writes_eq_canon v f L hc).trans (funext fun y => View.canon_apply_of_pieces G L hL y (hc y))

end Cert.KernelIdeal.Ffn

end
-- ==== Proof.Rows.lean ====
module

public import Idealize.ShloMosaic.PureOps.Ideal
public import Idealize.ShloMosaic.Lib.ValueIdxCore

@[expose] public section

noncomputable section

/-! The feed-forward sub-layer on one token, over the extended reals: what the kernel and the reference both compute. -/

namespace Cert.Rows

open Idealize.ShloMosaic

/-- The scale `1 / sqrt (mean of squares + 1e-6)` of a token. -/
def scale (x : Fin 1024 → EReal) : EReal :=
  Ideal.rsqrt (Ideal.div (∑ k, x k * x k) (Ideal.ofBits .f32 0x44800000#32) + Ideal.ofBits .f32 0x358637BD#32)

/-- A token normalised by its scale, times the gain. -/
def norm (x g : Fin 1024 → EReal) (j : Fin 1024) : EReal := x j * scale x * g j

/-- The product of a normalised token with one column of the first weight matrix. -/
def proj {n : Nat} (x : Fin 1024 → EReal) (w : Fin 1024 → Fin n → EReal) (k : Fin n) : EReal := ∑ a, x a * w a k

/-- `silu` of the gate times the value. -/
def gate (a b : EReal) : EReal := a * Ideal.logistic a * b

/-- One hidden unit: the gate in the left half of the columns, the value in the right half. -/
def hid (x : Fin 1024 → EReal) (wi : Fin 1024 → Fin 5632 → EReal) (k : Fin 2816) : EReal :=
  gate (proj x wi ⟨k.val, by omega⟩) (proj x wi ⟨2816 + k.val, by omega⟩)

/-- The hidden units times the second weight matrix. -/
def out (h : Fin 2816 → EReal) (wo : Fin 2816 → Fin 1024 → EReal) (j : Fin 1024) : EReal := ∑ k, h k * wo k j

/-- The token plus half of the normalised branch. -/
def add (x y g : Fin 1024 → EReal) (j : Fin 1024) : EReal := x j + Ideal.ofBits .f32 0x3F000000#32 * norm y g j

/-- The whole sub-layer on one token. -/
def ffn (x gpre gpost : Fin 1024 → EReal) (wi : Fin 1024 → Fin 5632 → EReal) (wo : Fin 2816 → Fin 1024 → EReal) :
    Fin 1024 → EReal :=
  add x (out (hid (norm x gpre) wi) wo) gpost

end Cert.Rows
end
end
-- ==== Proof.Pays.lean ====
module

public import proofs.«01_k».proof.Proof.Points
public import proofs.«01_k».proof.Proof.Rows
public import Idealize.ShloMosaic.Lib.Pointwise

@[expose] public section

set_option maxRecDepth 16384

noncomputable section

namespace Cert.KernelIdeal.Ffn

open Idealize.ShloMosaic
open Cert.KernelIdeal Cert.KernelIdeal.Gen

/-- A row of a two-axis block. -/
def row {m n : Nat} (x : (⟨2, ![m, n]⟩ : Shape).Idx → EReal) (r : Fin m) : Fin n → EReal := fun c => x (ValueIdx.ix2 r c)

theorem pay29_at (x : Vec Ideal S64x1024 .f32) (g : Vec Ideal S1x1024 .f32) (r : Fin 64) (c : Fin 1024) :
    k0_pay29 x g (ValueIdx.ix2 r c) = Rows.norm (row x r) (row g 0) c := by
  simp only [Rows.norm, Rows.scale, row]
  simp only [← ix2_eq_valueIdx]
  unfold k0_pay29
  pointwise

theorem pay54_at (x : Vec Ideal S512x1024 .f32) (g : Vec Ideal S1x1024 .f32) (r : Fin 512) (c : Fin 1024) :
    k0_pay54 x g (ValueIdx.ix2 r c) = Rows.norm (row x r) (row g 0) c := by
  simp only [Rows.norm, Rows.scale, row]
  simp only [← ix2_eq_valueIdx]
  unfold k0_pay54
  pointwise

theorem pay30_at (x y : Vec Ideal S64x1024 .f32) (g : Vec Ideal S1x1024 .f32) (r : Fin 64) (c : Fin 1024) :
    k0_pay30 x y g (ValueIdx.ix2 r c) = Rows.add (row x r) (row y r) (row g 0) c := by
  simp only [Rows.add, Rows.norm, Rows.scale, row]
  simp only [← ix2_eq_valueIdx]
  unfold k0_pay30
  pointwise

theorem pay1_at (x y : Vec Ideal S512x1024 .f32) (g : Vec Ideal S1x1024 .f32) (r : Fin 512) (c : Fin 1024) :
    k0_pay1 x y g (ValueIdx.ix2 r c) = Rows.add (row x r) (row y r) (row g 0) c := by
  simp only [Rows.add, Rows.norm, Rows.scale, row]
  simp only [← ix2_eq_valueIdx]
  unfold k0_pay1
  pointwise

theorem pay57_at (h : Vec Ideal S512x2816 .bf16) (w : Vec Ideal S2816x1024 .bf16) (r : Fin 512) (c : Fin 1024) :
    k0_pay57 h w (ValueIdx.ix2 r c) = Rows.out (row h r) (row w) c := by
  simp only [Rows.out, row]
  simp only [← ix2_eq_valueIdx]
  unfold k0_pay57
  pointwise

theorem pay28_at (x : Vec Ideal S512x1024 .bf16) (u v : Vec Ideal S1024x256 .bf16) (r : Fin 512) (c : Fin 256) :
    k0_pay28 x u x v (ValueIdx.ix2 r c) = Rows.gate (Rows.proj (row x r) (row u) c) (Rows.proj (row x r) (row v) c) := by
  simp only [Rows.gate, Rows.proj, row]
  simp only [← ix2_eq_valueIdx]
  unfold k0_pay28
  pointwise

end Cert.KernelIdeal.Ffn
end
end
-- ==== Proof.Tiles.lean ====
module

public import proofs.«01_k».proof.Proof.Pays

@[expose] public section

set_option maxRecDepth 16384

noncomputable section

namespace Cert.KernelIdeal.Ffn

open Idealize.ShloMosaic
open Cert.KernelIdeal Cert.KernelIdeal.Gen

theorem row_slab (x : (⟨2, ![512, 1024]⟩ : Shape).Idx → EReal) (r : Fin 512) :
    row (fun j : (⟨2, ![64, 1024]⟩ : Shape).Idx =>
      x (ValueIdx.ix2 ⟨(64 * (r.val / 64) + (j 0).val) % 512, Nat.mod_lt _ (by decide)⟩ ⟨(j 1).val, (j 1).isLt⟩))
      ⟨r.val % 64, Nat.mod_lt _ (by decide)⟩ = row x r := by
  funext c
  have e : (⟨(64 * (r.val / 64) + r.val % 64) % 512, Nat.mod_lt _ (by decide)⟩ : Fin 512) = r := Fin.ext (by show _ % 512 = r.val; omega)
  show x (ValueIdx.ix2 (⟨(64 * (r.val / 64) + r.val % 64) % 512, Nat.mod_lt _ (by decide)⟩ : Fin 512) c) = x (ValueIdx.ix2 r c)
  rw [e]

theorem normed_at (x : Vec Ideal S512x1024 .f32) (g : Vec Ideal S1x1024 .f32) (r : Fin 512) :
    row (normed x g) r = Rows.norm (row x r) (row g 0) := by
  funext c
  refine (pay29_at (slab x (r.val / 64)) g ⟨r.val % 64, Nat.mod_lt _ (by decide)⟩ c).trans ?_
  exact congrArg (fun z => Rows.norm z (row g 0) c) (row_slab x r)

theorem added_at (x y : Vec Ideal S512x1024 .f32) (g : Vec Ideal S1x1024 .f32) (r : Fin 512) :
    row (added x y g) r = Rows.add (row x r) (row y r) (row g 0) := by
  funext c
  refine (pay30_at (slab x (r.val / 64)) (slab y (r.val / 64)) g ⟨r.val % 64, Nat.mod_lt _ (by decide)⟩ c).trans ?_
  exact congrArg₂ (fun z w => Rows.add z w (row g 0) c) (row_slab x r) (row_slab y r)

theorem finished_at (x y : Vec Ideal S512x1024 .f32) (g : Vec Ideal S1x1024 .f32) (r : Fin 512) :
    row (k0_pay1 x y g) r = Rows.add (row x r) (row y r) (row g 0) := funext fun c => pay1_at x y g r c

theorem normed0_at (x : Vec Ideal S512x1024 .f32) (g : Vec Ideal S1x1024 .f32) (r : Fin 512) :
    row (k0_pay54 x g) r = Rows.norm (row x r) (row g 0) := funext fun c => pay54_at x g r c

theorem proj_cols (x : Fin 1024 → EReal) (wi : Vec Ideal S1024x5632 .bf16) (o : ℕ) (k : Fin 2816) (h : o + k.val < 5632) :
    Rows.proj x (row (wiCols wi o (k.val / 256))) ⟨k.val % 256, Nat.mod_lt _ (by decide)⟩ = Rows.proj x (row wi) ⟨o + k.val, h⟩ :=
  Finset.sum_congr rfl fun a _ => congrArg (x a * ·) (congrArg wi (congrArg₂ ValueIdx.ix2 rfl
    (Fin.ext (show (o + 256 * (k.val / 256) + k.val % 256) % 5632 = o + k.val by omega))))

theorem hidden_at (xn : Vec Ideal S512x1024 .bf16) (wi : Vec Ideal S1024x5632 .bf16) (r : Fin 512) :
    row (hidden xn wi) r = Rows.hid (row xn r) (row wi) := by
  funext k
  refine (pay28_at xn (wiCols wi 0 (k.val / 256)) (wiCols wi 2816 (k.val / 256)) r ⟨k.val % 256, Nat.mod_lt _ (by decide)⟩).trans ?_
  refine congrArg₂ Rows.gate ((proj_cols _ wi 0 k (by omega)).trans ?_) (proj_cols _ wi 2816 k (by omega))
  exact congrArg (Rows.proj _ _) (Fin.ext (show 0 + k.val = k.val by omega))

theorem down_at (xn : Vec Ideal S512x1024 .bf16) (wi : Vec Ideal S1024x5632 .bf16) (wo : Vec Ideal S2816x1024 .bf16) (r : Fin 512) :
    row (down xn wi wo) r = Rows.out (Rows.hid (row xn r) (row wi)) (row wo) := by
  funext c
  refine (pay57_at (hidden xn wi) wo r c).trans ?_
  rw [hidden_at]

end Cert.KernelIdeal.Ffn
end
end
-- ==== Proof.RunOdd.lean ====
/- The body at a point that works on an odd tile: what the buffers hold afterwards, from what they held before. -/
module

public import proofs.«01_k».proof.Proof.Points

@[expose] public section

set_option maxRecDepth 16384

noncomputable section

namespace Cert.KernelIdeal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a point that works on an odd tile: what the buffers hold afterwards, from what they held before. -/
theorem run_odd (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : ¬isEven i) (hc2 : isOdd i) (hc3 : ¬isLast i)
    (x0 x1 : Vec F S512x1024 .f32) (x2 x3 : Vec F S1x1024 .f32) (x4 : Vec F S1024x5632 .bf16) (x5 : Vec F S2816x1024 .bf16) (xs : Vec F S512x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ owns (c : Thread nD τ) arg9 fullShare (xs) ∗ owns (c : Thread nD τ) arg10 fullShare (ys) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 ys x3) ∗ owns (c : Thread nD τ) arg8 fullShare (normed x0 x2) ∗ (∃ d, owns (c : Thread nD τ) arg9 fullShare d) ∗ (∃ d, owns (c : Thread nD τ) arg10 fullShare d) ∗ owns (c : Thread nD τ) arg11 fullShare (down xs x4 x5) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg9.read_unread, harg10.read_unread, View.ld_unit_zero (S := S1x1024) offsets_zero]
    exact ⟨fun j => added_piece x1 ys x3 7 (by decide) _ j, fun j => added_piece x1 ys x3 6 (by decide) _ j, fun j => added_piece x1 ys x3 5 (by decide) _ j, fun j => added_piece x1 ys x3 4 (by decide) _ j, fun j => added_piece x1 ys x3 3 (by decide) _ j, fun j => added_piece x1 ys x3 2 (by decide) _ j, fun j => added_piece x1 ys x3 1 (by decide) _ j, fun j => added_piece x1 ys x3 0 (by decide) _ j, fun p hp => absurd hp List.not_mem_nil⟩
  isplitl [H8]
  · iexists _; isplitr; rotate_left; · iexact H8
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg9.read_unread, harg10.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H9]
  · iexists _; iexists (harg9.unread xs); isplitr; · ipureintro; rfl
    iexact H9
  isplitl [H10]
  · iexists _; iexists (harg10.unread ys); isplitr; · ipureintro; rfl
    iexact H10
  isplitl [H11]
  · iexists _; isplitr; rotate_left; · iexact H11
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, harg9.read_unread, harg10.read_unread, View.ld_unit_zero (S := S2816x1024) offsets_zero, View.ld_unit_zero (S := S512x1024) offsets_zero]
    refine congrArg (fun h => k0_pay57 h x5) (funext fun y => View.canon_apply_of_pieces (hidden (xs) x4) _ ?_ y (View.cover_of_tiledL (s := S512x2816) _ S512x256.size (by sl_kernel_rfl) y))
    simp only [List.forall_mem_cons]
    exact ⟨fun j => hidden_piece (xs) x4 10 (by decide) _ _ _ j, fun j => hidden_piece (xs) x4 9 (by decide) _ _ _ j, fun j => hidden_piece (xs) x4 8 (by decide) _ _ _ j, fun j => hidden_piece (xs) x4 7 (by decide) _ _ _ j, fun j => hidden_piece (xs) x4 6 (by decide) _ _ _ j, fun j => hidden_piece (xs) x4 5 (by decide) _ _ _ j, fun j => hidden_piece (xs) x4 4 (by decide) _ _ _ j, fun j => hidden_piece (xs) x4 3 (by decide) _ _ _ j, fun j => hidden_piece (xs) x4 2 (by decide) _ _ _ j, fun j => hidden_piece (xs) x4 1 (by decide) _ _ _ j, fun j => hidden_piece (xs) x4 0 (by decide) _ _ _ j, fun p hp => absurd hp List.not_mem_nil⟩
  iexists _; iexists _; isplitr; swap; · iexact H12
  ipureintro; rfl

end Cert.KernelIdeal.Ffn

end
-- ==== Proof.RunEven.lean ====
/- The body at a point that works on an even tile other than the first. -/
module

public import proofs.«01_k».proof.Proof.RunOdd

@[expose] public section

set_option maxRecDepth 16384

noncomputable section

namespace Cert.KernelIdeal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a point that works on an even tile other than the first. -/
theorem run_even (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : isEven i) (hc2 : ¬isOdd i) (hc3 : ¬isLast i)
    (x0 x1 : Vec F S512x1024 .f32) (x2 x3 : Vec F S1x1024 .f32) (x4 : Vec F S1024x5632 .bf16) (x5 : Vec F S2816x1024 .bf16) (xs : Vec F S512x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ owns (c : Thread nD τ) arg8 fullShare (xs) ∗ (∃ d, owns (c : Thread nD τ) arg9 fullShare d) ∗ (∃ d, owns (c : Thread nD τ) arg10 fullShare d) ∗ owns (c : Thread nD τ) arg11 fullShare (ys) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 ys x3) ∗ (∃ d, owns (c : Thread nD τ) arg8 fullShare d) ∗ owns (c : Thread nD τ) arg9 fullShare (normed x0 x2) ∗ owns (c : Thread nD τ) arg10 fullShare (down xs x4 x5) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg8.read_unread, harg11.read_unread, View.ld_unit_zero (S := S1x1024) offsets_zero]
    exact ⟨fun j => added_piece x1 ys x3 7 (by decide) _ j, fun j => added_piece x1 ys x3 6 (by decide) _ j, fun j => added_piece x1 ys x3 5 (by decide) _ j, fun j => added_piece x1 ys x3 4 (by decide) _ j, fun j => added_piece x1 ys x3 3 (by decide) _ j, fun j => added_piece x1 ys x3 2 (by decide) _ j, fun j => added_piece x1 ys x3 1 (by decide) _ j, fun j => added_piece x1 ys x3 0 (by decide) _ j, fun p hp => absurd hp List.not_mem_nil⟩
  isplitl [H8]
  · iexists _; iexists (harg8.unread xs); isplitr; · ipureintro; rfl
    iexact H8
  isplitl [H9]
  · iexists _; isplitr; rotate_left; · iexact H9
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg8.read_unread, harg11.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H10]
  · iexists _; isplitr; rotate_left; · iexact H10
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, harg8.read_unread, harg11.read_unread, View.ld_unit_zero (S := S2816x1024) offsets_zero, View.ld_unit_zero (S := S512x1024) offsets_zero]
    refine congrArg (fun h => k0_pay57 h x5) (funext fun y => View.canon_apply_of_pieces (hidden (xs) x4) _ ?_ y (View.cover_of_tiledL (s := S512x2816) _ S512x256.size (by sl_kernel_rfl) y))
    simp only [List.forall_mem_cons]
    exact ⟨fun j => hidden_piece (xs) x4 10 (by decide) _ _ _ j, fun j => hidden_piece (xs) x4 9 (by decide) _ _ _ j, fun j => hidden_piece (xs) x4 8 (by decide) _ _ _ j, fun j => hidden_piece (xs) x4 7 (by decide) _ _ _ j, fun j => hidden_piece (xs) x4 6 (by decide) _ _ _ j, fun j => hidden_piece (xs) x4 5 (by decide) _ _ _ j, fun j => hidden_piece (xs) x4 4 (by decide) _ _ _ j, fun j => hidden_piece (xs) x4 3 (by decide) _ _ _ j, fun j => hidden_piece (xs) x4 2 (by decide) _ _ _ j, fun j => hidden_piece (xs) x4 1 (by decide) _ _ _ j, fun j => hidden_piece (xs) x4 0 (by decide) _ _ _ j, fun p hp => absurd hp List.not_mem_nil⟩
  isplitl [H11]
  · iexists _; iexists (harg11.unread ys); isplitr; · ipureintro; rfl
    iexact H11
  iexists _; iexists _; isplitr; swap; · iexact H12
  ipureintro; rfl

end Cert.KernelIdeal.Ffn

end
-- ==== Proof.RunFirst.lean ====
/- The body at the first point, which normalises the first tile itself before working on it. -/
module

public import proofs.«01_k».proof.Proof.RunEven

@[expose] public section

set_option maxRecDepth 16384

noncomputable section

namespace Cert.KernelIdeal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the first point, which normalises the first tile itself before working on it. -/
theorem run_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : isFirst i) (hc1 : isEven i) (hc2 : ¬isOdd i) (hc3 : ¬isLast i)
    (x0 x1 : Vec F S512x1024 .f32) (x2 x3 : Vec F S1x1024 .f32) (x4 : Vec F S1024x5632 .bf16) (x5 : Vec F S2816x1024 .bf16) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 k0_pay55 x3) ∗ (∃ d, owns (c : Thread nD τ) arg8 fullShare d) ∗ owns (c : Thread nD τ) arg9 fullShare (normed x0 x2) ∗ owns (c : Thread nD τ) arg10 fullShare (down (k0_pay54 x1 x2) x4 x5) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, readCov_slab (S := S512x1024) _ offsets_zero, View.ld_unit_zero (S := S1x1024) offsets_zero]
    exact ⟨fun j => added_piece x1 k0_pay55 x3 7 (by decide) _ j, fun j => added_piece x1 k0_pay55 x3 6 (by decide) _ j, fun j => added_piece x1 k0_pay55 x3 5 (by decide) _ j, fun j => added_piece x1 k0_pay55 x3 4 (by decide) _ j, fun j => added_piece x1 k0_pay55 x3 3 (by decide) _ j, fun j => added_piece x1 k0_pay55 x3 2 (by decide) _ j, fun j => added_piece x1 k0_pay55 x3 1 (by decide) _ j, fun j => added_piece x1 k0_pay55 x3 0 (by decide) _ j, fun p hp => absurd hp List.not_mem_nil⟩
  isplitl [H8]
  · iexists _; iexists _; isplitr; swap; · iexact H8
    ipureintro; rfl
  isplitl [H9]
  · iexists _; isplitr; rotate_left; · iexact H9
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H10]
  · iexists _; isplitr; rotate_left; · iexact H10
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, View.readCov_unit_zero (S := S512x1024) _ offsets_zero, View.ld_unit_zero (S := S1x1024) offsets_zero, View.ld_unit_zero (S := S2816x1024) offsets_zero, View.ld_unit_zero (S := S512x1024) offsets_zero]
    refine congrArg (fun h => k0_pay57 h x5) (funext fun y => View.canon_apply_of_pieces (hidden (k0_pay54 x1 x2) x4) _ ?_ y (View.cover_of_tiledL (s := S512x2816) _ S512x256.size (by sl_kernel_rfl) y))
    simp only [List.forall_mem_cons]
    exact ⟨fun j => hidden_piece (k0_pay54 x1 x2) x4 10 (by decide) _ _ _ j, fun j => hidden_piece (k0_pay54 x1 x2) x4 9 (by decide) _ _ _ j, fun j => hidden_piece (k0_pay54 x1 x2) x4 8 (by decide) _ _ _ j, fun j => hidden_piece (k0_pay54 x1 x2) x4 7 (by decide) _ _ _ j, fun j => hidden_piece (k0_pay54 x1 x2) x4 6 (by decide) _ _ _ j, fun j => hidden_piece (k0_pay54 x1 x2) x4 5 (by decide) _ _ _ j, fun j => hidden_piece (k0_pay54 x1 x2) x4 4 (by decide) _ _ _ j, fun j => hidden_piece (k0_pay54 x1 x2) x4 3 (by decide) _ _ _ j, fun j => hidden_piece (k0_pay54 x1 x2) x4 2 (by decide) _ _ _ j, fun j => hidden_piece (k0_pay54 x1 x2) x4 1 (by decide) _ _ _ j, fun j => hidden_piece (k0_pay54 x1 x2) x4 0 (by decide) _ _ _ j, fun p hp => absurd hp List.not_mem_nil⟩
  isplitl [H11]
  · iexists _; iexists _; isplitr; swap; · iexact H11
    ipureintro; rfl
  iexists _; iexists _; isplitr; swap; · iexact H12
  ipureintro; rfl

end Cert.KernelIdeal.Ffn

end
-- ==== Proof.RunLast.lean ====
/- The body at the point after the last tile, which only finishes that tile. -/
module

public import proofs.«01_k».proof.Proof.RunFirst

@[expose] public section

set_option maxRecDepth 16384

noncomputable section

namespace Cert.KernelIdeal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the point after the last tile, which only finishes that tile. -/
theorem run_last (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : ¬isEven i) (hc2 : ¬isOdd i) (hc3 : isLast i)
    (x0 x1 : Vec F S512x1024 .f32) (x2 x3 : Vec F S1x1024 .f32) (x4 : Vec F S1024x5632 .bf16) (x5 : Vec F S2816x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (ys) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (k0_pay1 x1 ys x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine (View.read_writes_eq_canon _ _ _ (View.cover_of_tiledL _ S512x1024.size (by sl_kernel_rfl))).trans ?_
    refine (View.canon_unit_zero (S := S512x1024) offsets_zero _ _).trans ?_
    sl_unfold_words
    simp only [View.readAt_eq_ld, harg1.read_unread, harg2.read_unread, harg3.read_unread, harg4.read_unread, harg5.read_unread, harg6.read_unread, harg11.read_unread, View.ld_unit_zero (S := S1x1024) offsets_zero, View.ld_unit_zero (S := S512x1024) offsets_zero]
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists (harg11.unread ys); isplitr; · ipureintro; rfl
    iexact H11
  iexists _; iexists _; isplitr; swap; · iexact H12
  ipureintro; rfl

end Cert.KernelIdeal.Ffn

end
-- ==== Proof.Launched.lean ====
/- The run of the feed-forward kernel over its 65 points: what is carried from point to point, the body at every
   point, and the launch. -/
module

public import proofs.«01_k».proof.Proof.RunLast
public import Idealize.ShloMosaic.Lib.Claim

@[expose] public section

set_option maxRecDepth 16384

noncomputable section

namespace Cert.KernelIdeal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- Point number `n`. -/
def pnt (n : ℕ) : Fin cfg0.N := ⟨n % 65, lt_of_lt_of_eq (Nat.mod_lt _ (by decide)) (show 65 = cfg0.N from N_0.symm)⟩

theorem pnt_val (t : Fin cfg0.N) : pnt t.val = t :=
  Fin.ext (Nat.mod_eq_of_lt (lt_of_lt_of_eq t.isLt (show cfg0.N = 65 from N_0)))

/-- Tile `n` normalised: tile 0 by the first point itself, every other tile by the point before its own. -/
def xnAt (c : Dev nD) : ℕ → Vec F S512x1024 .bf16
  | 0 => k0_pay54 (iblk m c 1 (pnt 0)) (iblk m c 2 (pnt 0))
  | n + 1 => normed (iblk m c 0 (pnt n)) (iblk m c 2 (pnt n))

/-- Tile `n`'s feed-forward product. -/
def yAt (c : Dev nD) (n : ℕ) : Vec F S512x1024 .f32 := down (xnAt m c n) (iblk m c 4 (pnt n)) (iblk m c 5 (pnt n))

/-- What point `n` leaves in the output's buffer: from the second point on, the tile before it, finished. -/
def outAt (c : Dev nD) : ℕ → Vec F S512x1024 .f32
  | 0 => added (iblk m c 1 (pnt 0)) k0_pay55 (iblk m c 3 (pnt 0))
  | n + 1 => if n = 63 then k0_pay1 (iblk m c 1 (pnt (n + 1))) (yAt m c n) (iblk m c 3 (pnt (n + 1)))
      else added (iblk m c 1 (pnt (n + 1))) (yAt m c n) (iblk m c 3 (pnt (n + 1)))

/-- The scratch buffers before point `n`. -/
def carried (c : Dev nD) : ℕ → sProp 𝕄
  | 0 => Pipeline.ΦA spec0 c
  | n + 1 => if n = 64 then Pipeline.ΦA spec0 c
      else if n % 2 = 0 then iprop(iprop((∃ d, owns (c : Thread nD τ) keep0 fullShare d) ∗ owns (c : Thread nD τ) keep1 fullShare (xnAt m c (n + 1)) ∗ owns (c : Thread nD τ) keep2 fullShare (yAt m c n) ∗ (∃ d, owns (c : Thread nD τ) keep3 fullShare d) ∗ (∃ d, owns (c : Thread nD τ) keep4 fullShare d)) ∗ (∃ r, prngReg c r))
      else iprop(iprop(owns (c : Thread nD τ) keep0 fullShare (xnAt m c (n + 1)) ∗ (∃ d, owns (c : Thread nD τ) keep1 fullShare d) ∗ (∃ d, owns (c : Thread nD τ) keep2 fullShare d) ∗ owns (c : Thread nD τ) keep3 fullShare (yAt m c n) ∗ (∃ d, owns (c : Thread nD τ) keep4 fullShare d)) ∗ (∃ r, prngReg c r))

theorem carried_odd (c : Dev nD) (n : ℕ) (h : n % 2 = 0) (h' : n ≠ 64) :
    carried m c (n + 1) = iprop(iprop((∃ d, owns (c : Thread nD τ) keep0 fullShare d) ∗ owns (c : Thread nD τ) keep1 fullShare (xnAt m c (n + 1)) ∗ owns (c : Thread nD τ) keep2 fullShare (yAt m c n) ∗ (∃ d, owns (c : Thread nD τ) keep3 fullShare d) ∗ (∃ d, owns (c : Thread nD τ) keep4 fullShare d)) ∗ (∃ r, prngReg c r)) := by
  show (if n = 64 then _ else _) = _
  rw [if_neg h', if_pos h]
theorem carried_even (c : Dev nD) (n : ℕ) (h : n % 2 = 1) :
    carried m c (n + 1) = iprop(iprop(owns (c : Thread nD τ) keep0 fullShare (xnAt m c (n + 1)) ∗ (∃ d, owns (c : Thread nD τ) keep1 fullShare d) ∗ (∃ d, owns (c : Thread nD τ) keep2 fullShare d) ∗ owns (c : Thread nD τ) keep3 fullShare (yAt m c n) ∗ (∃ d, owns (c : Thread nD τ) keep4 fullShare d)) ∗ (∃ r, prngReg c r)) := by
  show (if n = 64 then _ else _) = _
  rw [if_neg (by omega), if_neg (by omega)]
theorem carried_end (c : Dev nD) (n : ℕ) (h : n = 64) : carried m c (n + 1) = Pipeline.ΦA spec0 c := by
  show (if n = 64 then _ else _) = _
  rw [if_pos h]
theorem outAt_last (c : Dev nD) (n : ℕ) (h : n = 63) :
    outAt m c (n + 1) = k0_pay1 (iblk m c 1 (pnt (n + 1))) (yAt m c n) (iblk m c 3 (pnt (n + 1))) := by
  show (if n = 63 then _ else _) = _
  rw [if_pos h]
theorem outAt_tile (c : Dev nD) (n : ℕ) (h : n ≠ 63) :
    outAt m c (n + 1) = added (iblk m c 1 (pnt (n + 1))) (yAt m c n) (iblk m c 3 (pnt (n + 1))) := by
  show (if n = 63 then _ else _) = _
  rw [if_neg h]

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (buf0 t) fullShare (iblk m c 0 t) := by
  unfold Dat.leavesExact; rw [show cfg0.idle 0 (grid0.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (buf1 t) fullShare (iblk m c 1 t) := by
  unfold Dat.leavesExact; rw [show cfg0.idle 1 (grid0.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (buf2 t) fullShare (iblk m c 2 t) := by
  unfold Dat.leavesExact; rw [show cfg0.idle 2 (grid0.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (buf3 t) fullShare (iblk m c 3 t) := by
  unfold Dat.leavesExact; rw [show cfg0.idle 3 (grid0.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (buf4 t) fullShare (iblk m c 4 t) := by
  unfold Dat.leavesExact; rw [show cfg0.idle 4 (grid0.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (buf5 t) fullShare (iblk m c 5 t) := by
  unfold Dat.leavesExact; rw [show cfg0.idle 5 (grid0.coords t) = false from rfl, after5]
theorem after6 (c : Dev nD) (t : Fin cfg0.N) : (dats m 0 c).after 6 t = outAt m c t.val := by dsimp only [dats]
theorem leaves6 (c : Dev nD) (t : Fin cfg0.N) :
    (dats m 0 c).leavesExact 6 t = owns (c : Thread nD τ) (buf6 t) fullShare (outAt m c t.val) := by
  unfold Dat.leavesExact; rw [live6 t, after6]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  obtain rfl : t = pnt 0 := Fin.ext h
  rw [show (pnt 0 : Fin cfg0.N).val = 0 from rfl, carried_odd m c 0 rfl (by decide), show carried m c 0 = Pipeline.ΦA spec0 c from rfl, ΦA_eq]
  have ht : (pnt 0 : Fin cfg0.N).val = 0 := rfl
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords (pnt 0)) _ _ _ _ _ _ _ _ _ _ _ _ _ _ _ _ _ _ _ _ _ _ _ _ ((isFirst_iff (pnt 0)).mpr (by omega)) ((isEven_iff (pnt 0)).mpr (by omega)) (fun h => absurd ((isOdd_iff (pnt 0)).mp h) (by omega)) (fun h => absurd ((isLast_iff (pnt 0)).mp h) (by omega)) (iblk m c 0 (pnt 0)) (iblk m c 1 (pnt 0)) (iblk m c 2 (pnt 0)) (iblk m c 3 (pnt 0)) (iblk m c 4 (pnt 0)) (iblk m c 5 (pnt 0))  Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_odd (c : Dev nD) (n : ℕ) (t : Fin cfg0.N) (hn : t.val = n + 1) (h : n % 2 = 0) (h' : n < 64) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  rw [hn, carried_even m c (n + 1) (by omega), carried_odd m c n h (by omega),
    outAt_tile m c n (by omega),
    show xnAt m c (n + 1 + 1) = normed (iblk m c 0 (pnt (n + 1))) (iblk m c 2 (pnt (n + 1))) from rfl,
    show yAt m c (n + 1) = down (xnAt m c (n + 1)) (iblk m c 4 (pnt (n + 1))) (iblk m c 5 (pnt (n + 1))) from rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_odd c (grid0.coords t) _ _ _ _ _ _ _ _ _ _ _ _ _ _ _ _ _ _ _ _ _ _ _ _ (fun h => absurd ((isFirst_iff t).mp h) (by omega)) (fun h => absurd ((isEven_iff t).mp h) (by omega)) ((isOdd_iff t).mpr (by omega)) (fun h => absurd ((isLast_iff t).mp h) (by omega)) (iblk m c 0 t) (iblk m c 1 t) (iblk m c 2 t) (iblk m c 3 t) (iblk m c 4 t) (iblk m c 5 t) (xnAt m c (n + 1)) (yAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_even (c : Dev nD) (n : ℕ) (t : Fin cfg0.N) (hn : t.val = n + 1) (h : n % 2 = 1) (h' : n < 63) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  rw [hn, carried_odd m c (n + 1) (by omega) (by omega), carried_even m c n h,
    outAt_tile m c n (by omega),
    show xnAt m c (n + 1 + 1) = normed (iblk m c 0 (pnt (n + 1))) (iblk m c 2 (pnt (n + 1))) from rfl,
    show yAt m c (n + 1) = down (xnAt m c (n + 1)) (iblk m c 4 (pnt (n + 1))) (iblk m c 5 (pnt (n + 1))) from rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_even c (grid0.coords t) _ _ _ _ _ _ _ _ _ _ _ _ _ _ _ _ _ _ _ _ _ _ _ _ (fun h => absurd ((isFirst_iff t).mp h) (by omega)) ((isEven_iff t).mpr (by omega)) (fun h => absurd ((isOdd_iff t).mp h) (by omega)) (fun h => absurd ((isLast_iff t).mp h) (by omega)) (iblk m c 0 t) (iblk m c 1 t) (iblk m c 2 t) (iblk m c 3 t) (iblk m c 4 t) (iblk m c 5 t) (xnAt m c (n + 1)) (yAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_last (c : Dev nD) (t : Fin cfg0.N) (hn : t.val = 63 + 1) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (63 + 1) = t := by rw [← hn, pnt_val]
  rw [hn, carried_even m c 63 (by decide), carried_end m c (63 + 1) rfl, ΦA_eq, outAt_last m c 63 rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_last c (grid0.coords t) _ _ _ _ _ _ _ _ _ _ _ _ _ _ _ _ _ _ _ _ _ _ _ _ (fun h => absurd ((isFirst_iff t).mp h) (by omega)) (fun h => absurd ((isEven_iff t).mp h) (by omega)) (fun h => absurd ((isOdd_iff t).mp h) (by omega)) ((isLast_iff t).mpr (by omega)) (iblk m c 0 t) (iblk m c 1 t) (iblk m c 2 t) (iblk m c 3 t) (iblk m c 4 t) (iblk m c 5 t) (yAt m c 63) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_all (c : Dev nD) (t : Fin cfg0.N) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  rcases Nat.eq_zero_or_pos t.val with h | h
  · exact body_first m c t h
  obtain ⟨n, hn⟩ : ∃ n, t.val = n + 1 := ⟨t.val - 1, by omega⟩
  by_cases h2 : n % 2 = 0
  · exact body_odd m c n t hn h2 (by omega)
  by_cases h3 : n = 63
  · subst h3; exact body_last m c t hn
  · exact body_even m c n t hn (by omega) (by omega)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_all m c t) rfl .rfl fun _ => .rfl

/-! ## The launch -/

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = carried m c (Fin.last cfg0.N).val from rfl,
    Fin.val_last, show cfg0.N = 64 + 1 from N_0, carried_end m c 64 rfl]
  try exact Idealize.SL.BI.Entails.refl _

set_option backward.isDefEq.respectTransparency.types false in
/-- The program runs to the end: every array at what the blocks written to it leave, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The arguments end as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Ffn

end
-- ==== Proof.Blocks.lean ====
module

public import proofs.«01_k».proof.Proof.Tiles
public import proofs.«01_k».proof.Proof.Launched
public import Idealize.ShloMosaic.Lib.StableHlo.Run

@[expose] public section

set_option maxRecDepth 16384

noncomputable section

namespace Cert.KernelIdeal.Ffn

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-! ## The arguments, as tables of extended reals -/

abbrev inX (c : Dev nD) : S33792x1024.Idx → EReal := m ((c : Thread nD τ).loc main_arg0)
abbrev inPre (c : Dev nD) : S1024.Idx → EReal := m ((c : Thread nD τ).loc main_arg1)
abbrev inPost (c : Dev nD) : S1024.Idx → EReal := m ((c : Thread nD τ).loc main_arg2)
abbrev inWi (c : Dev nD) : S1024x5632.Idx → EReal := m ((c : Thread nD τ).loc main_arg3)
abbrev inWo (c : Dev nD) : S2816x1024.Idx → EReal := m ((c : Thread nD τ).loc main_arg4)

theorem V_v0 (c : Dev nD) : V m c main_v0 = broadcastInDim S1x1024 ![1] bcast_S1024_S1x1024_1 (inPre m c) := by
  unfold V; after_results
theorem V_v1 (c : Dev nD) : V m c main_v1 = broadcastInDim S1x1024 ![1] bcast_S1024_S1x1024_1 (inPost m c) := by
  unfold V; after_results
theorem V_v2 (c : Dev nD) : V m c main_v2 = inWi m c := by
  unfold V; after_results; rfl
theorem V_v3 (c : Dev nD) : V m c main_v3 = inWo m c := by
  unfold V; after_results; rfl

theorem gain_at (g : S1024.Idx → EReal) : row (broadcastInDim S1x1024 ![1] bcast_S1024_S1x1024_1 g) 0 = fun k => g (ValueIdx.ix1 k) := by
  funext k
  simp only [row, ← ix2_eq_valueIdx, ← ix1_eq_valueIdx]
  pointwise

/-! ## The row of the input a row of a tile is -/

/-- Row `r` of tile `n`: eight tiles to a sequence, 4224 rows apart, each sequence's first 64 rows left out. -/
def src (n : ℕ) (r : Fin 512) : Fin 33792 := ⟨(n / 8 * 4224 + 64 + n % 8 * 512 + r.val) % 33792, Nat.mod_lt _ (by decide)⟩

theorem index0 : ∀ t : Fin cfg0.N, win0_0.index t (0 : Fin 2) = min (t.val + 1) 63 / 8 * 4224 + 64 + min (t.val + 1) 63 % 8 * 512
    ∧ win0_0.index t (1 : Fin 2) = 0 := by decide +kernel
theorem index1 : ∀ t : Fin cfg0.N, win0_1.index t (0 : Fin 2) = (t.val - 1) / 8 * 4224 + 64 + (t.val - 1) % 8 * 512
    ∧ win0_1.index t (1 : Fin 2) = 0 := by decide +kernel
theorem index6 : ∀ t : Fin cfg0.N, win0_6.index t (0 : Fin 2) = t.val - 1 ∧ win0_6.index t (1 : Fin 2) = 0 := by decide +kernel
theorem flush6 : ∀ t : Fin cfg0.N, (cfg0.win 6).flush t = true ↔ t.val ≠ 0 := by decide +kernel

theorem pts (t : Fin cfg0.N) : t.val < 65 := lt_of_lt_of_eq t.isLt (show cfg0.N = 65 from N_0)

theorem blk0_at (c : Dev nD) (t : Fin cfg0.N) (r : Fin 512) :
    row (iblk m c 0 t) r = row (inX m c) (src (min (t.val + 1) 63) r) := by
  funext k
  have hi := index0 t
  have hN := pts t
  have hr : r.val < 512 := r.isLt
  unfold row iblk
  rw [View.read_apply]
  show V m c main_arg0 _ = _
  rw [V_main_arg0]
  refine congrArg (inX m c) (funext fun a => Fin.ext ?_)
  match a with
  | ⟨0, _⟩ =>
    show win0_0.index t (0 : Fin 2) + 1 * r.val = (min (t.val + 1) 63 / 8 * 4224 + 64 + min (t.val + 1) 63 % 8 * 512 + r.val) % 33792
    rw [hi.1]; omega
  | ⟨1, _⟩ => show win0_0.index t (1 : Fin 2) + 1 * k.val = k.val; rw [hi.2]; omega

theorem blk1_at (c : Dev nD) (t : Fin cfg0.N) (r : Fin 512) :
    row (iblk m c 1 t) r = row (inX m c) (src (t.val - 1) r) := by
  funext k
  have hi := index1 t
  have hN := pts t
  have hr : r.val < 512 := r.isLt
  unfold row iblk
  rw [View.read_apply]
  show V m c main_arg0 _ = _
  rw [V_main_arg0]
  refine congrArg (inX m c) (funext fun a => Fin.ext ?_)
  match a with
  | ⟨0, _⟩ =>
    show win0_1.index t (0 : Fin 2) + 1 * r.val = ((t.val - 1) / 8 * 4224 + 64 + (t.val - 1) % 8 * 512 + r.val) % 33792
    rw [hi.1]; omega
  | ⟨1, _⟩ => show win0_1.index t (1 : Fin 2) + 1 * k.val = k.val; rw [hi.2]; omega

theorem blk2_at (c : Dev nD) (t : Fin cfg0.N) : row (iblk m c 2 t) 0 = fun k => inPre m c (ValueIdx.ix1 k) := by
  rw [← gain_at, ← V_v0]
  funext k
  unfold row iblk
  rw [View.read_apply]
  exact congrArg (V m c main_v0) (funext fun a => Fin.ext (by
    match a with
    | ⟨0, _⟩ => rfl
    | ⟨1, _⟩ => show 0 + 1 * k.val = k.val; omega))

theorem blk3_at (c : Dev nD) (t : Fin cfg0.N) : row (iblk m c 3 t) 0 = fun k => inPost m c (ValueIdx.ix1 k) := by
  rw [← gain_at, ← V_v1]
  funext k
  unfold row iblk
  rw [View.read_apply]
  exact congrArg (V m c main_v1) (funext fun a => Fin.ext (by
    match a with
    | ⟨0, _⟩ => rfl
    | ⟨1, _⟩ => show 0 + 1 * k.val = k.val; omega))

theorem blk4_at (c : Dev nD) (t : Fin cfg0.N) : row (iblk m c 4 t) = row (inWi m c) := by
  funext a k
  rw [← V_v2]
  unfold row iblk
  rw [View.read_apply]
  exact congrArg (V m c main_v2) (funext fun b => Fin.ext (by
    match b with
    | ⟨0, _⟩ => show 0 + 1 * a.val = a.val; omega
    | ⟨1, _⟩ => show 0 + 1 * k.val = k.val; omega))

theorem blk5_at (c : Dev nD) (t : Fin cfg0.N) : row (iblk m c 5 t) = row (inWo m c) := by
  funext a k
  rw [← V_v3]
  unfold row iblk
  rw [View.read_apply]
  exact congrArg (V m c main_v3) (funext fun b => Fin.ext (by
    match b with
    | ⟨0, _⟩ => show 0 + 1 * a.val = a.val; omega
    | ⟨1, _⟩ => show 0 + 1 * k.val = k.val; omega))

end Cert.KernelIdeal.Ffn
end
end
-- ==== Proof.Result.lean ====
module

public import proofs.«01_k».proof.Proof.Blocks

@[expose] public section

set_option maxRecDepth 16384

noncomputable section

namespace Cert.KernelIdeal.Ffn

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- The sub-layer on row `p` of the input. -/
def tokenAt (c : Dev nD) (p : Fin 33792) : Fin 1024 → EReal :=
  Rows.ffn (row (inX m c) p) (fun k => inPre m c (ValueIdx.ix1 k)) (fun k => inPost m c (ValueIdx.ix1 k)) (row (inWi m c)) (row (inWo m c))

theorem xn_at (c : Dev nD) (n : ℕ) (h : n ≤ 63) (r : Fin 512) :
    row (xnAt m c n) r = Rows.norm (row (inX m c) (src n r)) (fun k => inPre m c (ValueIdx.ix1 k)) := by
  match n with
  | 0 =>
    refine (normed0_at _ _ r).trans ?_
    rw [blk1_at, blk2_at]; rfl
  | n + 1 =>
    refine (normed_at _ _ r).trans ?_
    rw [blk0_at, blk2_at, show min ((pnt n).val + 1) 63 = n + 1 from by show min (n % 65 + 1) 63 = n + 1; omega]

theorem y_at (c : Dev nD) (n : ℕ) (h : n ≤ 63) (r : Fin 512) :
    row (yAt m c n) r = Rows.out (Rows.hid (Rows.norm (row (inX m c) (src n r)) (fun k => inPre m c (ValueIdx.ix1 k))) (row (inWi m c)))
      (row (inWo m c)) := by
  refine (down_at _ _ _ r).trans ?_
  rw [xn_at m c n h, blk4_at, blk5_at]

theorem out_at (c : Dev nD) (n : ℕ) (h : n ≤ 63) (r : Fin 512) : row (outAt m c (n + 1)) r = tokenAt m c (src n r) := by
  have e : (pnt (n + 1)).val - 1 = n := by show (n + 1) % 65 - 1 = n; omega
  by_cases h' : n = 63
  · rw [outAt_last m c n h']
    refine (finished_at _ _ _ r).trans ?_
    rw [blk1_at, y_at m c n h, blk3_at, e]; rfl
  · rw [outAt_tile m c n h']
    refine (added_at _ _ _ r).trans ?_
    rw [blk1_at, y_at m c n h, blk3_at, e]; rfl

/-- What the result array is shown to hold. -/
def result (c : Dev nD) : Buf (Elt Ideal) ((c : Thread nD τ).loc main_v4) :=
  fun i : S32768x1024.Idx => tokenAt m c (src ((i 0).val / 512) ⟨(i 0).val % 512, Nat.mod_lt _ (by decide)⟩) ⟨(i 1).val, (i 1).isLt⟩

theorem split_div (n r : ℕ) (h : r < 512) : (n * 512 + r) / 512 = n := by omega
theorem split_mod (n r : ℕ) (h : r < 512) : (n * 512 + r) % 512 = r := by omega

theorem flushed_eq (c : Dev nD) (t : Fin cfg0.N) (hf : (cfg0.win 6).flush t = true) :
    (dats m 0 c).flushed 6 t = ((cfg0.win 6).blk t).view.read (Elt Ideal) (result m c) := by
  have h0 := (flush6 t).mp hf
  have hN := pts t
  obtain ⟨n, hn⟩ : ∃ n, t.val = n + 1 := ⟨t.val - 1, by omega⟩
  have hn' : n ≤ 63 := by omega
  have hi := index6 t
  show (cfg0.win 6).cut (grid0.coords t) ((dats m 0 c).after 6 t) = _
  rw [after6, hn]
  funext j
  have hj0 : (j 0).val < 512 := (j 0).isLt
  rw [View.read_apply]
  have e0 : win0_6.index t (0 : Fin 2) * 512 + 1 * (j 0).val = n * 512 + (j 0).val := by
    rw [hi.1, hn, Nat.add_sub_cancel, Nat.one_mul]
  have e1 : win0_6.index t (1 : Fin 2) * 1024 + 1 * (j 1).val = (j 1).val := by rw [hi.2, Nat.zero_mul, Nat.one_mul, Nat.zero_add]
  refine (show _ = row (outAt m c (n + 1)) ⟨(j 0).val, hj0⟩ ⟨(j 1).val, (j 1).isLt⟩ from ?_).trans ?_
  · exact congrArg (outAt m c (n + 1)) (funext fun a => by match a with | ⟨0, _⟩ => rfl | ⟨1, _⟩ => rfl)
  · rw [out_at m c n hn']
    show _ = tokenAt m c (src ((win0_6.index t (0 : Fin 2) * 512 + 1 * (j 0).val) / 512) ⟨(win0_6.index t (0 : Fin 2) * 512 + 1 * (j 0).val) % 512, _⟩)
      ⟨win0_6.index t (1 : Fin 2) * 1024 + 1 * (j 1).val, _⟩
    simp only [e0, e1]
    have d := split_div n (j 0).val hj0
    have d' := split_mod n (j 0).val hj0
    simp only [d, d']

theorem mem_blk (t : Fin cfg0.N) (i : S32768x1024.Idx) :
    i ∈ ((cfg0.win 6).blk t).view.set ↔ (t.val - 1) * 512 ≤ (i 0 : ℕ) ∧ (i 0 : ℕ) < (t.val - 1) * 512 + 512 := by
  show i ∈ ((View.whole main_v4).slice (win0_6.rect t)).set ↔ _
  rw [View.set_slice_whole, Rect.mem_set_unit]
  have h1 : (i 1 : ℕ) < 1024 := (i 1).isLt
  have hi := index6 t
  refine ⟨fun h => ?_, fun h a => ?_⟩
  · have : win0_6.index t (0 : Fin 2) * 512 ≤ (i 0 : ℕ) ∧ (i 0 : ℕ) < win0_6.index t (0 : Fin 2) * 512 + 512 := h 0
    rwa [hi.1] at this
  · match a with
    | ⟨0, _⟩ => show win0_6.index t (0 : Fin 2) * 512 ≤ (i 0 : ℕ) ∧ (i 0 : ℕ) < win0_6.index t (0 : Fin 2) * 512 + 512; rw [hi.1]; exact h
    | ⟨1, _⟩ => show win0_6.index t (1 : Fin 2) * 1024 ≤ (i 1 : ℕ) ∧ (i 1 : ℕ) < win0_6.index t (1 : Fin 2) * 1024 + 1024; exact ⟨by rw [hi.2, Nat.zero_mul]; exact Nat.zero_le _, by rw [hi.2, Nat.zero_mul, Nat.zero_add]; exact h1⟩

theorem cover (i : S32768x1024.Idx) : ∃ t : Fin cfg0.N, (cfg0.win 6).flush t = true ∧ i ∈ ((cfg0.win 6).blk t).view.set := by
  have h0 : (i 0 : ℕ) < 32768 := (i 0).isLt
  have ht : (i 0 : ℕ) / 512 + 1 < cfg0.N := by rw [show cfg0.N = 65 from N_0]; omega
  refine ⟨⟨(i 0 : ℕ) / 512 + 1, ht⟩, (flush6 _).mpr (Nat.succ_ne_zero _), ?_⟩
  rw [mem_blk]
  dsimp only
  omega

/-- The result array ends holding the sub-layer of the rows the tiles take. -/
theorem final_out (c : Dev nD) : (dats m 0 c).arrAt 6 cfg0.N = result m c :=
  (dats m 0 c).arrAt_eq_of_cover 6 (result m c) (flushed_eq m c) cover

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (final_out m c), h.2.1 c⟩)
    (θ_run_and (run_main m ρ) (unchanged m ρ))

end Cert.KernelIdeal.Ffn
end
end
-- ==== Proof.RefRows.lean ====
module

public import proofs.«01_k».proof.Proof.Rows
public import proofs.«01_k».proof.Proof.Gen.ReferenceIdeal.Run
public import proofs.«01_k».proof.Proof.Gen.ReferenceIdeal.Read
public import Idealize.ShloMosaic.Lib.ValueIdxCore
public import Idealize.ShloMosaic.Lib.IdealHost

@[expose] public section

set_option maxRecDepth 16384

noncomputable section

namespace Cert.ReferenceIdeal.Ffn

open Idealize.ShloMosaic Idealize.ShloMosaic.ValueIdx
open Cert.ReferenceIdeal Cert.ReferenceIdeal.Read

variable (x0 : S33792x1024.Idx → EReal) (x1 x2 : S1024.Idx → EReal) (x3 : S1024x5632.Idx → EReal) (x4 : S2816x1024.Idx → EReal)

/-- Token `s` of sequence `b`, after the 48 rows in front. -/
def tok (b : Fin 8) (s : Fin 4112) : Fin 1024 → EReal := fun k => x0 (ix2 ⟨b.val * 4224 + 48 + s.val, by omega⟩ k)
abbrev vec (g : S1024.Idx → EReal) : Fin 1024 → EReal := fun k => g (ix1 k)
abbrev mat {a b : ℕ} (w : (⟨2, ![a, b]⟩ : Shape).Idx → EReal) : Fin a → Fin b → EReal := fun i j => w (ix2 i j)

theorem v1_at (b : Fin 8) (s : Fin 4112) (k : Fin 1024) : val_main_v1 (F := Ideal) x0 (ix3 b s k) = tok x0 b s k := by
  rw [val_main_v1_apply, val_main_v0_apply]
  refine congrArg x0 (funext fun a => Fin.ext ?_)
  match a with
  | ⟨0, _⟩ => show ((b.val * 4224 + (48 + s.val)) * 1024 + k.val) / 1024 = b.val * 4224 + 48 + s.val; omega
  | ⟨1, _⟩ => show ((b.val * 4224 + (48 + s.val)) * 1024 + k.val) % 1024 = k.val; omega

/-! ## The stages, at a token -/

theorem v9_at (b : Fin 8) (s : Fin 4112) : val_main_v9 (F := Ideal) x0 (ix3 b s (0 : Fin 1)) = Rows.scale (tok x0 b s) := by
  rw [val_main_v9_apply, val_main_v8_apply, val_main_v7_apply, val_main_cst_1_apply, val_main_v6_apply, val_main_v5_apply,
    val_main_cst_0_apply, val_main_v4_apply, val_main_v3_apply]
  have h : ∀ k : Fin 1024, val_main_v2 (F := Ideal) x0 (idx_main_v3 (idx_main_v4 (ix3 b s (0 : Fin 1))) k) = tok x0 b s k * tok x0 b s k := fun k => by
    rw [val_main_v2_apply, show idx_main_v3 (idx_main_v4 (ix3 b s (0 : Fin 1))) k = ix3 b s k from
      funext fun a => by match a with | ⟨0, _⟩ => rfl | ⟨1, _⟩ => rfl | ⟨2, _⟩ => rfl, v1_at]; rfl
  simp only [h]
  rw [val_main_cst_apply]
  show Ideal.rsqrt (Ideal.div (Ideal.ofBits .f32 0x00000000#32 + _) _ + _) = _
  rw [Ideal.ofBits_zero_f32, zero_add]; rfl

theorem v14_at (b : Fin 8) (s : Fin 4112) (k : Fin 1024) :
    val_main_v14 (F := Ideal) x0 x1 (ix3 b s k) = Rows.norm (tok x0 b s) (vec x1) k := by
  rw [val_main_v14_apply, val_main_v13_apply, val_main_v12_apply, val_main_v11_apply, val_main_v10_apply, v1_at,
    show idx_main_v10 (ix3 b s k) = ix3 b s (0 : Fin 1) from
      funext fun a => by match a with | ⟨0, _⟩ => rfl | ⟨1, _⟩ => rfl | ⟨2, _⟩ => rfl, v9_at,
    show idx_main_v12 (idx_main_v13 (ix3 b s k)) = ix1 k from funext fun a => by match a with | ⟨0, _⟩ => rfl]
  rfl

theorem v15_at (b : Fin 8) (s : Fin 4112) (k : Fin 5632) :
    val_main_v15 (F := Ideal) x0 x1 x3 (ix3 b s k) = Rows.proj (Rows.norm (tok x0 b s) (vec x1)) (mat x3) k := by
  rw [val_main_v15_apply]
  refine Finset.sum_congr rfl fun a _ => ?_
  rw [show lidx_main_v15 (ix3 b s k) a = ix3 b s a from
      funext fun a => by match a with | ⟨0, _⟩ => rfl | ⟨1, _⟩ => rfl | ⟨2, _⟩ => rfl, v14_at,
    show ridx_main_v15 (ix3 b s k) a = ix2 a k from funext fun a => by match a with | ⟨0, _⟩ => rfl | ⟨1, _⟩ => rfl]

theorem v19_at (b : Fin 8) (s : Fin 4112) (k : Fin 2816) :
    val_main_v19 (F := Ideal) x0 x1 x3 (ix3 b s k) = Rows.hid (Rows.norm (tok x0 b s) (vec x1)) (mat x3) k := by
  rw [val_main_v19_apply, val_main_v18_apply, val_main_call0_v5_apply, val_main_call0_v4_apply, val_main_call0_cst_0_apply,
    val_main_call0_v3_apply, val_main_call0_v2_apply, val_main_call0_cst_apply, val_main_call0_v1_apply, val_main_call0_v0_apply,
    val_main_v17_apply, val_main_v16_apply,
    show idx_main_v16 (ix3 b s k) = ix3 b s (⟨k.val, by omega⟩ : Fin 5632) from
      funext fun a => by match a with | ⟨0, _⟩ => rfl | ⟨1, _⟩ => rfl | ⟨2, _⟩ => rfl,
    show idx_main_v17 (ix3 b s k) = ix3 b s (⟨2816 + k.val, by omega⟩ : Fin 5632) from
      funext fun a => by match a with | ⟨0, _⟩ => rfl | ⟨1, _⟩ => rfl | ⟨2, _⟩ => rfl, v15_at, v15_at]
  show _ * Ideal.div (Ideal.ofBits .f32 0x3F800000#32) (Ideal.ofBits .f32 0x3F800000#32 + Ideal.exp (-_)) * _ = _
  rw [Ideal.ofBits_one_f32]; rfl

theorem v20_at (b : Fin 8) (s : Fin 4112) (k : Fin 1024) :
    val_main_v20 (F := Ideal) x0 x1 x3 x4 (ix3 b s k) = Rows.out (Rows.hid (Rows.norm (tok x0 b s) (vec x1)) (mat x3)) (mat x4) k := by
  rw [val_main_v20_apply]
  refine Finset.sum_congr rfl fun a _ => ?_
  rw [show lidx_main_v20 (ix3 b s k) a = ix3 b s a from
      funext fun a => by match a with | ⟨0, _⟩ => rfl | ⟨1, _⟩ => rfl | ⟨2, _⟩ => rfl, v19_at,
    show ridx_main_v20 (ix3 b s k) a = ix2 a k from funext fun a => by match a with | ⟨0, _⟩ => rfl | ⟨1, _⟩ => rfl]

/-- The product a token's branch ends in. -/
abbrev branch (b : Fin 8) (s : Fin 4112) : Fin 1024 → EReal :=
  Rows.out (Rows.hid (Rows.norm (tok x0 b s) (vec x1)) (mat x3)) (mat x4)

theorem v28_at (b : Fin 8) (s : Fin 4112) :
    val_main_v28 (F := Ideal) x0 x1 x3 x4 (ix3 b s (0 : Fin 1)) = Rows.scale (branch x0 x1 x3 x4 b s) := by
  rw [val_main_v28_apply, val_main_v27_apply, val_main_v26_apply, val_main_cst_4_apply, val_main_v25_apply, val_main_v24_apply,
    val_main_cst_3_apply, val_main_v23_apply, val_main_v22_apply]
  have h : ∀ k : Fin 1024, val_main_v21 (F := Ideal) x0 x1 x3 x4 (idx_main_v22 (idx_main_v23 (ix3 b s (0 : Fin 1))) k)
      = branch x0 x1 x3 x4 b s k * branch x0 x1 x3 x4 b s k := fun k => by
    rw [val_main_v21_apply, show idx_main_v22 (idx_main_v23 (ix3 b s (0 : Fin 1))) k = ix3 b s k from
      funext fun a => by match a with | ⟨0, _⟩ => rfl | ⟨1, _⟩ => rfl | ⟨2, _⟩ => rfl, v20_at]; rfl
  simp only [h]
  rw [val_main_cst_2_apply]
  show Ideal.rsqrt (Ideal.div (Ideal.ofBits .f32 0x00000000#32 + _) _ + _) = _
  rw [Ideal.ofBits_zero_f32, zero_add]; rfl

theorem v36_at (b : Fin 8) (s : Fin 4112) (k : Fin 1024) :
    val_main_v36 (F := Ideal) x0 x1 x2 x3 x4 (ix3 b s k) = Rows.ffn (tok x0 b s) (vec x1) (vec x2) (mat x3) (mat x4) k := by
  rw [val_main_v36_apply, val_main_v35_apply, val_main_v34_apply, val_main_cst_5_apply, val_main_v33_apply, val_main_v32_apply,
    val_main_v31_apply, val_main_v30_apply, val_main_v29_apply, v20_at, v1_at,
    show idx_main_v29 (ix3 b s k) = ix3 b s (0 : Fin 1) from
      funext fun a => by match a with | ⟨0, _⟩ => rfl | ⟨1, _⟩ => rfl | ⟨2, _⟩ => rfl, v28_at,
    show idx_main_v31 (idx_main_v32 (ix3 b s k)) = ix1 k from funext fun a => by match a with | ⟨0, _⟩ => rfl]
  rfl

/-- The reference's result: row `4096 b + s` is the sub-layer on token `s + 16` of sequence `b`. -/
theorem v38_at (r : Fin 32768) (k : Fin 1024) : val_main_v38 (F := Ideal) x0 x1 x2 x3 x4 (ix2 r k)
    = Rows.ffn (tok x0 ⟨r.val / 4096, by omega⟩ ⟨16 + r.val % 4096, by omega⟩) (vec x1) (vec x2) (mat x3) (mat x4) k := by
  have hr := r.isLt
  have hk := k.isLt
  rw [val_main_v38_apply, val_main_v37_apply, ← v36_at]
  refine congrArg _ (funext fun a => Fin.ext ?_)
  match a with
  | ⟨0, _⟩ => show (r.val * 1024 + k.val) / 4194304 = r.val / 4096; omega
  | ⟨1, _⟩ => show 16 + (r.val * 1024 + k.val) / 1024 % 4096 = 16 + r.val % 4096; omega
  | ⟨2, _⟩ => show (r.val * 1024 + k.val) % 1024 = k.val; omega

end Cert.ReferenceIdeal.Ffn
end
end
-- ==== Proof.Equal.lean ====
module

public import proofs.«01_k».proof.Proof.Result
public import proofs.«01_k».proof.Proof.RefRows

@[expose] public section

set_option maxRecDepth 16384

noncomputable section

namespace Cert.Equal

open Idealize.ShloMosaic Idealize.ShloMosaic.TcCoe

/-- Row `i` of the result is, in the kernel, row `i % 512` of tile `i / 512`; in the reference, token `16 + i % 4096` of
    sequence `i / 4096`, the tokens starting 48 rows in: one row of the input. -/
theorem row_eq (i : ℕ) (h : i < 32768) :
    (i / 512 / 8 * 4224 + 64 + i / 512 % 8 * 512 + i % 512) % 33792 = i / 4096 * 4224 + 48 + (16 + i % 4096) := by
  have e : i / 512 / 8 = i / 4096 := Nat.div_div_eq_div_mul i 512 8
  have e' : i / 512 % 8 * 512 + i % 512 = i % 4096 := by omega
  have hb : i / 4096 < 8 := by omega
  rw [e, Nat.add_assoc _ _ (i % 512), e', Nat.mod_eq_of_lt (by omega)]
  omega

theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v38 m' c = Cert.KernelIdeal.Ffn.result m c := by
  obtain ⟨h0, h1, h2, h3, h4⟩ := h
  refine (Cert.ReferenceIdeal.Read.val_main_v38_eq m' c).trans ?_
  rw [h0, h1, h2, h3, h4]
  funext i
  obtain ⟨r, k, rfl⟩ : ∃ (r : Fin 32768) (k : Fin 1024), i = ValueIdx.ix2 r k := ⟨i 0, i 1, ValueIdx.eq_ix2 i⟩
  refine (Cert.ReferenceIdeal.Ffn.v38_at _ _ _ _ _ r k).trans ?_
  refine congrFun (congrArg (fun x => Rows.ffn x _ _ _ _) (funext fun j => ?_)) k
  exact congrArg (m _) (congrArg (fun p => ValueIdx.ix2 p j) (Fin.ext (row_eq r.val r.isLt).symm))

end Cert.Equal
end
end
-- ==== Proof.Points2.lean ====
/- What the run of the feed-forward kernel shares between its points: at which points each branch of the body is
   taken, the staging buffers as the body gets them, and what a point computes from the blocks it is given. -/
module

public import proofs.«01_k».proof.Proof.Gen.Kernel2Ideal.Frame
public import proofs.«01_k».proof.Proof.Gen.Kernel2Ideal.Skeleton
public import Idealize.ShloMosaic.Lib.Pipeline.Value
public import Idealize.ShloMosaic.Lib.ValueIdxCore

@[expose] public section

set_option maxRecDepth 16384

noncomputable section

namespace Cert.Kernel2Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## Which branches a point takes -/

/-- The first branch: the fill before the first tile. -/
abbrev isFirst (i : grid0.Coords) : Prop :=
  (Scalar.cmpi .ne (Scalar.extui (Scalar.cmpi .eq (BitVec.ofNat 32 (i 0).val) 0#32)) 0#32) = 1#1
/-- The second branch: an even tile. -/
abbrev isEven (i : grid0.Coords) : Prop := k0_cond2 i = 1#1
/-- The third branch: an odd tile. -/
abbrev isOdd (i : grid0.Coords) : Prop := k0_cond3 i = 1#1
/-- The fourth branch: the point after the last tile. -/
abbrev isLast (i : grid0.Coords) : Prop := k0_cond4 i = 1#1

theorem isFirst_iff (t : Fin cfg0.N) : isFirst (grid0.coords t) ↔ t.val = 0 :=
  (by decide +kernel : ∀ t : Fin grid0.N, isFirst (grid0.coords t) ↔ t.val = 0) t
theorem isEven_iff (t : Fin cfg0.N) : isEven (grid0.coords t) ↔ t.val % 2 = 0 ∧ t.val ≠ 66 :=
  (by decide +kernel : ∀ t : Fin grid0.N, isEven (grid0.coords t) ↔ t.val % 2 = 0 ∧ t.val ≠ 66) t
theorem isOdd_iff (t : Fin cfg0.N) : isOdd (grid0.coords t) ↔ t.val % 2 = 1 :=
  (by decide +kernel : ∀ t : Fin grid0.N, isOdd (grid0.coords t) ↔ t.val % 2 = 1) t
theorem isLast_iff (t : Fin cfg0.N) : isLast (grid0.coords t) ↔ t.val = 66 :=
  (by decide +kernel : ∀ t : Fin grid0.N, isLast (grid0.coords t) ↔ t.val = 66) t

/-- The output is written at every point. -/
theorem live6 (t : Fin cfg0.N) : cfg0.idle 6 (grid0.coords t) = false :=
  (by decide +kernel : ∀ t : Fin grid0.N, cfg0.idle 6 (grid0.coords t) = false) t

/-! ## The buffers a point works on -/

abbrev buf0 (t : Fin cfg0.N) : Memref sig .tc .vmem S512x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S512x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1024 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1024 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x5632 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S2816x1024 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S512x1024 .f32 := win0_6.stage (cfg0.slots t 6)
abbrev whole6 (t : Fin cfg0.N) : (buf6 t).IsWhole := hstage0_6 ((cfg0.slots t 6).cast nbuf0_6)
abbrev keep0 : Memref sig .tc .vmem S512x1024 .bf16 := Memref.whole cc0_scratch0
abbrev keep1 : Memref sig .tc .vmem S512x1024 .bf16 := Memref.whole cc0_scratch1
abbrev keep2 : Memref sig .tc .vmem S512x1024 .f32 := Memref.whole cc0_scratch2
abbrev keep3 : Memref sig .tc .vmem S512x1024 .f32 := Memref.whole cc0_scratch3
abbrev keep4 : Memref sig .tc .vmem S512x2816 .bf16 := Memref.whole cc0_scratch4

/-- What the pipeline hands the body beside the windows: the five scratch buffers at any contents. -/
theorem ΦA_eq (c : Dev nD) :
    (Pipeline.ΦA spec0 c : sProp 𝕄)
      = iprop(iprop((∃ d, owns (c : Thread nD τ) keep0 fullShare d) ∗ (∃ d, owns (c : Thread nD τ) keep1 fullShare d) ∗ (∃ d, owns (c : Thread nD τ) keep2 fullShare d) ∗ (∃ d, owns (c : Thread nD τ) keep3 fullShare d) ∗ (∃ d, owns (c : Thread nD τ) keep4 fullShare d)) ∗ (∃ r, prngReg c r)) := by
  unfold Pipeline.ΦA; rw [scopedRest0_eq]; simp only [keep0, keep1, keep2, keep3, keep4, owns_whole]; try rfl

/-! ## What a point computes -/

/-- Column block `k` (256 columns) of the first feed-forward weight's half starting at column `o`. -/
def wiCols (wi : Vec F S1024x5632 .bf16) (o : ℕ) (k : ℕ) : Vec F S1024x256 .bf16 :=
  fun j => wi (ix2 ⟨(j 0).val, (j 0).isLt⟩ ⟨(o + 256 * k + (j 1).val) % 5632, Nat.mod_lt _ (by decide)⟩)

/-- The gated hidden activations of a tile: 256 columns at a time. -/
def hidden (xn : Vec F S512x1024 .bf16) (wi : Vec F S1024x5632 .bf16) : Vec F S512x2816 .bf16 :=
  fun i => k0_pay28 xn (wiCols wi 0 ((i 1).val / 256)) xn (wiCols wi 2816 ((i 1).val / 256))
    (ix2 ⟨(i 0).val, (i 0).isLt⟩ ⟨(i 1).val % 256, Nat.mod_lt _ (by decide)⟩)

/-- The hidden activations times the second weight. -/
def down (xn : Vec F S512x1024 .bf16) (wi : Vec F S1024x5632 .bf16) (wo : Vec F S2816x1024 .bf16) : Vec F S512x1024 .f32 :=
  k0_pay57 (hidden xn wi) wo

/-- Rows `64 k .. 64 k + 63` of a tile. -/
def slab {e : EltTy} (x : Vec F S512x1024 e) (k : ℕ) : Vec F S64x1024 e :=
  fun j => x (ix2 ⟨(64 * k + (j 0).val) % 512, Nat.mod_lt _ (by decide)⟩ ⟨(j 1).val, (j 1).isLt⟩)

/-- A tile normalised, 64 rows at a time. -/
def normed (x : Vec F S512x1024 .f32) (g : Vec F S1x1024 .f32) : Vec F S512x1024 .bf16 :=
  fun i => k0_pay29 (slab x ((i 0).val / 64)) g (ix2 ⟨(i 0).val % 64, Nat.mod_lt _ (by decide)⟩ ⟨(i 1).val, (i 1).isLt⟩)

/-- A tile plus half the normalised product, 64 rows at a time. -/
def added (x y : Vec F S512x1024 .f32) (g : Vec F S1x1024 .f32) : Vec F S512x1024 .f32 :=
  fun i => k0_pay30 (slab x ((i 0).val / 64)) (slab y ((i 0).val / 64)) g
    (ix2 ⟨(i 0).val % 64, Nat.mod_lt _ (by decide)⟩ ⟨(i 1).val, (i 1).isLt⟩)

/-! ## What the stores of a point leave is that -/

/-- Rows `64 k ..` of a tile, read through the rectangle the body loads them by. -/
theorem ld_slab {e : EltTy} (x : Vec F S512x1024 e) (k : ℕ) (hk : k < 8)
    (inb : ∀ a, (![64 * k, 0] : Fin 2 → ℕ) a + S64x1024.size a ≤ S512x1024.size a) :
    View.ld x (Rect.unit (s := S512x1024) ![64 * k, 0] S64x1024.size inb) = slab x k := by
  funext j
  unfold slab
  refine congrArg x (funext fun a => ?_)
  have hj : (j 0).val < 64 := (j 0).isLt
  match a with
  | ⟨0, _⟩ => exact Fin.ext (show 64 * k + 1 * (j 0).val = (64 * k + (j 0).val) % 512 by omega)
  | ⟨1, _⟩ => exact Fin.ext (show 0 + 1 * (j 1).val = (j 1).val by omega)

theorem normed_piece (x : Vec F S512x1024 .f32) (g : Vec F S1x1024 .f32) (k : ℕ) (hk : k < 8)
    (inb : ∀ a, (![64 * k, 0] : Fin 2 → ℕ) a + S64x1024.size a ≤ S512x1024.size a) (j : S64x1024.Idx) :
    k0_pay29 (View.ld x (Rect.unit (s := S512x1024) ![64 * k, 0] S64x1024.size inb)) g j
      = normed x g ((Rect.unit (s := S512x1024) ![64 * k, 0] S64x1024.size inb).emb j) := by
  have hj : (j 0).val < 64 := (j 0).isLt
  have e0 : (64 * k + 1 * (j 0).val) / 64 = k := by omega
  rw [ld_slab x k hk inb]
  show _ = k0_pay29 (slab x ((64 * k + 1 * (j 0).val) / 64)) g _
  rw [e0]
  refine congrArg _ (funext fun a => ?_)
  match a with
  | ⟨0, _⟩ => exact Fin.ext (show (j 0).val = (64 * k + 1 * (j 0).val) % 64 by omega)
  | ⟨1, _⟩ => exact Fin.ext (show (j 1).val = 0 + 1 * (j 1).val by omega)

theorem added_piece (x y : Vec F S512x1024 .f32) (g : Vec F S1x1024 .f32) (k : ℕ) (hk : k < 8)
    (inb : ∀ a, (![64 * k, 0] : Fin 2 → ℕ) a + S64x1024.size a ≤ S512x1024.size a) (j : S64x1024.Idx) :
    k0_pay30 (View.ld x (Rect.unit (s := S512x1024) ![64 * k, 0] S64x1024.size inb))
        (View.ld y (Rect.unit (s := S512x1024) ![64 * k, 0] S64x1024.size inb)) g j
      = added x y g ((Rect.unit (s := S512x1024) ![64 * k, 0] S64x1024.size inb).emb j) := by
  have hj : (j 0).val < 64 := (j 0).isLt
  have e0 : (64 * k + 1 * (j 0).val) / 64 = k := by omega
  rw [ld_slab x k hk inb, ld_slab y k hk inb]
  show _ = k0_pay30 (slab x ((64 * k + 1 * (j 0).val) / 64)) (slab y ((64 * k + 1 * (j 0).val) / 64)) g _
  rw [e0]
  refine congrArg _ (funext fun a => ?_)
  match a with
  | ⟨0, _⟩ => exact Fin.ext (show (j 0).val = (64 * k + 1 * (j 0).val) % 64 by omega)
  | ⟨1, _⟩ => exact Fin.ext (show (j 1).val = 0 + 1 * (j 1).val by omega)

/-- A block of 256 columns of the first weight, read through the rectangle the body loads it by. -/
theorem ld_wiCols (wi : Vec F S1024x5632 .bf16) (o k : ℕ) (ho : o + 256 * k + 256 ≤ 5632)
    (inb : ∀ a, (![0, o + 256 * k] : Fin 2 → ℕ) a + S1024x256.size a ≤ S1024x5632.size a) :
    View.ld wi (Rect.unit (s := S1024x5632) ![0, o + 256 * k] S1024x256.size inb) = wiCols wi o k := by
  funext j
  unfold wiCols
  refine congrArg wi (funext fun a => ?_)
  have hj : (j 1).val < 256 := (j 1).isLt
  match a with
  | ⟨0, _⟩ => exact Fin.ext (show 0 + 1 * (j 0).val = (j 0).val by omega)
  | ⟨1, _⟩ => exact Fin.ext (show o + 256 * k + 1 * (j 1).val = (o + 256 * k + (j 1).val) % 5632 by omega)

theorem hidden_piece (xn : Vec F S512x1024 .bf16) (wi : Vec F S1024x5632 .bf16) (k : ℕ) (hk : k < 11)
    (inb : ∀ a, (![0, 256 * k] : Fin 2 → ℕ) a + S512x256.size a ≤ S512x2816.size a)
    (inb0 : ∀ a, (![0, 0 + 256 * k] : Fin 2 → ℕ) a + S1024x256.size a ≤ S1024x5632.size a)
    (inb1 : ∀ a, (![0, 2816 + 256 * k] : Fin 2 → ℕ) a + S1024x256.size a ≤ S1024x5632.size a) (j : S512x256.Idx) :
    k0_pay28 xn (View.ld wi (Rect.unit (s := S1024x5632) ![0, 0 + 256 * k] S1024x256.size inb0)) xn
        (View.ld wi (Rect.unit (s := S1024x5632) ![0, 2816 + 256 * k] S1024x256.size inb1)) j
      = hidden xn wi ((Rect.unit (s := S512x2816) ![0, 256 * k] S512x256.size inb).emb j) := by
  have hj : (j 1).val < 256 := (j 1).isLt
  have e0 : (256 * k + 1 * (j 1).val) / 256 = k := by omega
  rw [ld_wiCols wi 0 k (by omega) inb0, ld_wiCols wi 2816 k (by omega) inb1]
  show _ = k0_pay28 xn (wiCols wi 0 ((256 * k + 1 * (j 1).val) / 256)) xn (wiCols wi 2816 ((256 * k + 1 * (j 1).val) / 256)) _
  rw [e0]
  refine congrArg _ (funext fun a => ?_)
  match a with
  | ⟨0, _⟩ => exact Fin.ext (show (j 0).val = 0 + 1 * (j 0).val by omega)
  | ⟨1, _⟩ => exact Fin.ext (show (j 1).val = (256 * k + 1 * (j 1).val) % 256 by omega)

/-- The offsets of a store of a whole buffer. -/
theorem offsets_zero : (![0, 0] : Fin 2 → ℕ) = fun _ => 0 := by funext a; match a with | ⟨0, _⟩ => rfl | ⟨1, _⟩ => rfl

/-- A load of part of a buffer just stored whole reads that part of what was stored. -/
theorem readCov_slab {S : Shape} {e : EltTy} (v : View sig .tc .vmem S e) {off : Fin S.rank → ℕ} (h : off = fun _ => 0)
    (inb : ∀ a, off a + S.size a ≤ S.size a) (w : Vec F S e) (r : Rect S) :
    v.readCov [(⟨Rect.unit off S.size inb, w⟩ : View.Piece (Elt F) S e)] r.toLoadRect = View.ld w r := by
  rw [View.readCov_eq_canon_ld v _ r (fun y => ⟨_, List.mem_singleton_self _, View.mem_set_unit_zero h inb y⟩),
    View.canon_unit_zero h]

/-- A buffer covered by pieces that are all parts of `G` reads `G`. -/
theorem read_writes_of_pieces {s : Shape} {e : EltTy} (v : View sig .tc .vmem s e) (f : v.ty.Contents (Elt F)) (G : Vec F s e)
    (L : List (View.Piece (Elt F) s e)) (hc : ∀ y, ∃ p ∈ L, y ∈ p.1.set) (hL : ∀ p ∈ L, ∀ x : p.1.shape.Idx, p.2 x = G (p.1.emb x)) :
    v.read (Elt F) (v.writes (Elt F) f L) = G :=
  (View.read_writes_eq_canon v f L hc).trans (funext fun y => View.canon_apply_of_pieces G L hL y (hc y))

end Cert.Kernel2Ideal.Ffn

end
-- ==== Proof.Pays2.lean ====
module

public import proofs.«01_k».proof.Proof.Points2
public import proofs.«01_k».proof.Proof.Rows
public import Idealize.ShloMosaic.Lib.Pointwise

@[expose] public section

set_option maxRecDepth 16384

noncomputable section

namespace Cert.Kernel2Ideal.Ffn

open Idealize.ShloMosaic
open Cert.Kernel2Ideal Cert.Kernel2Ideal.Gen

/-- A row of a two-axis block. -/
def row {m n : Nat} (x : (⟨2, ![m, n]⟩ : Shape).Idx → EReal) (r : Fin m) : Fin n → EReal := fun c => x (ValueIdx.ix2 r c)

theorem pay29_at (x : Vec Ideal S64x1024 .f32) (g : Vec Ideal S1x1024 .f32) (r : Fin 64) (c : Fin 1024) :
    k0_pay29 x g (ValueIdx.ix2 r c) = Rows.norm (row x r) (row g 0) c := by
  simp only [Rows.norm, Rows.scale, row]
  simp only [← ix2_eq_valueIdx]
  unfold k0_pay29
  pointwise

theorem pay54_at (x : Vec Ideal S512x1024 .f32) (g : Vec Ideal S1x1024 .f32) (r : Fin 512) (c : Fin 1024) :
    k0_pay54 x g (ValueIdx.ix2 r c) = Rows.norm (row x r) (row g 0) c := by
  simp only [Rows.norm, Rows.scale, row]
  simp only [← ix2_eq_valueIdx]
  unfold k0_pay54
  pointwise

theorem pay30_at (x y : Vec Ideal S64x1024 .f32) (g : Vec Ideal S1x1024 .f32) (r : Fin 64) (c : Fin 1024) :
    k0_pay30 x y g (ValueIdx.ix2 r c) = Rows.add (row x r) (row y r) (row g 0) c := by
  simp only [Rows.add, Rows.norm, Rows.scale, row]
  simp only [← ix2_eq_valueIdx]
  unfold k0_pay30
  pointwise

theorem pay1_at (x y : Vec Ideal S512x1024 .f32) (g : Vec Ideal S1x1024 .f32) (r : Fin 512) (c : Fin 1024) :
    k0_pay1 x y g (ValueIdx.ix2 r c) = Rows.add (row x r) (row y r) (row g 0) c := by
  simp only [Rows.add, Rows.norm, Rows.scale, row]
  simp only [← ix2_eq_valueIdx]
  unfold k0_pay1
  pointwise

theorem pay57_at (h : Vec Ideal S512x2816 .bf16) (w : Vec Ideal S2816x1024 .bf16) (r : Fin 512) (c : Fin 1024) :
    k0_pay57 h w (ValueIdx.ix2 r c) = Rows.out (row h r) (row w) c := by
  simp only [Rows.out, row]
  simp only [← ix2_eq_valueIdx]
  unfold k0_pay57
  pointwise

theorem pay28_at (x : Vec Ideal S512x1024 .bf16) (u v : Vec Ideal S1024x256 .bf16) (r : Fin 512) (c : Fin 256) :
    k0_pay28 x u x v (ValueIdx.ix2 r c) = Rows.gate (Rows.proj (row x r) (row u) c) (Rows.proj (row x r) (row v) c) := by
  simp only [Rows.gate, Rows.proj, row]
  simp only [← ix2_eq_valueIdx]
  unfold k0_pay28
  pointwise

end Cert.Kernel2Ideal.Ffn
end
end
-- ==== Proof.Tiles2.lean ====
module

public import proofs.«01_k».proof.Proof.Pays2

@[expose] public section

set_option maxRecDepth 16384

noncomputable section

namespace Cert.Kernel2Ideal.Ffn

open Idealize.ShloMosaic
open Cert.Kernel2Ideal Cert.Kernel2Ideal.Gen

theorem row_slab (x : (⟨2, ![512, 1024]⟩ : Shape).Idx → EReal) (r : Fin 512) :
    row (fun j : (⟨2, ![64, 1024]⟩ : Shape).Idx =>
      x (ValueIdx.ix2 ⟨(64 * (r.val / 64) + (j 0).val) % 512, Nat.mod_lt _ (by decide)⟩ ⟨(j 1).val, (j 1).isLt⟩))
      ⟨r.val % 64, Nat.mod_lt _ (by decide)⟩ = row x r := by
  funext c
  have e : (⟨(64 * (r.val / 64) + r.val % 64) % 512, Nat.mod_lt _ (by decide)⟩ : Fin 512) = r := Fin.ext (by show _ % 512 = r.val; omega)
  show x (ValueIdx.ix2 (⟨(64 * (r.val / 64) + r.val % 64) % 512, Nat.mod_lt _ (by decide)⟩ : Fin 512) c) = x (ValueIdx.ix2 r c)
  rw [e]

theorem normed_at (x : Vec Ideal S512x1024 .f32) (g : Vec Ideal S1x1024 .f32) (r : Fin 512) :
    row (normed x g) r = Rows.norm (row x r) (row g 0) := by
  funext c
  refine (pay29_at (slab x (r.val / 64)) g ⟨r.val % 64, Nat.mod_lt _ (by decide)⟩ c).trans ?_
  exact congrArg (fun z => Rows.norm z (row g 0) c) (row_slab x r)

theorem added_at (x y : Vec Ideal S512x1024 .f32) (g : Vec Ideal S1x1024 .f32) (r : Fin 512) :
    row (added x y g) r = Rows.add (row x r) (row y r) (row g 0) := by
  funext c
  refine (pay30_at (slab x (r.val / 64)) (slab y (r.val / 64)) g ⟨r.val % 64, Nat.mod_lt _ (by decide)⟩ c).trans ?_
  exact congrArg₂ (fun z w => Rows.add z w (row g 0) c) (row_slab x r) (row_slab y r)

theorem finished_at (x y : Vec Ideal S512x1024 .f32) (g : Vec Ideal S1x1024 .f32) (r : Fin 512) :
    row (k0_pay1 x y g) r = Rows.add (row x r) (row y r) (row g 0) := funext fun c => pay1_at x y g r c

theorem normed0_at (x : Vec Ideal S512x1024 .f32) (g : Vec Ideal S1x1024 .f32) (r : Fin 512) :
    row (k0_pay54 x g) r = Rows.norm (row x r) (row g 0) := funext fun c => pay54_at x g r c

theorem proj_cols (x : Fin 1024 → EReal) (wi : Vec Ideal S1024x5632 .bf16) (o : ℕ) (k : Fin 2816) (h : o + k.val < 5632) :
    Rows.proj x (row (wiCols wi o (k.val / 256))) ⟨k.val % 256, Nat.mod_lt _ (by decide)⟩ = Rows.proj x (row wi) ⟨o + k.val, h⟩ :=
  Finset.sum_congr rfl fun a _ => congrArg (x a * ·) (congrArg wi (congrArg₂ ValueIdx.ix2 rfl
    (Fin.ext (show (o + 256 * (k.val / 256) + k.val % 256) % 5632 = o + k.val by omega))))

theorem hidden_at (xn : Vec Ideal S512x1024 .bf16) (wi : Vec Ideal S1024x5632 .bf16) (r : Fin 512) :
    row (hidden xn wi) r = Rows.hid (row xn r) (row wi) := by
  funext k
  refine (pay28_at xn (wiCols wi 0 (k.val / 256)) (wiCols wi 2816 (k.val / 256)) r ⟨k.val % 256, Nat.mod_lt _ (by decide)⟩).trans ?_
  refine congrArg₂ Rows.gate ((proj_cols _ wi 0 k (by omega)).trans ?_) (proj_cols _ wi 2816 k (by omega))
  exact congrArg (Rows.proj _ _) (Fin.ext (show 0 + k.val = k.val by omega))

theorem down_at (xn : Vec Ideal S512x1024 .bf16) (wi : Vec Ideal S1024x5632 .bf16) (wo : Vec Ideal S2816x1024 .bf16) (r : Fin 512) :
    row (down xn wi wo) r = Rows.out (Rows.hid (row xn r) (row wi)) (row wo) := by
  funext c
  refine (pay57_at (hidden xn wi) wo r c).trans ?_
  rw [hidden_at]

end Cert.Kernel2Ideal.Ffn
end
end
-- ==== Proof.RunOdd2.lean ====
/- The body at a point that works on an odd tile: what the buffers hold afterwards, from what they held before. -/
module

public import proofs.«01_k».proof.Proof.Points2

@[expose] public section

set_option maxRecDepth 16384

noncomputable section

namespace Cert.Kernel2Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 2000000 in
/-- The body at a point that works on an odd tile: what the buffers hold afterwards, from what they held before. -/
theorem run_odd (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : ¬isEven i) (hc2 : isOdd i) (hc3 : ¬isLast i)
    (x0 x1 : Vec F S512x1024 .f32) (x2 x3 : Vec F S1x1024 .f32) (x4 : Vec F S1024x5632 .bf16) (x5 : Vec F S2816x1024 .bf16) (xs : Vec F S512x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ owns (c : Thread nD τ) arg9 fullShare (xs) ∗ owns (c : Thread nD τ) arg10 fullShare (ys) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 ys x3) ∗ owns (c : Thread nD τ) arg8 fullShare (normed x0 x2) ∗ (∃ d, owns (c : Thread nD τ) arg9 fullShare d) ∗ (∃ d, owns (c : Thread nD τ) arg10 fullShare d) ∗ owns (c : Thread nD τ) arg11 fullShare (down xs x4 x5) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg9.read_unread, harg10.read_unread, View.ld_unit_zero (S := S1x1024) offsets_zero]
    exact ⟨fun j => added_piece x1 ys x3 7 (by decide) _ j, fun j => added_piece x1 ys x3 6 (by decide) _ j, fun j => added_piece x1 ys x3 5 (by decide) _ j, fun j => added_piece x1 ys x3 4 (by decide) _ j, fun j => added_piece x1 ys x3 3 (by decide) _ j, fun j => added_piece x1 ys x3 2 (by decide) _ j, fun j => added_piece x1 ys x3 1 (by decide) _ j, fun j => added_piece x1 ys x3 0 (by decide) _ j, fun p hp => absurd hp List.not_mem_nil⟩
  isplitl [H8]
  · iexists _; isplitr; rotate_left; · iexact H8
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg9.read_unread, harg10.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H9]
  · iexists _; iexists (harg9.unread xs); isplitr; · ipureintro; rfl
    iexact H9
  isplitl [H10]
  · iexists _; iexists (harg10.unread ys); isplitr; · ipureintro; rfl
    iexact H10
  isplitl [H11]
  · iexists _; isplitr; rotate_left; · iexact H11
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, harg9.read_unread, harg10.read_unread, View.ld_unit_zero (S := S2816x1024) offsets_zero, View.ld_unit_zero (S := S512x1024) offsets_zero]
    refine congrArg (fun h => k0_pay57 h x5) (funext fun y => View.canon_apply_of_pieces (hidden (xs) x4) _ ?_ y (View.cover_of_tiledL (s := S512x2816) _ S512x256.size (by sl_kernel_rfl) y))
    simp only [List.forall_mem_cons]
    exact ⟨fun j => hidden_piece (xs) x4 10 (by decide) _ _ _ j, fun j => hidden_piece (xs) x4 9 (by decide) _ _ _ j, fun j => hidden_piece (xs) x4 8 (by decide) _ _ _ j, fun j => hidden_piece (xs) x4 7 (by decide) _ _ _ j, fun j => hidden_piece (xs) x4 6 (by decide) _ _ _ j, fun j => hidden_piece (xs) x4 5 (by decide) _ _ _ j, fun j => hidden_piece (xs) x4 4 (by decide) _ _ _ j, fun j => hidden_piece (xs) x4 3 (by decide) _ _ _ j, fun j => hidden_piece (xs) x4 2 (by decide) _ _ _ j, fun j => hidden_piece (xs) x4 1 (by decide) _ _ _ j, fun j => hidden_piece (xs) x4 0 (by decide) _ _ _ j, fun p hp => absurd hp List.not_mem_nil⟩
  iexists _; iexists _; isplitr; swap; · iexact H12
  ipureintro; rfl

end Cert.Kernel2Ideal.Ffn

end
-- ==== Proof.RunEven2.lean ====
/- The body at a point that works on an even tile other than the first. -/
module

public import proofs.«01_k».proof.Proof.RunOdd2

@[expose] public section

set_option maxRecDepth 16384

noncomputable section

namespace Cert.Kernel2Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 2000000 in
/-- The body at a point that works on an even tile other than the first. -/
theorem run_even (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : isEven i) (hc2 : ¬isOdd i) (hc3 : ¬isLast i)
    (x0 x1 : Vec F S512x1024 .f32) (x2 x3 : Vec F S1x1024 .f32) (x4 : Vec F S1024x5632 .bf16) (x5 : Vec F S2816x1024 .bf16) (xs : Vec F S512x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ owns (c : Thread nD τ) arg8 fullShare (xs) ∗ (∃ d, owns (c : Thread nD τ) arg9 fullShare d) ∗ (∃ d, owns (c : Thread nD τ) arg10 fullShare d) ∗ owns (c : Thread nD τ) arg11 fullShare (ys) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 ys x3) ∗ (∃ d, owns (c : Thread nD τ) arg8 fullShare d) ∗ owns (c : Thread nD τ) arg9 fullShare (normed x0 x2) ∗ owns (c : Thread nD τ) arg10 fullShare (down xs x4 x5) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg8.read_unread, harg11.read_unread, View.ld_unit_zero (S := S1x1024) offsets_zero]
    exact ⟨fun j => added_piece x1 ys x3 7 (by decide) _ j, fun j => added_piece x1 ys x3 6 (by decide) _ j, fun j => added_piece x1 ys x3 5 (by decide) _ j, fun j => added_piece x1 ys x3 4 (by decide) _ j, fun j => added_piece x1 ys x3 3 (by decide) _ j, fun j => added_piece x1 ys x3 2 (by decide) _ j, fun j => added_piece x1 ys x3 1 (by decide) _ j, fun j => added_piece x1 ys x3 0 (by decide) _ j, fun p hp => absurd hp List.not_mem_nil⟩
  isplitl [H8]
  · iexists _; iexists (harg8.unread xs); isplitr; · ipureintro; rfl
    iexact H8
  isplitl [H9]
  · iexists _; isplitr; rotate_left; · iexact H9
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg8.read_unread, harg11.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H10]
  · iexists _; isplitr; rotate_left; · iexact H10
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, harg8.read_unread, harg11.read_unread, View.ld_unit_zero (S := S2816x1024) offsets_zero, View.ld_unit_zero (S := S512x1024) offsets_zero]
    refine congrArg (fun h => k0_pay57 h x5) (funext fun y => View.canon_apply_of_pieces (hidden (xs) x4) _ ?_ y (View.cover_of_tiledL (s := S512x2816) _ S512x256.size (by sl_kernel_rfl) y))
    simp only [List.forall_mem_cons]
    exact ⟨fun j => hidden_piece (xs) x4 10 (by decide) _ _ _ j, fun j => hidden_piece (xs) x4 9 (by decide) _ _ _ j, fun j => hidden_piece (xs) x4 8 (by decide) _ _ _ j, fun j => hidden_piece (xs) x4 7 (by decide) _ _ _ j, fun j => hidden_piece (xs) x4 6 (by decide) _ _ _ j, fun j => hidden_piece (xs) x4 5 (by decide) _ _ _ j, fun j => hidden_piece (xs) x4 4 (by decide) _ _ _ j, fun j => hidden_piece (xs) x4 3 (by decide) _ _ _ j, fun j => hidden_piece (xs) x4 2 (by decide) _ _ _ j, fun j => hidden_piece (xs) x4 1 (by decide) _ _ _ j, fun j => hidden_piece (xs) x4 0 (by decide) _ _ _ j, fun p hp => absurd hp List.not_mem_nil⟩
  isplitl [H11]
  · iexists _; iexists (harg11.unread ys); isplitr; · ipureintro; rfl
    iexact H11
  iexists _; iexists _; isplitr; swap; · iexact H12
  ipureintro; rfl

end Cert.Kernel2Ideal.Ffn

end
-- ==== Proof.RunFirst2.lean ====
/- The body at the first point, which normalises the first tile itself before working on it. -/
module

public import proofs.«01_k».proof.Proof.RunEven2

@[expose] public section

set_option maxRecDepth 16384

noncomputable section

namespace Cert.Kernel2Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 2000000 in
/-- The body at the first point, which normalises the first tile itself before working on it. -/
theorem run_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : isFirst i) (hc1 : isEven i) (hc2 : ¬isOdd i) (hc3 : ¬isLast i)
    (x0 x1 : Vec F S512x1024 .f32) (x2 x3 : Vec F S1x1024 .f32) (x4 : Vec F S1024x5632 .bf16) (x5 : Vec F S2816x1024 .bf16) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 k0_pay55 x3) ∗ (∃ d, owns (c : Thread nD τ) arg8 fullShare d) ∗ owns (c : Thread nD τ) arg9 fullShare (normed x0 x2) ∗ owns (c : Thread nD τ) arg10 fullShare (down (k0_pay54 x1 x2) x4 x5) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, readCov_slab (S := S512x1024) _ offsets_zero, View.ld_unit_zero (S := S1x1024) offsets_zero]
    exact ⟨fun j => added_piece x1 k0_pay55 x3 7 (by decide) _ j, fun j => added_piece x1 k0_pay55 x3 6 (by decide) _ j, fun j => added_piece x1 k0_pay55 x3 5 (by decide) _ j, fun j => added_piece x1 k0_pay55 x3 4 (by decide) _ j, fun j => added_piece x1 k0_pay55 x3 3 (by decide) _ j, fun j => added_piece x1 k0_pay55 x3 2 (by decide) _ j, fun j => added_piece x1 k0_pay55 x3 1 (by decide) _ j, fun j => added_piece x1 k0_pay55 x3 0 (by decide) _ j, fun p hp => absurd hp List.not_mem_nil⟩
  isplitl [H8]
  · iexists _; iexists _; isplitr; swap; · iexact H8
    ipureintro; rfl
  isplitl [H9]
  · iexists _; isplitr; rotate_left; · iexact H9
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H10]
  · iexists _; isplitr; rotate_left; · iexact H10
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, View.readCov_unit_zero (S := S512x1024) _ offsets_zero, View.ld_unit_zero (S := S1x1024) offsets_zero, View.ld_unit_zero (S := S2816x1024) offsets_zero, View.ld_unit_zero (S := S512x1024) offsets_zero]
    refine congrArg (fun h => k0_pay57 h x5) (funext fun y => View.canon_apply_of_pieces (hidden (k0_pay54 x1 x2) x4) _ ?_ y (View.cover_of_tiledL (s := S512x2816) _ S512x256.size (by sl_kernel_rfl) y))
    simp only [List.forall_mem_cons]
    exact ⟨fun j => hidden_piece (k0_pay54 x1 x2) x4 10 (by decide) _ _ _ j, fun j => hidden_piece (k0_pay54 x1 x2) x4 9 (by decide) _ _ _ j, fun j => hidden_piece (k0_pay54 x1 x2) x4 8 (by decide) _ _ _ j, fun j => hidden_piece (k0_pay54 x1 x2) x4 7 (by decide) _ _ _ j, fun j => hidden_piece (k0_pay54 x1 x2) x4 6 (by decide) _ _ _ j, fun j => hidden_piece (k0_pay54 x1 x2) x4 5 (by decide) _ _ _ j, fun j => hidden_piece (k0_pay54 x1 x2) x4 4 (by decide) _ _ _ j, fun j => hidden_piece (k0_pay54 x1 x2) x4 3 (by decide) _ _ _ j, fun j => hidden_piece (k0_pay54 x1 x2) x4 2 (by decide) _ _ _ j, fun j => hidden_piece (k0_pay54 x1 x2) x4 1 (by decide) _ _ _ j, fun j => hidden_piece (k0_pay54 x1 x2) x4 0 (by decide) _ _ _ j, fun p hp => absurd hp List.not_mem_nil⟩
  isplitl [H11]
  · iexists _; iexists _; isplitr; swap; · iexact H11
    ipureintro; rfl
  iexists _; iexists _; isplitr; swap; · iexact H12
  ipureintro; rfl

end Cert.Kernel2Ideal.Ffn

end
-- ==== Proof.RunLast2.lean ====
/- The body at the point after the last tile, which only finishes that tile. -/
module

public import proofs.«01_k».proof.Proof.RunFirst2

@[expose] public section

set_option maxRecDepth 16384

noncomputable section

namespace Cert.Kernel2Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 2000000 in
/-- The body at the point after the last tile, which only finishes that tile. -/
theorem run_last (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : ¬isEven i) (hc2 : ¬isOdd i) (hc3 : isLast i)
    (x0 x1 : Vec F S512x1024 .f32) (x2 x3 : Vec F S1x1024 .f32) (x4 : Vec F S1024x5632 .bf16) (x5 : Vec F S2816x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (ys) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (k0_pay1 x1 ys x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine (View.read_writes_eq_canon _ _ _ (View.cover_of_tiledL _ S512x1024.size (by sl_kernel_rfl))).trans ?_
    refine (View.canon_unit_zero (S := S512x1024) offsets_zero _ _).trans ?_
    sl_unfold_words
    simp only [View.readAt_eq_ld, harg1.read_unread, harg2.read_unread, harg3.read_unread, harg4.read_unread, harg5.read_unread, harg6.read_unread, harg11.read_unread, View.ld_unit_zero (S := S1x1024) offsets_zero, View.ld_unit_zero (S := S512x1024) offsets_zero]
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists (harg11.unread ys); isplitr; · ipureintro; rfl
    iexact H11
  iexists _; iexists _; isplitr; swap; · iexact H12
  ipureintro; rfl

end Cert.Kernel2Ideal.Ffn

end
-- ==== Proof.Launched2.lean ====
/- The run of the feed-forward kernel over its 67 points: what is carried from point to point, the body at every
   point, and the launch. -/
module

public import proofs.«01_k».proof.Proof.RunLast2
public import Idealize.ShloMosaic.Lib.Claim

@[expose] public section

set_option maxRecDepth 16384

noncomputable section

namespace Cert.Kernel2Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- Point number `n`. -/
def pnt (n : ℕ) : Fin cfg0.N := ⟨n % 67, lt_of_lt_of_eq (Nat.mod_lt _ (by decide)) (show 67 = cfg0.N from N_0.symm)⟩

theorem pnt_val (t : Fin cfg0.N) : pnt t.val = t :=
  Fin.ext (Nat.mod_eq_of_lt (lt_of_lt_of_eq t.isLt (show cfg0.N = 67 from N_0)))

/-- Tile `n` normalised: tile 0 by the first point itself, every other tile by the point before its own. -/
def xnAt (c : Dev nD) : ℕ → Vec F S512x1024 .bf16
  | 0 => k0_pay54 (iblk m c 1 (pnt 0)) (iblk m c 2 (pnt 0))
  | n + 1 => normed (iblk m c 0 (pnt n)) (iblk m c 2 (pnt n))

/-- Tile `n`'s feed-forward product. -/
def yAt (c : Dev nD) (n : ℕ) : Vec F S512x1024 .f32 := down (xnAt m c n) (iblk m c 4 (pnt n)) (iblk m c 5 (pnt n))

/-- What point `n` leaves in the output's buffer: from the second point on, the tile before it, finished. -/
def outAt (c : Dev nD) : ℕ → Vec F S512x1024 .f32
  | 0 => added (iblk m c 1 (pnt 0)) k0_pay55 (iblk m c 3 (pnt 0))
  | n + 1 => if n = 65 then k0_pay1 (iblk m c 1 (pnt (n + 1))) (yAt m c n) (iblk m c 3 (pnt (n + 1)))
      else added (iblk m c 1 (pnt (n + 1))) (yAt m c n) (iblk m c 3 (pnt (n + 1)))

/-- The scratch buffers before point `n`. -/
def carried (c : Dev nD) : ℕ → sProp 𝕄
  | 0 => Pipeline.ΦA spec0 c
  | n + 1 => if n = 66 then Pipeline.ΦA spec0 c
      else if n % 2 = 0 then iprop(iprop((∃ d, owns (c : Thread nD τ) keep0 fullShare d) ∗ owns (c : Thread nD τ) keep1 fullShare (xnAt m c (n + 1)) ∗ owns (c : Thread nD τ) keep2 fullShare (yAt m c n) ∗ (∃ d, owns (c : Thread nD τ) keep3 fullShare d) ∗ (∃ d, owns (c : Thread nD τ) keep4 fullShare d)) ∗ (∃ r, prngReg c r))
      else iprop(iprop(owns (c : Thread nD τ) keep0 fullShare (xnAt m c (n + 1)) ∗ (∃ d, owns (c : Thread nD τ) keep1 fullShare d) ∗ (∃ d, owns (c : Thread nD τ) keep2 fullShare d) ∗ owns (c : Thread nD τ) keep3 fullShare (yAt m c n) ∗ (∃ d, owns (c : Thread nD τ) keep4 fullShare d)) ∗ (∃ r, prngReg c r))

theorem carried_odd (c : Dev nD) (n : ℕ) (h : n % 2 = 0) (h' : n ≠ 66) :
    carried m c (n + 1) = iprop(iprop((∃ d, owns (c : Thread nD τ) keep0 fullShare d) ∗ owns (c : Thread nD τ) keep1 fullShare (xnAt m c (n + 1)) ∗ owns (c : Thread nD τ) keep2 fullShare (yAt m c n) ∗ (∃ d, owns (c : Thread nD τ) keep3 fullShare d) ∗ (∃ d, owns (c : Thread nD τ) keep4 fullShare d)) ∗ (∃ r, prngReg c r)) := by
  show (if n = 66 then _ else _) = _
  rw [if_neg h', if_pos h]
theorem carried_even (c : Dev nD) (n : ℕ) (h : n % 2 = 1) :
    carried m c (n + 1) = iprop(iprop(owns (c : Thread nD τ) keep0 fullShare (xnAt m c (n + 1)) ∗ (∃ d, owns (c : Thread nD τ) keep1 fullShare d) ∗ (∃ d, owns (c : Thread nD τ) keep2 fullShare d) ∗ owns (c : Thread nD τ) keep3 fullShare (yAt m c n) ∗ (∃ d, owns (c : Thread nD τ) keep4 fullShare d)) ∗ (∃ r, prngReg c r)) := by
  show (if n = 66 then _ else _) = _
  rw [if_neg (by omega), if_neg (by omega)]
theorem carried_end (c : Dev nD) (n : ℕ) (h : n = 66) : carried m c (n + 1) = Pipeline.ΦA spec0 c := by
  show (if n = 66 then _ else _) = _
  rw [if_pos h]
theorem outAt_last (c : Dev nD) (n : ℕ) (h : n = 65) :
    outAt m c (n + 1) = k0_pay1 (iblk m c 1 (pnt (n + 1))) (yAt m c n) (iblk m c 3 (pnt (n + 1))) := by
  show (if n = 65 then _ else _) = _
  rw [if_pos h]
theorem outAt_tile (c : Dev nD) (n : ℕ) (h : n ≠ 65) :
    outAt m c (n + 1) = added (iblk m c 1 (pnt (n + 1))) (yAt m c n) (iblk m c 3 (pnt (n + 1))) := by
  show (if n = 65 then _ else _) = _
  rw [if_neg h]

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (buf0 t) fullShare (iblk m c 0 t) := by
  unfold Dat.leavesExact; rw [show cfg0.idle 0 (grid0.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (buf1 t) fullShare (iblk m c 1 t) := by
  unfold Dat.leavesExact; rw [show cfg0.idle 1 (grid0.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (buf2 t) fullShare (iblk m c 2 t) := by
  unfold Dat.leavesExact; rw [show cfg0.idle 2 (grid0.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (buf3 t) fullShare (iblk m c 3 t) := by
  unfold Dat.leavesExact; rw [show cfg0.idle 3 (grid0.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (buf4 t) fullShare (iblk m c 4 t) := by
  unfold Dat.leavesExact; rw [show cfg0.idle 4 (grid0.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (buf5 t) fullShare (iblk m c 5 t) := by
  unfold Dat.leavesExact; rw [show cfg0.idle 5 (grid0.coords t) = false from rfl, after5]
theorem after6 (c : Dev nD) (t : Fin cfg0.N) : (dats m 0 c).after 6 t = outAt m c t.val := by dsimp only [dats]
theorem leaves6 (c : Dev nD) (t : Fin cfg0.N) :
    (dats m 0 c).leavesExact 6 t = owns (c : Thread nD τ) (buf6 t) fullShare (outAt m c t.val) := by
  unfold Dat.leavesExact; rw [live6 t, after6]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  obtain rfl : t = pnt 0 := Fin.ext h
  rw [show (pnt 0 : Fin cfg0.N).val = 0 from rfl, carried_odd m c 0 rfl (by decide), show carried m c 0 = Pipeline.ΦA spec0 c from rfl, ΦA_eq]
  have ht : (pnt 0 : Fin cfg0.N).val = 0 := rfl
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords (pnt 0)) _ _ _ _ _ _ _ _ _ _ _ _ _ _ _ _ _ _ _ _ _ _ _ _ ((isFirst_iff (pnt 0)).mpr (by omega)) ((isEven_iff (pnt 0)).mpr (by omega)) (fun h => absurd ((isOdd_iff (pnt 0)).mp h) (by omega)) (fun h => absurd ((isLast_iff (pnt 0)).mp h) (by omega)) (iblk m c 0 (pnt 0)) (iblk m c 1 (pnt 0)) (iblk m c 2 (pnt 0)) (iblk m c 3 (pnt 0)) (iblk m c 4 (pnt 0)) (iblk m c 5 (pnt 0))  Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_odd (c : Dev nD) (n : ℕ) (t : Fin cfg0.N) (hn : t.val = n + 1) (h : n % 2 = 0) (h' : n < 66) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  rw [hn, carried_even m c (n + 1) (by omega), carried_odd m c n h (by omega),
    outAt_tile m c n (by omega),
    show xnAt m c (n + 1 + 1) = normed (iblk m c 0 (pnt (n + 1))) (iblk m c 2 (pnt (n + 1))) from rfl,
    show yAt m c (n + 1) = down (xnAt m c (n + 1)) (iblk m c 4 (pnt (n + 1))) (iblk m c 5 (pnt (n + 1))) from rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_odd c (grid0.coords t) _ _ _ _ _ _ _ _ _ _ _ _ _ _ _ _ _ _ _ _ _ _ _ _ (fun h => absurd ((isFirst_iff t).mp h) (by omega)) (fun h => absurd ((isEven_iff t).mp h) (by omega)) ((isOdd_iff t).mpr (by omega)) (fun h => absurd ((isLast_iff t).mp h) (by omega)) (iblk m c 0 t) (iblk m c 1 t) (iblk m c 2 t) (iblk m c 3 t) (iblk m c 4 t) (iblk m c 5 t) (xnAt m c (n + 1)) (yAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_even (c : Dev nD) (n : ℕ) (t : Fin cfg0.N) (hn : t.val = n + 1) (h : n % 2 = 1) (h' : n < 65) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  rw [hn, carried_odd m c (n + 1) (by omega) (by omega), carried_even m c n h,
    outAt_tile m c n (by omega),
    show xnAt m c (n + 1 + 1) = normed (iblk m c 0 (pnt (n + 1))) (iblk m c 2 (pnt (n + 1))) from rfl,
    show yAt m c (n + 1) = down (xnAt m c (n + 1)) (iblk m c 4 (pnt (n + 1))) (iblk m c 5 (pnt (n + 1))) from rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_even c (grid0.coords t) _ _ _ _ _ _ _ _ _ _ _ _ _ _ _ _ _ _ _ _ _ _ _ _ (fun h => absurd ((isFirst_iff t).mp h) (by omega)) ((isEven_iff t).mpr (by omega)) (fun h => absurd ((isOdd_iff t).mp h) (by omega)) (fun h => absurd ((isLast_iff t).mp h) (by omega)) (iblk m c 0 t) (iblk m c 1 t) (iblk m c 2 t) (iblk m c 3 t) (iblk m c 4 t) (iblk m c 5 t) (xnAt m c (n + 1)) (yAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_last (c : Dev nD) (t : Fin cfg0.N) (hn : t.val = 65 + 1) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (65 + 1) = t := by rw [← hn, pnt_val]
  rw [hn, carried_even m c 65 (by decide), carried_end m c (65 + 1) rfl, ΦA_eq, outAt_last m c 65 rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_last c (grid0.coords t) _ _ _ _ _ _ _ _ _ _ _ _ _ _ _ _ _ _ _ _ _ _ _ _ (fun h => absurd ((isFirst_iff t).mp h) (by omega)) (fun h => absurd ((isEven_iff t).mp h) (by omega)) (fun h => absurd ((isOdd_iff t).mp h) (by omega)) ((isLast_iff t).mpr (by omega)) (iblk m c 0 t) (iblk m c 1 t) (iblk m c 2 t) (iblk m c 3 t) (iblk m c 4 t) (iblk m c 5 t) (yAt m c 65) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_all (c : Dev nD) (t : Fin cfg0.N) :
    bodyPre m c t ⊢ wp frame (wpE (defs₀ (F := F)) Variants.none c none) Set.univ (bodyAt0 t) (fun _ => bodyPost m c t) := by
  have hN : t.val < 67 := lt_of_lt_of_eq t.isLt (show cfg0.N = 67 from N_0)
  rcases Nat.eq_zero_or_pos t.val with h | h
  · exact body_first m c t h
  obtain ⟨n, hn⟩ : ∃ n, t.val = n + 1 := ⟨t.val - 1, by omega⟩
  by_cases h2 : n % 2 = 0
  · exact body_odd m c n t hn h2 (by omega)
  by_cases h3 : n = 65
  · subst h3; exact body_last m c t hn
  · exact body_even m c n t hn (by omega) (by omega)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_all m c t) rfl .rfl fun _ => .rfl

/-! ## The launch -/

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = carried m c (Fin.last cfg0.N).val from rfl,
    Fin.val_last, show cfg0.N = 66 + 1 from N_0, carried_end m c 66 rfl]
  try exact Idealize.SL.BI.Entails.refl _

set_option backward.isDefEq.respectTransparency.types false in
/-- The program runs to the end: every array at what the blocks written to it leave, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The arguments end as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Ffn

end
-- ==== Proof.Blocks2.lean ====
module

public import proofs.«01_k».proof.Proof.Tiles2
public import proofs.«01_k».proof.Proof.Launched2
public import Idealize.ShloMosaic.Lib.StableHlo.Run

@[expose] public section

set_option maxRecDepth 16384

noncomputable section

namespace Cert.Kernel2Ideal.Ffn

open Idealize.ShloMosaic Idealize.ShloMosaic.TcCoe Idealize.ShloMosaic.StableHlo
open Cert.Kernel2Ideal Cert.Kernel2Ideal.Gen

variable (m : (ℓ : Loc nD τ sig) → Buf (Elt Ideal) ℓ) (ρ : Dev nD → PrngReg)

/-! ## The arguments, as tables of extended reals -/

abbrev inX (c : Dev nD) : S33792x1024.Idx → EReal := m ((c : Thread nD τ).loc main_arg0)
abbrev inPre (c : Dev nD) : S1024.Idx → EReal := m ((c : Thread nD τ).loc main_arg1)
abbrev inPost (c : Dev nD) : S1024.Idx → EReal := m ((c : Thread nD τ).loc main_arg2)
abbrev inWi (c : Dev nD) : S1024x5632.Idx → EReal := m ((c : Thread nD τ).loc main_arg3)
abbrev inWo (c : Dev nD) : S2816x1024.Idx → EReal := m ((c : Thread nD τ).loc main_arg4)

theorem V_v0 (c : Dev nD) : V m c main_v0 = broadcastInDim S1x1024 ![1] bcast_S1024_S1x1024_1 (inPre m c) := by
  unfold V; after_results
theorem V_v1 (c : Dev nD) : V m c main_v1 = broadcastInDim S1x1024 ![1] bcast_S1024_S1x1024_1 (inPost m c) := by
  unfold V; after_results
theorem V_v2 (c : Dev nD) : V m c main_v2 = inWi m c := by
  unfold V; after_results; rfl
theorem V_v3 (c : Dev nD) : V m c main_v3 = inWo m c := by
  unfold V; after_results; rfl

theorem gain_at (g : S1024.Idx → EReal) : row (broadcastInDim S1x1024 ![1] bcast_S1024_S1x1024_1 g) 0 = fun k => g (ValueIdx.ix1 k) := by
  funext k
  simp only [row, ← ix2_eq_valueIdx, ← ix1_eq_valueIdx]
  pointwise

/-! ## The row of the input a row of a tile is -/

/-- Row `r` of tile `n`. -/
def src (n : ℕ) (r : Fin 512) : Fin 33792 := ⟨(n * 512 + r.val) % 33792, Nat.mod_lt _ (by decide)⟩

theorem index0 : ∀ t : Fin cfg0.N, win0_0.index t (0 : Fin 2) = min (t.val + 1) 65
    ∧ win0_0.index t (1 : Fin 2) = 0 := by decide +kernel
theorem index1 : ∀ t : Fin cfg0.N, win0_1.index t (0 : Fin 2) = t.val - 1
    ∧ win0_1.index t (1 : Fin 2) = 0 := by decide +kernel
theorem index6 : ∀ t : Fin cfg0.N, win0_6.index t (0 : Fin 2) = t.val - 1 ∧ win0_6.index t (1 : Fin 2) = 0 := by decide +kernel
theorem flush6 : ∀ t : Fin cfg0.N, (cfg0.win 6).flush t = true ↔ t.val ≠ 0 := by decide +kernel

theorem pts (t : Fin cfg0.N) : t.val < 67 := lt_of_lt_of_eq t.isLt (show cfg0.N = 67 from N_0)

theorem blk0_at (c : Dev nD) (t : Fin cfg0.N) (r : Fin 512) :
    row (iblk m c 0 t) r = row (inX m c) (src (min (t.val + 1) 65) r) := by
  funext k
  have hi := index0 t
  have hN := pts t
  have hr : r.val < 512 := r.isLt
  unfold row iblk
  rw [View.read_apply]
  show V m c main_arg0 _ = _
  rw [V_main_arg0]
  refine congrArg (inX m c) (funext fun a => Fin.ext ?_)
  match a with
  | ⟨0, _⟩ =>
    show win0_0.index t (0 : Fin 2) * 512 + 1 * r.val = (min (t.val + 1) 65 * 512 + r.val) % 33792
    rw [hi.1]; omega
  | ⟨1, _⟩ => show win0_0.index t (1 : Fin 2) * 1024 + 1 * k.val = k.val; rw [hi.2]; omega

theorem blk1_at (c : Dev nD) (t : Fin cfg0.N) (r : Fin 512) :
    row (iblk m c 1 t) r = row (inX m c) (src (t.val - 1) r) := by
  funext k
  have hi := index1 t
  have hN := pts t
  have hr : r.val < 512 := r.isLt
  unfold row iblk
  rw [View.read_apply]
  show V m c main_arg0 _ = _
  rw [V_main_arg0]
  refine congrArg (inX m c) (funext fun a => Fin.ext ?_)
  match a with
  | ⟨0, _⟩ =>
    show win0_1.index t (0 : Fin 2) * 512 + 1 * r.val = ((t.val - 1) * 512 + r.val) % 33792
    rw [hi.1]; omega
  | ⟨1, _⟩ => show win0_1.index t (1 : Fin 2) * 1024 + 1 * k.val = k.val; rw [hi.2]; omega

theorem blk2_at (c : Dev nD) (t : Fin cfg0.N) : row (iblk m c 2 t) 0 = fun k => inPre m c (ValueIdx.ix1 k) := by
  rw [← gain_at, ← V_v0]
  funext k
  unfold row iblk
  rw [View.read_apply]
  exact congrArg (V m c main_v0) (funext fun a => Fin.ext (by
    match a with
    | ⟨0, _⟩ => rfl
    | ⟨1, _⟩ => show 0 + 1 * k.val = k.val; omega))

theorem blk3_at (c : Dev nD) (t : Fin cfg0.N) : row (iblk m c 3 t) 0 = fun k => inPost m c (ValueIdx.ix1 k) := by
  rw [← gain_at, ← V_v1]
  funext k
  unfold row iblk
  rw [View.read_apply]
  exact congrArg (V m c main_v1) (funext fun a => Fin.ext (by
    match a with
    | ⟨0, _⟩ => rfl
    | ⟨1, _⟩ => show 0 + 1 * k.val = k.val; omega))

theorem blk4_at (c : Dev nD) (t : Fin cfg0.N) : row (iblk m c 4 t) = row (inWi m c) := by
  funext a k
  rw [← V_v2]
  unfold row iblk
  rw [View.read_apply]
  exact congrArg (V m c main_v2) (funext fun b => Fin.ext (by
    match b with
    | ⟨0, _⟩ => show 0 + 1 * a.val = a.val; omega
    | ⟨1, _⟩ => show 0 + 1 * k.val = k.val; omega))

theorem blk5_at (c : Dev nD) (t : Fin cfg0.N) : row (iblk m c 5 t) = row (inWo m c) := by
  funext a k
  rw [← V_v3]
  unfold row iblk
  rw [View.read_apply]
  exact congrArg (V m c main_v3) (funext fun b => Fin.ext (by
    match b with
    | ⟨0, _⟩ => show 0 + 1 * a.val = a.val; omega
    | ⟨1, _⟩ => show 0 + 1 * k.val = k.val; omega))

end Cert.Kernel2Ideal.Ffn
end
end
-- ==== Proof.Result2.lean ====
module

public import proofs.«01_k».proof.Proof.Blocks2

@[expose] public section

set_option maxRecDepth 16384

noncomputable section

namespace Cert.Kernel2Ideal.Ffn

open Idealize.ShloMosaic Idealize.ShloMosaic.TcCoe
open Idealize.SL.Sem
open Cert.Kernel2Ideal Cert.Kernel2Ideal.Gen

variable (m : (ℓ : Loc nD τ sig) → Buf (Elt Ideal) ℓ) (ρ : Dev nD → PrngReg)

/-- The sub-layer on row `p` of the input. -/
def tokenAt (c : Dev nD) (p : Fin 33792) : Fin 1024 → EReal :=
  Rows.ffn (row (inX m c) p) (fun k => inPre m c (ValueIdx.ix1 k)) (fun k => inPost m c (ValueIdx.ix1 k)) (row (inWi m c)) (row (inWo m c))

theorem xn_at (c : Dev nD) (n : ℕ) (h : n ≤ 65) (r : Fin 512) :
    row (xnAt m c n) r = Rows.norm (row (inX m c) (src n r)) (fun k => inPre m c (ValueIdx.ix1 k)) := by
  match n with
  | 0 =>
    refine (normed0_at _ _ r).trans ?_
    rw [blk1_at, blk2_at]; rfl
  | n + 1 =>
    refine (normed_at _ _ r).trans ?_
    rw [blk0_at, blk2_at, show min ((pnt n).val + 1) 65 = n + 1 from by show min (n % 67 + 1) 65 = n + 1; omega]

theorem y_at (c : Dev nD) (n : ℕ) (h : n ≤ 65) (r : Fin 512) :
    row (yAt m c n) r = Rows.out (Rows.hid (Rows.norm (row (inX m c) (src n r)) (fun k => inPre m c (ValueIdx.ix1 k))) (row (inWi m c)))
      (row (inWo m c)) := by
  refine (down_at _ _ _ r).trans ?_
  rw [xn_at m c n h, blk4_at, blk5_at]

theorem out_at (c : Dev nD) (n : ℕ) (h : n ≤ 65) (r : Fin 512) : row (outAt m c (n + 1)) r = tokenAt m c (src n r) := by
  have e : (pnt (n + 1)).val - 1 = n := by show (n + 1) % 67 - 1 = n; omega
  by_cases h' : n = 65
  · rw [outAt_last m c n h']
    refine (finished_at _ _ _ r).trans ?_
    rw [blk1_at, y_at m c n h, blk3_at, e]; rfl
  · rw [outAt_tile m c n h']
    refine (added_at _ _ _ r).trans ?_
    rw [blk1_at, y_at m c n h, blk3_at, e]; rfl

/-- What the result array is shown to hold. -/
def result (c : Dev nD) : Buf (Elt Ideal) ((c : Thread nD τ).loc main_v4) :=
  fun i : S33792x1024.Idx => tokenAt m c (src ((i 0).val / 512) ⟨(i 0).val % 512, Nat.mod_lt _ (by decide)⟩) ⟨(i 1).val, (i 1).isLt⟩

theorem split_div (n r : ℕ) (h : r < 512) : (n * 512 + r) / 512 = n := by omega
theorem split_mod (n r : ℕ) (h : r < 512) : (n * 512 + r) % 512 = r := by omega

theorem flushed_eq (c : Dev nD) (t : Fin cfg0.N) (hf : (cfg0.win 6).flush t = true) :
    (dats m 0 c).flushed 6 t = ((cfg0.win 6).blk t).view.read (Elt Ideal) (result m c) := by
  have h0 := (flush6 t).mp hf
  have hN := pts t
  obtain ⟨n, hn⟩ : ∃ n, t.val = n + 1 := ⟨t.val - 1, by omega⟩
  have hn' : n ≤ 65 := by omega
  have hi := index6 t
  show (cfg0.win 6).cut (grid0.coords t) ((dats m 0 c).after 6 t) = _
  rw [after6, hn]
  funext j
  have hj0 : (j 0).val < 512 := (j 0).isLt
  rw [View.read_apply]
  have e0 : win0_6.index t (0 : Fin 2) * 512 + 1 * (j 0).val = n * 512 + (j 0).val := by
    rw [hi.1, hn, Nat.add_sub_cancel, Nat.one_mul]
  have e1 : win0_6.index t (1 : Fin 2) * 1024 + 1 * (j 1).val = (j 1).val := by rw [hi.2, Nat.zero_mul, Nat.one_mul, Nat.zero_add]
  refine (show _ = row (outAt m c (n + 1)) ⟨(j 0).val, hj0⟩ ⟨(j 1).val, (j 1).isLt⟩ from ?_).trans ?_
  · exact congrArg (outAt m c (n + 1)) (funext fun a => by match a with | ⟨0, _⟩ => rfl | ⟨1, _⟩ => rfl)
  · rw [out_at m c n hn']
    show _ = tokenAt m c (src ((win0_6.index t (0 : Fin 2) * 512 + 1 * (j 0).val) / 512) ⟨(win0_6.index t (0 : Fin 2) * 512 + 1 * (j 0).val) % 512, _⟩)
      ⟨win0_6.index t (1 : Fin 2) * 1024 + 1 * (j 1).val, _⟩
    simp only [e0, e1]
    have d := split_div n (j 0).val hj0
    have d' := split_mod n (j 0).val hj0
    simp only [d, d']

theorem mem_blk (t : Fin cfg0.N) (i : S33792x1024.Idx) :
    i ∈ ((cfg0.win 6).blk t).view.set ↔ (t.val - 1) * 512 ≤ (i 0 : ℕ) ∧ (i 0 : ℕ) < (t.val - 1) * 512 + 512 := by
  show i ∈ ((View.whole main_v4).slice (win0_6.rect t)).set ↔ _
  rw [View.set_slice_whole, Rect.mem_set_unit]
  have h1 : (i 1 : ℕ) < 1024 := (i 1).isLt
  have hi := index6 t
  refine ⟨fun h => ?_, fun h a => ?_⟩
  · have : win0_6.index t (0 : Fin 2) * 512 ≤ (i 0 : ℕ) ∧ (i 0 : ℕ) < win0_6.index t (0 : Fin 2) * 512 + 512 := h 0
    rwa [hi.1] at this
  · match a with
    | ⟨0, _⟩ => show win0_6.index t (0 : Fin 2) * 512 ≤ (i 0 : ℕ) ∧ (i 0 : ℕ) < win0_6.index t (0 : Fin 2) * 512 + 512; rw [hi.1]; exact h
    | ⟨1, _⟩ => show win0_6.index t (1 : Fin 2) * 1024 ≤ (i 1 : ℕ) ∧ (i 1 : ℕ) < win0_6.index t (1 : Fin 2) * 1024 + 1024; exact ⟨by rw [hi.2, Nat.zero_mul]; exact Nat.zero_le _, by rw [hi.2, Nat.zero_mul, Nat.zero_add]; exact h1⟩

theorem cover (i : S33792x1024.Idx) : ∃ t : Fin cfg0.N, (cfg0.win 6).flush t = true ∧ i ∈ ((cfg0.win 6).blk t).view.set := by
  have h0 : (i 0 : ℕ) < 33792 := (i 0).isLt
  have ht : (i 0 : ℕ) / 512 + 1 < cfg0.N := by rw [show cfg0.N = 67 from N_0]; omega
  refine ⟨⟨(i 0 : ℕ) / 512 + 1, ht⟩, (flush6 _).mpr (Nat.succ_ne_zero _), ?_⟩
  rw [mem_blk]
  dsimp only
  omega

/-- The result array ends holding the sub-layer of the rows the tiles take. -/
theorem final_out (c : Dev nD) : (dats m 0 c).arrAt 6 cfg0.N = result m c :=
  (dats m 0 c).arrAt_eq_of_cover 6 (result m c) (flushed_eq m c) cover

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (final_out m c), h.2.1 c⟩)
    (θ_run_and (run_main m ρ) (unchanged m ρ))

end Cert.Kernel2Ideal.Ffn
end
end
-- ==== Proof.RefRows2.lean ====
module

public import proofs.«01_k».proof.Proof.Rows
public import proofs.«01_k».proof.Proof.Gen.Reference2Ideal.Run
public import proofs.«01_k».proof.Proof.Gen.Reference2Ideal.Read
public import Idealize.ShloMosaic.Lib.ValueIdxCore
public import Idealize.ShloMosaic.Lib.IdealHost

@[expose] public section

set_option maxRecDepth 16384

noncomputable section

namespace Cert.Reference2Ideal.Ffn

open Idealize.ShloMosaic Idealize.ShloMosaic.ValueIdx
open Cert.Reference2Ideal Cert.Reference2Ideal.Read

variable (x0 : S33792x1024.Idx → EReal) (x1 x2 : S1024.Idx → EReal) (x3 : S1024x5632.Idx → EReal) (x4 : S2816x1024.Idx → EReal)

/-- Token `s`. -/
abbrev tok (s : Fin 33792) : Fin 1024 → EReal := fun k => x0 (ix2 s k)
abbrev vec (g : S1024.Idx → EReal) : Fin 1024 → EReal := fun k => g (ix1 k)
abbrev mat {a b : ℕ} (w : (⟨2, ![a, b]⟩ : Shape).Idx → EReal) : Fin a → Fin b → EReal := fun i j => w (ix2 i j)

/-! ## The stages, at a token -/

theorem v7_at (s : Fin 33792) : val_main_v7 (F := Ideal) x0 (ix2 s (0 : Fin 1)) = Rows.scale (tok x0 s) := by
  rw [val_main_v7_apply, val_main_v6_apply, val_main_v5_apply, val_main_cst_1_apply, val_main_v4_apply, val_main_v3_apply,
    val_main_cst_0_apply, val_main_v2_apply, val_main_v1_apply]
  have h : ∀ k : Fin 1024, val_main_v0 (F := Ideal) x0 (idx_main_v1 (idx_main_v2 (ix2 s (0 : Fin 1))) k) = tok x0 s k * tok x0 s k := fun k => by
    rw [val_main_v0_apply, show idx_main_v1 (idx_main_v2 (ix2 s (0 : Fin 1))) k = ix2 s k from
      funext fun a => by match a with | ⟨0, _⟩ => rfl | ⟨1, _⟩ => rfl]; rfl
  simp only [h]
  rw [val_main_cst_apply]
  show Ideal.rsqrt (Ideal.div (Ideal.ofBits .f32 0x00000000#32 + _) _ + _) = _
  rw [Ideal.ofBits_zero_f32, zero_add]; rfl

theorem v12_at (s : Fin 33792) (k : Fin 1024) :
    val_main_v12 (F := Ideal) x0 x1 (ix2 s k) = Rows.norm (tok x0 s) (vec x1) k := by
  rw [val_main_v12_apply, val_main_v11_apply, val_main_v10_apply, val_main_v9_apply, val_main_v8_apply,
    show idx_main_v8 (ix2 s k) = ix2 s (0 : Fin 1) from
      funext fun a => by match a with | ⟨0, _⟩ => rfl | ⟨1, _⟩ => rfl, v7_at,
    show idx_main_v10 (idx_main_v11 (ix2 s k)) = ix1 k from funext fun a => by match a with | ⟨0, _⟩ => rfl]
  rfl

theorem v13_at (s : Fin 33792) (k : Fin 5632) :
    val_main_v13 (F := Ideal) x0 x1 x3 (ix2 s k) = Rows.proj (Rows.norm (tok x0 s) (vec x1)) (mat x3) k := by
  rw [val_main_v13_apply]
  refine Finset.sum_congr rfl fun a _ => ?_
  rw [show lidx_main_v13 (ix2 s k) a = ix2 s a from
      funext fun a => by match a with | ⟨0, _⟩ => rfl | ⟨1, _⟩ => rfl, v12_at,
    show ridx_main_v13 (ix2 s k) a = ix2 a k from funext fun a => by match a with | ⟨0, _⟩ => rfl | ⟨1, _⟩ => rfl]

theorem v17_at (s : Fin 33792) (k : Fin 2816) :
    val_main_v17 (F := Ideal) x0 x1 x3 (ix2 s k) = Rows.hid (Rows.norm (tok x0 s) (vec x1)) (mat x3) k := by
  rw [val_main_v17_apply, val_main_v16_apply, val_main_call0_v5_apply, val_main_call0_v4_apply, val_main_call0_cst_0_apply,
    val_main_call0_v3_apply, val_main_call0_v2_apply, val_main_call0_cst_apply, val_main_call0_v1_apply, val_main_call0_v0_apply,
    val_main_v15_apply, val_main_v14_apply,
    show idx_main_v14 (ix2 s k) = ix2 s (⟨k.val, by omega⟩ : Fin 5632) from
      funext fun a => by match a with | ⟨0, _⟩ => rfl | ⟨1, _⟩ => rfl,
    show idx_main_v15 (ix2 s k) = ix2 s (⟨2816 + k.val, by omega⟩ : Fin 5632) from
      funext fun a => by match a with | ⟨0, _⟩ => rfl | ⟨1, _⟩ => rfl, v13_at, v13_at]
  show _ * Ideal.div (Ideal.ofBits .f32 0x3F800000#32) (Ideal.ofBits .f32 0x3F800000#32 + Ideal.exp (-_)) * _ = _
  rw [Ideal.ofBits_one_f32]; rfl

theorem v18_at (s : Fin 33792) (k : Fin 1024) :
    val_main_v18 (F := Ideal) x0 x1 x3 x4 (ix2 s k) = Rows.out (Rows.hid (Rows.norm (tok x0 s) (vec x1)) (mat x3)) (mat x4) k := by
  rw [val_main_v18_apply]
  refine Finset.sum_congr rfl fun a _ => ?_
  rw [show lidx_main_v18 (ix2 s k) a = ix2 s a from
      funext fun a => by match a with | ⟨0, _⟩ => rfl | ⟨1, _⟩ => rfl, v17_at,
    show ridx_main_v18 (ix2 s k) a = ix2 a k from funext fun a => by match a with | ⟨0, _⟩ => rfl | ⟨1, _⟩ => rfl]

/-- The product a token's branch ends in. -/
abbrev branch (s : Fin 33792) : Fin 1024 → EReal :=
  Rows.out (Rows.hid (Rows.norm (tok x0 s) (vec x1)) (mat x3)) (mat x4)

theorem v26_at (s : Fin 33792) :
    val_main_v26 (F := Ideal) x0 x1 x3 x4 (ix2 s (0 : Fin 1)) = Rows.scale (branch x0 x1 x3 x4 s) := by
  rw [val_main_v26_apply, val_main_v25_apply, val_main_v24_apply, val_main_cst_4_apply, val_main_v23_apply, val_main_v22_apply,
    val_main_cst_3_apply, val_main_v21_apply, val_main_v20_apply]
  have h : ∀ k : Fin 1024, val_main_v19 (F := Ideal) x0 x1 x3 x4 (idx_main_v20 (idx_main_v21 (ix2 s (0 : Fin 1))) k)
      = branch x0 x1 x3 x4 s k * branch x0 x1 x3 x4 s k := fun k => by
    rw [val_main_v19_apply, show idx_main_v20 (idx_main_v21 (ix2 s (0 : Fin 1))) k = ix2 s k from
      funext fun a => by match a with | ⟨0, _⟩ => rfl | ⟨1, _⟩ => rfl, v18_at]; rfl
  simp only [h]
  rw [val_main_cst_2_apply]
  show Ideal.rsqrt (Ideal.div (Ideal.ofBits .f32 0x00000000#32 + _) _ + _) = _
  rw [Ideal.ofBits_zero_f32, zero_add]; rfl

theorem v34_at (s : Fin 33792) (k : Fin 1024) :
    val_main_v34 (F := Ideal) x0 x1 x2 x3 x4 (ix2 s k) = Rows.ffn (tok x0 s) (vec x1) (vec x2) (mat x3) (mat x4) k := by
  rw [val_main_v34_apply, val_main_v33_apply, val_main_v32_apply, val_main_cst_5_apply, val_main_v31_apply, val_main_v30_apply,
    val_main_v29_apply, val_main_v28_apply, val_main_v27_apply, v18_at,
    show idx_main_v27 (ix2 s k) = ix2 s (0 : Fin 1) from
      funext fun a => by match a with | ⟨0, _⟩ => rfl | ⟨1, _⟩ => rfl, v26_at,
    show idx_main_v29 (idx_main_v30 (ix2 s k)) = ix1 k from funext fun a => by match a with | ⟨0, _⟩ => rfl]
  rfl

end Cert.Reference2Ideal.Ffn
end
end
-- ==== Proof.Equal2.lean ====
module

public import proofs.«01_k».proof.Proof.Result2
public import proofs.«01_k».proof.Proof.RefRows2

@[expose] public section

set_option maxRecDepth 16384

noncomputable section

namespace Cert.Equal2

open Idealize.ShloMosaic Idealize.ShloMosaic.TcCoe

/-- Row `i` of the result is row `i % 512` of tile `i / 512`. -/
theorem row_eq (i : ℕ) (h : i < 33792) : (i / 512 * 512 + i % 512) % 33792 = i := by omega

theorem reference_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Value.res_main_v34 m' c = Cert.Kernel2Ideal.Ffn.result m c := by
  obtain ⟨h0, h1, h2, h3, h4⟩ := h
  refine (Cert.Reference2Ideal.Read.val_main_v34_eq m' c).trans ?_
  rw [h0, h1, h2, h3, h4]
  funext i
  obtain ⟨r, k, rfl⟩ : ∃ (r : Fin 33792) (k : Fin 1024), i = ValueIdx.ix2 r k := ⟨i 0, i 1, ValueIdx.eq_ix2 i⟩
  refine (Cert.Reference2Ideal.Ffn.v34_at _ _ _ _ _ r k).trans ?_
  refine congrFun (congrArg (fun x => Rows.ffn x _ _ _ _) (funext fun j => ?_)) k
  exact congrArg (m _) (congrArg (fun p => ValueIdx.ix2 p j) (Fin.ext (row_eq r.val r.isLt).symm))

end Cert.Equal2
end
end
-- ==== Proof.Points3.lean ====
/- What the run of the feed-forward kernel shares between its points: at which points each branch of the body is
   taken, the staging buffers as the body gets them, and what a point computes from the blocks it is given. -/
module

public import proofs.«01_k».proof.Proof.Gen.Kernel3Ideal.Frame
public import proofs.«01_k».proof.Proof.Gen.Kernel3Ideal.Skeleton
public import Idealize.ShloMosaic.Lib.Pipeline.Value
public import Idealize.ShloMosaic.Lib.ValueIdxCore

@[expose] public section

set_option maxRecDepth 16384

noncomputable section

namespace Cert.Kernel3Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-! ## Which branches a point takes -/

/-- The first branch: the fill before the first tile. -/
abbrev isFirst (i : grid0.Coords) : Prop :=
  (Scalar.cmpi .ne (Scalar.extui (Scalar.cmpi .eq (BitVec.ofNat 32 (i 0).val) 0#32)) 0#32) = 1#1
/-- The second branch: an even tile. -/
abbrev isEven (i : grid0.Coords) : Prop := k0_cond2 i = 1#1
/-- The third branch: an odd tile. -/
abbrev isOdd (i : grid0.Coords) : Prop := k0_cond3 i = 1#1
/-- The fourth branch: the point after the last tile. -/
abbrev isLast (i : grid0.Coords) : Prop := k0_cond4 i = 1#1

theorem isFirst_iff (t : Fin cfg0.N) : isFirst (grid0.coords t) ↔ t.val = 0 :=
  (by decide +kernel : ∀ t : Fin grid0.N, isFirst (grid0.coords t) ↔ t.val = 0) t
theorem isEven_iff (t : Fin cfg0.N) : isEven (grid0.coords t) ↔ t.val % 2 = 0 ∧ t.val ≠ 64 :=
  (by decide +kernel : ∀ t : Fin grid0.N, isEven (grid0.coords t) ↔ t.val % 2 = 0 ∧ t.val ≠ 64) t
theorem isOdd_iff (t : Fin cfg0.N) : isOdd (grid0.coords t) ↔ t.val % 2 = 1 :=
  (by decide +kernel : ∀ t : Fin grid0.N, isOdd (grid0.coords t) ↔ t.val % 2 = 1) t
theorem isLast_iff (t : Fin cfg0.N) : isLast (grid0.coords t) ↔ t.val = 64 :=
  (by decide +kernel : ∀ t : Fin grid0.N, isLast (grid0.coords t) ↔ t.val = 64) t

/-- The output is written at every point. -/
theorem live6 (t : Fin cfg0.N) : cfg0.idle 6 (grid0.coords t) = false :=
  (by decide +kernel : ∀ t : Fin grid0.N, cfg0.idle 6 (grid0.coords t) = false) t

/-! ## The buffers a point works on -/

abbrev buf0 (t : Fin cfg0.N) : Memref sig .tc .vmem S512x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S512x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1024 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1024 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x5632 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S2816x1024 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S512x1024 .f32 := win0_6.stage (cfg0.slots t 6)
abbrev whole6 (t : Fin cfg0.N) : (buf6 t).IsWhole := hstage0_6 ((cfg0.slots t 6).cast nbuf0_6)
abbrev keep0 : Memref sig .tc .vmem S512x1024 .bf16 := Memref.whole cc0_scratch0
abbrev keep1 : Memref sig .tc .vmem S512x1024 .bf16 := Memref.whole cc0_scratch1
abbrev keep2 : Memref sig .tc .vmem S512x1024 .f32 := Memref.whole cc0_scratch2
abbrev keep3 : Memref sig .tc .vmem S512x1024 .f32 := Memref.whole cc0_scratch3
abbrev keep4 : Memref sig .tc .vmem S512x2816 .bf16 := Memref.whole cc0_scratch4

/-- What the pipeline hands the body beside the windows: the five scratch buffers at any contents. -/
theorem ΦA_eq (c : Dev nD) :
    (Pipeline.ΦA spec0 c : sProp 𝕄)
      = iprop(iprop((∃ d, owns (c : Thread nD τ) keep0 fullShare d) ∗ (∃ d, owns (c : Thread nD τ) keep1 fullShare d) ∗ (∃ d, owns (c : Thread nD τ) keep2 fullShare d) ∗ (∃ d, owns (c : Thread nD τ) keep3 fullShare d) ∗ (∃ d, owns (c : Thread nD τ) keep4 fullShare d)) ∗ (∃ r, prngReg c r)) := by
  unfold Pipeline.ΦA; rw [scopedRest0_eq]; simp only [keep0, keep1, keep2, keep3, keep4, owns_whole]; try rfl

/-! ## What a point computes -/

/-- Column block `k` (256 columns) of the first feed-forward weight's half starting at column `o`. -/
def wiCols (wi : Vec F S1024x5632 .bf16) (o : ℕ) (k : ℕ) : Vec F S1024x256 .bf16 :=
  fun j => wi (ix2 ⟨(j 0).val, (j 0).isLt⟩ ⟨(o + 256 * k + (j 1).val) % 5632, Nat.mod_lt _ (by decide)⟩)

/-- The gated hidden activations of a tile: 256 columns at a time. -/
def hidden (xn : Vec F S512x1024 .bf16) (wi : Vec F S1024x5632 .bf16) : Vec F S512x2816 .bf16 :=
  fun i => k0_pay28 xn (wiCols wi 0 ((i 1).val / 256)) xn (wiCols wi 2816 ((i 1).val / 256))
    (ix2 ⟨(i 0).val, (i 0).isLt⟩ ⟨(i 1).val % 256, Nat.mod_lt _ (by decide)⟩)

/-- The hidden activations times the second weight. -/
def down (xn : Vec F S512x1024 .bf16) (wi : Vec F S1024x5632 .bf16) (wo : Vec F S2816x1024 .bf16) : Vec F S512x1024 .f32 :=
  k0_pay57 (hidden xn wi) wo

/-- Rows `64 k .. 64 k + 63` of a tile. -/
def slab {e : EltTy} (x : Vec F S512x1024 e) (k : ℕ) : Vec F S64x1024 e :=
  fun j => x (ix2 ⟨(64 * k + (j 0).val) % 512, Nat.mod_lt _ (by decide)⟩ ⟨(j 1).val, (j 1).isLt⟩)

/-- A tile normalised, 64 rows at a time. -/
def normed (x : Vec F S512x1024 .f32) (g : Vec F S1x1024 .f32) : Vec F S512x1024 .bf16 :=
  fun i => k0_pay29 (slab x ((i 0).val / 64)) g (ix2 ⟨(i 0).val % 64, Nat.mod_lt _ (by decide)⟩ ⟨(i 1).val, (i 1).isLt⟩)

/-- A tile plus half the normalised product, 64 rows at a time. -/
def added (x y : Vec F S512x1024 .f32) (g : Vec F S1x1024 .f32) : Vec F S512x1024 .f32 :=
  fun i => k0_pay30 (slab x ((i 0).val / 64)) (slab y ((i 0).val / 64)) g
    (ix2 ⟨(i 0).val % 64, Nat.mod_lt _ (by decide)⟩ ⟨(i 1).val, (i 1).isLt⟩)

/-! ## What the stores of a point leave is that -/

/-- Rows `64 k ..` of a tile, read through the rectangle the body loads them by. -/
theorem ld_slab {e : EltTy} (x : Vec F S512x1024 e) (k : ℕ) (hk : k < 8)
    (inb : ∀ a, (![64 * k, 0] : Fin 2 → ℕ) a + S64x1024.size a ≤ S512x1024.size a) :
    View.ld x (Rect.unit (s := S512x1024) ![64 * k, 0] S64x1024.size inb) = slab x k := by
  funext j
  unfold slab
  refine congrArg x (funext fun a => ?_)
  have hj : (j 0).val < 64 := (j 0).isLt
  match a with
  | ⟨0, _⟩ => exact Fin.ext (show 64 * k + 1 * (j 0).val = (64 * k + (j 0).val) % 512 by omega)
  | ⟨1, _⟩ => exact Fin.ext (show 0 + 1 * (j 1).val = (j 1).val by omega)

theorem normed_piece (x : Vec F S512x1024 .f32) (g : Vec F S1x1024 .f32) (k : ℕ) (hk : k < 8)
    (inb : ∀ a, (![64 * k, 0] : Fin 2 → ℕ) a + S64x1024.size a ≤ S512x1024.size a) (j : S64x1024.Idx) :
    k0_pay29 (View.ld x (Rect.unit (s := S512x1024) ![64 * k, 0] S64x1024.size inb)) g j
      = normed x g ((Rect.unit (s := S512x1024) ![64 * k, 0] S64x1024.size inb).emb j) := by
  have hj : (j 0).val < 64 := (j 0).isLt
  have e0 : (64 * k + 1 * (j 0).val) / 64 = k := by omega
  rw [ld_slab x k hk inb]
  show _ = k0_pay29 (slab x ((64 * k + 1 * (j 0).val) / 64)) g _
  rw [e0]
  refine congrArg _ (funext fun a => ?_)
  match a with
  | ⟨0, _⟩ => exact Fin.ext (show (j 0).val = (64 * k + 1 * (j 0).val) % 64 by omega)
  | ⟨1, _⟩ => exact Fin.ext (show (j 1).val = 0 + 1 * (j 1).val by omega)

theorem added_piece (x y : Vec F S512x1024 .f32) (g : Vec F S1x1024 .f32) (k : ℕ) (hk : k < 8)
    (inb : ∀ a, (![64 * k, 0] : Fin 2 → ℕ) a + S64x1024.size a ≤ S512x1024.size a) (j : S64x1024.Idx) :
    k0_pay30 (View.ld x (Rect.unit (s := S512x1024) ![64 * k, 0] S64x1024.size inb))
        (View.ld y (Rect.unit (s := S512x1024) ![64 * k, 0] S64x1024.size inb)) g j
      = added x y g ((Rect.unit (s := S512x1024) ![64 * k, 0] S64x1024.size inb).emb j) := by
  have hj : (j 0).val < 64 := (j 0).isLt
  have e0 : (64 * k + 1 * (j 0).val) / 64 = k := by omega
  rw [ld_slab x k hk inb, ld_slab y k hk inb]
  show _ = k0_pay30 (slab x ((64 * k + 1 * (j 0).val) / 64)) (slab y ((64 * k + 1 * (j 0).val) / 64)) g _
  rw [e0]
  refine congrArg _ (funext fun a => ?_)
  match a with
  | ⟨0, _⟩ => exact Fin.ext (show (j 0).val = (64 * k + 1 * (j 0).val) % 64 by omega)
  | ⟨1, _⟩ => exact Fin.ext (show (j 1).val = 0 + 1 * (j 1).val by omega)

/-- A block of 256 columns of the first weight, read through the rectangle the body loads it by. -/
theorem ld_wiCols (wi : Vec F S1024x5632 .bf16) (o k : ℕ) (ho : o + 256 * k + 256 ≤ 5632)
    (inb : ∀ a, (![0, o + 256 * k] : Fin 2 → ℕ) a + S1024x256.size a ≤ S1024x5632.size a) :
    View.ld wi (Rect.unit (s := S1024x5632) ![0, o + 256 * k] S1024x256.size inb) = wiCols wi o k := by
  funext j
  unfold wiCols
  refine congrArg wi (funext fun a => ?_)
  have hj : (j 1).val < 256 := (j 1).isLt
  match a with
  | ⟨0, _⟩ => exact Fin.ext (show 0 + 1 * (j 0).val = (j 0).val by omega)
  | ⟨1, _⟩ => exact Fin.ext (show o + 256 * k + 1 * (j 1).val = (o + 256 * k + (j 1).val) % 5632 by omega)

theorem hidden_piece (xn : Vec F S512x1024 .bf16) (wi : Vec F S1024x5632 .bf16) (k : ℕ) (hk : k < 11)
    (inb : ∀ a, (![0, 256 * k] : Fin 2 → ℕ) a + S512x256.size a ≤ S512x2816.size a)
    (inb0 : ∀ a, (![0, 0 + 256 * k] : Fin 2 → ℕ) a + S1024x256.size a ≤ S1024x5632.size a)
    (inb1 : ∀ a, (![0, 2816 + 256 * k] : Fin 2 → ℕ) a + S1024x256.size a ≤ S1024x5632.size a) (j : S512x256.Idx) :
    k0_pay28 xn (View.ld wi (Rect.unit (s := S1024x5632) ![0, 0 + 256 * k] S1024x256.size inb0)) xn
        (View.ld wi (Rect.unit (s := S1024x5632) ![0, 2816 + 256 * k] S1024x256.size inb1)) j
      = hidden xn wi ((Rect.unit (s := S512x2816) ![0, 256 * k] S512x256.size inb).emb j) := by
  have hj : (j 1).val < 256 := (j 1).isLt
  have e0 : (256 * k + 1 * (j 1).val) / 256 = k := by omega
  rw [ld_wiCols wi 0 k (by omega) inb0, ld_wiCols wi 2816 k (by omega) inb1]
  show _ = k0_pay28 xn (wiCols wi 0 ((256 * k + 1 * (j 1).val) / 256)) xn (wiCols wi 2816 ((256 * k + 1 * (j 1).val) / 256)) _
  rw [e0]
  refine congrArg _ (funext fun a => ?_)
  match a with
  | ⟨0, _⟩ => exact Fin.ext (show (j 0).val = 0 + 1 * (j 0).val by omega)
  | ⟨1, _⟩ => exact Fin.ext (show (j 1).val = (256 * k + 1 * (j 1).val) % 256 by omega)

/-- The offsets of a store of a whole buffer. -/
theorem offsets_zero : (![0, 0] : Fin 2 → ℕ) = fun _ => 0 := by funext a; match a with | ⟨0, _⟩ => rfl | ⟨1, _⟩ => rfl

/-- A load of part of a buffer just stored whole reads that part of what was stored. -/
theorem readCov_slab {S : Shape} {e : EltTy} (v : View sig .tc .vmem S e) {off : Fin S.rank → ℕ} (h : off = fun _ => 0)
    (inb : ∀ a, off a + S.size a ≤ S.size a) (w : Vec F S e) (r : Rect S) :
    v.readCov [(⟨Rect.unit off S.size inb, w⟩ : View.Piece (Elt F) S e)] r.toLoadRect = View.ld w r := by
  rw [View.readCov_eq_canon_ld v _ r (fun y => ⟨_, List.mem_singleton_self _, View.mem_set_unit_zero h inb y⟩),
    View.canon_unit_zero h]

/-- A buffer covered by pieces that are all parts of `G` reads `G`. -/
theorem read_writes_of_pieces {s : Shape} {e : EltTy} (v : View sig .tc .vmem s e) (f : v.ty.Contents (Elt F)) (G : Vec F s e)
    (L : List (View.Piece (Elt F) s e)) (hc : ∀ y, ∃ p ∈ L, y ∈ p.1.set) (hL : ∀ p ∈ L, ∀ x : p.1.shape.Idx, p.2 x = G (p.1.emb x)) :
    v.read (Elt F) (v.writes (Elt F) f L) = G :=
  (View.read_writes_eq_canon v f L hc).trans (funext fun y => View.canon_apply_of_pieces G L hL y (hc y))

end Cert.Kernel3Ideal.Ffn

end
-- ==== Proof.Pays3.lean ====
module

public import proofs.«01_k».proof.Proof.Points3
public import proofs.«01_k».proof.Proof.Rows
public import Idealize.ShloMosaic.Lib.Pointwise

@[expose] public section

set_option maxRecDepth 16384

noncomputable section

namespace Cert.Kernel3Ideal.Ffn

open Idealize.ShloMosaic
open Cert.Kernel3Ideal Cert.Kernel3Ideal.Gen

/-- A row of a two-axis block. -/
def row {m n : Nat} (x : (⟨2, ![m, n]⟩ : Shape).Idx → EReal) (r : Fin m) : Fin n → EReal := fun c => x (ValueIdx.ix2 r c)

theorem pay29_at (x : Vec Ideal S64x1024 .f32) (g : Vec Ideal S1x1024 .f32) (r : Fin 64) (c : Fin 1024) :
    k0_pay29 x g (ValueIdx.ix2 r c) = Rows.norm (row x r) (row g 0) c := by
  simp only [Rows.norm, Rows.scale, row]
  simp only [← ix2_eq_valueIdx]
  unfold k0_pay29
  pointwise

theorem pay54_at (x : Vec Ideal S512x1024 .f32) (g : Vec Ideal S1x1024 .f32) (r : Fin 512) (c : Fin 1024) :
    k0_pay54 x g (ValueIdx.ix2 r c) = Rows.norm (row x r) (row g 0) c := by
  simp only [Rows.norm, Rows.scale, row]
  simp only [← ix2_eq_valueIdx]
  unfold k0_pay54
  pointwise

theorem pay30_at (x y : Vec Ideal S64x1024 .f32) (g : Vec Ideal S1x1024 .f32) (r : Fin 64) (c : Fin 1024) :
    k0_pay30 x y g (ValueIdx.ix2 r c) = Rows.add (row x r) (row y r) (row g 0) c := by
  simp only [Rows.add, Rows.norm, Rows.scale, row]
  simp only [← ix2_eq_valueIdx]
  unfold k0_pay30
  pointwise

theorem pay1_at (x y : Vec Ideal S512x1024 .f32) (g : Vec Ideal S1x1024 .f32) (r : Fin 512) (c : Fin 1024) :
    k0_pay1 x y g (ValueIdx.ix2 r c) = Rows.add (row x r) (row y r) (row g 0) c := by
  simp only [Rows.add, Rows.norm, Rows.scale, row]
  simp only [← ix2_eq_valueIdx]
  unfold k0_pay1
  pointwise

theorem pay57_at (h : Vec Ideal S512x2816 .bf16) (w : Vec Ideal S2816x1024 .bf16) (r : Fin 512) (c : Fin 1024) :
    k0_pay57 h w (ValueIdx.ix2 r c) = Rows.out (row h r) (row w) c := by
  simp only [Rows.out, row]
  simp only [← ix2_eq_valueIdx]
  unfold k0_pay57
  pointwise

theorem pay28_at (x : Vec Ideal S512x1024 .bf16) (u v : Vec Ideal S1024x256 .bf16) (r : Fin 512) (c : Fin 256) :
    k0_pay28 x u x v (ValueIdx.ix2 r c) = Rows.gate (Rows.proj (row x r) (row u) c) (Rows.proj (row x r) (row v) c) := by
  simp only [Rows.gate, Rows.proj, row]
  simp only [← ix2_eq_valueIdx]
  unfold k0_pay28
  pointwise

end Cert.Kernel3Ideal.Ffn
end
end
-- ==== Proof.Tiles3.lean ====
module

public import proofs.«01_k».proof.Proof.Pays3

@[expose] public section

set_option maxRecDepth 16384

noncomputable section

namespace Cert.Kernel3Ideal.Ffn

open Idealize.ShloMosaic
open Cert.Kernel3Ideal Cert.Kernel3Ideal.Gen

theorem row_slab (x : (⟨2, ![512, 1024]⟩ : Shape).Idx → EReal) (r : Fin 512) :
    row (fun j : (⟨2, ![64, 1024]⟩ : Shape).Idx =>
      x (ValueIdx.ix2 ⟨(64 * (r.val / 64) + (j 0).val) % 512, Nat.mod_lt _ (by decide)⟩ ⟨(j 1).val, (j 1).isLt⟩))
      ⟨r.val % 64, Nat.mod_lt _ (by decide)⟩ = row x r := by
  funext c
  have e : (⟨(64 * (r.val / 64) + r.val % 64) % 512, Nat.mod_lt _ (by decide)⟩ : Fin 512) = r := Fin.ext (by show _ % 512 = r.val; omega)
  show x (ValueIdx.ix2 (⟨(64 * (r.val / 64) + r.val % 64) % 512, Nat.mod_lt _ (by decide)⟩ : Fin 512) c) = x (ValueIdx.ix2 r c)
  rw [e]

theorem normed_at (x : Vec Ideal S512x1024 .f32) (g : Vec Ideal S1x1024 .f32) (r : Fin 512) :
    row (normed x g) r = Rows.norm (row x r) (row g 0) := by
  funext c
  refine (pay29_at (slab x (r.val / 64)) g ⟨r.val % 64, Nat.mod_lt _ (by decide)⟩ c).trans ?_
  exact congrArg (fun z => Rows.norm z (row g 0) c) (row_slab x r)

theorem added_at (x y : Vec Ideal S512x1024 .f32) (g : Vec Ideal S1x1024 .f32) (r : Fin 512) :
    row (added x y g) r = Rows.add (row x r) (row y r) (row g 0) := by
  funext c
  refine (pay30_at (slab x (r.val / 64)) (slab y (r.val / 64)) g ⟨r.val % 64, Nat.mod_lt _ (by decide)⟩ c).trans ?_
  exact congrArg₂ (fun z w => Rows.add z w (row g 0) c) (row_slab x r) (row_slab y r)

theorem finished_at (x y : Vec Ideal S512x1024 .f32) (g : Vec Ideal S1x1024 .f32) (r : Fin 512) :
    row (k0_pay1 x y g) r = Rows.add (row x r) (row y r) (row g 0) := funext fun c => pay1_at x y g r c

theorem normed0_at (x : Vec Ideal S512x1024 .f32) (g : Vec Ideal S1x1024 .f32) (r : Fin 512) :
    row (k0_pay54 x g) r = Rows.norm (row x r) (row g 0) := funext fun c => pay54_at x g r c

theorem proj_cols (x : Fin 1024 → EReal) (wi : Vec Ideal S1024x5632 .bf16) (o : ℕ) (k : Fin 2816) (h : o + k.val < 5632) :
    Rows.proj x (row (wiCols wi o (k.val / 256))) ⟨k.val % 256, Nat.mod_lt _ (by decide)⟩ = Rows.proj x (row wi) ⟨o + k.val, h⟩ :=
  Finset.sum_congr rfl fun a _ => congrArg (x a * ·) (congrArg wi (congrArg₂ ValueIdx.ix2 rfl
    (Fin.ext (show (o + 256 * (k.val / 256) + k.val % 256) % 5632 = o + k.val by omega))))

theorem hidden_at (xn : Vec Ideal S512x1024 .bf16) (wi : Vec Ideal S1024x5632 .bf16) (r : Fin 512) :
    row (hidden xn wi) r = Rows.hid (row xn r) (row wi) := by
  funext k
  refine (pay28_at xn (wiCols wi 0 (k.val / 256)) (wiCols wi 2816 (k.val / 256)) r ⟨k.val % 256, Nat.mod_lt _ (by decide)⟩).trans ?_
  refine congrArg₂ Rows.gate ((proj_cols _ wi 0 k (by omega)).trans ?_) (proj_cols _ wi 2816 k (by omega))
  exact congrArg (Rows.proj _ _) (Fin.ext (show 0 + k.val = k.val by omega))

theorem down_at (xn : Vec Ideal S512x1024 .bf16) (wi : Vec Ideal S1024x5632 .bf16) (wo : Vec Ideal S2816x1024 .bf16) (r : Fin 512) :
    row (down xn wi wo) r = Rows.out (Rows.hid (row xn r) (row wi)) (row wo) := by
  funext c
  refine (pay57_at (hidden xn wi) wo r c).trans ?_
  rw [hidden_at]

end Cert.Kernel3Ideal.Ffn
end
end
-- ==== Proof.RunOdd3.lean ====
/- The body at a point that works on an odd tile: what the buffers hold afterwards, from what they held before. -/
module

public import proofs.«01_k».proof.Proof.Points3

@[expose] public section

set_option maxRecDepth 16384

noncomputable section

namespace Cert.Kernel3Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 2000000 in
/-- The body at a point that works on an odd tile: what the buffers hold afterwards, from what they held before. -/
theorem run_odd (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : ¬isEven i) (hc2 : isOdd i) (hc3 : ¬isLast i)
    (x0 x1 : Vec F S512x1024 .f32) (x2 x3 : Vec F S1x1024 .f32) (x4 : Vec F S1024x5632 .bf16) (x5 : Vec F S2816x1024 .bf16) (xs : Vec F S512x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ owns (c : Thread nD τ) arg9 fullShare (xs) ∗ owns (c : Thread nD τ) arg10 fullShare (ys) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 ys x3) ∗ owns (c : Thread nD τ) arg8 fullShare (normed x0 x2) ∗ (∃ d, owns (c : Thread nD τ) arg9 fullShare d) ∗ (∃ d, owns (c : Thread nD τ) arg10 fullShare d) ∗ owns (c : Thread nD τ) arg11 fullShare (down xs x4 x5) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg9.read_unread, harg10.read_unread, View.ld_unit_zero (S := S1x1024) offsets_zero]
    exact ⟨fun j => added_piece x1 ys x3 7 (by decide) _ j, fun j => added_piece x1 ys x3 6 (by decide) _ j, fun j => added_piece x1 ys x3 5 (by decide) _ j, fun j => added_piece x1 ys x3 4 (by decide) _ j, fun j => added_piece x1 ys x3 3 (by decide) _ j, fun j => added_piece x1 ys x3 2 (by decide) _ j, fun j => added_piece x1 ys x3 1 (by decide) _ j, fun j => added_piece x1 ys x3 0 (by decide) _ j, fun p hp => absurd hp List.not_mem_nil⟩
  isplitl [H8]
  · iexists _; isplitr; rotate_left; · iexact H8
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg9.read_unread, harg10.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H9]
  · iexists _; iexists (harg9.unread xs); isplitr; · ipureintro; rfl
    iexact H9
  isplitl [H10]
  · iexists _; iexists (harg10.unread ys); isplitr; · ipureintro; rfl
    iexact H10
  isplitl [H11]
  · iexists _; isplitr; rotate_left; · iexact H11
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, harg9.read_unread, harg10.read_unread, View.ld_unit_zero (S := S2816x1024) offsets_zero, View.ld_unit_zero (S := S512x1024) offsets_zero]
    refine congrArg (fun h => k0_pay57 h x5) (funext fun y => View.canon_apply_of_pieces (hidden (xs) x4) _ ?_ y (View.cover_of_tiledL (s := S512x2816) _ S512x256.size (by sl_kernel_rfl) y))
    simp only [List.forall_mem_cons]
    exact ⟨fun j => hidden_piece (xs) x4 10 (by decide) _ _ _ j, fun j => hidden_piece (xs) x4 9 (by decide) _ _ _ j, fun j => hidden_piece (xs) x4 8 (by decide) _ _ _ j, fun j => hidden_piece (xs) x4 7 (by decide) _ _ _ j, fun j => hidden_piece (xs) x4 6 (by decide) _ _ _ j, fun j => hidden_piece (xs) x4 5 (by decide) _ _ _ j, fun j => hidden_piece (xs) x4 4 (by decide) _ _ _ j, fun j => hidden_piece (xs) x4 3 (by decide) _ _ _ j, fun j => hidden_piece (xs) x4 2 (by decide) _ _ _ j, fun j => hidden_piece (xs) x4 1 (by decide) _ _ _ j, fun j => hidden_piece (xs) x4 0 (by decide) _ _ _ j, fun p hp => absurd hp List.not_mem_nil⟩
  iexists _; iexists _; isplitr; swap; · iexact H12
  ipureintro; rfl

end Cert.Kernel3Ideal.Ffn

end
-- ==== Proof.RunEven3.lean ====
/- The body at a point that works on an even tile other than the first. -/
module

public import proofs.«01_k».proof.Proof.RunOdd3

@[expose] public section

set_option maxRecDepth 16384

noncomputable section

namespace Cert.Kernel3Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 2000000 in
/-- The body at a point that works on an even tile other than the first. -/
theorem run_even (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : isEven i) (hc2 : ¬isOdd i) (hc3 : ¬isLast i)
    (x0 x1 : Vec F S512x1024 .f32) (x2 x3 : Vec F S1x1024 .f32) (x4 : Vec F S1024x5632 .bf16) (x5 : Vec F S2816x1024 .bf16) (xs : Vec F S512x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ owns (c : Thread nD τ) arg8 fullShare (xs) ∗ (∃ d, owns (c : Thread nD τ) arg9 fullShare d) ∗ (∃ d, owns (c : Thread nD τ) arg10 fullShare d) ∗ owns (c : Thread nD τ) arg11 fullShare (ys) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 ys x3) ∗ (∃ d, owns (c : Thread nD τ) arg8 fullShare d) ∗ owns (c : Thread nD τ) arg9 fullShare (normed x0 x2) ∗ owns (c : Thread nD τ) arg10 fullShare (down xs x4 x5) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg8.read_unread, harg11.read_unread, View.ld_unit_zero (S := S1x1024) offsets_zero]
    exact ⟨fun j => added_piece x1 ys x3 7 (by decide) _ j, fun j => added_piece x1 ys x3 6 (by decide) _ j, fun j => added_piece x1 ys x3 5 (by decide) _ j, fun j => added_piece x1 ys x3 4 (by decide) _ j, fun j => added_piece x1 ys x3 3 (by decide) _ j, fun j => added_piece x1 ys x3 2 (by decide) _ j, fun j => added_piece x1 ys x3 1 (by decide) _ j, fun j => added_piece x1 ys x3 0 (by decide) _ j, fun p hp => absurd hp List.not_mem_nil⟩
  isplitl [H8]
  · iexists _; iexists (harg8.unread xs); isplitr; · ipureintro; rfl
    iexact H8
  isplitl [H9]
  · iexists _; isplitr; rotate_left; · iexact H9
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, harg8.read_unread, harg11.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H10]
  · iexists _; isplitr; rotate_left; · iexact H10
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, harg8.read_unread, harg11.read_unread, View.ld_unit_zero (S := S2816x1024) offsets_zero, View.ld_unit_zero (S := S512x1024) offsets_zero]
    refine congrArg (fun h => k0_pay57 h x5) (funext fun y => View.canon_apply_of_pieces (hidden (xs) x4) _ ?_ y (View.cover_of_tiledL (s := S512x2816) _ S512x256.size (by sl_kernel_rfl) y))
    simp only [List.forall_mem_cons]
    exact ⟨fun j => hidden_piece (xs) x4 10 (by decide) _ _ _ j, fun j => hidden_piece (xs) x4 9 (by decide) _ _ _ j, fun j => hidden_piece (xs) x4 8 (by decide) _ _ _ j, fun j => hidden_piece (xs) x4 7 (by decide) _ _ _ j, fun j => hidden_piece (xs) x4 6 (by decide) _ _ _ j, fun j => hidden_piece (xs) x4 5 (by decide) _ _ _ j, fun j => hidden_piece (xs) x4 4 (by decide) _ _ _ j, fun j => hidden_piece (xs) x4 3 (by decide) _ _ _ j, fun j => hidden_piece (xs) x4 2 (by decide) _ _ _ j, fun j => hidden_piece (xs) x4 1 (by decide) _ _ _ j, fun j => hidden_piece (xs) x4 0 (by decide) _ _ _ j, fun p hp => absurd hp List.not_mem_nil⟩
  isplitl [H11]
  · iexists _; iexists (harg11.unread ys); isplitr; · ipureintro; rfl
    iexact H11
  iexists _; iexists _; isplitr; swap; · iexact H12
  ipureintro; rfl

end Cert.Kernel3Ideal.Ffn

end
-- ==== Proof.RunFirst3.lean ====
/- The body at the first point, which normalises the first tile itself before working on it. -/
module

public import proofs.«01_k».proof.Proof.RunEven3

@[expose] public section

set_option maxRecDepth 16384

noncomputable section

namespace Cert.Kernel3Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 2000000 in
/-- The body at the first point, which normalises the first tile itself before working on it. -/
theorem run_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : isFirst i) (hc1 : isEven i) (hc2 : ¬isOdd i) (hc3 : ¬isLast i)
    (x0 x1 : Vec F S512x1024 .f32) (x2 x3 : Vec F S1x1024 .f32) (x4 : Vec F S1024x5632 .bf16) (x5 : Vec F S2816x1024 .bf16) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (added x1 k0_pay55 x3) ∗ (∃ d, owns (c : Thread nD τ) arg8 fullShare d) ∗ owns (c : Thread nD τ) arg9 fullShare (normed x0 x2) ∗ owns (c : Thread nD τ) arg10 fullShare (down (k0_pay54 x1 x2) x4 x5) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, readCov_slab (S := S512x1024) _ offsets_zero, View.ld_unit_zero (S := S1x1024) offsets_zero]
    exact ⟨fun j => added_piece x1 k0_pay55 x3 7 (by decide) _ j, fun j => added_piece x1 k0_pay55 x3 6 (by decide) _ j, fun j => added_piece x1 k0_pay55 x3 5 (by decide) _ j, fun j => added_piece x1 k0_pay55 x3 4 (by decide) _ j, fun j => added_piece x1 k0_pay55 x3 3 (by decide) _ j, fun j => added_piece x1 k0_pay55 x3 2 (by decide) _ j, fun j => added_piece x1 k0_pay55 x3 1 (by decide) _ j, fun j => added_piece x1 k0_pay55 x3 0 (by decide) _ j, fun p hp => absurd hp List.not_mem_nil⟩
  isplitl [H8]
  · iexists _; iexists _; isplitr; swap; · iexact H8
    ipureintro; rfl
  isplitl [H9]
  · iexists _; isplitr; rotate_left; · iexact H9
    ipureintro; refine read_writes_of_pieces _ _ _ _ (View.cover_of_tiledL _ S64x1024.size (by sl_kernel_rfl)) ?_
    sl_unfold_words
    simp only [List.forall_mem_cons, View.readAt_eq_ld, harg1.read_unread, harg2.read_unread, harg3.read_unread, harg4.read_unread, harg5.read_unread, harg6.read_unread, View.ld_unit_zero (S := S1x1024) offsets_zero]
    exact ⟨fun j => normed_piece x0 x2 7 (by decide) _ j, fun j => normed_piece x0 x2 6 (by decide) _ j, fun j => normed_piece x0 x2 5 (by decide) _ j, fun j => normed_piece x0 x2 4 (by decide) _ j, fun j => normed_piece x0 x2 3 (by decide) _ j, fun j => normed_piece x0 x2 2 (by decide) _ j, fun j => normed_piece x0 x2 1 (by decide) _ j, fun j => normed_piece x0 x2 0 (by decide) _ j, fun p hp => absurd hp List.not_mem_nil⟩
  isplitl [H10]
  · iexists _; isplitr; rotate_left; · iexact H10
    ipureintro; refine (View.read_writes_eq_canon _ _ _ (View.cover_of_tiledL _ S512x1024.size (by sl_kernel_rfl))).trans ?_
    refine (View.canon_unit_zero (S := S512x1024) offsets_zero _ _).trans ?_
    sl_unfold_words
    rw [View.readCov_eq_canon_ld (s := S512x2816) _ _ _ (View.cover_of_tiledL _ S512x256.size (by sl_kernel_rfl)), View.ld_unit_zero (S := S512x2816) offsets_zero]
    simp only [View.readAt_eq_ld, harg1.read_unread, harg2.read_unread, harg3.read_unread, harg4.read_unread, harg5.read_unread, harg6.read_unread, View.readCov_unit_zero (S := S512x1024) _ offsets_zero, View.ld_unit_zero (S := S1x1024) offsets_zero, View.ld_unit_zero (S := S2816x1024) offsets_zero, View.ld_unit_zero (S := S512x1024) offsets_zero]
    refine congrArg (fun h => k0_pay57 h x5) (funext fun y => View.canon_apply_of_pieces (hidden (k0_pay54 x1 x2) x4) _ ?_ y (View.cover_of_tiledL (s := S512x2816) _ S512x256.size (by sl_kernel_rfl) y))
    simp only [List.forall_mem_cons]
    exact ⟨fun j => hidden_piece (k0_pay54 x1 x2) x4 10 (by decide) _ _ _ j, fun j => hidden_piece (k0_pay54 x1 x2) x4 9 (by decide) _ _ _ j, fun j => hidden_piece (k0_pay54 x1 x2) x4 8 (by decide) _ _ _ j, fun j => hidden_piece (k0_pay54 x1 x2) x4 7 (by decide) _ _ _ j, fun j => hidden_piece (k0_pay54 x1 x2) x4 6 (by decide) _ _ _ j, fun j => hidden_piece (k0_pay54 x1 x2) x4 5 (by decide) _ _ _ j, fun j => hidden_piece (k0_pay54 x1 x2) x4 4 (by decide) _ _ _ j, fun j => hidden_piece (k0_pay54 x1 x2) x4 3 (by decide) _ _ _ j, fun j => hidden_piece (k0_pay54 x1 x2) x4 2 (by decide) _ _ _ j, fun j => hidden_piece (k0_pay54 x1 x2) x4 1 (by decide) _ _ _ j, fun j => hidden_piece (k0_pay54 x1 x2) x4 0 (by decide) _ _ _ j, fun p hp => absurd hp List.not_mem_nil⟩
  isplitl [H11]
  · iexists _; iexists _; isplitr; swap; · iexact H11
    ipureintro; rfl
  iexists _; iexists _; isplitr; swap; · iexact H12
  ipureintro; rfl

end Cert.Kernel3Ideal.Ffn

end
-- ==== Proof.RunLast3.lean ====
/- The body at the point after the last tile, which only finishes that tile. -/
module

public import proofs.«01_k».proof.Proof.RunFirst3

@[expose] public section

set_option maxRecDepth 16384

noncomputable section

namespace Cert.Kernel3Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 2000000 in
/-- The body at the point after the last tile, which only finishes that tile. -/
theorem run_last (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x2816 .bf16) (harg12 : arg12.IsWhole) (hc0 : ¬isFirst i) (hc1 : ¬isEven i) (hc2 : ¬isOdd i) (hc3 : isLast i)
    (x0 x1 : Vec F S512x1024 .f32) (x2 x3 : Vec F S1x1024 .f32) (x4 : Vec F S1024x5632 .bf16) (x5 : Vec F S2816x1024 .bf16) (ys : Vec F S512x1024 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (ys) ∗ (∃ d, owns (c : Thread nD τ) arg12 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (k0_pay1 x1 ys x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part27_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro; refine (View.read_writes_eq_canon _ _ _ (View.cover_of_tiledL _ S512x1024.size (by sl_kernel_rfl))).trans ?_
    refine (View.canon_unit_zero (S := S512x1024) offsets_zero _ _).trans ?_
    sl_unfold_words
    simp only [View.readAt_eq_ld, harg1.read_unread, harg2.read_unread, harg3.read_unread, harg4.read_unread, harg5.read_unread, harg6.read_unread, harg11.read_unread, View.ld_unit_zero (S := S1x1024) offsets_zero, View.ld_unit_zero (S := S512x1024) offsets_zero]
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists (harg11.unread ys); isplitr; · ipureintro; rfl
    iexact H11
  iexists _; iexists _; isplitr; swap; · iexact H12
  ipureintro; rfl

end Cert.Kernel3Ideal.Ffn

end
-- ==== Proof.Launched3.lean ====
/- The run of the feed-forward kernel over its 65 points: what is carried from point to point, the body at every
   point, and the launch. -/
module

public import proofs.«01_k».proof.Proof.RunLast3
public import Idealize.ShloMosaic.Lib.Claim

@[expose] public section

set_option maxRecDepth 16384

noncomputable section

namespace Cert.Kernel3Ideal.Ffn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- Point number `n`. -/
def pnt (n : ℕ) : Fin cfg0.N := ⟨n % 65, lt_of_lt_of_eq (Nat.mod_lt _ (by decide)) (show 65 = cfg0.N from N_0.symm)⟩

theorem pnt_val (t : Fin cfg0.N) : pnt t.val = t :=
  Fin.ext (Nat.mod_eq_of_lt (lt_of_lt_of_eq t.isLt (show cfg0.N = 65 from N_0)))

/-- Tile `n` normalised: tile 0 by the first point itself, every other tile by the point before its own. -/
def xnAt (c : Dev nD) : ℕ → Vec F S512x1024 .bf16
  | 0 => k0_pay54 (iblk m c 1 (pnt 0)) (iblk m c 2 (pnt 0))
  | n + 1 => normed (iblk m c 0 (pnt n)) (iblk m c 2 (pnt n))

/-- Tile `n`'s feed-forward product. -/
def yAt (c : Dev nD) (n : ℕ) : Vec F S512x1024 .f32 := down (xnAt m c n) (iblk m c 4 (pnt n)) (iblk m c 5 (pnt n))

/-- What point `n` leaves in the output's buffer: from the second point on, the tile before it, finished. -/
def outAt (c : Dev nD) : ℕ → Vec F S512x1024 .f32
  | 0 => added (iblk m c 1 (pnt 0)) k0_pay55 (iblk m c 3 (pnt 0))
  | n + 1 => if n = 63 then k0_pay1 (iblk m c 1 (pnt (n + 1))) (yAt m c n) (iblk m c 3 (pnt (n + 1)))
      else added (iblk m c 1 (pnt (n + 1))) (yAt m c n) (iblk m c 3 (pnt (n + 1)))

/-- The scratch buffers before point `n`. -/
def carried (c : Dev nD) : ℕ → sProp 𝕄
  | 0 => Pipeline.ΦA spec0 c
  | n + 1 => if n = 64 then Pipeline.ΦA spec0 c
      else if n % 2 = 0 then iprop(iprop((∃ d, owns (c : Thread nD τ) keep0 fullShare d) ∗ owns (c : Thread nD τ) keep1 fullShare (xnAt m c (n + 1)) ∗ owns (c : Thread nD τ) keep2 fullShare (yAt m c n) ∗ (∃ d, owns (c : Thread nD τ) keep3 fullShare d) ∗ (∃ d, owns (c : Thread nD τ) keep4 fullShare d)) ∗ (∃ r, prngReg c r))
      else iprop(iprop(owns (c : Thread nD τ) keep0 fullShare (xnAt m c (n + 1)) ∗ (∃ d, owns (c : Thread nD τ) keep1 fullShare d) ∗ (∃ d, owns (c : Thread nD τ) keep2 fullShare d) ∗ owns (c : Thread nD τ) keep3 fullShare (yAt m c n) ∗ (∃ d, owns (c : Thread nD τ) keep4 fullShare d)) ∗ (∃ r, prngReg c r))

theorem carried_odd (c : Dev nD) (n : ℕ) (h : n % 2 = 0) (h' : n ≠ 64) :
    carried m c (n + 1) = iprop(iprop((∃ d, owns (c : Thread nD τ) keep0 fullShare d) ∗ owns (c : Thread nD τ) keep1 fullShare (xnAt m c (n + 1)) ∗ owns (c : Thread nD τ) keep2 fullShare (yAt m c n) ∗ (∃ d, owns (c : Thread nD τ) keep3 fullShare d) ∗ (∃ d, owns (c : Thread nD τ) keep4 fullShare d)) ∗ (∃ r, prngReg c r)) := by
  show (if n = 64 then _ else _) = _
  rw [if_neg h', if_pos h]
theorem carried_even (c : Dev nD) (n : ℕ) (h : n % 2 = 1) :
    carried m c (n + 1) = iprop(iprop(owns (c : Thread nD τ) keep0 fullShare (xnAt m c (n + 1)) ∗ (∃ d, owns (c : Thread nD τ) keep1 fullShare d) ∗ (∃ d, owns (c : Thread nD τ) keep2 fullShare d) ∗ owns (c : Thread nD τ) keep3 fullShare (yAt m c n) ∗ (∃ d, owns (c : Thread nD τ) keep4 fullShare d)) ∗ (∃ r, prngReg c r)) := by
  show (if n = 64 then _ else _) = _
  rw [if_neg (by omega), if_neg (by omega)]
theorem carried_end (c : Dev nD) (n : ℕ) (h : n = 64) : carried m c (n + 1) = Pipeline.ΦA spec0 c := by
  show (if n = 64 then _ else _) = _
  rw [if_pos h]
theorem outAt_last (c : Dev nD) (n : ℕ) (h : n = 63) :
    outAt m c (n + 1) = k0_pay1 (iblk m c 1 (pnt (n + 1))) (yAt m c n) (iblk m c 3 (pnt (n + 1))) := by
  show (if n = 63 then _ else _) = _
  rw [if_pos h]
theorem outAt_tile (c : Dev nD) (n : ℕ) (h : n ≠ 63) :
    outAt m c (n + 1) = added (iblk m c 1 (pnt (n + 1))) (yAt m c n) (iblk m c 3 (pnt (n + 1))) := by
  show (if n = 63 then _ else _) = _
  rw [if_neg h]

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (buf0 t) fullShare (iblk m c 0 t) := by
  unfold Dat.leavesExact; rw [show cfg0.idle 0 (grid0.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (buf1 t) fullShare (iblk m c 1 t) := by
  unfold Dat.leavesExact; rw [show cfg0.idle 1 (grid0.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (buf2 t) fullShare (iblk m c 2 t) := by
  unfold Dat.leavesExact; rw [show cfg0.idle 2 (grid0.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (buf3 t) fullShare (iblk m c 3 t) := by
  unfold Dat.leavesExact; rw [show cfg0.idle 3 (grid0.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (buf4 t) fullShare (iblk m c 4 t) := by
  unfold Dat.leavesExact; rw [show cfg0.idle 4 (grid0.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (buf5 t) fullShare (iblk m c 5 t) := by
  unfold Dat.leavesExact; rw [show cfg0.idle 5 (grid0.coords t) = false from rfl, after5]
theorem after6 (c : Dev nD) (t : Fin cfg0.N) : (dats m 0 c).after 6 t = outAt m c t.val := by dsimp only [dats]
theorem leaves6 (c : Dev nD) (t : Fin cfg0.N) :
    (dats m 0 c).leavesExact 6 t = owns (c : Thread nD τ) (buf6 t) fullShare (outAt m c t.val) := by
  unfold Dat.leavesExact; rw [live6 t, after6]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  obtain rfl : t = pnt 0 := Fin.ext h
  rw [show (pnt 0 : Fin cfg0.N).val = 0 from rfl, carried_odd m c 0 rfl (by decide), show carried m c 0 = Pipeline.ΦA spec0 c from rfl, ΦA_eq]
  have ht : (pnt 0 : Fin cfg0.N).val = 0 := rfl
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords (pnt 0)) _ _ _ _ _ _ _ _ _ _ _ _ _ _ _ _ _ _ _ _ _ _ _ _ ((isFirst_iff (pnt 0)).mpr (by omega)) ((isEven_iff (pnt 0)).mpr (by omega)) (fun h => absurd ((isOdd_iff (pnt 0)).mp h) (by omega)) (fun h => absurd ((isLast_iff (pnt 0)).mp h) (by omega)) (iblk m c 0 (pnt 0)) (iblk m c 1 (pnt 0)) (iblk m c 2 (pnt 0)) (iblk m c 3 (pnt 0)) (iblk m c 4 (pnt 0)) (iblk m c 5 (pnt 0))  Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_odd (c : Dev nD) (n : ℕ) (t : Fin cfg0.N) (hn : t.val = n + 1) (h : n % 2 = 0) (h' : n < 64) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  rw [hn, carried_even m c (n + 1) (by omega), carried_odd m c n h (by omega),
    outAt_tile m c n (by omega),
    show xnAt m c (n + 1 + 1) = normed (iblk m c 0 (pnt (n + 1))) (iblk m c 2 (pnt (n + 1))) from rfl,
    show yAt m c (n + 1) = down (xnAt m c (n + 1)) (iblk m c 4 (pnt (n + 1))) (iblk m c 5 (pnt (n + 1))) from rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_odd c (grid0.coords t) _ _ _ _ _ _ _ _ _ _ _ _ _ _ _ _ _ _ _ _ _ _ _ _ (fun h => absurd ((isFirst_iff t).mp h) (by omega)) (fun h => absurd ((isEven_iff t).mp h) (by omega)) ((isOdd_iff t).mpr (by omega)) (fun h => absurd ((isLast_iff t).mp h) (by omega)) (iblk m c 0 t) (iblk m c 1 t) (iblk m c 2 t) (iblk m c 3 t) (iblk m c 4 t) (iblk m c 5 t) (xnAt m c (n + 1)) (yAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_even (c : Dev nD) (n : ℕ) (t : Fin cfg0.N) (hn : t.val = n + 1) (h : n % 2 = 1) (h' : n < 63) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  rw [hn, carried_odd m c (n + 1) (by omega) (by omega), carried_even m c n h,
    outAt_tile m c n (by omega),
    show xnAt m c (n + 1 + 1) = normed (iblk m c 0 (pnt (n + 1))) (iblk m c 2 (pnt (n + 1))) from rfl,
    show yAt m c (n + 1) = down (xnAt m c (n + 1)) (iblk m c 4 (pnt (n + 1))) (iblk m c 5 (pnt (n + 1))) from rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_even c (grid0.coords t) _ _ _ _ _ _ _ _ _ _ _ _ _ _ _ _ _ _ _ _ _ _ _ _ (fun h => absurd ((isFirst_iff t).mp h) (by omega)) ((isEven_iff t).mpr (by omega)) (fun h => absurd ((isOdd_iff t).mp h) (by omega)) (fun h => absurd ((isLast_iff t).mp h) (by omega)) (iblk m c 0 t) (iblk m c 1 t) (iblk m c 2 t) (iblk m c 3 t) (iblk m c 4 t) (iblk m c 5 t) (xnAt m c (n + 1)) (yAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem body_last (c : Dev nD) (t : Fin cfg0.N) (hn : t.val = 63 + 1) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (63 + 1) = t := by rw [← hn, pnt_val]
  rw [hn, carried_even m c 63 (by decide), carried_end m c (63 + 1) rfl, ΦA_eq, outAt_last m c 63 rfl, e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (run_last c (grid0.coords t) _ _ _ _ _ _ _ _ _ _ _ _ _ _ _ _ _ _ _ _ _ _ _ _ (fun h => absurd ((isFirst_iff t).mp h) (by omega)) (fun h => absurd ((isEven_iff t).mp h) (by omega)) (fun h => absurd ((isOdd_iff t).mp h) (by omega)) ((isLast_iff t).mpr (by omega)) (iblk m c 0 t) (iblk m c 1 t) (iblk m c 2 t) (iblk m c 3 t) (iblk m c 4 t) (iblk m c 5 t) (yAt m c 63) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_all (c : Dev nD) (t : Fin cfg0.N) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  rcases Nat.eq_zero_or_pos t.val with h | h
  · exact body_first m c t h
  obtain ⟨n, hn⟩ : ∃ n, t.val = n + 1 := ⟨t.val - 1, by omega⟩
  by_cases h2 : n % 2 = 0
  · exact body_odd m c n t hn h2 (by omega)
  by_cases h3 : n = 63
  · subst h3; exact body_last m c t hn
  · exact body_even m c n t hn (by omega) (by omega)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_all m c t) rfl .rfl fun _ => .rfl

/-! ## The launch -/

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = carried m c (Fin.last cfg0.N).val from rfl,
    Fin.val_last, show cfg0.N = 64 + 1 from N_0, carried_end m c 64 rfl]
  try exact Idealize.SL.BI.Entails.refl _

set_option backward.isDefEq.respectTransparency.types false in
/-- The program runs to the end: every array at what the blocks written to it leave, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The arguments end as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Ffn

end
-- ==== Proof.Blocks3.lean ====
module

public import proofs.«01_k».proof.Proof.Tiles3
public import proofs.«01_k».proof.Proof.Launched3
public import Idealize.ShloMosaic.Lib.StableHlo.Run

@[expose] public section

set_option maxRecDepth 16384

noncomputable section

namespace Cert.Kernel3Ideal.Ffn

open Idealize.ShloMosaic Idealize.ShloMosaic.TcCoe Idealize.ShloMosaic.StableHlo
open Cert.Kernel3Ideal Cert.Kernel3Ideal.Gen

variable (m : (ℓ : Loc nD τ sig) → Buf (Elt Ideal) ℓ) (ρ : Dev nD → PrngReg)

/-! ## The arguments, as tables of extended reals -/

abbrev inX (c : Dev nD) : S32768x1024.Idx → EReal := m ((c : Thread nD τ).loc main_arg0)
abbrev inPre (c : Dev nD) : S1024.Idx → EReal := m ((c : Thread nD τ).loc main_arg1)
abbrev inPost (c : Dev nD) : S1024.Idx → EReal := m ((c : Thread nD τ).loc main_arg2)
abbrev inWi (c : Dev nD) : S1024x5632.Idx → EReal := m ((c : Thread nD τ).loc main_arg3)
abbrev inWo (c : Dev nD) : S2816x1024.Idx → EReal := m ((c : Thread nD τ).loc main_arg4)

theorem V_v0 (c : Dev nD) : V m c main_v0 = broadcastInDim S1x1024 ![1] bcast_S1024_S1x1024_1 (inPre m c) := by
  unfold V; after_results
theorem V_v1 (c : Dev nD) : V m c main_v1 = broadcastInDim S1x1024 ![1] bcast_S1024_S1x1024_1 (inPost m c) := by
  unfold V; after_results
theorem V_v2 (c : Dev nD) : V m c main_v2 = inWi m c := by
  unfold V; after_results; rfl
theorem V_v3 (c : Dev nD) : V m c main_v3 = inWo m c := by
  unfold V; after_results; rfl

theorem gain_at (g : S1024.Idx → EReal) : row (broadcastInDim S1x1024 ![1] bcast_S1024_S1x1024_1 g) 0 = fun k => g (ValueIdx.ix1 k) := by
  funext k
  simp only [row, ← ix2_eq_valueIdx, ← ix1_eq_valueIdx]
  pointwise

/-! ## The row of the input a row of a tile is -/

/-- Row `r` of tile `n`. -/
def src (n : ℕ) (r : Fin 512) : Fin 32768 := ⟨(n * 512 + r.val) % 32768, Nat.mod_lt _ (by decide)⟩

theorem index0 : ∀ t : Fin cfg0.N, win0_0.index t (0 : Fin 2) = min (t.val + 1) 63
    ∧ win0_0.index t (1 : Fin 2) = 0 := by decide +kernel
theorem index1 : ∀ t : Fin cfg0.N, win0_1.index t (0 : Fin 2) = t.val - 1
    ∧ win0_1.index t (1 : Fin 2) = 0 := by decide +kernel
theorem index6 : ∀ t : Fin cfg0.N, win0_6.index t (0 : Fin 2) = t.val - 1 ∧ win0_6.index t (1 : Fin 2) = 0 := by decide +kernel
theorem flush6 : ∀ t : Fin cfg0.N, (cfg0.win 6).flush t = true ↔ t.val ≠ 0 := by decide +kernel

theorem pts (t : Fin cfg0.N) : t.val < 65 := lt_of_lt_of_eq t.isLt (show cfg0.N = 65 from N_0)

theorem blk0_at (c : Dev nD) (t : Fin cfg0.N) (r : Fin 512) :
    row (iblk m c 0 t) r = row (inX m c) (src (min (t.val + 1) 63) r) := by
  funext k
  have hi := index0 t
  have hN := pts t
  have hr : r.val < 512 := r.isLt
  unfold row iblk
  rw [View.read_apply]
  show V m c main_arg0 _ = _
  rw [V_main_arg0]
  refine congrArg (inX m c) (funext fun a => Fin.ext ?_)
  match a with
  | ⟨0, _⟩ =>
    show win0_0.index t (0 : Fin 2) * 512 + 1 * r.val = (min (t.val + 1) 63 * 512 + r.val) % 32768
    rw [hi.1]; omega
  | ⟨1, _⟩ => show win0_0.index t (1 : Fin 2) * 1024 + 1 * k.val = k.val; rw [hi.2]; omega

theorem blk1_at (c : Dev nD) (t : Fin cfg0.N) (r : Fin 512) :
    row (iblk m c 1 t) r = row (inX m c) (src (t.val - 1) r) := by
  funext k
  have hi := index1 t
  have hN := pts t
  have hr : r.val < 512 := r.isLt
  unfold row iblk
  rw [View.read_apply]
  show V m c main_arg0 _ = _
  rw [V_main_arg0]
  refine congrArg (inX m c) (funext fun a => Fin.ext ?_)
  match a with
  | ⟨0, _⟩ =>
    show win0_1.index t (0 : Fin 2) * 512 + 1 * r.val = ((t.val - 1) * 512 + r.val) % 32768
    rw [hi.1]; omega
  | ⟨1, _⟩ => show win0_1.index t (1 : Fin 2) * 1024 + 1 * k.val = k.val; rw [hi.2]; omega

theorem blk2_at (c : Dev nD) (t : Fin cfg0.N) : row (iblk m c 2 t) 0 = fun k => inPre m c (ValueIdx.ix1 k) := by
  rw [← gain_at, ← V_v0]
  funext k
  unfold row iblk
  rw [View.read_apply]
  exact congrArg (V m c main_v0) (funext fun a => Fin.ext (by
    match a with
    | ⟨0, _⟩ => rfl
    | ⟨1, _⟩ => show 0 + 1 * k.val = k.val; omega))

theorem blk3_at (c : Dev nD) (t : Fin cfg0.N) : row (iblk m c 3 t) 0 = fun k => inPost m c (ValueIdx.ix1 k) := by
  rw [← gain_at, ← V_v1]
  funext k
  unfold row iblk
  rw [View.read_apply]
  exact congrArg (V m c main_v1) (funext fun a => Fin.ext (by
    match a with
    | ⟨0, _⟩ => rfl
    | ⟨1, _⟩ => show 0 + 1 * k.val = k.val; omega))

theorem blk4_at (c : Dev nD) (t : Fin cfg0.N) : row (iblk m c 4 t) = row (inWi m c) := by
  funext a k
  rw [← V_v2]
  unfold row iblk
  rw [View.read_apply]
  exact congrArg (V m c main_v2) (funext fun b => Fin.ext (by
    match b with
    | ⟨0, _⟩ => show 0 + 1 * a.val = a.val; omega
    | ⟨1, _⟩ => show 0 + 1 * k.val = k.val; omega))

theorem blk5_at (c : Dev nD) (t : Fin cfg0.N) : row (iblk m c 5 t) = row (inWo m c) := by
  funext a k
  rw [← V_v3]
  unfold row iblk
  rw [View.read_apply]
  exact congrArg (V m c main_v3) (funext fun b => Fin.ext (by
    match b with
    | ⟨0, _⟩ => show 0 + 1 * a.val = a.val; omega
    | ⟨1, _⟩ => show 0 + 1 * k.val = k.val; omega))

end Cert.Kernel3Ideal.Ffn
end
end
-- ==== Proof.Result3.lean ====
module

public import proofs.«01_k».proof.Proof.Blocks3

@[expose] public section

set_option maxRecDepth 16384

noncomputable section

namespace Cert.Kernel3Ideal.Ffn

open Idealize.ShloMosaic Idealize.ShloMosaic.TcCoe
open Idealize.SL.Sem
open Cert.Kernel3Ideal Cert.Kernel3Ideal.Gen

variable (m : (ℓ : Loc nD τ sig) → Buf (Elt Ideal) ℓ) (ρ : Dev nD → PrngReg)

/-- The sub-layer on row `p` of the input. -/
def tokenAt (c : Dev nD) (p : Fin 32768) : Fin 1024 → EReal :=
  Rows.ffn (row (inX m c) p) (fun k => inPre m c (ValueIdx.ix1 k)) (fun k => inPost m c (ValueIdx.ix1 k)) (row (inWi m c)) (row (inWo m c))

theorem xn_at (c : Dev nD) (n : ℕ) (h : n ≤ 63) (r : Fin 512) :
    row (xnAt m c n) r = Rows.norm (row (inX m c) (src n r)) (fun k => inPre m c (ValueIdx.ix1 k)) := by
  match n with
  | 0 =>
    refine (normed0_at _ _ r).trans ?_
    rw [blk1_at, blk2_at]; rfl
  | n + 1 =>
    refine (normed_at _ _ r).trans ?_
    rw [blk0_at, blk2_at, show min ((pnt n).val + 1) 63 = n + 1 from by show min (n % 65 + 1) 63 = n + 1; omega]

theorem y_at (c : Dev nD) (n : ℕ) (h : n ≤ 63) (r : Fin 512) :
    row (yAt m c n) r = Rows.out (Rows.hid (Rows.norm (row (inX m c) (src n r)) (fun k => inPre m c (ValueIdx.ix1 k))) (row (inWi m c)))
      (row (inWo m c)) := by
  refine (down_at _ _ _ r).trans ?_
  rw [xn_at m c n h, blk4_at, blk5_at]

theorem out_at (c : Dev nD) (n : ℕ) (h : n ≤ 63) (r : Fin 512) : row (outAt m c (n + 1)) r = tokenAt m c (src n r) := by
  have e : (pnt (n + 1)).val - 1 = n := by show (n + 1) % 65 - 1 = n; omega
  by_cases h' : n = 63
  · rw [outAt_last m c n h']
    refine (finished_at _ _ _ r).trans ?_
    rw [blk1_at, y_at m c n h, blk3_at, e]; rfl
  · rw [outAt_tile m c n h']
    refine (added_at _ _ _ r).trans ?_
    rw [blk1_at, y_at m c n h, blk3_at, e]; rfl

/-- What the result array is shown to hold. -/
def result (c : Dev nD) : Buf (Elt Ideal) ((c : Thread nD τ).loc main_v4) :=
  fun i : S32768x1024.Idx => tokenAt m c (src ((i 0).val / 512) ⟨(i 0).val % 512, Nat.mod_lt _ (by decide)⟩) ⟨(i 1).val, (i 1).isLt⟩

theorem split_div (n r : ℕ) (h : r < 512) : (n * 512 + r) / 512 = n := by omega
theorem split_mod (n r : ℕ) (h : r < 512) : (n * 512 + r) % 512 = r := by omega

theorem flushed_eq (c : Dev nD) (t : Fin cfg0.N) (hf : (cfg0.win 6).flush t = true) :
    (dats m 0 c).flushed 6 t = ((cfg0.win 6).blk t).view.read (Elt Ideal) (result m c) := by
  have h0 := (flush6 t).mp hf
  have hN := pts t
  obtain ⟨n, hn⟩ : ∃ n, t.val = n + 1 := ⟨t.val - 1, by omega⟩
  have hn' : n ≤ 63 := by omega
  have hi := index6 t
  show (cfg0.win 6).cut (grid0.coords t) ((dats m 0 c).after 6 t) = _
  rw [after6, hn]
  funext j
  have hj0 : (j 0).val < 512 := (j 0).isLt
  rw [View.read_apply]
  have e0 : win0_6.index t (0 : Fin 2) * 512 + 1 * (j 0).val = n * 512 + (j 0).val := by
    rw [hi.1, hn, Nat.add_sub_cancel, Nat.one_mul]
  have e1 : win0_6.index t (1 : Fin 2) * 1024 + 1 * (j 1).val = (j 1).val := by rw [hi.2, Nat.zero_mul, Nat.one_mul, Nat.zero_add]
  refine (show _ = row (outAt m c (n + 1)) ⟨(j 0).val, hj0⟩ ⟨(j 1).val, (j 1).isLt⟩ from ?_).trans ?_
  · exact congrArg (outAt m c (n + 1)) (funext fun a => by match a with | ⟨0, _⟩ => rfl | ⟨1, _⟩ => rfl)
  · rw [out_at m c n hn']
    show _ = tokenAt m c (src ((win0_6.index t (0 : Fin 2) * 512 + 1 * (j 0).val) / 512) ⟨(win0_6.index t (0 : Fin 2) * 512 + 1 * (j 0).val) % 512, _⟩)
      ⟨win0_6.index t (1 : Fin 2) * 1024 + 1 * (j 1).val, _⟩
    simp only [e0, e1]
    have d := split_div n (j 0).val hj0
    have d' := split_mod n (j 0).val hj0
    simp only [d, d']

theorem mem_blk (t : Fin cfg0.N) (i : S32768x1024.Idx) :
    i ∈ ((cfg0.win 6).blk t).view.set ↔ (t.val - 1) * 512 ≤ (i 0 : ℕ) ∧ (i 0 : ℕ) < (t.val - 1) * 512 + 512 := by
  show i ∈ ((View.whole main_v4).slice (win0_6.rect t)).set ↔ _
  rw [View.set_slice_whole, Rect.mem_set_unit]
  have h1 : (i 1 : ℕ) < 1024 := (i 1).isLt
  have hi := index6 t
  refine ⟨fun h => ?_, fun h a => ?_⟩
  · have : win0_6.index t (0 : Fin 2) * 512 ≤ (i 0 : ℕ) ∧ (i 0 : ℕ) < win0_6.index t (0 : Fin 2) * 512 + 512 := h 0
    rwa [hi.1] at this
  · match a with
    | ⟨0, _⟩ => show win0_6.index t (0 : Fin 2) * 512 ≤ (i 0 : ℕ) ∧ (i 0 : ℕ) < win0_6.index t (0 : Fin 2) * 512 + 512; rw [hi.1]; exact h
    | ⟨1, _⟩ => show win0_6.index t (1 : Fin 2) * 1024 ≤ (i 1 : ℕ) ∧ (i 1 : ℕ) < win0_6.index t (1 : Fin 2) * 1024 + 1024; exact ⟨by rw [hi.2, Nat.zero_mul]; exact Nat.zero_le _, by rw [hi.2, Nat.zero_mul, Nat.zero_add]; exact h1⟩

theorem cover (i : S32768x1024.Idx) : ∃ t : Fin cfg0.N, (cfg0.win 6).flush t = true ∧ i ∈ ((cfg0.win 6).blk t).view.set := by
  have h0 : (i 0 : ℕ) < 32768 := (i 0).isLt
  have ht : (i 0 : ℕ) / 512 + 1 < cfg0.N := by rw [show cfg0.N = 65 from N_0]; omega
  refine ⟨⟨(i 0 : ℕ) / 512 + 1, ht⟩, (flush6 _).mpr (Nat.succ_ne_zero _), ?_⟩
  rw [mem_blk]
  dsimp only
  omega

/-- The result array ends holding the sub-layer of the rows the tiles take. -/
theorem final_out (c : Dev nD) : (dats m 0 c).arrAt 6 cfg0.N = result m c :=
  (dats m 0 c).arrAt_eq_of_cover 6 (result m c) (flushed_eq m c) cover

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (final_out m c), h.2.1 c⟩)
    (θ_run_and (run_main m ρ) (unchanged m ρ))

end Cert.Kernel3Ideal.Ffn
end
end
-- ==== Proof.RefRows3.lean ====
module

public import proofs.«01_k».proof.Proof.Rows
public import proofs.«01_k».proof.Proof.Gen.Reference3Ideal.Run
public import proofs.«01_k».proof.Proof.Gen.Reference3Ideal.Read
public import Idealize.ShloMosaic.Lib.ValueIdxCore
public import Idealize.ShloMosaic.Lib.IdealHost

@[expose] public section

set_option maxRecDepth 16384

noncomputable section

namespace Cert.Reference3Ideal.Ffn

open Idealize.ShloMosaic Idealize.ShloMosaic.ValueIdx
open Cert.Reference3Ideal Cert.Reference3Ideal.Read

variable (x0 : S32768x1024.Idx → EReal) (x1 x2 : S1024.Idx → EReal) (x3 : S1024x5632.Idx → EReal) (x4 : S2816x1024.Idx → EReal)

/-- Token `s`. -/
abbrev tok (s : Fin 32768) : Fin 1024 → EReal := fun k => x0 (ix2 s k)
abbrev vec (g : S1024.Idx → EReal) : Fin 1024 → EReal := fun k => g (ix1 k)
abbrev mat {a b : ℕ} (w : (⟨2, ![a, b]⟩ : Shape).Idx → EReal) : Fin a → Fin b → EReal := fun i j => w (ix2 i j)

/-! ## The stages, at a token -/

theorem v7_at (s : Fin 32768) : val_main_v7 (F := Ideal) x0 (ix2 s (0 : Fin 1)) = Rows.scale (tok x0 s) := by
  rw [val_main_v7_apply, val_main_v6_apply, val_main_v5_apply, val_main_cst_1_apply, val_main_v4_apply, val_main_v3_apply,
    val_main_cst_0_apply, val_main_v2_apply, val_main_v1_apply]
  have h : ∀ k : Fin 1024, val_main_v0 (F := Ideal) x0 (idx_main_v1 (idx_main_v2 (ix2 s (0 : Fin 1))) k) = tok x0 s k * tok x0 s k := fun k => by
    rw [val_main_v0_apply, show idx_main_v1 (idx_main_v2 (ix2 s (0 : Fin 1))) k = ix2 s k from
      funext fun a => by match a with | ⟨0, _⟩ => rfl | ⟨1, _⟩ => rfl]; rfl
  simp only [h]
  rw [val_main_cst_apply]
  show Ideal.rsqrt (Ideal.div (Ideal.ofBits .f32 0x00000000#32 + _) _ + _) = _
  rw [Ideal.ofBits_zero_f32, zero_add]; rfl

theorem v12_at (s : Fin 32768) (k : Fin 1024) :
    val_main_v12 (F := Ideal) x0 x1 (ix2 s k) = Rows.norm (tok x0 s) (vec x1) k := by
  rw [val_main_v12_apply, val_main_v11_apply, val_main_v10_apply, val_main_v9_apply, val_main_v8_apply,
    show idx_main_v8 (ix2 s k) = ix2 s (0 : Fin 1) from
      funext fun a => by match a with | ⟨0, _⟩ => rfl | ⟨1, _⟩ => rfl, v7_at,
    show idx_main_v10 (idx_main_v11 (ix2 s k)) = ix1 k from funext fun a => by match a with | ⟨0, _⟩ => rfl]
  rfl

theorem v13_at (s : Fin 32768) (k : Fin 5632) :
    val_main_v13 (F := Ideal) x0 x1 x3 (ix2 s k) = Rows.proj (Rows.norm (tok x0 s) (vec x1)) (mat x3) k := by
  rw [val_main_v13_apply]
  refine Finset.sum_congr rfl fun a _ => ?_
  rw [show lidx_main_v13 (ix2 s k) a = ix2 s a from
      funext fun a => by match a with | ⟨0, _⟩ => rfl | ⟨1, _⟩ => rfl, v12_at,
    show ridx_main_v13 (ix2 s k) a = ix2 a k from funext fun a => by match a with | ⟨0, _⟩ => rfl | ⟨1, _⟩ => rfl]

theorem v17_at (s : Fin 32768) (k : Fin 2816) :
    val_main_v17 (F := Ideal) x0 x1 x3 (ix2 s k) = Rows.hid (Rows.norm (tok x0 s) (vec x1)) (mat x3) k := by
  rw [val_main_v17_apply, val_main_v16_apply, val_main_call0_v5_apply, val_main_call0_v4_apply, val_main_call0_cst_0_apply,
    val_main_call0_v3_apply, val_main_call0_v2_apply, val_main_call0_cst_apply, val_main_call0_v1_apply, val_main_call0_v0_apply,
    val_main_v15_apply, val_main_v14_apply,
    show idx_main_v14 (ix2 s k) = ix2 s (⟨k.val, by omega⟩ : Fin 5632) from
      funext fun a => by match a with | ⟨0, _⟩ => rfl | ⟨1, _⟩ => rfl,
    show idx_main_v15 (ix2 s k) = ix2 s (⟨2816 + k.val, by omega⟩ : Fin 5632) from
      funext fun a => by match a with | ⟨0, _⟩ => rfl | ⟨1, _⟩ => rfl, v13_at, v13_at]
  show _ * Ideal.div (Ideal.ofBits .f32 0x3F800000#32) (Ideal.ofBits .f32 0x3F800000#32 + Ideal.exp (-_)) * _ = _
  rw [Ideal.ofBits_one_f32]; rfl

theorem v18_at (s : Fin 32768) (k : Fin 1024) :
    val_main_v18 (F := Ideal) x0 x1 x3 x4 (ix2 s k) = Rows.out (Rows.hid (Rows.norm (tok x0 s) (vec x1)) (mat x3)) (mat x4) k := by
  rw [val_main_v18_apply]
  refine Finset.sum_congr rfl fun a _ => ?_
  rw [show lidx_main_v18 (ix2 s k) a = ix2 s a from
      funext fun a => by match a with | ⟨0, _⟩ => rfl | ⟨1, _⟩ => rfl, v17_at,
    show ridx_main_v18 (ix2 s k) a = ix2 a k from funext fun a => by match a with | ⟨0, _⟩ => rfl | ⟨1, _⟩ => rfl]

/-- The product a token's branch ends in. -/
abbrev branch (s : Fin 32768) : Fin 1024 → EReal :=
  Rows.out (Rows.hid (Rows.norm (tok x0 s) (vec x1)) (mat x3)) (mat x4)

theorem v26_at (s : Fin 32768) :
    val_main_v26 (F := Ideal) x0 x1 x3 x4 (ix2 s (0 : Fin 1)) = Rows.scale (branch x0 x1 x3 x4 s) := by
  rw [val_main_v26_apply, val_main_v25_apply, val_main_v24_apply, val_main_cst_4_apply, val_main_v23_apply, val_main_v22_apply,
    val_main_cst_3_apply, val_main_v21_apply, val_main_v20_apply]
  have h : ∀ k : Fin 1024, val_main_v19 (F := Ideal) x0 x1 x3 x4 (idx_main_v20 (idx_main_v21 (ix2 s (0 : Fin 1))) k)
      = branch x0 x1 x3 x4 s k * branch x0 x1 x3 x4 s k := fun k => by
    rw [val_main_v19_apply, show idx_main_v20 (idx_main_v21 (ix2 s (0 : Fin 1))) k = ix2 s k from
      funext fun a => by match a with | ⟨0, _⟩ => rfl | ⟨1, _⟩ => rfl, v18_at]; rfl
  simp only [h]
  rw [val_main_cst_2_apply]
  show Ideal.rsqrt (Ideal.div (Ideal.ofBits .f32 0x00000000#32 + _) _ + _) = _
  rw [Ideal.ofBits_zero_f32, zero_add]; rfl

theorem v34_at (s : Fin 32768) (k : Fin 1024) :
    val_main_v34 (F := Ideal) x0 x1 x2 x3 x4 (ix2 s k) = Rows.ffn (tok x0 s) (vec x1) (vec x2) (mat x3) (mat x4) k := by
  rw [val_main_v34_apply, val_main_v33_apply, val_main_v32_apply, val_main_cst_5_apply, val_main_v31_apply, val_main_v30_apply,
    val_main_v29_apply, val_main_v28_apply, val_main_v27_apply, v18_at,
    show idx_main_v27 (ix2 s k) = ix2 s (0 : Fin 1) from
      funext fun a => by match a with | ⟨0, _⟩ => rfl | ⟨1, _⟩ => rfl, v26_at,
    show idx_main_v29 (idx_main_v30 (ix2 s k)) = ix1 k from funext fun a => by match a with | ⟨0, _⟩ => rfl]
  rfl

end Cert.Reference3Ideal.Ffn
end
end
-- ==== Proof.Equal3.lean ====
module

public import proofs.«01_k».proof.Proof.Result3
public import proofs.«01_k».proof.Proof.RefRows3

@[expose] public section

set_option maxRecDepth 16384

noncomputable section

namespace Cert.Equal3

open Idealize.ShloMosaic Idealize.ShloMosaic.TcCoe

/-- Row `i` of the result is row `i % 512` of tile `i / 512`. -/
theorem row_eq (i : ℕ) (h : i < 32768) : (i / 512 * 512 + i % 512) % 32768 = i := by omega

theorem reference_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Value.res_main_v34 m' c = Cert.Kernel3Ideal.Ffn.result m c := by
  obtain ⟨h0, h1, h2, h3, h4⟩ := h
  refine (Cert.Reference3Ideal.Read.val_main_v34_eq m' c).trans ?_
  rw [h0, h1, h2, h3, h4]
  funext i
  obtain ⟨r, k, rfl⟩ : ∃ (r : Fin 32768) (k : Fin 1024), i = ValueIdx.ix2 r k := ⟨i 0, i 1, ValueIdx.eq_ix2 i⟩
  refine (Cert.Reference3Ideal.Ffn.v34_at _ _ _ _ _ r k).trans ?_
  refine congrFun (congrArg (fun x => Rows.ffn x _ _ _ _) (funext fun j => ?_)) k
  exact congrArg (m _) (congrArg (fun p => ValueIdx.ix2 p j) (Fin.ext (row_eq r.val r.isLt).symm))

end Cert.Equal3
end
end
-- ==== Proof.MergeRows.lean ====
module

public import proofs.«01_k».proof.Proof.Rows

@[expose] public section

noncomputable section

/-! The end of a mixer on one token: the three branches projected, weighted by their gates and summed, projected out,
    normalised and added to the token. -/

namespace Cert.Rows

open Idealize.ShloMosaic

/-- The scale `1 / sqrt (mean of squares + 1e-6)` of one head's 128 values. -/
def hscale (x : Fin 128 → EReal) : EReal :=
  Ideal.rsqrt (Ideal.div (∑ k, x k * x k) (Ideal.ofBits .f32 0x43000000#32) + Ideal.ofBits .f32 0x358637BD#32)

/-- One head: normalised, times the gain, times `silu` of its gate. -/
def head (o z w : Fin 128 → EReal) (j : Fin 128) : EReal := o j * hscale o * w j * (z j * Ideal.logistic (z j))

/-- The values of head `h` among the 512. -/
def part (x : Fin 512 → EReal) (h : ℕ) (j : Fin 128) : EReal := x ⟨(128 * h + j.val) % 512, Nat.mod_lt _ (by decide)⟩

/-- The four heads side by side. -/
def heads (o z : Fin 512 → EReal) (w : Fin 128 → EReal) (k : Fin 512) : EReal :=
  head (part o (k.val / 128)) (part z (k.val / 128)) w ⟨k.val % 128, Nat.mod_lt _ (by decide)⟩

/-- A token times a weight matrix. -/
def dot {a b : Nat} (x : Fin a → EReal) (w : Fin a → Fin b → EReal) (j : Fin b) : EReal := ∑ k, x k * w k j

/-- Branch `b`'s gate. -/
def third (g : Fin 3072 → EReal) (b : ℕ) (j : Fin 1024) : EReal := g ⟨(1024 * b + j.val) % 3072, Nat.mod_lt _ (by decide)⟩

/-- The gated sum of the three projected branches. -/
def merged (y sc dn : Fin 512 → EReal) (g : Fin 3072 → EReal) (wf wsc wdn : Fin 512 → Fin 1024 → EReal) (j : Fin 1024) : EReal :=
  third g 0 j * dot y wf j + third g 1 j * dot sc wsc j + third g 2 j * dot dn wdn j

/-- The end of the mixer on one token. -/
def merge (h : Fin 1024 → EReal) (y sc o z : Fin 512 → EReal) (g : Fin 3072 → EReal) (nw : Fin 128 → EReal)
    (wf wsc wdn : Fin 512 → Fin 1024 → EReal) (wout : Fin 1024 → Fin 1024 → EReal) (gpost : Fin 1024 → EReal) (j : Fin 1024) : EReal :=
  h j + norm (dot (merged y sc (heads o z nw) g wf wsc wdn) wout) gpost j

end Cert.Rows
end
end
-- ==== Proof.MergePays.lean ====
module

public import proofs.«01_k».proof.Proof.Gen.Kernel4Ideal.Frame
public import proofs.«01_k».proof.Proof.Gen.Kernel4Ideal.Skeleton
public import proofs.«01_k».proof.Proof.MergeRows
public import Idealize.ShloMosaic.Lib.Pointwise

@[expose] public section

set_option maxRecDepth 16384

noncomputable section

namespace Cert.Kernel4Ideal.Merge

open Idealize.ShloMosaic
open Cert.Kernel4Ideal Cert.Kernel4Ideal.Gen

/-- A row of a two-axis block. -/
def row {m n : Nat} (x : (⟨2, ![m, n]⟩ : Shape).Idx → EReal) (r : Fin m) : Fin n → EReal := fun c => x (ValueIdx.ix2 r c)

theorem pay2_at (a : Vec Ideal S1024x512 .bf16) (w : Vec Ideal S512x1024 .bf16) (r : Fin 1024) (c : Fin 1024) :
    k0_pay2 a w (ValueIdx.ix2 r c) = Rows.dot (row a r) (row w) c := by
  simp only [Rows.dot, row]
  simp only [← ix2_eq_valueIdx]
  unfold k0_pay2
  pointwise

theorem pay3_at (a : Vec Ideal S1024x512 .bf16) (w : Vec Ideal S512x1024 .bf16) (r : Fin 1024) (c : Fin 1024) :
    k0_pay3 a w (ValueIdx.ix2 r c) = Rows.dot (row a r) (row w) c := by
  simp only [Rows.dot, row]
  simp only [← ix2_eq_valueIdx]
  unfold k0_pay3
  pointwise

theorem pay4_at (o z : Vec Ideal S1024x128 .bf16) (w : Vec Ideal S1x128 .f32) (r : Fin 1024) (c : Fin 128) :
    k0_pay4 o w z (ValueIdx.ix2 r c) = Rows.head (row o r) (row z r) (row w 0) c := by
  simp only [Rows.head, Rows.hscale, row]
  simp only [← ix2_eq_valueIdx]
  unfold k0_pay4
  pointwise

theorem pay8_at (o z : Vec Ideal S1024x128 .bf16) (w : Vec Ideal S1x128 .f32) (r : Fin 1024) (c : Fin 128) :
    k0_pay8 (k0_pay5 o) (k0_pay6 o) (k0_pay7 (F := Ideal)) w z (ValueIdx.ix2 r c) = Rows.head (row o r) (row z r) (row w 0) c := by
  simp only [Rows.head, Rows.hscale, row]
  simp only [← ix2_eq_valueIdx]
  unfold k0_pay8 k0_pay7 k0_pay6 k0_pay5
  pointwise

theorem pay9_at (o z : Vec Ideal S1024x128 .bf16) (w : Vec Ideal S1x128 .f32) (r : Fin 1024) (c : Fin 128) :
    k0_pay9 o w z (ValueIdx.ix2 r c) = Rows.head (row o r) (row z r) (row w 0) c := by
  simp only [Rows.head, Rows.hscale, row]
  simp only [← ix2_eq_valueIdx]
  unfold k0_pay9
  pointwise

theorem pay1_at (y x : Vec Ideal S1024x1024 .f32) (g : Vec Ideal S1x1024 .f32) (r c : Fin 1024) :
    k0_pay1 y x g (ValueIdx.ix2 r c) = row x r c + Rows.norm (row y r) (row g 0) c := by
  simp only [Rows.norm, Rows.scale, row]
  simp only [← ix2_eq_valueIdx]
  unfold k0_pay1
  pointwise

/-- The four heads of a row, read at one of its 512 places. -/
def four (a b c d : Fin 128 → EReal) (k : Fin 512) : EReal :=
  if h : k.val < 128 then a ⟨k.val, h⟩ else
  if h1 : k.val - 128 < 128 then b ⟨k.val - 128, h1⟩ else
  if h2 : k.val - 128 - 128 < 128 then c ⟨k.val - 128 - 128, h2⟩ else
  d ⟨k.val - 128 - 128 - 128, by omega⟩

theorem pay12_at (f s : Vec Ideal S1024x1024 .f32) (a b d : Vec Ideal S1024x128 .bf16) (o z : Vec Ideal S1024x128 .bf16)
    (w : Vec Ideal S1x128 .f32) (wdn : Vec Ideal S512x1024 .bf16) (g0 g1 g2 : Vec Ideal S1024x1024 .bf16)
    (wout : Vec Ideal S1024x1024 .bf16) (r c : Fin 1024) :
    k0_pay12 f s a b d (k0_pay10 o) (k0_pay11 o) w z wdn g0 g1 g2 wout (ValueIdx.ix2 r c)
      = Rows.dot (fun j => row g0 r j * row f r j + row g1 r j * row s r j
          + row g2 r j * Rows.dot (four (row a r) (row b r) (row d r) (Rows.head (row o r) (row z r) (row w 0))) (row wdn) j) (row wout) c := by
  simp only [Rows.dot, four, Rows.head, Rows.hscale, row]
  simp only [← ix2_eq_valueIdx]
  unfold k0_pay12 k0_pay11 k0_pay10
  pointwise

end Cert.Kernel4Ideal.Merge
end
end
-- ==== Proof.MergeTiles.lean ====
module

public import proofs.«01_k».proof.Proof.MergePays

@[expose] public section

set_option maxRecDepth 16384

noncomputable section

namespace Cert.Kernel4Ideal.Merge

open Idealize.ShloMosaic
open Cert.Kernel4Ideal Cert.Kernel4Ideal.Gen

theorem offs : (![0, 0] : Fin 2 → ℕ) = fun _ => 0 := funext fun a => by match a with | ⟨0, _⟩ => rfl | ⟨1, _⟩ => rfl

/-! ## The columns the loads take -/

theorem head0_ld (x : Vec Ideal S1024x512 .bf16) (r : Fin 1024) : row (View.ld x r0_2) r = Rows.part (row x r) 0 := by
  funext j
  have hj := j.isLt
  show x (r0_2.idx (ValueIdx.ix2 r j)) = x (ValueIdx.ix2 r _)
  refine congrArg x (funext fun a => Fin.ext ?_)
  match a with
  | ⟨0, _⟩ => show 0 + 1 * r.val = r.val; omega
  | ⟨1, _⟩ => show 0 + 1 * j.val = (128 * 0 + j.val) % 512; omega

theorem head1_ld (x : Vec Ideal S1024x512 .bf16) (r : Fin 1024) : row (View.ld x r0_4) r = Rows.part (row x r) 1 := by
  funext j
  have hj := j.isLt
  show x (r0_4.idx (ValueIdx.ix2 r j)) = x (ValueIdx.ix2 r _)
  refine congrArg x (funext fun a => Fin.ext ?_)
  match a with
  | ⟨0, _⟩ => show 0 + 1 * r.val = r.val; omega
  | ⟨1, _⟩ => show 128 + 1 * j.val = (128 * 1 + j.val) % 512; omega

theorem head2_ld (x : Vec Ideal S1024x512 .bf16) (r : Fin 1024) : row (View.ld x r0_5) r = Rows.part (row x r) 2 := by
  funext j
  have hj := j.isLt
  show x (r0_5.idx (ValueIdx.ix2 r j)) = x (ValueIdx.ix2 r _)
  refine congrArg x (funext fun a => Fin.ext ?_)
  match a with
  | ⟨0, _⟩ => show 0 + 1 * r.val = r.val; omega
  | ⟨1, _⟩ => show 256 + 1 * j.val = (128 * 2 + j.val) % 512; omega

theorem head3_ld (x : Vec Ideal S1024x512 .bf16) (r : Fin 1024) : row (View.ld x r0_6) r = Rows.part (row x r) 3 := by
  funext j
  have hj := j.isLt
  show x (r0_6.idx (ValueIdx.ix2 r j)) = x (ValueIdx.ix2 r _)
  refine congrArg x (funext fun a => Fin.ext ?_)
  match a with
  | ⟨0, _⟩ => show 0 + 1 * r.val = r.val; omega
  | ⟨1, _⟩ => show 384 + 1 * j.val = (128 * 3 + j.val) % 512; omega

theorem gate0_ld (x : Vec Ideal S1024x3072 .bf16) (r : Fin 1024) : row (View.ld x r0_7) r = Rows.third (row x r) 0 := by
  funext j
  have hj := j.isLt
  show x (r0_7.idx (ValueIdx.ix2 r j)) = x (ValueIdx.ix2 r _)
  refine congrArg x (funext fun a => Fin.ext ?_)
  match a with
  | ⟨0, _⟩ => show 0 + 1 * r.val = r.val; omega
  | ⟨1, _⟩ => show 0 + 1 * j.val = (1024 * 0 + j.val) % 3072; omega

theorem gate1_ld (x : Vec Ideal S1024x3072 .bf16) (r : Fin 1024) : row (View.ld x r0_8) r = Rows.third (row x r) 1 := by
  funext j
  have hj := j.isLt
  show x (r0_8.idx (ValueIdx.ix2 r j)) = x (ValueIdx.ix2 r _)
  refine congrArg x (funext fun a => Fin.ext ?_)
  match a with
  | ⟨0, _⟩ => show 0 + 1 * r.val = r.val; omega
  | ⟨1, _⟩ => show 1024 + 1 * j.val = (1024 * 1 + j.val) % 3072; omega

theorem gate2_ld (x : Vec Ideal S1024x3072 .bf16) (r : Fin 1024) : row (View.ld x r0_9) r = Rows.third (row x r) 2 := by
  funext j
  have hj := j.isLt
  show x (r0_9.idx (ValueIdx.ix2 r j)) = x (ValueIdx.ix2 r _)
  refine congrArg x (funext fun a => Fin.ext ?_)
  match a with
  | ⟨0, _⟩ => show 0 + 1 * r.val = r.val; omega
  | ⟨1, _⟩ => show 2048 + 1 * j.val = (1024 * 2 + j.val) % 3072; omega

/-- The four heads read at a place are the heads side by side. -/
theorem four_heads (o z : Fin 512 → EReal) (w : Fin 128 → EReal) :
    four (Rows.head (Rows.part o 0) (Rows.part z 0) w) (Rows.head (Rows.part o 1) (Rows.part z 1) w)
      (Rows.head (Rows.part o 2) (Rows.part z 2) w) (Rows.head (Rows.part o 3) (Rows.part z 3) w) = Rows.heads o z w := by
  funext k
  have hk := k.isLt
  have key : ∀ (b j : ℕ) (hj : j < 128), k.val = 128 * b + j →
      Rows.head (Rows.part o b) (Rows.part z b) w ⟨j, hj⟩ = Rows.heads o z w k := fun b j hj e => by
    have e1 : k.val / 128 = b := by omega
    have e2 : k.val % 128 = j := by omega
    unfold Rows.heads
    simp only [e1, e2]
  unfold four
  split
  · exact key 0 _ _ (by omega)
  split
  · exact key 1 _ _ (by omega)
  split
  · exact key 2 _ _ (by omega)
  · exact key 3 _ _ (by omega)

/-- What one tile's body leaves, at a row: the end of the mixer on that row. -/
theorem tile_at (x0 : Vec Ideal S1024x1024 .f32) (x1 x2 x3 x4 : Vec Ideal S1024x512 .bf16) (x5 : Vec Ideal S1024x3072 .bf16)
    (x6 : Vec Ideal S1x128 .f32) (x7 x8 x9 : Vec Ideal S512x1024 .bf16) (x10 : Vec Ideal S1024x1024 .bf16) (x11 : Vec Ideal S1x1024 .f32)
    (r c : Fin 1024) :
    out0_12 x0 x1 x2 x3 x4 x5 x6 x7 x8 x9 x10 x11 (ValueIdx.ix2 r c)
      = Rows.merge (row x0 r) (row x1 r) (row x2 r) (row x3 r) (row x4 r) (row x5 r) (row x6 0) (row x7) (row x8) (row x9) (row x10) (row x11 0) c := by
  unfold out0_12
  rw [View.canon_unit_zero (S := S1024x1024) offs]
  simp only [View.ld_unit_zero (S := S1024x512) offs, View.ld_unit_zero (S := S512x1024) offs, View.ld_unit_zero (S := S1x128) offs,
    View.ld_unit_zero (S := S1024x1024) offs, View.ld_unit_zero (S := S1x1024) offs]
  refine (pay1_at _ _ _ r c).trans ?_
  refine congrArg (fun v => row x0 r c + Rows.norm v (row x11 0) c) (funext fun k => ?_)
  refine (pay12_at _ _ _ _ _ _ _ _ _ _ _ _ _ r k).trans ?_
  refine congrFun (congrArg (fun v => Rows.dot v (row x10)) (funext fun j => ?_)) k
  unfold Rows.merged
  rw [gate0_ld, gate1_ld, gate2_ld, head3_ld, head3_ld]
  refine congrArg₂ (· + ·) (congrArg₂ (· + ·) (congrArg _ (pay2_at _ _ r j)) (congrArg _ (pay3_at _ _ r j))) (congrArg _ ?_)
  refine congrFun (congrArg (fun v => Rows.dot v (row x9)) ?_) j
  rw [← four_heads]
  have h0 : row (k0_pay4 (View.ld x3 r0_2) x6 (View.ld x4 r0_2)) r = Rows.head (Rows.part (row x3 r) 0) (Rows.part (row x4 r) 0) (row x6 0) :=
    funext fun i => by rw [← head0_ld, ← head0_ld]; exact pay4_at _ _ _ r i
  have h1 : row (k0_pay8 (k0_pay5 (View.ld x3 r0_4)) (k0_pay6 (View.ld x3 r0_4)) (k0_pay7 (F := Ideal)) x6 (View.ld x4 r0_4)) r
      = Rows.head (Rows.part (row x3 r) 1) (Rows.part (row x4 r) 1) (row x6 0) :=
    funext fun i => by rw [← head1_ld, ← head1_ld]; exact pay8_at _ _ _ r i
  have h2 : row (k0_pay9 (View.ld x3 r0_5) x6 (View.ld x4 r0_5)) r = Rows.head (Rows.part (row x3 r) 2) (Rows.part (row x4 r) 2) (row x6 0) :=
    funext fun i => by rw [← head2_ld, ← head2_ld]; exact pay9_at _ _ _ r i
  rw [h0, h1, h2]

end Cert.Kernel4Ideal.Merge
end
end
-- ==== Proof.MergeRun.lean ====
module

public import proofs.«01_k».proof.Proof.MergeTiles
public import Idealize.ShloMosaic.Lib.StableHlo.Run

@[expose] public section

set_option maxRecDepth 16384

noncomputable section

namespace Cert.Kernel4Ideal.Merge

open Idealize.ShloMosaic Idealize.ShloMosaic.TcCoe Idealize.ShloMosaic.StableHlo Idealize.SL.Sem
open Cert.Kernel4Ideal Cert.Kernel4Ideal.Gen

variable (m : (ℓ : Loc nD τ sig) → Buf (Elt Ideal) ℓ) (ρ : Dev nD → PrngReg)

/-! ## The arguments, as tables of extended reals -/

abbrev inH (c : Dev nD) : S33792x1024.Idx → EReal := m ((c : Thread nD τ).loc main_arg0)
abbrev inY (c : Dev nD) : S33792x512.Idx → EReal := m ((c : Thread nD τ).loc main_arg1)
abbrev inSc (c : Dev nD) : S33792x512.Idx → EReal := m ((c : Thread nD τ).loc main_arg2)
abbrev inDn (c : Dev nD) : S33792x512.Idx → EReal := m ((c : Thread nD τ).loc main_arg3)
abbrev inZ (c : Dev nD) : S33792x512.Idx → EReal := m ((c : Thread nD τ).loc main_arg4)
abbrev inGate (c : Dev nD) : S33792x3072.Idx → EReal := m ((c : Thread nD τ).loc main_arg5)
abbrev inGain (c : Dev nD) : S128.Idx → EReal := m ((c : Thread nD τ).loc main_arg6)
abbrev inWf (c : Dev nD) : S512x1024.Idx → EReal := m ((c : Thread nD τ).loc main_arg7)
abbrev inWsc (c : Dev nD) : S512x1024.Idx → EReal := m ((c : Thread nD τ).loc main_arg8)
abbrev inWdn (c : Dev nD) : S512x1024.Idx → EReal := m ((c : Thread nD τ).loc main_arg9)
abbrev inWout (c : Dev nD) : S1024x1024.Idx → EReal := m ((c : Thread nD τ).loc main_arg10)
abbrev inPost (c : Dev nD) : S1024.Idx → EReal := m ((c : Thread nD τ).loc main_arg11)

theorem V_v0 (c : Dev nD) : V m c main_v0 = broadcastInDim S1x128 ![1] bcast_S128_S1x128_1 (inGain m c) := by
  unfold V; after_results
theorem V_v1 (c : Dev nD) : V m c main_v1 = inWf m c := by
  unfold V; after_results; rfl
theorem V_v2 (c : Dev nD) : V m c main_v2 = inWsc m c := by
  unfold V; after_results; rfl
theorem V_v3 (c : Dev nD) : V m c main_v3 = inWdn m c := by
  unfold V; after_results; rfl
theorem V_v4 (c : Dev nD) : V m c main_v4 = inWout m c := by
  unfold V; after_results; rfl
theorem V_v5 (c : Dev nD) : V m c main_v5 = broadcastInDim S1x1024 ![1] bcast_S1024_S1x1024_1 (inPost m c) := by
  unfold V; after_results

theorem gain_at (g : S128.Idx → EReal) : row (broadcastInDim S1x128 ![1] bcast_S128_S1x128_1 g) 0 = fun k => g (ValueIdx.ix1 k) := by
  funext k
  simp only [row, ← ix2_eq_valueIdx, ← ix1_eq_valueIdx]
  pointwise

theorem post_at (g : S1024.Idx → EReal) : row (broadcastInDim S1x1024 ![1] bcast_S1024_S1x1024_1 g) 0 = fun k => g (ValueIdx.ix1 k) := by
  funext k
  simp only [row, ← ix2_eq_valueIdx, ← ix1_eq_valueIdx]
  pointwise

/-! ## The rows of the arguments a tile's rows are: tile `t` takes rows `1024 t` to `1024 t + 1023` -/

theorem pts (t : Fin cfg0.N) : t.val < 33 := lt_of_lt_of_eq t.isLt (show cfg0.N = 33 from N_0)

/-- Row `r` of tile `n`. -/
def src (n : ℕ) (r : Fin 1024) : Fin 33792 := ⟨(n * 1024 + r.val) % 33792, Nat.mod_lt _ (by decide)⟩

theorem index0 : ∀ t : Fin cfg0.N, win0_0.index t (0 : Fin 2) = t.val ∧ win0_0.index t (1 : Fin 2) = 0 := by decide +kernel
theorem index1 : ∀ t : Fin cfg0.N, win0_1.index t (0 : Fin 2) = t.val ∧ win0_1.index t (1 : Fin 2) = 0 := by decide +kernel
theorem index2 : ∀ t : Fin cfg0.N, win0_2.index t (0 : Fin 2) = t.val ∧ win0_2.index t (1 : Fin 2) = 0 := by decide +kernel
theorem index3 : ∀ t : Fin cfg0.N, win0_3.index t (0 : Fin 2) = t.val ∧ win0_3.index t (1 : Fin 2) = 0 := by decide +kernel
theorem index4 : ∀ t : Fin cfg0.N, win0_4.index t (0 : Fin 2) = t.val ∧ win0_4.index t (1 : Fin 2) = 0 := by decide +kernel
theorem index5 : ∀ t : Fin cfg0.N, win0_5.index t (0 : Fin 2) = t.val ∧ win0_5.index t (1 : Fin 2) = 0 := by decide +kernel
theorem index12 : ∀ t : Fin cfg0.N, win0_12.index t (0 : Fin 2) = t.val ∧ win0_12.index t (1 : Fin 2) = 0 := by decide +kernel
theorem flush12 : ∀ t : Fin cfg0.N, (cfg0.win 12).flush t = true := by decide +kernel

theorem blk0_at (c : Dev nD) (t : Fin cfg0.N) (r : Fin 1024) : row (iblk m c 0 t) r = row (inH m c) (src t.val r) := by
  funext k
  have hi := index0 t
  have hN := pts t
  have hr : r.val < 1024 := r.isLt
  unfold row iblk
  rw [View.read_apply]
  show V m c main_arg0 _ = _
  rw [V_main_arg0]
  refine congrArg (inH m c) (funext fun a => Fin.ext ?_)
  match a with
  | ⟨0, _⟩ =>
    show win0_0.index t (0 : Fin 2) * 1024 + 1 * r.val = (t.val * 1024 + r.val) % 33792
    rw [hi.1]; omega
  | ⟨1, _⟩ => show win0_0.index t (1 : Fin 2) * _ + 1 * k.val = k.val; rw [hi.2, Nat.zero_mul, Nat.one_mul, Nat.zero_add]

theorem blk1_at (c : Dev nD) (t : Fin cfg0.N) (r : Fin 1024) : row (iblk m c 1 t) r = row (inY m c) (src t.val r) := by
  funext k
  have hi := index1 t
  have hN := pts t
  have hr : r.val < 1024 := r.isLt
  unfold row iblk
  rw [View.read_apply]
  show V m c main_arg1 _ = _
  rw [V_main_arg1]
  refine congrArg (inY m c) (funext fun a => Fin.ext ?_)
  match a with
  | ⟨0, _⟩ =>
    show win0_1.index t (0 : Fin 2) * 1024 + 1 * r.val = (t.val * 1024 + r.val) % 33792
    rw [hi.1]; omega
  | ⟨1, _⟩ => show win0_1.index t (1 : Fin 2) * _ + 1 * k.val = k.val; rw [hi.2, Nat.zero_mul, Nat.one_mul, Nat.zero_add]

theorem blk2_at (c : Dev nD) (t : Fin cfg0.N) (r : Fin 1024) : row (iblk m c 2 t) r = row (inSc m c) (src t.val r) := by
  funext k
  have hi := index2 t
  have hN := pts t
  have hr : r.val < 1024 := r.isLt
  unfold row iblk
  rw [View.read_apply]
  show V m c main_arg2 _ = _
  rw [V_main_arg2]
  refine congrArg (inSc m c) (funext fun a => Fin.ext ?_)
  match a with
  | ⟨0, _⟩ =>
    show win0_2.index t (0 : Fin 2) * 1024 + 1 * r.val = (t.val * 1024 + r.val) % 33792
    rw [hi.1]; omega
  | ⟨1, _⟩ => show win0_2.index t (1 : Fin 2) * _ + 1 * k.val = k.val; rw [hi.2, Nat.zero_mul, Nat.one_mul, Nat.zero_add]

theorem blk3_at (c : Dev nD) (t : Fin cfg0.N) (r : Fin 1024) : row (iblk m c 3 t) r = row (inDn m c) (src t.val r) := by
  funext k
  have hi := index3 t
  have hN := pts t
  have hr : r.val < 1024 := r.isLt
  unfold row iblk
  rw [View.read_apply]
  show V m c main_arg3 _ = _
  rw [V_main_arg3]
  refine congrArg (inDn m c) (funext fun a => Fin.ext ?_)
  match a with
  | ⟨0, _⟩ =>
    show win0_3.index t (0 : Fin 2) * 1024 + 1 * r.val = (t.val * 1024 + r.val) % 33792
    rw [hi.1]; omega
  | ⟨1, _⟩ => show win0_3.index t (1 : Fin 2) * _ + 1 * k.val = k.val; rw [hi.2, Nat.zero_mul, Nat.one_mul, Nat.zero_add]

theorem blk4_at (c : Dev nD) (t : Fin cfg0.N) (r : Fin 1024) : row (iblk m c 4 t) r = row (inZ m c) (src t.val r) := by
  funext k
  have hi := index4 t
  have hN := pts t
  have hr : r.val < 1024 := r.isLt
  unfold row iblk
  rw [View.read_apply]
  show V m c main_arg4 _ = _
  rw [V_main_arg4]
  refine congrArg (inZ m c) (funext fun a => Fin.ext ?_)
  match a with
  | ⟨0, _⟩ =>
    show win0_4.index t (0 : Fin 2) * 1024 + 1 * r.val = (t.val * 1024 + r.val) % 33792
    rw [hi.1]; omega
  | ⟨1, _⟩ => show win0_4.index t (1 : Fin 2) * _ + 1 * k.val = k.val; rw [hi.2, Nat.zero_mul, Nat.one_mul, Nat.zero_add]

theorem blk5_at (c : Dev nD) (t : Fin cfg0.N) (r : Fin 1024) : row (iblk m c 5 t) r = row (inGate m c) (src t.val r) := by
  funext k
  have hi := index5 t
  have hN := pts t
  have hr : r.val < 1024 := r.isLt
  unfold row iblk
  rw [View.read_apply]
  show V m c main_arg5 _ = _
  rw [V_main_arg5]
  refine congrArg (inGate m c) (funext fun a => Fin.ext ?_)
  match a with
  | ⟨0, _⟩ =>
    show win0_5.index t (0 : Fin 2) * 1024 + 1 * r.val = (t.val * 1024 + r.val) % 33792
    rw [hi.1]; omega
  | ⟨1, _⟩ => show win0_5.index t (1 : Fin 2) * _ + 1 * k.val = k.val; rw [hi.2, Nat.zero_mul, Nat.one_mul, Nat.zero_add]

theorem blk6_at (c : Dev nD) (t : Fin cfg0.N) : row (iblk m c 6 t) 0 = fun k => inGain m c (ValueIdx.ix1 k) := by
  rw [← gain_at, ← V_v0]
  funext k
  unfold row iblk
  rw [View.read_apply]
  exact congrArg (V m c main_v0) (funext fun a => Fin.ext (by
    match a with
    | ⟨0, _⟩ => rfl
    | ⟨1, _⟩ => show 0 + 1 * k.val = k.val; omega))

theorem blk11_at (c : Dev nD) (t : Fin cfg0.N) : row (iblk m c 11 t) 0 = fun k => inPost m c (ValueIdx.ix1 k) := by
  rw [← post_at, ← V_v5]
  funext k
  unfold row iblk
  rw [View.read_apply]
  exact congrArg (V m c main_v5) (funext fun a => Fin.ext (by
    match a with
    | ⟨0, _⟩ => rfl
    | ⟨1, _⟩ => show 0 + 1 * k.val = k.val; omega))

theorem blk7_at (c : Dev nD) (t : Fin cfg0.N) : row (iblk m c 7 t) = row (inWf m c) := by
  funext a k
  rw [← V_v1]
  unfold row iblk
  rw [View.read_apply]
  exact congrArg (V m c main_v1) (funext fun b => Fin.ext (by
    match b with
    | ⟨0, _⟩ => show 0 + 1 * a.val = a.val; omega
    | ⟨1, _⟩ => show 0 + 1 * k.val = k.val; omega))

theorem blk8_at (c : Dev nD) (t : Fin cfg0.N) : row (iblk m c 8 t) = row (inWsc m c) := by
  funext a k
  rw [← V_v2]
  unfold row iblk
  rw [View.read_apply]
  exact congrArg (V m c main_v2) (funext fun b => Fin.ext (by
    match b with
    | ⟨0, _⟩ => show 0 + 1 * a.val = a.val; omega
    | ⟨1, _⟩ => show 0 + 1 * k.val = k.val; omega))

theorem blk9_at (c : Dev nD) (t : Fin cfg0.N) : row (iblk m c 9 t) = row (inWdn m c) := by
  funext a k
  rw [← V_v3]
  unfold row iblk
  rw [View.read_apply]
  exact congrArg (V m c main_v3) (funext fun b => Fin.ext (by
    match b with
    | ⟨0, _⟩ => show 0 + 1 * a.val = a.val; omega
    | ⟨1, _⟩ => show 0 + 1 * k.val = k.val; omega))

theorem blk10_at (c : Dev nD) (t : Fin cfg0.N) : row (iblk m c 10 t) = row (inWout m c) := by
  funext a k
  rw [← V_v4]
  unfold row iblk
  rw [View.read_apply]
  exact congrArg (V m c main_v4) (funext fun b => Fin.ext (by
    match b with
    | ⟨0, _⟩ => show 0 + 1 * a.val = a.val; omega
    | ⟨1, _⟩ => show 0 + 1 * k.val = k.val; omega))

/-- The end of the mixer on row `p` of the arguments. -/
def tokenAt (c : Dev nD) (p : Fin 33792) : Fin 1024 → EReal :=
  Rows.merge (row (inH m c) p) (row (inY m c) p) (row (inSc m c) p) (row (inDn m c) p) (row (inZ m c) p) (row (inGate m c) p)
    (fun k => inGain m c (ValueIdx.ix1 k)) (row (inWf m c)) (row (inWsc m c)) (row (inWdn m c)) (row (inWout m c))
    (fun k => inPost m c (ValueIdx.ix1 k))

theorem out_at (c : Dev nD) (t : Fin cfg0.N) (r k : Fin 1024) :
    (dats m 0 c).after 12 t (ValueIdx.ix2 r k) = tokenAt m c (src t.val r) k := by
  rw [after0_12]
  refine (tile_at _ _ _ _ _ _ _ _ _ _ _ _ r k).trans ?_
  rw [blk0_at, blk1_at, blk2_at, blk3_at, blk4_at, blk5_at, blk6_at, blk7_at, blk8_at, blk9_at, blk10_at, blk11_at]; rfl

/-- What the result array is shown to hold. -/
def result (c : Dev nD) : Buf (Elt Ideal) ((c : Thread nD τ).loc main_v6) :=
  fun i : S33792x1024.Idx => tokenAt m c (src ((i 0).val / 1024) ⟨(i 0).val % 1024, Nat.mod_lt _ (by decide)⟩) ⟨(i 1).val, (i 1).isLt⟩

theorem split_div (n r : ℕ) (h : r < 1024) : (n * 1024 + r) / 1024 = n := by omega
theorem split_mod (n r : ℕ) (h : r < 1024) : (n * 1024 + r) % 1024 = r := by omega

theorem flushed_eq (c : Dev nD) (t : Fin cfg0.N) (_ : (cfg0.win 12).flush t = true) :
    (dats m 0 c).flushed 12 t = ((cfg0.win 12).blk t).view.read (Elt Ideal) (result m c) := by
  have hi := index12 t
  show (cfg0.win 12).cut (grid0.coords t) ((dats m 0 c).after 12 t) = _
  funext j
  have hj0 : (j 0).val < 1024 := (j 0).isLt
  rw [View.read_apply]
  have e0 : win0_12.index t (0 : Fin 2) * 1024 + 1 * (j 0).val = t.val * 1024 + (j 0).val := by rw [hi.1, Nat.one_mul]
  have e1 : win0_12.index t (1 : Fin 2) * 1024 + 1 * (j 1).val = (j 1).val := by rw [hi.2, Nat.zero_mul, Nat.one_mul, Nat.zero_add]
  refine (show _ = (dats m 0 c).after 12 t (ValueIdx.ix2 ⟨(j 0).val, hj0⟩ ⟨(j 1).val, (j 1).isLt⟩) from ?_).trans ?_
  · exact congrArg ((dats m 0 c).after 12 t) (funext fun a => by match a with | ⟨0, _⟩ => rfl | ⟨1, _⟩ => rfl)
  · rw [out_at]
    show _ = tokenAt m c (src ((win0_12.index t (0 : Fin 2) * 1024 + 1 * (j 0).val) / 1024) ⟨(win0_12.index t (0 : Fin 2) * 1024 + 1 * (j 0).val) % 1024, _⟩)
      ⟨win0_12.index t (1 : Fin 2) * 1024 + 1 * (j 1).val, _⟩
    simp only [e0, e1]
    have d := split_div t.val (j 0).val hj0
    have d' := split_mod t.val (j 0).val hj0
    simp only [d, d']

theorem mem_blk (t : Fin cfg0.N) (i : S33792x1024.Idx) :
    i ∈ ((cfg0.win 12).blk t).view.set ↔ t.val * 1024 ≤ (i 0 : ℕ) ∧ (i 0 : ℕ) < t.val * 1024 + 1024 := by
  show i ∈ ((View.whole main_v6).slice (win0_12.rect t)).set ↔ _
  rw [View.set_slice_whole, Rect.mem_set_unit]
  have h1 : (i 1 : ℕ) < 1024 := (i 1).isLt
  have hi := index12 t
  refine ⟨fun h => ?_, fun h a => ?_⟩
  · have : win0_12.index t (0 : Fin 2) * 1024 ≤ (i 0 : ℕ) ∧ (i 0 : ℕ) < win0_12.index t (0 : Fin 2) * 1024 + 1024 := h 0
    rwa [hi.1] at this
  · match a with
    | ⟨0, _⟩ => show win0_12.index t (0 : Fin 2) * 1024 ≤ (i 0 : ℕ) ∧ (i 0 : ℕ) < win0_12.index t (0 : Fin 2) * 1024 + 1024; rw [hi.1]; exact h
    | ⟨1, _⟩ => show win0_12.index t (1 : Fin 2) * 1024 ≤ (i 1 : ℕ) ∧ (i 1 : ℕ) < win0_12.index t (1 : Fin 2) * 1024 + 1024; exact ⟨by rw [hi.2, Nat.zero_mul]; exact Nat.zero_le _, by rw [hi.2, Nat.zero_mul, Nat.zero_add]; exact h1⟩

theorem cover (i : S33792x1024.Idx) : ∃ t : Fin cfg0.N, (cfg0.win 12).flush t = true ∧ i ∈ ((cfg0.win 12).blk t).view.set := by
  have h0 : (i 0 : ℕ) < 33792 := (i 0).isLt
  have ht : (i 0 : ℕ) / 1024 < cfg0.N := by rw [show cfg0.N = 33 from N_0]; omega
  refine ⟨⟨(i 0 : ℕ) / 1024, ht⟩, flush12 _, ?_⟩
  rw [mem_blk]
  dsimp only
  omega

/-- The result array ends holding the end of the mixer on every row. -/
theorem final_out (c : Dev nD) : (dats m 0 c).arrAt 12 cfg0.N = result m c :=
  (dats m 0 c).arrAt_eq_of_cover 12 (result m c) (flushed_eq m c) cover

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h.1 c).1 12).trans (final_out m c), h.2 c⟩)
    (θ_run_and (run_main m ρ) (unchanged m ρ))

end Cert.Kernel4Ideal.Merge
end
end
-- ==== Proof.MergeRef.lean ====
module

public import proofs.«01_k».proof.Proof.MergeRows
public import proofs.«01_k».proof.Proof.Gen.Reference4Ideal.Run
public import proofs.«01_k».proof.Proof.Gen.Reference4Ideal.Read
public import Idealize.ShloMosaic.Lib.ValueIdxCore
public import Idealize.ShloMosaic.Lib.IdealHost

@[expose] public section

set_option maxRecDepth 16384

noncomputable section

namespace Cert.Reference4Ideal.Merge

open Idealize.ShloMosaic Idealize.ShloMosaic.ValueIdx
open Cert.Reference4Ideal Cert.Reference4Ideal.Read

variable (x0 : S33792x1024.Idx → EReal) (x1 x2 x3 x4 : S33792x512.Idx → EReal) (x5 : S33792x3072.Idx → EReal) (x6 : S128.Idx → EReal)
  (x7 x8 x9 : S512x1024.Idx → EReal) (x10 : S1024x1024.Idx → EReal) (x11 : S1024.Idx → EReal)

/-- A vector and a table read by their coordinates. -/
abbrev vec {a : ℕ} (g : (⟨1, ![a]⟩ : Shape).Idx → EReal) : Fin a → EReal := fun k => g (ix1 k)
abbrev mat {a b : ℕ} (w : (⟨2, ![a, b]⟩ : Shape).Idx → EReal) : Fin a → Fin b → EReal := fun i j => w (ix2 i j)

theorem v1_at (p : Fin 33792) (h : Fin 4) (j : Fin 128) : val_main_v1 (F := Ideal) x3 (ix3 p h j) = Rows.part (mat x3 p) h.val j := by
  rw [val_main_v1_apply, val_main_v0_apply]
  have hh := h.isLt
  have hj := j.isLt
  show x3 _ = x3 _
  refine congrArg x3 (funext fun a => Fin.ext ?_)
  match a with
  | ⟨0, _⟩ => show ((p.val * 4 + h.val) * 128 + j.val) / 512 = p.val; omega
  | ⟨1, _⟩ => show ((p.val * 4 + h.val) * 128 + j.val) % 512 = (128 * h.val + j.val) % 512; omega

theorem v16_at (p : Fin 33792) (h : Fin 4) (j : Fin 128) : val_main_v16 (F := Ideal) x4 (ix3 p h j) = Rows.part (mat x4 p) h.val j := by
  rw [val_main_v16_apply, val_main_v15_apply]
  have hh := h.isLt
  have hj := j.isLt
  show x4 _ = x4 _
  refine congrArg x4 (funext fun a => Fin.ext ?_)
  match a with
  | ⟨0, _⟩ => show ((p.val * 4 + h.val) * 128 + j.val) / 512 = p.val; omega
  | ⟨1, _⟩ => show ((p.val * 4 + h.val) * 128 + j.val) % 512 = (128 * h.val + j.val) % 512; omega

theorem v26_at (p : Fin 33792) (b : Fin 3) (j : Fin 1024) : val_main_v26 (F := Ideal) x5 (ix3 p b j) = Rows.third (mat x5 p) b.val j := by
  rw [val_main_v26_apply, val_main_v25_apply]
  have hh := b.isLt
  have hj := j.isLt
  show x5 _ = x5 _
  refine congrArg x5 (funext fun a => Fin.ext ?_)
  match a with
  | ⟨0, _⟩ => show ((p.val * 3 + b.val) * 1024 + j.val) / 3072 = p.val; omega
  | ⟨1, _⟩ => show ((p.val * 3 + b.val) * 1024 + j.val) % 3072 = (1024 * b.val + j.val) % 3072; omega

/-! ## The heads -/

theorem v9_at (p : Fin 33792) (h : Fin 4) : val_main_v9 (F := Ideal) x3 (ix3 p h (0 : Fin 1)) = Rows.hscale (Rows.part (mat x3 p) h.val) := by
  rw [val_main_v9_apply, val_main_v8_apply, val_main_v7_apply, val_main_cst_1_apply, val_main_v6_apply, val_main_v5_apply,
    val_main_cst_0_apply, val_main_v4_apply, val_main_v3_apply]
  have e : ∀ k : Fin 128, val_main_v2 (F := Ideal) x3 (idx_main_v3 (idx_main_v4 (ix3 p h (0 : Fin 1))) k)
      = Rows.part (mat x3 p) h.val k * Rows.part (mat x3 p) h.val k := fun k => by
    rw [val_main_v2_apply, show idx_main_v3 (idx_main_v4 (ix3 p h (0 : Fin 1))) k = ix3 p h k from
      funext fun a => by match a with | ⟨0, _⟩ => rfl | ⟨1, _⟩ => rfl | ⟨2, _⟩ => rfl, v1_at]; rfl
  simp only [e]
  rw [val_main_cst_apply]
  show Ideal.rsqrt (Ideal.div (Ideal.ofBits .f32 0x00000000#32 + _) _ + _) = _
  rw [Ideal.ofBits_zero_f32, zero_add]; rfl

theorem v18_at (p : Fin 33792) (h : Fin 4) (j : Fin 128) :
    val_main_v18 (F := Ideal) x3 x4 x6 (ix3 p h j) = Rows.head (Rows.part (mat x3 p) h.val) (Rows.part (mat x4 p) h.val) (vec x6) j := by
  rw [val_main_v18_apply, val_main_v14_apply, val_main_v13_apply, val_main_v12_apply, val_main_v11_apply, val_main_v10_apply, v1_at,
    show idx_main_v10 (ix3 p h j) = ix3 p h (0 : Fin 1) from
      funext fun a => by match a with | ⟨0, _⟩ => rfl | ⟨1, _⟩ => rfl | ⟨2, _⟩ => rfl, v9_at,
    show idx_main_v12 (idx_main_v13 (ix3 p h j)) = ix1 j from funext fun a => by match a with | ⟨0, _⟩ => rfl,
    val_main_v17_apply, val_main_call0_v5_apply, val_main_call0_v4_apply, val_main_call0_cst_0_apply,
    val_main_call0_v3_apply, val_main_call0_v2_apply, val_main_call0_cst_apply, val_main_call0_v1_apply, val_main_call0_v0_apply, v16_at]
  show _ * (_ * Ideal.div (Ideal.ofBits .f32 0x3F800000#32) (Ideal.ofBits .f32 0x3F800000#32 + Ideal.exp (-_))) = _
  rw [Ideal.ofBits_one_f32]; rfl

theorem v23_at (p : Fin 33792) (k : Fin 512) :
    val_main_v23 (F := Ideal) x3 x4 x6 (ix2 p k) = Rows.heads (mat x3 p) (mat x4 p) (vec x6) k := by
  have hk := k.isLt
  rw [val_main_v23_apply, show idx_main_v23 (ix2 p k) = ix3 p (⟨k.val / 128, by omega⟩ : Fin 4) (⟨k.val % 128, Nat.mod_lt _ (by decide)⟩ : Fin 128) from
    funext fun a => Fin.ext (by
      match a with
      | ⟨0, _⟩ => show (p.val * 512 + k.val) / 512 = p.val; omega
      | ⟨1, _⟩ => show (p.val * 512 + k.val) / 128 % 4 = k.val / 128; omega
      | ⟨2, _⟩ => show (p.val * 512 + k.val) % 128 = k.val % 128; omega), v18_at]
  rfl

/-! ## The branches -/

theorem v20_at (p : Fin 33792) (k : Fin 1024) : val_main_v20 (F := Ideal) x1 x7 (ix2 p k) = Rows.dot (mat x1 p) (mat x7) k := by
  rw [val_main_v20_apply]
  refine Finset.sum_congr rfl fun a _ => ?_
  rw [show lidx_main_v20 (ix2 p k) a = ix2 p a from funext fun a => by match a with | ⟨0, _⟩ => rfl | ⟨1, _⟩ => rfl,
    show ridx_main_v20 (ix2 p k) a = ix2 a k from funext fun a => by match a with | ⟨0, _⟩ => rfl | ⟨1, _⟩ => rfl, val_main_v19_apply]
  rfl

theorem v22_at (p : Fin 33792) (k : Fin 1024) : val_main_v22 (F := Ideal) x2 x8 (ix2 p k) = Rows.dot (mat x2 p) (mat x8) k := by
  rw [val_main_v22_apply]
  refine Finset.sum_congr rfl fun a _ => ?_
  rw [show lidx_main_v22 (ix2 p k) a = ix2 p a from funext fun a => by match a with | ⟨0, _⟩ => rfl | ⟨1, _⟩ => rfl,
    show ridx_main_v22 (ix2 p k) a = ix2 a k from funext fun a => by match a with | ⟨0, _⟩ => rfl | ⟨1, _⟩ => rfl, val_main_v21_apply]
  rfl

theorem v24_at (p : Fin 33792) (k : Fin 1024) :
    val_main_v24 (F := Ideal) x3 x4 x6 x9 (ix2 p k) = Rows.dot (Rows.heads (mat x3 p) (mat x4 p) (vec x6)) (mat x9) k := by
  rw [val_main_v24_apply]
  refine Finset.sum_congr rfl fun a _ => ?_
  rw [show lidx_main_v24 (ix2 p k) a = ix2 p a from funext fun a => by match a with | ⟨0, _⟩ => rfl | ⟨1, _⟩ => rfl,
    show ridx_main_v24 (ix2 p k) a = ix2 a k from funext fun a => by match a with | ⟨0, _⟩ => rfl | ⟨1, _⟩ => rfl, v23_at]

theorem v28_at (p : Fin 33792) (k : Fin 1024) : val_main_v28 (F := Ideal) x5 (ix2 p k) = Rows.third (mat x5 p) 0 k := by
  have hk := k.isLt
  rw [val_main_v28_apply, val_main_v27_apply, show idx_main_v27 (idx_main_v28 (ix2 p k)) = ix3 p (0 : Fin 3) k from
    funext fun a => Fin.ext (by
      match a with
      | ⟨0, _⟩ => show (p.val * 1024 + k.val) / 1024 = p.val; omega
      | ⟨1, _⟩ => rfl
      | ⟨2, _⟩ => show (p.val * 1024 + k.val) % 1024 = k.val; omega), v26_at]
  rfl

theorem v31_at (p : Fin 33792) (k : Fin 1024) : val_main_v31 (F := Ideal) x5 (ix2 p k) = Rows.third (mat x5 p) 1 k := by
  have hk := k.isLt
  rw [val_main_v31_apply, val_main_v30_apply, show idx_main_v30 (idx_main_v31 (ix2 p k)) = ix3 p (1 : Fin 3) k from
    funext fun a => Fin.ext (by
      match a with
      | ⟨0, _⟩ => show (p.val * 1024 + k.val) / 1024 = p.val; omega
      | ⟨1, _⟩ => rfl
      | ⟨2, _⟩ => show (p.val * 1024 + k.val) % 1024 = k.val; omega), v26_at]
  rfl

theorem v35_at (p : Fin 33792) (k : Fin 1024) : val_main_v35 (F := Ideal) x5 (ix2 p k) = Rows.third (mat x5 p) 2 k := by
  have hk := k.isLt
  rw [val_main_v35_apply, val_main_v34_apply, show idx_main_v34 (idx_main_v35 (ix2 p k)) = ix3 p (2 : Fin 3) k from
    funext fun a => Fin.ext (by
      match a with
      | ⟨0, _⟩ => show (p.val * 1024 + k.val) / 1024 = p.val; omega
      | ⟨1, _⟩ => rfl
      | ⟨2, _⟩ => show (p.val * 1024 + k.val) % 1024 = k.val; omega), v26_at]
  rfl

theorem v37_at (p : Fin 33792) (k : Fin 1024) : val_main_v37 (F := Ideal) x1 x2 x3 x4 x5 x6 x7 x8 x9 (ix2 p k)
    = Rows.merged (mat x1 p) (mat x2 p) (Rows.heads (mat x3 p) (mat x4 p) (vec x6)) (mat x5 p) (mat x7) (mat x8) (mat x9) k := by
  rw [val_main_v37_apply, val_main_v33_apply, val_main_v36_apply, val_main_v29_apply, val_main_v32_apply, v28_at, v31_at, v35_at,
    v20_at, v22_at, v24_at]
  rfl

/-- What a token's branch ends in, before it is normalised. -/
abbrev branch (p : Fin 33792) : Fin 1024 → EReal :=
  Rows.dot (Rows.merged (mat x1 p) (mat x2 p) (Rows.heads (mat x3 p) (mat x4 p) (vec x6)) (mat x5 p) (mat x7) (mat x8) (mat x9)) (mat x10)

theorem v38_at (p : Fin 33792) (k : Fin 1024) :
    val_main_v38 (F := Ideal) x1 x2 x3 x4 x5 x6 x7 x8 x9 x10 (ix2 p k) = branch x1 x2 x3 x4 x5 x6 x7 x8 x9 x10 p k := by
  rw [val_main_v38_apply]
  refine Finset.sum_congr rfl fun a _ => ?_
  rw [show lidx_main_v38 (ix2 p k) a = ix2 p a from funext fun a => by match a with | ⟨0, _⟩ => rfl | ⟨1, _⟩ => rfl,
    show ridx_main_v38 (ix2 p k) a = ix2 a k from funext fun a => by match a with | ⟨0, _⟩ => rfl | ⟨1, _⟩ => rfl, v37_at]

theorem v46_at (p : Fin 33792) :
    val_main_v46 (F := Ideal) x1 x2 x3 x4 x5 x6 x7 x8 x9 x10 (ix2 p (0 : Fin 1)) = Rows.scale (branch x1 x2 x3 x4 x5 x6 x7 x8 x9 x10 p) := by
  rw [val_main_v46_apply, val_main_v45_apply, val_main_v44_apply, val_main_cst_4_apply, val_main_v43_apply, val_main_v42_apply,
    val_main_cst_3_apply, val_main_v41_apply, val_main_v40_apply]
  have e : ∀ k : Fin 1024, val_main_v39 (F := Ideal) x1 x2 x3 x4 x5 x6 x7 x8 x9 x10 (idx_main_v40 (idx_main_v41 (ix2 p (0 : Fin 1))) k)
      = branch x1 x2 x3 x4 x5 x6 x7 x8 x9 x10 p k * branch x1 x2 x3 x4 x5 x6 x7 x8 x9 x10 p k := fun k => by
    rw [val_main_v39_apply, show idx_main_v40 (idx_main_v41 (ix2 p (0 : Fin 1))) k = ix2 p k from
      funext fun a => by match a with | ⟨0, _⟩ => rfl | ⟨1, _⟩ => rfl, v38_at]; rfl
  simp only [e]
  rw [val_main_cst_2_apply]
  show Ideal.rsqrt (Ideal.div (Ideal.ofBits .f32 0x00000000#32 + _) _ + _) = _
  rw [Ideal.ofBits_zero_f32, zero_add]; rfl

/-- The reference's result, at a token: the end of the mixer on it. -/
theorem v52_at (p : Fin 33792) (k : Fin 1024) : val_main_v52 (F := Ideal) x0 x1 x2 x3 x4 x5 x6 x7 x8 x9 x10 x11 (ix2 p k)
    = Rows.merge (mat x0 p) (mat x1 p) (mat x2 p) (mat x3 p) (mat x4 p) (mat x5 p) (vec x6) (mat x7) (mat x8) (mat x9) (mat x10) (vec x11) k := by
  rw [val_main_v52_apply, val_main_v51_apply, val_main_v50_apply, val_main_v49_apply, val_main_v48_apply, val_main_v47_apply, v38_at,
    show idx_main_v47 (ix2 p k) = ix2 p (0 : Fin 1) from funext fun a => by match a with | ⟨0, _⟩ => rfl | ⟨1, _⟩ => rfl, v46_at,
    show idx_main_v49 (idx_main_v50 (ix2 p k)) = ix1 k from funext fun a => by match a with | ⟨0, _⟩ => rfl]
  rfl

end Cert.Reference4Ideal.Merge
end
end
-- ==== Proof.MergeEqual.lean ====
module

public import proofs.«01_k».proof.Proof.MergeRun
public import proofs.«01_k».proof.Proof.MergeRef

@[expose] public section

set_option maxRecDepth 16384

noncomputable section

namespace Cert.Equal4

open Idealize.ShloMosaic Idealize.ShloMosaic.TcCoe

/-- Row `i` is row `i % 1024` of tile `i / 1024`. -/
theorem row_eq (i : ℕ) (h : i < 33792) : (i / 1024 * 1024 + i % 1024) % 33792 = i := by omega

theorem reference_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) :
    Cert.Reference4Ideal.Value.res_main_v52 m' c = Cert.Kernel4Ideal.Merge.result m c := by
  obtain ⟨h0, h1, h2, h3, h4, h5, h6, h7, h8, h9, h10, h11⟩ := h
  refine (Cert.Reference4Ideal.Read.val_main_v52_eq m' c).trans ?_
  rw [h0, h1, h2, h3, h4, h5, h6, h7, h8, h9, h10, h11]
  funext i
  obtain ⟨r, k, rfl⟩ : ∃ (r : Fin 33792) (k : Fin 1024), i = ValueIdx.ix2 r k := ⟨i 0, i 1, ValueIdx.eq_ix2 i⟩
  refine (Cert.Reference4Ideal.Merge.v52_at _ _ _ _ _ _ _ _ _ _ _ _ r k).trans ?_
  have e : Cert.Kernel4Ideal.Merge.src (r.val / 1024) ⟨r.val % 1024, Nat.mod_lt _ (by decide)⟩ = r := Fin.ext (row_eq r.val r.isLt)
  show _ = Cert.Kernel4Ideal.Merge.tokenAt m c (Cert.Kernel4Ideal.Merge.src (r.val / 1024) ⟨r.val % 1024, _⟩) k
  rw [e]; rfl

end Cert.Equal4
end
end
-- ==== Proof.InPoints.lean ====
/- What the run of the input-projection kernel shares between its points: which branches a point takes, the staging
   buffers, and what a point computes from the blocks it is given. -/
module

public import proofs.«01_k».proof.Proof.Gen.Kernel5Ideal.Frame
public import proofs.«01_k».proof.Proof.Gen.Kernel5Ideal.Skeleton
public import Idealize.ShloMosaic.Lib.Pipeline.Value
public import Idealize.ShloMosaic.Lib.ValueIdxCore

@[expose] public section

set_option maxRecDepth 16384

noncomputable section

namespace Cert.Kernel5Ideal.Inproj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-! ## Which branches a point takes -/

/-- The grid coordinate as the body gets it. -/
abbrev word (i : grid0.Coords) : BitVec 32 := BitVec.ofNat 32 (i 0).val

/-- The first point, which clears the scratch buffer. -/
abbrev isFirst (i : grid0.Coords) : Prop :=
  (Scalar.cmpi .ne (Scalar.extui (Scalar.cmpi .eq (BitVec.ofNat 32 (i 0).val) 0#32)) 0#32) = 1#1
/-- A point with a tile of its own. -/
abbrev isTile (i : grid0.Coords) : Prop := k0_cond2 i = 1#1
/-- The point after the last tile. -/
abbrev isLast (i : grid0.Coords) : Prop := k0_cond3 i = 1#1

theorem isFirst_iff (t : Fin cfg0.N) : isFirst (grid0.coords t) ↔ t.val = 0 :=
  (by decide +kernel : ∀ t : Fin grid0.N, isFirst (grid0.coords t) ↔ t.val = 0) t
theorem isTile_iff (t : Fin cfg0.N) : isTile (grid0.coords t) ↔ t.val ≠ 33 :=
  (by decide +kernel : ∀ t : Fin grid0.N, isTile (grid0.coords t) ↔ t.val ≠ 33) t
theorem isLast_iff (t : Fin cfg0.N) : isLast (grid0.coords t) ↔ t.val = 33 :=
  (by decide +kernel : ∀ t : Fin grid0.N, isLast (grid0.coords t) ↔ t.val = 33) t

/-! ## The buffers a point works on -/

abbrev buf0 (t : Fin cfg0.N) : Memref sig .tc .vmem S1024x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S8x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S8x1024 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1024 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x4096 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S1024x128 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S1024x3072 .bf16 := win0_6.stage (cfg0.slots t 6)
abbrev whole6 (t : Fin cfg0.N) : (buf6 t).IsWhole := hstage0_6 ((cfg0.slots t 6).cast nbuf0_6)
abbrev buf7 (t : Fin cfg0.N) : Memref sig .tc .vmem S512x1024 .bf16 := win0_7.stage (cfg0.slots t 7)
abbrev whole7 (t : Fin cfg0.N) : (buf7 t).IsWhole := hstage0_7 ((cfg0.slots t 7).cast nbuf0_7)
abbrev buf8 (t : Fin cfg0.N) : Memref sig .tc .vmem S3x512 .f32 := win0_8.stage (cfg0.slots t 8)
abbrev whole8 (t : Fin cfg0.N) : (buf8 t).IsWhole := hstage0_8 ((cfg0.slots t 8).cast nbuf0_8)
abbrev buf9 (t : Fin cfg0.N) : Memref sig .tc .vmem S3x1536 .f32 := win0_9.stage (cfg0.slots t 9)
abbrev whole9 (t : Fin cfg0.N) : (buf9 t).IsWhole := hstage0_9 ((cfg0.slots t 9).cast nbuf0_9)
abbrev buf10 (t : Fin cfg0.N) : Memref sig .tc .vmem S8x128 .f32 := win0_10.stage (cfg0.slots t 10)
abbrev whole10 (t : Fin cfg0.N) : (buf10 t).IsWhole := hstage0_10 ((cfg0.slots t 10).cast nbuf0_10)
abbrev buf11 (t : Fin cfg0.N) : Memref sig .tc .vmem S1024x1024 .bf16 := win0_11.stage (cfg0.slots t 11)
abbrev whole11 (t : Fin cfg0.N) : (buf11 t).IsWhole := hstage0_11 ((cfg0.slots t 11).cast nbuf0_11)
abbrev buf12 (t : Fin cfg0.N) : Memref sig .tc .vmem S1024x512 .bf16 := win0_12.stage (cfg0.slots t 12)
abbrev whole12 (t : Fin cfg0.N) : (buf12 t).IsWhole := hstage0_12 ((cfg0.slots t 12).cast nbuf0_12)
abbrev buf13 (t : Fin cfg0.N) : Memref sig .tc .vmem S1024x1536 .bf16 := win0_13.stage (cfg0.slots t 13)
abbrev whole13 (t : Fin cfg0.N) : (buf13 t).IsWhole := hstage0_13 ((cfg0.slots t 13).cast nbuf0_13)
abbrev buf14 (t : Fin cfg0.N) : Memref sig .tc .vmem S1024x512 .bf16 := win0_14.stage (cfg0.slots t 14)
abbrev whole14 (t : Fin cfg0.N) : (buf14 t).IsWhole := hstage0_14 ((cfg0.slots t 14).cast nbuf0_14)
abbrev buf15 (t : Fin cfg0.N) : Memref sig .tc .vmem S1024x128 .f32 := win0_15.stage (cfg0.slots t 15)
abbrev whole15 (t : Fin cfg0.N) : (buf15 t).IsWhole := hstage0_15 ((cfg0.slots t 15).cast nbuf0_15)
abbrev buf16 (t : Fin cfg0.N) : Memref sig .tc .vmem S1024x3072 .bf16 := win0_16.stage (cfg0.slots t 16)
abbrev whole16 (t : Fin cfg0.N) : (buf16 t).IsWhole := hstage0_16 ((cfg0.slots t 16).cast nbuf0_16)
abbrev keep : Memref sig .tc .vmem S1024x128 .f32 := Memref.whole cc0_scratch0

/-! ## What a point computes -/

/-- The projection's columns the two neighbouring rows are needed for. -/
def wHalo (x4 : Vec F S1024x4096 .bf16) : Vec F S1024x3072 .bf16 :=
  View.ld x4 (Rect.unit (s := S1024x4096) ![0, 512] S1024x3072.size inb_S1024x4096_S1024x3072_0_512)
/-- The Fourier columns, -/
def wFourier (x4 : Vec F S1024x4096 .bf16) : Vec F S1024x512 .bf16 :=
  View.ld x4 (Rect.unit (s := S1024x4096) ![0, 0] S1024x512.size inb_S1024x4096_S1024x512_0_0)
/-- the short convolution's, -/
def wShort (x4 : Vec F S1024x4096 .bf16) : Vec F S1024x1536 .bf16 :=
  View.ld x4 (Rect.unit (s := S1024x4096) ![0, 512] S1024x1536.size inb_S1024x4096_S1024x1536_0_512)
/-- the delta network's, -/
def wDelta (x4 : Vec F S1024x4096 .bf16) : Vec F S1024x1536 .bf16 :=
  View.ld x4 (Rect.unit (s := S1024x4096) ![0, 2048] S1024x1536.size inb_S1024x4096_S1024x1536_0_2048)
/-- and its output gate's. -/
def wOut (x4 : Vec F S1024x4096 .bf16) : Vec F S1024x512 .bf16 :=
  View.ld x4 (Rect.unit (s := S1024x4096) ![0, 3584] S1024x512.size inb_S1024x4096_S1024x512_0_3584)

/-- The projected row before the tile, zero before the first. -/
def prevOf (i : grid0.Coords) (x1 x2 : Vec F S8x1024 .f32) (x3 : Vec F S1x1024 .f32) (x4 : Vec F S1024x4096 .bf16) : FVec F S1x3072 .f32 :=
  k0_pay8 (word i) x3 x1 x2 (wHalo x4)
/-- The projected row after the tile, zero after the last. -/
def nextOf (i : grid0.Coords) (x1 x2 : Vec F S8x1024 .f32) (x3 : Vec F S1x1024 .f32) (x4 : Vec F S1024x4096 .bf16) : FVec F S1x3072 .f32 :=
  k0_pay9 (k0_pay7 x3 x1 x2 (wHalo x4)) (Scalar.cmpi .slt (word i) 32#32)

/-- The Fourier features times their matrix. -/
def abOf (x0 : Vec F S1024x1024 .f32) (x3 : Vec F S1x1024 .f32) (x4 : Vec F S1024x4096 .bf16) (x7 : Vec F S512x1024 .bf16) : Vec F S1024x1024 .bf16 :=
  k0_pay24 (k0_pay10 (k0_pay6 x3 x0) (wFourier x4)) x7
/-- The gated short convolution. -/
def scOf (p n : FVec F S1x3072 .f32) (x0 : Vec F S1024x1024 .f32) (x3 : Vec F S1x1024 .f32) (x4 : Vec F S1024x4096 .bf16) (x8 : Vec F S3x512 .f32) : Vec F S1024x512 .bf16 :=
  k0_pay44 (k0_pay40 (k0_pay6 x3 x0) (wShort x4)) (k0_pay41 p) (k0_pay42 n) (k0_pay43 (k0_pay6 x3 x0) (wShort x4)) x8

/-- Head `k` (128 columns) of the convolved query, key and value columns. -/
def headOf (p n : FVec F S1x3072 .f32) (u : FVec F S1024x1536 .f32) (w : Vec F S3x1536 .f32) (k : ℕ) : FVec F S1024x128 .bf16 :=
  match k with
  | 0 => k0_pay76 p n u w
  | 1 => k0_pay77 (k0_pay75 p n u w)
  | 2 => k0_pay78 (k0_pay75 p n u w)
  | 3 => k0_pay79 (k0_pay75 p n u w)
  | 4 => k0_pay80 (k0_pay75 p n u w)
  | 5 => k0_pay81 (k0_pay75 p n u w)
  | 6 => k0_pay82 (k0_pay75 p n u w)
  | 7 => k0_pay83 (k0_pay75 p n u w)
  | 8 => k0_pay84 (k0_pay75 p n u w)
  | 9 => k0_pay85 (k0_pay75 p n u w)
  | 10 => k0_pay86 (k0_pay75 p n u w)
  | _ => k0_pay87 (k0_pay75 p n u w)
/-- The convolved query, key and value columns. -/
def qkvOf (p n : FVec F S1x3072 .f32) (x0 : Vec F S1024x1024 .f32) (x3 : Vec F S1x1024 .f32) (x4 : Vec F S1024x4096 .bf16) (x9 : Vec F S3x1536 .f32) : Vec F S1024x1536 .bf16 :=
  fun i => headOf p n (k0_pay59 (k0_pay6 x3 x0) (wDelta x4)) x9 ((i 1).val / 128)
    (ix2 ⟨(i 0).val, (i 0).isLt⟩ ⟨(i 1).val % 128, Nat.mod_lt _ (by decide)⟩)
/-- The output gate's columns. -/
def zOf (x0 : Vec F S1024x1024 .f32) (x3 : Vec F S1x1024 .f32) (x4 : Vec F S1024x4096 .bf16) : Vec F S1024x512 .bf16 :=
  k0_pay2 (k0_pay6 x3 x0) (wOut x4)
/-- The stream gates. -/
def gateOf (x0 : Vec F S1024x1024 .f32) (x3 : Vec F S1x1024 .f32) (x6 : Vec F S1024x3072 .bf16) : Vec F S1024x3072 .bf16 :=
  k0_pay3 (k0_pay6 x3 x0) x6
/-- The logits kept for the next point. -/
def lgOf (x0 : Vec F S1024x1024 .f32) (x3 : Vec F S1x1024 .f32) (x5 : Vec F S1024x128 .bf16) : Vec F S1024x128 .f32 :=
  k0_pay147 (k0_pay6 x3 x0) x5

/-- Where in its padded sequence each of the 128 rows from offset `off` of a tile lies. -/
def posOf (tile off : BitVec 32) : IVec S128x1 32 :=
  have v57 : IVec S128x1 32 := iota .tc S128x1 32 [0] iota_S128x1_d0_w32
  let v59 : BitVec 32 := Scalar.maxsi tile 0#32
  let v60 : BitVec 32 := Scalar.muli v59 1024#32
  let v61 : BitVec 32 := Scalar.addi v60 off
  have v62 : IVec S128x1 32 := broadcast S128x1 v61
  have v63 : IVec S128x1 32 := addi v62 v57
  let v64 : BitVec 32 := Scalar.divsi v60 4224#32
  let v65 : BitVec 1 := Scalar.cmpi .sgt v60 0#32
  let v66 : BitVec 32 := Scalar.extui v65
  let v67 : BitVec 1 := Scalar.cmpi .slt v60 0#32
  let v68 : BitVec 32 := Scalar.extui v67
  let v69 : BitVec 32 := Scalar.subi v66 v68
  let v70 : BitVec 1 := Scalar.cmpi .sgt 4224#32 0#32
  let v71 : BitVec 32 := Scalar.extui v70
  let v72 : BitVec 1 := Scalar.cmpi .slt 4224#32 0#32
  let v73 : BitVec 32 := Scalar.extui v72
  let v74 : BitVec 32 := Scalar.subi v71 v73
  let v75 : BitVec 1 := Scalar.cmpi .ne v69 v74
  let v76 : BitVec 32 := Scalar.remsi v60 4224#32
  let v77 : BitVec 1 := Scalar.cmpi .ne v76 0#32
  let v78 : BitVec 1 := Scalar.andi v75 v77
  let v79 : BitVec 32 := Scalar.subi v64 1#32
  let v80 : BitVec 32 := Scalar.select v78 v79 v64
  let v81 : BitVec 32 := Scalar.muli v80 4224#32
  have v82 : IVec S128x1 32 := broadcast S128x1 v81
  have v83 : IVec S128x1 32 := subi v63 v82
  have v84 : IVec S128x1 32 := broadcast S128x1 4224#32
  have v85 : IVec S128x1 1 := cmpi .sge v83 v84
  have v86 : IVec S128x1 32 := broadcast S128x1 4224#32
  have v87 : IVec S128x1 32 := subi v83 v86
  have v88 : IVec S128x1 32 := select v85 v87 v83
  v88

/-- The decays of 128 rows: the two betas, then the prefix and the suffix sums of the log decays in chunks of 64. -/
def decays (pos : IVec S128x1 32) (lg : Vec F S128x128 .f32) (a b : Vec F S1x128 .f32) : FVec F S128x128 .f32 :=
  have rows : IVec S128x1 32 := iota .tc S128x1 32 [0] iota_S128x1_d0_w32
  have lane : IVec S1x128 32 := iota .tc S1x128 32 [1] iota_S1x128_d1_w32
  have bg : FVec F S128x128 .f32 := k0_pay12 lg lane pos a b
  have rc : IVec S128x1 32 := k0_pay13 rows
  have pre : FVec F S128x128 .f32 := k0_pay16 bg rc (k0_pay14 lg lane pos a b) (Scalar.ofBits .f32 0x00000000#32) (k0_pay15 rows)
  have suf : FVec F S128x128 .f32 := k0_pay17 bg rc
  k0_pay23 lane bg (k0_pay19 rc suf) (k0_pay20 rc pre k0_pay18) (k0_pay21 rc suf) (Scalar.ofBits .f32 0x00000000#32) (k0_pay22 rc)

/-- Rows `128 k .. 128 k + 127` of the logits. -/
def slab (x : Vec F S1024x128 .f32) (k : ℕ) : Vec F S128x128 .f32 :=
  fun j => x (ix2 ⟨(128 * k + (j 0).val) % 1024, Nat.mod_lt _ (by decide)⟩ ⟨(j 1).val, (j 1).isLt⟩)
/-- The decay parameters' two rows. -/
def par0 (x10 : Vec F S8x128 .f32) : Vec F S1x128 .f32 :=
  View.ld x10 (Rect.unit (s := S8x128) ![0, 0] S1x128.size inb_S8x128_S1x128_0_0)
def par1 (x10 : Vec F S8x128 .f32) : Vec F S1x128 .f32 :=
  View.ld x10 (Rect.unit (s := S8x128) ![1, 0] S1x128.size inb_S8x128_S1x128_1_0)

/-- The decays of a tile, 128 rows at a time. -/
def dncOf (tile : BitVec 32) (lg : Vec F S1024x128 .f32) (x10 : Vec F S8x128 .f32) : Vec F S1024x128 .f32 :=
  fun i => decays (posOf tile (BitVec.ofNat 32 (128 * ((i 0).val / 128)))) (slab lg ((i 0).val / 128)) (par0 x10) (par1 x10)
    (ix2 ⟨(i 0).val % 128, Nat.mod_lt _ (by decide)⟩ ⟨(i 1).val, (i 1).isLt⟩)

/-! ## What the stores of a point leave is that -/

theorem ld_slab (x : Vec F S1024x128 .f32) (k : ℕ) (hk : k < 8)
    (inb : ∀ a, (![128 * k, 0] : Fin 2 → ℕ) a + S128x128.size a ≤ S1024x128.size a) :
    View.ld x (Rect.unit (s := S1024x128) ![128 * k, 0] S128x128.size inb) = slab x k := by
  funext j
  unfold slab
  refine congrArg x (funext fun a => ?_)
  have hj : (j 0).val < 128 := (j 0).isLt
  match a with
  | ⟨0, _⟩ => exact Fin.ext (show 128 * k + 1 * (j 0).val = (128 * k + (j 0).val) % 1024 by omega)
  | ⟨1, _⟩ => exact Fin.ext (show 0 + 1 * (j 1).val = (j 1).val by omega)

theorem decays_piece (tile : BitVec 32) (lg : Vec F S1024x128 .f32) (x10 : Vec F S8x128 .f32) (k : ℕ) (hk : k < 8)
    (inb : ∀ a, (![128 * k, 0] : Fin 2 → ℕ) a + S128x128.size a ≤ S1024x128.size a) (v : FVec F S128x128 .f32)
    (hv : v = decays (posOf tile (BitVec.ofNat 32 (128 * k)))
      (View.ld lg (Rect.unit (s := S1024x128) ![128 * k, 0] S128x128.size inb)) (par0 x10) (par1 x10)) (j : S128x128.Idx) :
    v j = dncOf tile lg x10 ((Rect.unit (s := S1024x128) ![128 * k, 0] S128x128.size inb).emb j) := by
  have hj : (j 0).val < 128 := (j 0).isLt
  have e0 : (128 * k + 1 * (j 0).val) / 128 = k := by omega
  rw [hv, ld_slab lg k hk inb]
  show _ = decays (posOf tile (BitVec.ofNat 32 (128 * ((128 * k + 1 * (j 0).val) / 128)))) (slab lg ((128 * k + 1 * (j 0).val) / 128)) _ _ _
  rw [e0]
  refine congrArg _ (funext fun a => ?_)
  match a with
  | ⟨0, _⟩ => exact Fin.ext (show (j 0).val = (128 * k + 1 * (j 0).val) % 128 by omega)
  | ⟨1, _⟩ => exact Fin.ext (show (j 1).val = 0 + 1 * (j 1).val by omega)

theorem head_piece (p n : FVec F S1x3072 .f32) (x0 : Vec F S1024x1024 .f32) (x3 : Vec F S1x1024 .f32) (x4 : Vec F S1024x4096 .bf16) (x9 : Vec F S3x1536 .f32) (k : ℕ) (hk : k < 12)
    (inb : ∀ a, (![0, 128 * k] : Fin 2 → ℕ) a + S1024x128.size a ≤ S1024x1536.size a) (j : S1024x128.Idx) :
    headOf p n (k0_pay59 (k0_pay6 x3 x0) (wDelta x4)) x9 k j
      = qkvOf p n x0 x3 x4 x9 ((Rect.unit (s := S1024x1536) ![0, 128 * k] S1024x128.size inb).emb j) := by
  have hj : (j 1).val < 128 := (j 1).isLt
  have e0 : (128 * k + 1 * (j 1).val) / 128 = k := by omega
  show _ = headOf p n (k0_pay59 (k0_pay6 x3 x0) (wDelta x4)) x9 ((128 * k + 1 * (j 1).val) / 128) _
  rw [e0]
  refine congrArg _ (funext fun a => ?_)
  match a with
  | ⟨0, _⟩ => exact Fin.ext (show (j 0).val = 0 + 1 * (j 0).val by omega)
  | ⟨1, _⟩ => exact Fin.ext (show (j 1).val = (128 * k + 1 * (j 1).val) % 128 by omega)

/-- The offsets of a store of a whole buffer. -/
theorem offsets_zero : (![0, 0] : Fin 2 → ℕ) = fun _ => 0 := by funext a; match a with | ⟨0, _⟩ => rfl | ⟨1, _⟩ => rfl

/-- A load of part of a buffer just stored whole reads that part of what was stored. -/
theorem readCov_part {S : Shape} {e : EltTy} (v : View sig .tc .vmem S e) {off : Fin S.rank → ℕ} (h : off = fun _ => 0)
    (inb : ∀ a, off a + S.size a ≤ S.size a) (w : Vec F S e) (r : Rect S) :
    v.readCov [(⟨Rect.unit off S.size inb, w⟩ : View.Piece (Elt F) S e)] r.toLoadRect = View.ld w r := by
  rw [View.readCov_eq_canon_ld v _ r (fun y => ⟨_, List.mem_singleton_self _, View.mem_set_unit_zero h inb y⟩),
    View.canon_unit_zero h]

/-- A buffer covered by pieces that are all parts of `G` reads `G`. -/
theorem read_of_pieces {s : Shape} {e : EltTy} (v : View sig .tc .vmem s e) (f : v.ty.Contents (Elt F)) (G : Vec F s e)
    (L : List (View.Piece (Elt F) s e)) (hc : ∀ y, ∃ p ∈ L, y ∈ p.1.set) (hL : ∀ p ∈ L, ∀ x : p.1.shape.Idx, p.2 x = G (p.1.emb x)) :
    v.read (Elt F) (v.writes (Elt F) f L) = G :=
  (View.read_writes_eq_canon v f L hc).trans (funext fun y => View.canon_apply_of_pieces G L hL y (hc y))

end Cert.Kernel5Ideal.Inproj

end
-- ==== Proof.InRunTile.lean ====
/- The body at a point with a tile of its own that is not the first. -/
module

public import proofs.«01_k».proof.Proof.InPoints

@[expose] public section

set_option maxRecDepth 16384

noncomputable section

namespace Cert.Kernel5Ideal.Inproj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

set_option maxHeartbeats 4000000 in
/-- The body at a point with a tile of its own that is not the first. -/
theorem run_tile (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x3072 .bf16) (harg7 : arg7.IsWhole) (arg8 : Memref sig .tc .vmem S512x1024 .bf16) (harg8 : arg8.IsWhole) (arg9 : Memref sig .tc .vmem S3x512 .f32) (harg9 : arg9.IsWhole) (arg10 : Memref sig .tc .vmem S3x1536 .f32) (harg10 : arg10.IsWhole) (arg11 : Memref sig .tc .vmem S8x128 .f32) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x1536 .bf16) (harg14 : arg14.IsWhole) (arg15 : Memref sig .tc .vmem S1024x512 .bf16) (harg15 : arg15.IsWhole) (arg16 : Memref sig .tc .vmem S1024x128 .f32) (harg16 : arg16.IsWhole) (arg17 : Memref sig .tc .vmem S1024x3072 .bf16) (harg17 : arg17.IsWhole) (arg18 : Memref sig .tc .vmem S1024x128 .f32) (harg18 : arg18.IsWhole) (hc0 : ¬ isFirst i) (hc1 : isTile i) (hc2 : ¬ isLast i)
    (x0 : Vec F S1024x1024 .f32) (x1 x2 : Vec F S8x1024 .f32) (x3 : Vec F S1x1024 .f32) (x4 : Vec F S1024x4096 .bf16) (x5 : Vec F S1024x128 .bf16) (x6 : Vec F S1024x3072 .bf16) (x7 : Vec F S512x1024 .bf16) (x8 : Vec F S3x512 .f32) (x9 : Vec F S3x1536 .f32) (x10 : Vec F S8x128 .f32)  (S : Vec F S1024x128 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (x9) ∗ owns (c : Thread nD τ) arg11 fullShare (x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (S)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (x9) ∗ owns (c : Thread nD τ) arg11 fullShare (x10) ∗ owns (c : Thread nD τ) arg12 fullShare (abOf x0 x3 x4 x7) ∗ owns (c : Thread nD τ) arg13 fullShare (scOf (prevOf i x1 x2 x3 x4) (nextOf i x1 x2 x3 x4) x0 x3 x4 x8) ∗ owns (c : Thread nD τ) arg14 fullShare (qkvOf (prevOf i x1 x2 x3 x4) (nextOf i x1 x2 x3 x4) x0 x3 x4 x9) ∗ owns (c : Thread nD τ) arg15 fullShare (zOf x0 x3 x4) ∗ owns (c : Thread nD τ) arg16 fullShare (dncOf (Scalar.subi (word i) 1#32) S x10) ∗ owns (c : Thread nD τ) arg17 fullShare (gateOf x0 x3 x6) ∗ owns (c : Thread nD τ) arg18 fullShare (lgOf x0 x3 x5)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg18.eq_unread hf18
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro
    refine (View.read_writes_eq_canon _ _ _ (View.cover_of_tiledL _ S1024x1024.size (by sl_kernel_rfl))).trans ?_
    refine (View.canon_unit_zero (S := S1024x1024) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  isplitl [H13]
  · iexists _; isplitr; rotate_left; · iexact H13
    ipureintro
    refine (View.read_writes_eq_canon _ _ _ (View.cover_of_tiledL _ S1024x512.size (by sl_kernel_rfl))).trans ?_
    refine (View.canon_unit_zero (S := S1024x512) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  isplitl [H14]
  · iexists _; isplitr; rotate_left; · iexact H14
    ipureintro
    refine read_of_pieces _ _ _ _ (View.cover_of_tiledL _ S1024x128.size (by sl_kernel_rfl)) ?_
    sl_unfold_words
    simp only [List.forall_mem_cons, View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    exact ⟨fun j => head_piece (prevOf i x1 x2 x3 x4) (nextOf i x1 x2 x3 x4) x0 x3 x4 x9 11 (by decide) _ j, fun j => head_piece (prevOf i x1 x2 x3 x4) (nextOf i x1 x2 x3 x4) x0 x3 x4 x9 10 (by decide) _ j, fun j => head_piece (prevOf i x1 x2 x3 x4) (nextOf i x1 x2 x3 x4) x0 x3 x4 x9 9 (by decide) _ j, fun j => head_piece (prevOf i x1 x2 x3 x4) (nextOf i x1 x2 x3 x4) x0 x3 x4 x9 8 (by decide) _ j, fun j => head_piece (prevOf i x1 x2 x3 x4) (nextOf i x1 x2 x3 x4) x0 x3 x4 x9 7 (by decide) _ j, fun j => head_piece (prevOf i x1 x2 x3 x4) (nextOf i x1 x2 x3 x4) x0 x3 x4 x9 6 (by decide) _ j, fun j => head_piece (prevOf i x1 x2 x3 x4) (nextOf i x1 x2 x3 x4) x0 x3 x4 x9 5 (by decide) _ j, fun j => head_piece (prevOf i x1 x2 x3 x4) (nextOf i x1 x2 x3 x4) x0 x3 x4 x9 4 (by decide) _ j, fun j => head_piece (prevOf i x1 x2 x3 x4) (nextOf i x1 x2 x3 x4) x0 x3 x4 x9 3 (by decide) _ j, fun j => head_piece (prevOf i x1 x2 x3 x4) (nextOf i x1 x2 x3 x4) x0 x3 x4 x9 2 (by decide) _ j, fun j => head_piece (prevOf i x1 x2 x3 x4) (nextOf i x1 x2 x3 x4) x0 x3 x4 x9 1 (by decide) _ j, fun j => head_piece (prevOf i x1 x2 x3 x4) (nextOf i x1 x2 x3 x4) x0 x3 x4 x9 0 (by decide) _ j, fun _ h => absurd h List.not_mem_nil⟩
  isplitl [H15]
  · iexists _; isplitr; rotate_left; · iexact H15
    ipureintro
    refine (View.read_writes_eq_canon _ _ _ (View.cover_of_tiledL _ S1024x512.size (by sl_kernel_rfl))).trans ?_
    refine (View.canon_unit_zero (S := S1024x512) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  isplitl [H16]
  · iexists _; isplitr; rotate_left; · iexact H16
    ipureintro
    refine read_of_pieces _ _ _ _ (View.cover_of_tiledL _ S128x128.size (by sl_kernel_rfl)) ?_
    sl_unfold_words
    simp only [List.forall_mem_cons, View.readAt_eq_ld, harg1.read_unread, harg2.read_unread, harg3.read_unread, harg4.read_unread, harg5.read_unread, harg6.read_unread, harg7.read_unread, harg8.read_unread, harg9.read_unread, harg10.read_unread, harg11.read_unread, harg18.read_unread]
    exact ⟨decays_piece (Scalar.subi (word i) 1#32) S x10 7 (by decide) _ _ (by sl_kernel_rfl), decays_piece (Scalar.subi (word i) 1#32) S x10 6 (by decide) _ _ (by sl_kernel_rfl), decays_piece (Scalar.subi (word i) 1#32) S x10 5 (by decide) _ _ (by sl_kernel_rfl), decays_piece (Scalar.subi (word i) 1#32) S x10 4 (by decide) _ _ (by sl_kernel_rfl), decays_piece (Scalar.subi (word i) 1#32) S x10 3 (by decide) _ _ (by sl_kernel_rfl), decays_piece (Scalar.subi (word i) 1#32) S x10 2 (by decide) _ _ (by sl_kernel_rfl), decays_piece (Scalar.subi (word i) 1#32) S x10 1 (by decide) _ _ (by sl_kernel_rfl), decays_piece (Scalar.subi (word i) 1#32) S x10 0 (by decide) _ _ (by sl_kernel_rfl), fun _ h => absurd h List.not_mem_nil⟩
  isplitl [H17]
  · iexists _; isplitr; rotate_left; · iexact H17
    ipureintro
    refine (View.read_writes_eq_canon _ _ _ (View.cover_of_tiledL _ S1024x3072.size (by sl_kernel_rfl))).trans ?_
    refine (View.canon_unit_zero (S := S1024x3072) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  iexists _; isplitr; rotate_left; · iexact H18
  ipureintro
  refine (View.read_writes_eq_canon _ _ _ (View.cover_of_tiledL _ S1024x128.size (by sl_kernel_rfl))).trans ?_
  refine (View.canon_unit_zero (S := S1024x128) offsets_zero _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
  rfl

end Cert.Kernel5Ideal.Inproj

end
-- ==== Proof.InRunFirst.lean ====
/- The body at the first point. -/
module

public import proofs.«01_k».proof.Proof.InPoints

@[expose] public section

set_option maxRecDepth 16384

noncomputable section

namespace Cert.Kernel5Ideal.Inproj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

set_option maxHeartbeats 4000000 in
/-- The body at the first point. -/
theorem run_first (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x3072 .bf16) (harg7 : arg7.IsWhole) (arg8 : Memref sig .tc .vmem S512x1024 .bf16) (harg8 : arg8.IsWhole) (arg9 : Memref sig .tc .vmem S3x512 .f32) (harg9 : arg9.IsWhole) (arg10 : Memref sig .tc .vmem S3x1536 .f32) (harg10 : arg10.IsWhole) (arg11 : Memref sig .tc .vmem S8x128 .f32) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x1536 .bf16) (harg14 : arg14.IsWhole) (arg15 : Memref sig .tc .vmem S1024x512 .bf16) (harg15 : arg15.IsWhole) (arg16 : Memref sig .tc .vmem S1024x128 .f32) (harg16 : arg16.IsWhole) (arg17 : Memref sig .tc .vmem S1024x3072 .bf16) (harg17 : arg17.IsWhole) (arg18 : Memref sig .tc .vmem S1024x128 .f32) (harg18 : arg18.IsWhole) (hc0 : isFirst i) (hc1 : isTile i) (hc2 : ¬ isLast i)
    (x0 : Vec F S1024x1024 .f32) (x1 x2 : Vec F S8x1024 .f32) (x3 : Vec F S1x1024 .f32) (x4 : Vec F S1024x4096 .bf16) (x5 : Vec F S1024x128 .bf16) (x6 : Vec F S1024x3072 .bf16) (x7 : Vec F S512x1024 .bf16) (x8 : Vec F S3x512 .f32) (x9 : Vec F S3x1536 .f32) (x10 : Vec F S8x128 .f32)   (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (x9) ∗ owns (c : Thread nD τ) arg11 fullShare (x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (x9) ∗ owns (c : Thread nD τ) arg11 fullShare (x10) ∗ owns (c : Thread nD τ) arg12 fullShare (abOf x0 x3 x4 x7) ∗ owns (c : Thread nD τ) arg13 fullShare (scOf (prevOf i x1 x2 x3 x4) (nextOf i x1 x2 x3 x4) x0 x3 x4 x8) ∗ owns (c : Thread nD τ) arg14 fullShare (qkvOf (prevOf i x1 x2 x3 x4) (nextOf i x1 x2 x3 x4) x0 x3 x4 x9) ∗ owns (c : Thread nD τ) arg15 fullShare (zOf x0 x3 x4) ∗ owns (c : Thread nD τ) arg16 fullShare (dncOf (Scalar.subi (word i) 1#32) (k0_pay1 (F := F)) x10) ∗ owns (c : Thread nD τ) arg17 fullShare (gateOf x0 x3 x6) ∗ owns (c : Thread nD τ) arg18 fullShare (lgOf x0 x3 x5)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro
    refine (View.read_writes_eq_canon _ _ _ (View.cover_of_tiledL _ S1024x1024.size (by sl_kernel_rfl))).trans ?_
    refine (View.canon_unit_zero (S := S1024x1024) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  isplitl [H13]
  · iexists _; isplitr; rotate_left; · iexact H13
    ipureintro
    refine (View.read_writes_eq_canon _ _ _ (View.cover_of_tiledL _ S1024x512.size (by sl_kernel_rfl))).trans ?_
    refine (View.canon_unit_zero (S := S1024x512) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  isplitl [H14]
  · iexists _; isplitr; rotate_left; · iexact H14
    ipureintro
    refine read_of_pieces _ _ _ _ (View.cover_of_tiledL _ S1024x128.size (by sl_kernel_rfl)) ?_
    sl_unfold_words
    simp only [List.forall_mem_cons, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    exact ⟨fun j => head_piece (prevOf i x1 x2 x3 x4) (nextOf i x1 x2 x3 x4) x0 x3 x4 x9 11 (by decide) _ j, fun j => head_piece (prevOf i x1 x2 x3 x4) (nextOf i x1 x2 x3 x4) x0 x3 x4 x9 10 (by decide) _ j, fun j => head_piece (prevOf i x1 x2 x3 x4) (nextOf i x1 x2 x3 x4) x0 x3 x4 x9 9 (by decide) _ j, fun j => head_piece (prevOf i x1 x2 x3 x4) (nextOf i x1 x2 x3 x4) x0 x3 x4 x9 8 (by decide) _ j, fun j => head_piece (prevOf i x1 x2 x3 x4) (nextOf i x1 x2 x3 x4) x0 x3 x4 x9 7 (by decide) _ j, fun j => head_piece (prevOf i x1 x2 x3 x4) (nextOf i x1 x2 x3 x4) x0 x3 x4 x9 6 (by decide) _ j, fun j => head_piece (prevOf i x1 x2 x3 x4) (nextOf i x1 x2 x3 x4) x0 x3 x4 x9 5 (by decide) _ j, fun j => head_piece (prevOf i x1 x2 x3 x4) (nextOf i x1 x2 x3 x4) x0 x3 x4 x9 4 (by decide) _ j, fun j => head_piece (prevOf i x1 x2 x3 x4) (nextOf i x1 x2 x3 x4) x0 x3 x4 x9 3 (by decide) _ j, fun j => head_piece (prevOf i x1 x2 x3 x4) (nextOf i x1 x2 x3 x4) x0 x3 x4 x9 2 (by decide) _ j, fun j => head_piece (prevOf i x1 x2 x3 x4) (nextOf i x1 x2 x3 x4) x0 x3 x4 x9 1 (by decide) _ j, fun j => head_piece (prevOf i x1 x2 x3 x4) (nextOf i x1 x2 x3 x4) x0 x3 x4 x9 0 (by decide) _ j, fun _ h => absurd h List.not_mem_nil⟩
  isplitl [H15]
  · iexists _; isplitr; rotate_left; · iexact H15
    ipureintro
    refine (View.read_writes_eq_canon _ _ _ (View.cover_of_tiledL _ S1024x512.size (by sl_kernel_rfl))).trans ?_
    refine (View.canon_unit_zero (S := S1024x512) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  isplitl [H16]
  · iexists _; isplitr; rotate_left; · iexact H16
    ipureintro
    refine read_of_pieces _ _ _ _ (View.cover_of_tiledL _ S128x128.size (by sl_kernel_rfl)) ?_
    sl_unfold_words
    simp only [List.forall_mem_cons, View.readAt_eq_ld, harg1.read_unread, harg2.read_unread, harg3.read_unread, harg4.read_unread, harg5.read_unread, harg6.read_unread, harg7.read_unread, harg8.read_unread, harg9.read_unread, harg10.read_unread, harg11.read_unread, readCov_part (S := S1024x128) _ offsets_zero]
    exact ⟨decays_piece (Scalar.subi (word i) 1#32) (k0_pay1 (F := F)) x10 7 (by decide) _ _ (by sl_kernel_rfl), decays_piece (Scalar.subi (word i) 1#32) (k0_pay1 (F := F)) x10 6 (by decide) _ _ (by sl_kernel_rfl), decays_piece (Scalar.subi (word i) 1#32) (k0_pay1 (F := F)) x10 5 (by decide) _ _ (by sl_kernel_rfl), decays_piece (Scalar.subi (word i) 1#32) (k0_pay1 (F := F)) x10 4 (by decide) _ _ (by sl_kernel_rfl), decays_piece (Scalar.subi (word i) 1#32) (k0_pay1 (F := F)) x10 3 (by decide) _ _ (by sl_kernel_rfl), decays_piece (Scalar.subi (word i) 1#32) (k0_pay1 (F := F)) x10 2 (by decide) _ _ (by sl_kernel_rfl), decays_piece (Scalar.subi (word i) 1#32) (k0_pay1 (F := F)) x10 1 (by decide) _ _ (by sl_kernel_rfl), decays_piece (Scalar.subi (word i) 1#32) (k0_pay1 (F := F)) x10 0 (by decide) _ _ (by sl_kernel_rfl), fun _ h => absurd h List.not_mem_nil⟩
  isplitl [H17]
  · iexists _; isplitr; rotate_left; · iexact H17
    ipureintro
    refine (View.read_writes_eq_canon _ _ _ (View.cover_of_tiledL _ S1024x3072.size (by sl_kernel_rfl))).trans ?_
    refine (View.canon_unit_zero (S := S1024x3072) offsets_zero _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
    rfl
  iexists _; isplitr; rotate_left; · iexact H18
  ipureintro
  refine (View.read_writes_eq_canon _ _ _ (View.cover_of_tiledL _ S1024x128.size (by sl_kernel_rfl))).trans ?_
  refine (View.canon_cons_unit_zero (S := S1024x128) offsets_zero _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1024) offsets_zero, View.ld_unit_zero (S := S1024x1024) offsets_zero, View.ld_unit_zero (S := S8x1024) offsets_zero, View.ld_unit_zero (S := S1024x128) offsets_zero, View.ld_unit_zero (S := S1024x3072) offsets_zero, View.ld_unit_zero (S := S512x1024) offsets_zero, View.ld_unit_zero (S := S3x512) offsets_zero, View.ld_unit_zero (S := S3x1536) offsets_zero]
  rfl

end Cert.Kernel5Ideal.Inproj

end
-- ==== Proof.InRunLast.lean ====
/- The body at the point after the last tile. -/
module

public import proofs.«01_k».proof.Proof.InPoints

@[expose] public section

set_option maxRecDepth 16384

noncomputable section

namespace Cert.Kernel5Ideal.Inproj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

set_option maxHeartbeats 4000000 in
/-- The body at the point after the last tile. -/
theorem run_last (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x3072 .bf16) (harg7 : arg7.IsWhole) (arg8 : Memref sig .tc .vmem S512x1024 .bf16) (harg8 : arg8.IsWhole) (arg9 : Memref sig .tc .vmem S3x512 .f32) (harg9 : arg9.IsWhole) (arg10 : Memref sig .tc .vmem S3x1536 .f32) (harg10 : arg10.IsWhole) (arg11 : Memref sig .tc .vmem S8x128 .f32) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x1536 .bf16) (harg14 : arg14.IsWhole) (arg15 : Memref sig .tc .vmem S1024x512 .bf16) (harg15 : arg15.IsWhole) (arg16 : Memref sig .tc .vmem S1024x128 .f32) (harg16 : arg16.IsWhole) (arg17 : Memref sig .tc .vmem S1024x3072 .bf16) (harg17 : arg17.IsWhole) (arg18 : Memref sig .tc .vmem S1024x128 .f32) (harg18 : arg18.IsWhole) (hc0 : ¬ isFirst i) (hc1 : ¬ isTile i) (hc2 : isLast i)
    (x0 : Vec F S1024x1024 .f32) (x1 x2 : Vec F S8x1024 .f32) (x3 : Vec F S1x1024 .f32) (x4 : Vec F S1024x4096 .bf16) (x5 : Vec F S1024x128 .bf16) (x6 : Vec F S1024x3072 .bf16) (x7 : Vec F S512x1024 .bf16) (x8 : Vec F S3x512 .f32) (x9 : Vec F S3x1536 .f32) (x10 : Vec F S8x128 .f32) (y12 : Vec F S1024x1024 .bf16) (y13 : Vec F S1024x512 .bf16) (y14 : Vec F S1024x1536 .bf16) (y15 : Vec F S1024x512 .bf16) (y17 : Vec F S1024x3072 .bf16) (S : Vec F S1024x128 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (x9) ∗ owns (c : Thread nD τ) arg11 fullShare (x10) ∗ owns (c : Thread nD τ) arg12 fullShare (y12) ∗ owns (c : Thread nD τ) arg13 fullShare (y13) ∗ owns (c : Thread nD τ) arg14 fullShare (y14) ∗ owns (c : Thread nD τ) arg15 fullShare (y15) ∗ (∃ d, owns (c : Thread nD τ) arg16 fullShare d) ∗ owns (c : Thread nD τ) arg17 fullShare (y17) ∗ owns (c : Thread nD τ) arg18 fullShare (S)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (x9) ∗ owns (c : Thread nD τ) arg11 fullShare (x10) ∗ owns (c : Thread nD τ) arg12 fullShare (y12) ∗ owns (c : Thread nD τ) arg13 fullShare (y13) ∗ owns (c : Thread nD τ) arg14 fullShare (y14) ∗ owns (c : Thread nD τ) arg15 fullShare (y15) ∗ owns (c : Thread nD τ) arg16 fullShare (dncOf 32#32 S x10) ∗ owns (c : Thread nD τ) arg17 fullShare (y17) ∗ owns (c : Thread nD τ) arg18 fullShare (S)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17; obtain rfl := harg18.eq_unread hf18
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; rotate_left; · iexact H16
    ipureintro
    refine read_of_pieces _ _ _ _ (View.cover_of_tiledL _ S128x128.size (by sl_kernel_rfl)) ?_
    sl_unfold_words
    simp only [List.forall_mem_cons, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread]
    exact ⟨decays_piece 32#32 S x10 7 (by decide) _ _ (by sl_kernel_rfl), decays_piece 32#32 S x10 6 (by decide) _ _ (by sl_kernel_rfl), decays_piece 32#32 S x10 5 (by decide) _ _ (by sl_kernel_rfl), decays_piece 32#32 S x10 4 (by decide) _ _ (by sl_kernel_rfl), decays_piece 32#32 S x10 3 (by decide) _ _ (by sl_kernel_rfl), decays_piece 32#32 S x10 2 (by decide) _ _ (by sl_kernel_rfl), decays_piece 32#32 S x10 1 (by decide) _ _ (by sl_kernel_rfl), decays_piece 32#32 S x10 0 (by decide) _ _ (by sl_kernel_rfl), fun _ h => absurd h List.not_mem_nil⟩
  isplitl [H17]
  · iexists _; isplitr; · ipureintro; exact harg17.read_unread _
    iexact H17
  iexists _; isplitr; · ipureintro; exact harg18.read_unread _
  iexact H18

end Cert.Kernel5Ideal.Inproj

end
-- ==== Proof.InLaunched.lean ====
/- The run of the input-projection kernel over its 34 points: what is carried from point to point, the body at every
   point, and the launch. -/
module

public import proofs.«01_k».proof.Proof.InRunTile
public import proofs.«01_k».proof.Proof.InRunFirst
public import proofs.«01_k».proof.Proof.InRunLast
public import Idealize.ShloMosaic.Lib.Pipeline.TableIdle
public import Idealize.ShloMosaic.Lib.Claim

@[expose] public section

set_option maxRecDepth 16384

noncomputable section

namespace Cert.Kernel5Ideal.Inproj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- Point number `n`. -/
def pnt (n : ℕ) : Fin cfg0.N := ⟨n % 34, lt_of_lt_of_eq (Nat.mod_lt _ (by decide)) (show 34 = cfg0.N from N_0.symm)⟩

theorem pnt_val (t : Fin cfg0.N) : pnt t.val = t :=
  Fin.ext (Nat.mod_eq_of_lt (lt_of_lt_of_eq t.isLt (show cfg0.N = 34 from N_0)))

/-- The last point with a tile of its own up to point `n`. -/
abbrev own (n : ℕ) : Fin cfg0.N := pnt (min n 32)

/-- The neighbouring rows at a point. -/
abbrev prev (c : Dev nD) (t : Fin cfg0.N) : FVec F S1x3072 .f32 := prevOf (grid0.coords t) (iblk m c 1 t) (iblk m c 2 t) (iblk m c 3 t) (iblk m c 4 t)
abbrev next (c : Dev nD) (t : Fin cfg0.N) : FVec F S1x3072 .f32 := nextOf (grid0.coords t) (iblk m c 1 t) (iblk m c 2 t) (iblk m c 3 t) (iblk m c 4 t)
/-- What point `n` leaves in the buffer of result 0. -/
def abAt (c : Dev nD) (n : ℕ) : Vec F S1024x1024 .bf16 := abOf (iblk m c 0 (own n)) (iblk m c 3 (own n)) (iblk m c 4 (own n)) (iblk m c 7 (own n))
/-- What point `n` leaves in the buffer of result 1. -/
def scAt (c : Dev nD) (n : ℕ) : Vec F S1024x512 .bf16 := scOf (prev m c (own n)) (next m c (own n)) (iblk m c 0 (own n)) (iblk m c 3 (own n)) (iblk m c 4 (own n)) (iblk m c 8 (own n))
/-- What point `n` leaves in the buffer of result 2. -/
def qkvAt (c : Dev nD) (n : ℕ) : Vec F S1024x1536 .bf16 := qkvOf (prev m c (own n)) (next m c (own n)) (iblk m c 0 (own n)) (iblk m c 3 (own n)) (iblk m c 4 (own n)) (iblk m c 9 (own n))
/-- What point `n` leaves in the buffer of result 3. -/
def zAt (c : Dev nD) (n : ℕ) : Vec F S1024x512 .bf16 := zOf (iblk m c 0 (own n)) (iblk m c 3 (own n)) (iblk m c 4 (own n))
/-- What point `n` leaves in the buffer of result 5. -/
def gateAt (c : Dev nD) (n : ℕ) : Vec F S1024x3072 .bf16 := gateOf (iblk m c 0 (own n)) (iblk m c 3 (own n)) (iblk m c 6 (own n))
/-- The logits of tile `n`. -/
def lgAt (c : Dev nD) (n : ℕ) : Vec F S1024x128 .f32 := lgOf (iblk m c 0 (pnt n)) (iblk m c 3 (pnt n)) (iblk m c 5 (pnt n))
/-- The decays point `n` leaves: from the second point on, those of the tile before it. -/
def dncAt (c : Dev nD) : ℕ → Vec F S1024x128 .f32
  | 0 => dncOf (Scalar.subi (word (grid0.coords (pnt 0))) 1#32) (k0_pay1 (F := F)) (iblk m c 10 (pnt 0))
  | n + 1 => dncOf (BitVec.ofNat 32 n) (lgAt m c n) (iblk m c 10 (pnt (n + 1)))

theorem word_pred : ∀ t : Fin cfg0.N, t.val ≠ 0 → Scalar.subi (word (grid0.coords t)) 1#32 = BitVec.ofNat 32 (t.val - 1) :=
  (by decide +kernel : ∀ t : Fin grid0.N, t.val ≠ 0 → Scalar.subi (word (grid0.coords t)) 1#32 = BitVec.ofNat 32 (t.val - 1))

/-- The scratch buffer before point `n`. -/
def carried (c : Dev nD) : ℕ → sProp 𝕄
  | 0 => Pipeline.ΦA spec0 c
  | n + 1 => if n = 33 then Pipeline.ΦA spec0 c
      else iprop(owns (c : Thread nD τ) keep fullShare (lgAt m c n) ∗ (∃ r, prngReg c r))

theorem ΦA_eq (c : Dev nD) :
    (Pipeline.ΦA spec0 c : sProp 𝕄) = iprop((∃ d, owns (c : Thread nD τ) keep fullShare d) ∗ (∃ r, prngReg c r)) := by
  unfold Pipeline.ΦA; rw [scopedRest0_eq]; simp only [keep, owns_whole]; try rfl

theorem carried_tile (c : Dev nD) (n : ℕ) (h : n ≠ 33) :
    carried m c (n + 1) = iprop(owns (c : Thread nD τ) keep fullShare (lgAt m c n) ∗ (∃ r, prngReg c r)) := by
  show (if n = 33 then _ else _) = _
  rw [if_neg h]
theorem carried_end (c : Dev nD) (n : ℕ) (h : n = 33) : carried m c (n + 1) = Pipeline.ΦA spec0 c := by
  show (if n = 33 then _ else _) = _
  rw [if_pos h]

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => abAt m c t.val
    | ⟨12, _⟩ => scAt m c t.val
    | ⟨13, _⟩ => qkvAt m c t.val
    | ⟨14, _⟩ => zAt m c t.val
    | ⟨15, _⟩ => dncAt m c t.val
    | ⟨16, _⟩ => gateAt m c t.val
    | ⟨_ + 17, h⟩ => absurd h (Nat.not_lt.2 (Nat.le_add_left _ _))
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (buf0 t) fullShare (iblk m c 0 t) := by
  unfold Dat.leavesExact; rw [show cfg0.idle 0 (grid0.coords t) = false from rfl, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (buf1 t) fullShare (iblk m c 1 t) := by
  unfold Dat.leavesExact; rw [show cfg0.idle 1 (grid0.coords t) = false from rfl, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (buf2 t) fullShare (iblk m c 2 t) := by
  unfold Dat.leavesExact; rw [show cfg0.idle 2 (grid0.coords t) = false from rfl, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (buf3 t) fullShare (iblk m c 3 t) := by
  unfold Dat.leavesExact; rw [show cfg0.idle 3 (grid0.coords t) = false from rfl, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (buf4 t) fullShare (iblk m c 4 t) := by
  unfold Dat.leavesExact; rw [show cfg0.idle 4 (grid0.coords t) = false from rfl, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (buf5 t) fullShare (iblk m c 5 t) := by
  unfold Dat.leavesExact; rw [show cfg0.idle 5 (grid0.coords t) = false from rfl, after5]
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) :
    (dats m 0 c).leavesExact 6 t = owns (c : Thread nD τ) (buf6 t) fullShare (iblk m c 6 t) := by
  unfold Dat.leavesExact; rw [show cfg0.idle 6 (grid0.coords t) = false from rfl, after6]
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) :
    (dats m 0 c).leavesExact 7 t = owns (c : Thread nD τ) (buf7 t) fullShare (iblk m c 7 t) := by
  unfold Dat.leavesExact; rw [show cfg0.idle 7 (grid0.coords t) = false from rfl, after7]
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) :
    (dats m 0 c).leavesExact 8 t = owns (c : Thread nD τ) (buf8 t) fullShare (iblk m c 8 t) := by
  unfold Dat.leavesExact; rw [show cfg0.idle 8 (grid0.coords t) = false from rfl, after8]
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem leaves9 (c : Dev nD) (t : Fin cfg0.N) :
    (dats m 0 c).leavesExact 9 t = owns (c : Thread nD τ) (buf9 t) fullShare (iblk m c 9 t) := by
  unfold Dat.leavesExact; rw [show cfg0.idle 9 (grid0.coords t) = false from rfl, after9]
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem leaves10 (c : Dev nD) (t : Fin cfg0.N) :
    (dats m 0 c).leavesExact 10 t = owns (c : Thread nD τ) (buf10 t) fullShare (iblk m c 10 t) := by
  unfold Dat.leavesExact; rw [show cfg0.idle 10 (grid0.coords t) = false from rfl, after10]
theorem after11 (c : Dev nD) (t : Fin cfg0.N) : (dats m 0 c).after 11 t = abAt m c t.val := by dsimp only [dats]
theorem idle11 : ∀ t : Fin cfg0.N, cfg0.idle 11 (grid0.coords t) = decide (t.val = 33) :=
  (by decide +kernel : ∀ t : Fin grid0.N, cfg0.idle 11 (grid0.coords t) = decide (t.val = 33))
theorem flushLast11 : ∀ t : Fin cfg0.N, t.val = 33 → (cfg0.win 11).flush t = true :=
  fun t h => ((cfg0.win 11).flush_eq_flushF t).trans
    ((by decide +kernel : ∀ t : Fin grid0.N, t.val = 33 → win0_11.flushF t = true) t h)
theorem fresh11 : ∀ t : Fin cfg0.N, t.val = 33 → cfg0.fresh 11 t.val = false := fun t h => by
  rw [h]
  have h32 : (32 : ℕ) < cfg0.N := by decide
  rw [cfg0.fresh_succ 11 32 h32, (cfg0.win 11).flush_eq_flushF, idle11]
  exact (by decide +kernel : (win0_11.flushF (⟨32, by decide⟩ : Fin grid0.N) || (decide ((32 : ℕ) = 33) && cfg0.fresh 11 32)) = false)
theorem leaves11 (c : Dev nD) (t : Fin cfg0.N) :
    (dats m 0 c).leavesExact 11 t = owns (c : Thread nD τ) (buf11 t) fullShare (abAt m c t.val) := by
  unfold Dat.leavesExact
  rw [idle11 t]
  by_cases h : t.val = 33
  · rw [decide_eq_true h, flushLast11 t h, after11]
  · rw [decide_eq_false h, after11]
theorem before11 (c : Dev nD) (t : Fin cfg0.N) (h : t.val = 33) (d) : (dats m 0 c).before 11 t d = abAt m c t.val := by
  rw [(dats m 0 c).before_out_traj 11 rfl (fun _ _ => rfl) (fun t ht hi _ => ?_) t.val t rfl d, fresh11 t h, if_neg Bool.false_ne_true, after11]
  · show abAt m c (t.val - 1) = abAt m c t.val
    rw [h]; rfl
  · have h33 : t.val = 33 := of_decide_eq_true ((idle11 t).symm.trans hi)
    rw [after11, after11]
    show abAt m c t.val = abAt m c (t.val - 1)
    rw [h33]; rfl
theorem after12 (c : Dev nD) (t : Fin cfg0.N) : (dats m 0 c).after 12 t = scAt m c t.val := by dsimp only [dats]
theorem idle12 : ∀ t : Fin cfg0.N, cfg0.idle 12 (grid0.coords t) = decide (t.val = 33) :=
  (by decide +kernel : ∀ t : Fin grid0.N, cfg0.idle 12 (grid0.coords t) = decide (t.val = 33))
theorem flushLast12 : ∀ t : Fin cfg0.N, t.val = 33 → (cfg0.win 12).flush t = true :=
  fun t h => ((cfg0.win 12).flush_eq_flushF t).trans
    ((by decide +kernel : ∀ t : Fin grid0.N, t.val = 33 → win0_12.flushF t = true) t h)
theorem fresh12 : ∀ t : Fin cfg0.N, t.val = 33 → cfg0.fresh 12 t.val = false := fun t h => by
  rw [h]
  have h32 : (32 : ℕ) < cfg0.N := by decide
  rw [cfg0.fresh_succ 12 32 h32, (cfg0.win 12).flush_eq_flushF, idle12]
  exact (by decide +kernel : (win0_12.flushF (⟨32, by decide⟩ : Fin grid0.N) || (decide ((32 : ℕ) = 33) && cfg0.fresh 12 32)) = false)
theorem leaves12 (c : Dev nD) (t : Fin cfg0.N) :
    (dats m 0 c).leavesExact 12 t = owns (c : Thread nD τ) (buf12 t) fullShare (scAt m c t.val) := by
  unfold Dat.leavesExact
  rw [idle12 t]
  by_cases h : t.val = 33
  · rw [decide_eq_true h, flushLast12 t h, after12]
  · rw [decide_eq_false h, after12]
theorem before12 (c : Dev nD) (t : Fin cfg0.N) (h : t.val = 33) (d) : (dats m 0 c).before 12 t d = scAt m c t.val := by
  rw [(dats m 0 c).before_out_traj 12 rfl (fun _ _ => rfl) (fun t ht hi _ => ?_) t.val t rfl d, fresh12 t h, if_neg Bool.false_ne_true, after12]
  · show scAt m c (t.val - 1) = scAt m c t.val
    rw [h]; rfl
  · have h33 : t.val = 33 := of_decide_eq_true ((idle12 t).symm.trans hi)
    rw [after12, after12]
    show scAt m c t.val = scAt m c (t.val - 1)
    rw [h33]; rfl
theorem after13 (c : Dev nD) (t : Fin cfg0.N) : (dats m 0 c).after 13 t = qkvAt m c t.val := by dsimp only [dats]
theorem idle13 : ∀ t : Fin cfg0.N, cfg0.idle 13 (grid0.coords t) = decide (t.val = 33) :=
  (by decide +kernel : ∀ t : Fin grid0.N, cfg0.idle 13 (grid0.coords t) = decide (t.val = 33))
theorem flushLast13 : ∀ t : Fin cfg0.N, t.val = 33 → (cfg0.win 13).flush t = true :=
  fun t h => ((cfg0.win 13).flush_eq_flushF t).trans
    ((by decide +kernel : ∀ t : Fin grid0.N, t.val = 33 → win0_13.flushF t = true) t h)
theorem fresh13 : ∀ t : Fin cfg0.N, t.val = 33 → cfg0.fresh 13 t.val = false := fun t h => by
  rw [h]
  have h32 : (32 : ℕ) < cfg0.N := by decide
  rw [cfg0.fresh_succ 13 32 h32, (cfg0.win 13).flush_eq_flushF, idle13]
  exact (by decide +kernel : (win0_13.flushF (⟨32, by decide⟩ : Fin grid0.N) || (decide ((32 : ℕ) = 33) && cfg0.fresh 13 32)) = false)
theorem leaves13 (c : Dev nD) (t : Fin cfg0.N) :
    (dats m 0 c).leavesExact 13 t = owns (c : Thread nD τ) (buf13 t) fullShare (qkvAt m c t.val) := by
  unfold Dat.leavesExact
  rw [idle13 t]
  by_cases h : t.val = 33
  · rw [decide_eq_true h, flushLast13 t h, after13]
  · rw [decide_eq_false h, after13]
theorem before13 (c : Dev nD) (t : Fin cfg0.N) (h : t.val = 33) (d) : (dats m 0 c).before 13 t d = qkvAt m c t.val := by
  rw [(dats m 0 c).before_out_traj 13 rfl (fun _ _ => rfl) (fun t ht hi _ => ?_) t.val t rfl d, fresh13 t h, if_neg Bool.false_ne_true, after13]
  · show qkvAt m c (t.val - 1) = qkvAt m c t.val
    rw [h]; rfl
  · have h33 : t.val = 33 := of_decide_eq_true ((idle13 t).symm.trans hi)
    rw [after13, after13]
    show qkvAt m c t.val = qkvAt m c (t.val - 1)
    rw [h33]; rfl
theorem after14 (c : Dev nD) (t : Fin cfg0.N) : (dats m 0 c).after 14 t = zAt m c t.val := by dsimp only [dats]
theorem idle14 : ∀ t : Fin cfg0.N, cfg0.idle 14 (grid0.coords t) = decide (t.val = 33) :=
  (by decide +kernel : ∀ t : Fin grid0.N, cfg0.idle 14 (grid0.coords t) = decide (t.val = 33))
theorem flushLast14 : ∀ t : Fin cfg0.N, t.val = 33 → (cfg0.win 14).flush t = true :=
  fun t h => ((cfg0.win 14).flush_eq_flushF t).trans
    ((by decide +kernel : ∀ t : Fin grid0.N, t.val = 33 → win0_14.flushF t = true) t h)
theorem fresh14 : ∀ t : Fin cfg0.N, t.val = 33 → cfg0.fresh 14 t.val = false := fun t h => by
  rw [h]
  have h32 : (32 : ℕ) < cfg0.N := by decide
  rw [cfg0.fresh_succ 14 32 h32, (cfg0.win 14).flush_eq_flushF, idle14]
  exact (by decide +kernel : (win0_14.flushF (⟨32, by decide⟩ : Fin grid0.N) || (decide ((32 : ℕ) = 33) && cfg0.fresh 14 32)) = false)
theorem leaves14 (c : Dev nD) (t : Fin cfg0.N) :
    (dats m 0 c).leavesExact 14 t = owns (c : Thread nD τ) (buf14 t) fullShare (zAt m c t.val) := by
  unfold Dat.leavesExact
  rw [idle14 t]
  by_cases h : t.val = 33
  · rw [decide_eq_true h, flushLast14 t h, after14]
  · rw [decide_eq_false h, after14]
theorem before14 (c : Dev nD) (t : Fin cfg0.N) (h : t.val = 33) (d) : (dats m 0 c).before 14 t d = zAt m c t.val := by
  rw [(dats m 0 c).before_out_traj 14 rfl (fun _ _ => rfl) (fun t ht hi _ => ?_) t.val t rfl d, fresh14 t h, if_neg Bool.false_ne_true, after14]
  · show zAt m c (t.val - 1) = zAt m c t.val
    rw [h]; rfl
  · have h33 : t.val = 33 := of_decide_eq_true ((idle14 t).symm.trans hi)
    rw [after14, after14]
    show zAt m c t.val = zAt m c (t.val - 1)
    rw [h33]; rfl
theorem after15 (c : Dev nD) (t : Fin cfg0.N) : (dats m 0 c).after 15 t = dncAt m c t.val := by dsimp only [dats]
theorem idle15 : ∀ t : Fin cfg0.N, cfg0.idle 15 (grid0.coords t) = false :=
  (by decide +kernel : ∀ t : Fin grid0.N, cfg0.idle 15 (grid0.coords t) = false)
theorem leaves15 (c : Dev nD) (t : Fin cfg0.N) :
    (dats m 0 c).leavesExact 15 t = owns (c : Thread nD τ) (buf15 t) fullShare (dncAt m c t.val) := by
  unfold Dat.leavesExact; rw [idle15 t, after15]
theorem after16 (c : Dev nD) (t : Fin cfg0.N) : (dats m 0 c).after 16 t = gateAt m c t.val := by dsimp only [dats]
theorem idle16 : ∀ t : Fin cfg0.N, cfg0.idle 16 (grid0.coords t) = decide (t.val = 33) :=
  (by decide +kernel : ∀ t : Fin grid0.N, cfg0.idle 16 (grid0.coords t) = decide (t.val = 33))
theorem flushLast16 : ∀ t : Fin cfg0.N, t.val = 33 → (cfg0.win 16).flush t = true :=
  fun t h => ((cfg0.win 16).flush_eq_flushF t).trans
    ((by decide +kernel : ∀ t : Fin grid0.N, t.val = 33 → win0_16.flushF t = true) t h)
theorem fresh16 : ∀ t : Fin cfg0.N, t.val = 33 → cfg0.fresh 16 t.val = false := fun t h => by
  rw [h]
  have h32 : (32 : ℕ) < cfg0.N := by decide
  rw [cfg0.fresh_succ 16 32 h32, (cfg0.win 16).flush_eq_flushF, idle16]
  exact (by decide +kernel : (win0_16.flushF (⟨32, by decide⟩ : Fin grid0.N) || (decide ((32 : ℕ) = 33) && cfg0.fresh 16 32)) = false)
theorem leaves16 (c : Dev nD) (t : Fin cfg0.N) :
    (dats m 0 c).leavesExact 16 t = owns (c : Thread nD τ) (buf16 t) fullShare (gateAt m c t.val) := by
  unfold Dat.leavesExact
  rw [idle16 t]
  by_cases h : t.val = 33
  · rw [decide_eq_true h, flushLast16 t h, after16]
  · rw [decide_eq_false h, after16]
theorem before16 (c : Dev nD) (t : Fin cfg0.N) (h : t.val = 33) (d) : (dats m 0 c).before 16 t d = gateAt m c t.val := by
  rw [(dats m 0 c).before_out_traj 16 rfl (fun _ _ => rfl) (fun t ht hi _ => ?_) t.val t rfl d, fresh16 t h, if_neg Bool.false_ne_true, after16]
  · show gateAt m c (t.val - 1) = gateAt m c t.val
    rw [h]; rfl
  · have h33 : t.val = 33 := of_decide_eq_true ((idle16 t).symm.trans hi)
    rw [after16, after16]
    show gateAt m c t.val = gateAt m c (t.val - 1)
    rw [h33]; rfl

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d))
    ∗ (∃ d, owns (c : Thread nD τ) (buf15 t) fullShare ((dats m 0 c).before 15 t d))
    ∗ (∃ d, owns (c : Thread nD τ) (buf16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 1600000 in
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, leaves0, leaves1, leaves2, leaves3, leaves4, leaves5, leaves6, leaves7, leaves8, leaves9, leaves10, leaves11, leaves12, leaves13, leaves14, leaves15, leaves16]
  rw [show (dats m 0 c).owesAt () t.succ = (dats m 0 c).owesAt () t.castSucc from rfl,
    show (dats m 0 c).Φ t.succ = carried m c (t.val + 1) from rfl,
    show (dats m 0 c).Φ t.castSucc = carried m c t.val from rfl]
  obtain rfl : t = pnt 0 := Fin.ext h
  rw [show (pnt 0 : Fin cfg0.N).val = 0 from rfl, carried_tile m c 0 (by decide), show carried m c 0 = Pipeline.ΦA spec0 c from rfl, ΦA_eq]
  have ht : (pnt 0 : Fin cfg0.N).val = 0 := rfl
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run_first c (grid0.coords (pnt 0)) _ _ _ _ _ _ _ _ _ _ _ _ _ _ _ _ _ _ _ _ _ _ _ _ _ _ _ _ _ _ _ _ _ _ _ _ ((isFirst_iff (pnt 0)).mpr (by omega)) ((isTile_iff (pnt 0)).mpr (by omega)) (fun h => absurd ((isLast_iff (pnt 0)).mp h) (by omega)) (iblk m c 0 (pnt 0)) (iblk m c 1 (pnt 0)) (iblk m c 2 (pnt 0)) (iblk m c 3 (pnt 0)) (iblk m c 4 (pnt 0)) (iblk m c 5 (pnt 0)) (iblk m c 6 (pnt 0)) (iblk m c 7 (pnt 0)) (iblk m c 8 (pnt 0)) (iblk m c 9 (pnt 0)) (iblk m c 10 (pnt 0))  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS]; · iexact HS
  iintro ⟨H0, H1, H2, H3, H4, H5, H6, H7, H8, H9, H10, H11, H12, H13, H14, H15, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1600000 in
theorem body_tile (c : Dev nD) (t : Fin cfg0.N) (n : ℕ) (hn : t.val = n + 1) (h : n < 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, leaves0, leaves1, leaves2, leaves3, leaves4, leaves5, leaves6, leaves7, leaves8, leaves9, leaves10, leaves11, leaves12, leaves13, leaves14, leaves15, leaves16]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (n + 1) = t := by rw [← hn, pnt_val]
  have eo : own (n + 1) = t := by rw [show own (n + 1) = pnt (n + 1) from congrArg pnt (Nat.min_eq_left (by omega)), e]
  have ew : (BitVec.ofNat 32 n) = Scalar.subi (word (grid0.coords t)) 1#32 := by
    rw [word_pred t (by omega), hn]; rfl
  rw [hn, carried_tile m c n (by omega), carried_tile m c (n + 1) (by omega),
    show dncAt m c (n + 1) = dncOf (BitVec.ofNat 32 n) (lgAt m c n) (iblk m c 10 (pnt (n + 1))) from rfl, ew]
  simp only [abAt, scAt, qkvAt, zAt, gateAt]
  rw [eo, show lgAt m c (n + 1) = lgOf (iblk m c 0 (pnt (n + 1))) (iblk m c 3 (pnt (n + 1))) (iblk m c 5 (pnt (n + 1))) from rfl, e]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run_tile c (grid0.coords t) _ _ _ _ _ _ _ _ _ _ _ _ _ _ _ _ _ _ _ _ _ _ _ _ _ _ _ _ _ _ _ _ _ _ _ _ (fun h => absurd ((isFirst_iff t).mp h) (by omega)) ((isTile_iff t).mpr (by omega)) (fun h => absurd ((isLast_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (lgAt m c n) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS]; · iexact HS
  iintro ⟨H0, H1, H2, H3, H4, H5, H6, H7, H8, H9, H10, H11, H12, H13, H14, H15, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1600000 in
theorem body_last (c : Dev nD) (t : Fin cfg0.N) (hn : t.val = 32 + 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, leaves0, leaves1, leaves2, leaves3, leaves4, leaves5, leaves6, leaves7, leaves8, leaves9, leaves10, leaves11, leaves12, leaves13, leaves14, leaves15, leaves16]
  rw [show (dats m 0 c).owesAt () t.succ = (dats m 0 c).owesAt () t.castSucc from rfl,
    show (dats m 0 c).Φ t.succ = carried m c (t.val + 1) from rfl,
    show (dats m 0 c).Φ t.castSucc = carried m c t.val from rfl]
  have e : pnt (32 + 1) = t := by rw [← hn, pnt_val]
  simp only [before11 m c t hn, before12 m c t hn, before13 m c t hn, before14 m c t hn, before16 m c t hn]
  rw [hn, carried_tile m c 32 (by decide), carried_end m c (32 + 1) rfl, ΦA_eq,
    show dncAt m c (32 + 1) = dncOf 32#32 (lgAt m c 32) (iblk m c 10 (pnt (32 + 1))) from rfl, e]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run_last c (grid0.coords t) _ _ _ _ _ _ _ _ _ _ _ _ _ _ _ _ _ _ _ _ _ _ _ _ _ _ _ _ _ _ _ _ _ _ _ _ (fun h => absurd ((isFirst_iff t).mp h) (by omega)) (fun h => absurd ((isTile_iff t).mp h) (by omega)) ((isLast_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (abAt m c (32 + 1)) (scAt m c (32 + 1)) (qkvAt m c (32 + 1)) (zAt m c (32 + 1)) (gateAt m c (32 + 1)) (lgAt m c 32) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [HS]; · iexact HS
  iintro ⟨H0, H1, H2, H3, H4, H5, H6, H7, H8, H9, H10, H11, H12, H13, H14, H15, H16, HS⟩
  isplitl [HS Hg]
  · isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_all (c : Dev nD) (t : Fin cfg0.N) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  rcases Nat.eq_zero_or_pos t.val with h | h
  · exact body_first m c t h
  obtain ⟨n, hn⟩ : ∃ n, t.val = n + 1 := ⟨t.val - 1, by omega⟩
  by_cases h2 : n < 32
  · exact body_tile m c t n hn h2
  · exact body_last m c t (by omega)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_all m c t) rfl .rfl fun _ => .rfl

/-! ## The launch -/

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = carried m c (Fin.last cfg0.N).val from rfl,
    Fin.val_last, show cfg0.N = 33 + 1 from N_0, carried_end m c 33 rfl]
  try exact Idealize.SL.BI.Entails.refl _

set_option backward.isDefEq.respectTransparency.types false in
/-- The program runs to the end: every array at what the blocks written to it leave, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The arguments end as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel5Ideal.Inproj

end
-- ==== Proof.InRows.lean ====
module

public import proofs.«01_k».proof.Proof.MergeRows

@[expose] public section

noncomputable section

/-! The input projection on one token: the normalised token times blocks of columns, the centred convolution over three
    neighbouring tokens, the normalised heads, and the decays. -/

namespace Cert.Rows

open Idealize.ShloMosaic

/-- The centred convolution: three neighbouring rows, each times its weights. -/
def conv {n : Nat} (w : Fin 3 → Fin n → EReal) (p x q : Fin n → EReal) (j : Fin n) : EReal := w 0 j * p j + w 1 j * x j + w 2 j * q j

/-- `silu`. -/
def silu (a : EReal) : EReal := a * Ideal.logistic a

/-- The scale `1 / sqrt (sum of squares + 1e-6)` of one head's 128 values. -/
def lscale (x : Fin 128 → EReal) : EReal := Ideal.rsqrt ((∑ k, x k * x k) + Ideal.ofBits .f32 0x358637BD#32)

/-- One head's 128 values out of the 1536 query, key and value columns: queries scaled to length one over `sqrt 128`, keys
    to length one, values as they are. -/
def unit (h : ℕ) (y : Fin 128 → EReal) (j : Fin 128) : EReal :=
  if h < 4 then y j * lscale y * Ideal.ofBits .f32 0x3DB504F3#32 else if h < 8 then y j * lscale y else y j

/-- `log (1 + exp a)`. -/
def softplus (a : EReal) : EReal :=
  max a (Ideal.ofBits .f32 0x00000000#32) + Ideal.log1p (Ideal.exp (Ideal.ofBits .f32 0x00000000#32 - (max a (-a))))

/-- `n` columns of the projection's weights from column `off` on. -/
def cols {n : Nat} (w : Fin 1024 → Fin 7184 → EReal) (off : ℕ) (k : Fin 1024) (j : Fin n) : EReal :=
  w k ⟨(off + j.val) % 7184, Nat.mod_lt _ (by decide)⟩

/-- The row before row `p`: zero for the first. -/
def before {n : Nat} (u : Fin 33792 → Fin n → EReal) (p : Fin 33792) (j : Fin n) : EReal :=
  if h : p.val = 0 then 0 else u ⟨p.val - 1, by omega⟩ j

/-- The row after row `p`: zero for the last. -/
def after {n : Nat} (u : Fin 33792 → Fin n → EReal) (p : Fin 33792) (j : Fin n) : EReal :=
  if h : p.val + 1 < 33792 then u ⟨p.val + 1, h⟩ j else 0

/-- The product of the second and the third 512 of 1536 columns. -/
def pair (x : Fin 1536 → EReal) (j : Fin 512) : EReal := x ⟨512 + j.val, by omega⟩ * x ⟨1024 + j.val, by omega⟩

/-- The short convolution's result on row `p`. -/
def short (w : Fin 3 → Fin 512 → EReal) (u : Fin 33792 → Fin 1536 → EReal) (p : Fin 33792) (j : Fin 512) : EReal :=
  u p ⟨j.val, by omega⟩ * conv w (before (fun q => pair (u q)) p) (pair (u p)) (after (fun q => pair (u q)) p) j

/-- The query, key and value columns after their convolution on row `p`. -/
def mixed (w : Fin 3 → Fin 1536 → EReal) (u : Fin 33792 → Fin 1536 → EReal) (p : Fin 33792) (j : Fin 1536) : EReal :=
  silu (conv w (before u p) (u p) (after u p) j)

/-- Head `k`'s 128 columns. -/
def cut (k : ℕ) (x : Fin 1536 → EReal) (j : Fin 128) : EReal := x ⟨(128 * k + j.val) % 1536, Nat.mod_lt _ (by decide)⟩

/-- All heads of a row, each normalised as its kind is. -/
def units (y : Fin 1536 → EReal) (j : Fin 1536) : EReal := unit (j.val / 128) (cut (j.val / 128) y) ⟨j.val % 128, Nat.mod_lt _ (by decide)⟩

end Cert.Rows
end
end
-- ==== Proof.InPays.lean ====
module

public import proofs.«01_k».proof.Proof.InPoints
public import proofs.«01_k».proof.Proof.InRows
public import Idealize.ShloMosaic.Lib.Pointwise

@[expose] public section

set_option maxRecDepth 16384

noncomputable section

namespace Cert.Kernel5Ideal.Inproj

open Idealize.ShloMosaic
open Cert.Kernel5Ideal Cert.Kernel5Ideal.Gen

/-- A row of a two-axis block. -/
def row {m n : Nat} (x : (⟨2, ![m, n]⟩ : Shape).Idx → EReal) (r : Fin m) : Fin n → EReal := fun c => x (ValueIdx.ix2 r c)

theorem pay6_at (x : Vec Ideal S1024x1024 .f32) (g : Vec Ideal S1x1024 .f32) (r c : Fin 1024) :
    k0_pay6 g x (ValueIdx.ix2 r c) = Rows.norm (row x r) (row g 0) c := by
  simp only [Rows.norm, Rows.scale, row]
  simp only [← ix2_eq_valueIdx]
  unfold k0_pay6 k0_pay5
  pointwise

theorem pay7_prev (x y : Vec Ideal S8x1024 .f32) (g : Vec Ideal S1x1024 .f32) (w : Vec Ideal S1024x3072 .bf16) (c : Fin 3072) :
    k0_pay7 g x y w (ValueIdx.ix2 7 c) = Rows.dot (Rows.norm (row x 7) (row g 0)) (row w) c := by
  simp only [Rows.norm, Rows.scale, Rows.dot, row]
  simp only [← ix2_eq_valueIdx]
  unfold k0_pay7 k0_pay5
  pointwise

theorem pay7_next (x y : Vec Ideal S8x1024 .f32) (g : Vec Ideal S1x1024 .f32) (w : Vec Ideal S1024x3072 .bf16) (c : Fin 3072) :
    k0_pay7 g x y w (ValueIdx.ix2 8 c) = Rows.dot (Rows.norm (row y 0) (row g 0)) (row w) c := by
  simp only [Rows.norm, Rows.scale, Rows.dot, row]
  simp only [← ix2_eq_valueIdx]
  unfold k0_pay7 k0_pay5
  pointwise

theorem pay8_at (a : BitVec 32) (x y : Vec Ideal S8x1024 .f32) (g : Vec Ideal S1x1024 .f32) (w : Vec Ideal S1024x3072 .bf16) (c : Fin 3072) :
    k0_pay8 a g x y w (ValueIdx.ix2 0 c) = Scalar.select (Scalar.cmpi .sgt a 0#32) (k0_pay7 g x y w (ValueIdx.ix2 7 c)) (Ideal.ofBits .f32 0x00000000#32) := by
  simp only [← ix2_eq_valueIdx]
  unfold k0_pay8
  pointwise

theorem pay24_at (x : Vec Ideal S1024x1024 .bf16) (w : Vec Ideal S1024x512 .bf16) (v : Vec Ideal S512x1024 .bf16) (r c : Fin 1024) :
    k0_pay24 (k0_pay10 x w) v (ValueIdx.ix2 r c) = Rows.dot (Rows.dot (row x r) (row w)) (row v) c := by
  simp only [Rows.dot, row]
  simp only [← ix2_eq_valueIdx]
  unfold k0_pay24 k0_pay10
  pointwise

theorem pay2_at (x : Vec Ideal S1024x1024 .bf16) (w : Vec Ideal S1024x512 .bf16) (r : Fin 1024) (c : Fin 512) :
    k0_pay2 x w (ValueIdx.ix2 r c) = Rows.dot (row x r) (row w) c := by
  simp only [Rows.dot, row]
  simp only [← ix2_eq_valueIdx]
  unfold k0_pay2
  pointwise

theorem pay3_at (x : Vec Ideal S1024x1024 .bf16) (w : Vec Ideal S1024x3072 .bf16) (r : Fin 1024) (c : Fin 3072) :
    k0_pay3 x w (ValueIdx.ix2 r c) = Ideal.logistic (Rows.dot (row x r) (row w) c) := by
  simp only [Rows.dot, row]
  simp only [← ix2_eq_valueIdx]
  unfold k0_pay3
  pointwise

theorem pay147_at (x : Vec Ideal S1024x1024 .bf16) (w : Vec Ideal S1024x128 .bf16) (r : Fin 1024) (c : Fin 128) :
    k0_pay147 x w (ValueIdx.ix2 r c) = Rows.dot (row x r) (row w) c := by
  simp only [Rows.dot, row]
  simp only [← ix2_eq_valueIdx]
  unfold k0_pay147
  pointwise

theorem pay59_at (x : Vec Ideal S1024x1024 .bf16) (w : Vec Ideal S1024x1536 .bf16) (r : Fin 1024) (c : Fin 1536) :
    k0_pay59 x w (ValueIdx.ix2 r c) = Rows.dot (row x r) (row w) c := by
  simp only [Rows.dot, row]
  simp only [← ix2_eq_valueIdx]
  unfold k0_pay59
  pointwise

theorem pay9_at (x : FVec Ideal S16x3072 .f32) (b : BitVec 1) (c : Fin 3072) :
    k0_pay9 x b (ValueIdx.ix2 0 c) = Scalar.select b (x (ValueIdx.ix2 8 c)) (Ideal.ofBits .f32 0x00000000#32) := by
  simp only [← ix2_eq_valueIdx]
  unfold k0_pay9
  pointwise

/-- The row before row `r`: `a` for the first. -/
def above {n : ℕ} (a : Fin n → EReal) (u : Fin 1024 → Fin n → EReal) (r : Fin 1024) (c : Fin n) : EReal :=
  Scalar.select (IntOp.cmpi CmpIPredicate.eq (BitVec.ofNat 32 r.val) 0#32) (a c)
    (u ⟨(r.val + 1024 - 1) % 1024, Nat.mod_lt _ (by decide)⟩ c)

/-- The row after row `r`: `a` for the last. -/
def below {n : ℕ} (a : Fin n → EReal) (u : Fin 1024 → Fin n → EReal) (r : Fin 1024) (c : Fin n) : EReal :=
  Scalar.select (IntOp.cmpi CmpIPredicate.eq (BitVec.ofNat 32 r.val) 1023#32) (a c)
    (u ⟨(r.val + 1024 - 1023) % 1024, Nat.mod_lt _ (by decide)⟩ c)

/-- The columns of the second convolution in a row of halo columns. -/
def tail (x : Fin 3072 → EReal) (c : Fin 1536) : EReal := x ⟨1536 + c.val, by omega⟩

/-- The gated columns of the first convolution. -/
def gated {n : ℕ} (hn : 1536 ≤ n) (x : Fin n → EReal) (c : Fin 512) : EReal := x ⟨512 + c.val, by omega⟩ * x ⟨1024 + c.val, by omega⟩

theorem pay75_at (p q : FVec Ideal S1x3072 .f32) (u : FVec Ideal S1024x1536 .f32) (w : Vec Ideal S3x1536 .f32) (r : Fin 1024) (c : Fin 1536) :
    k0_pay75 p q u w (ValueIdx.ix2 r c)
      = Rows.silu (Rows.conv (row w) (above (tail (row p 0)) (row u) r) (row u r) (below (tail (row q 0)) (row u) r) c) := by
  simp only [Rows.silu, Rows.conv, above, below, tail, row]
  simp only [← ix2_eq_valueIdx]
  unfold k0_pay75
  pointwise

theorem pay39_at (x : Vec Ideal S1024x1024 .bf16) (w : Vec Ideal S1024x1536 .bf16) (r : Fin 1024) (c : Fin 1536) :
    k0_pay39 x w (ValueIdx.ix2 r c) = Rows.dot (row x r) (row w) c := by
  simp only [Rows.dot, row]
  simp only [← ix2_eq_valueIdx]
  unfold k0_pay39
  pointwise

theorem pay44_at (p q : FVec Ideal S1x3072 .f32) (x : Vec Ideal S1024x1024 .bf16) (v : Vec Ideal S1024x1536 .bf16)
    (w : Vec Ideal S3x512 .f32) (r : Fin 1024) (c : Fin 512) :
    k0_pay44 (k0_pay40 x v) (k0_pay41 p) (k0_pay42 q) (k0_pay43 x v) w (ValueIdx.ix2 r c)
      = row (k0_pay39 x v) r ⟨c.val, by omega⟩
        * Rows.conv (row w) (above (gated (by decide) (row p 0)) (fun s => gated (by decide) (row (k0_pay39 x v) s)) r)
            (gated (by decide) (row (k0_pay39 x v) r)) (below (gated (by decide) (row q 0)) (fun s => gated (by decide) (row (k0_pay39 x v) s)) r) c := by
  simp only [Rows.conv, above, below, gated, row]
  simp only [← ix2_eq_valueIdx]
  unfold k0_pay44 k0_pay40 k0_pay41 k0_pay42 k0_pay43
  pointwise

/-- One head's columns of a row. -/
def headCols (k : ℕ) (hk : k < 12) (x : Fin 1536 → EReal) (j : Fin 128) : EReal := x ⟨128 * k + j.val, by omega⟩

theorem head0_at (p q : FVec Ideal S1x3072 .f32) (u : FVec Ideal S1024x1536 .f32) (w : Vec Ideal S3x1536 .f32) (r : Fin 1024) (j : Fin 128) :
    k0_pay76 p q u w (ValueIdx.ix2 r j) = Rows.unit 0 (headCols 0 (by decide) (row (k0_pay75 p q u w) r)) j := by
  show _ = _ * Rows.lscale _ * _
  simp only [Rows.lscale, headCols, row]
  simp only [← ix2_eq_valueIdx]
  unfold k0_pay76
  generalize k0_pay75 p q u w = y
  pointwise

theorem head1_at (p q : FVec Ideal S1x3072 .f32) (u : FVec Ideal S1024x1536 .f32) (w : Vec Ideal S3x1536 .f32) (r : Fin 1024) (j : Fin 128) :
    k0_pay77 (k0_pay75 p q u w) (ValueIdx.ix2 r j) = Rows.unit 1 (headCols 1 (by decide) (row (k0_pay75 p q u w) r)) j := by
  show _ = _ * Rows.lscale _ * _
  simp only [Rows.lscale, headCols, row]
  simp only [← ix2_eq_valueIdx]
  unfold k0_pay77
  generalize k0_pay75 p q u w = y
  pointwise

theorem head2_at (p q : FVec Ideal S1x3072 .f32) (u : FVec Ideal S1024x1536 .f32) (w : Vec Ideal S3x1536 .f32) (r : Fin 1024) (j : Fin 128) :
    k0_pay78 (k0_pay75 p q u w) (ValueIdx.ix2 r j) = Rows.unit 2 (headCols 2 (by decide) (row (k0_pay75 p q u w) r)) j := by
  show _ = _ * Rows.lscale _ * _
  simp only [Rows.lscale, headCols, row]
  simp only [← ix2_eq_valueIdx]
  unfold k0_pay78
  generalize k0_pay75 p q u w = y
  pointwise

theorem head3_at (p q : FVec Ideal S1x3072 .f32) (u : FVec Ideal S1024x1536 .f32) (w : Vec Ideal S3x1536 .f32) (r : Fin 1024) (j : Fin 128) :
    k0_pay79 (k0_pay75 p q u w) (ValueIdx.ix2 r j) = Rows.unit 3 (headCols 3 (by decide) (row (k0_pay75 p q u w) r)) j := by
  show _ = _ * Rows.lscale _ * _
  simp only [Rows.lscale, headCols, row]
  simp only [← ix2_eq_valueIdx]
  unfold k0_pay79
  generalize k0_pay75 p q u w = y
  pointwise

theorem head4_at (p q : FVec Ideal S1x3072 .f32) (u : FVec Ideal S1024x1536 .f32) (w : Vec Ideal S3x1536 .f32) (r : Fin 1024) (j : Fin 128) :
    k0_pay80 (k0_pay75 p q u w) (ValueIdx.ix2 r j) = Rows.unit 4 (headCols 4 (by decide) (row (k0_pay75 p q u w) r)) j := by
  show _ = _ * Rows.lscale _
  simp only [Rows.lscale, headCols, row]
  simp only [← ix2_eq_valueIdx]
  unfold k0_pay80
  generalize k0_pay75 p q u w = y
  pointwise

theorem head5_at (p q : FVec Ideal S1x3072 .f32) (u : FVec Ideal S1024x1536 .f32) (w : Vec Ideal S3x1536 .f32) (r : Fin 1024) (j : Fin 128) :
    k0_pay81 (k0_pay75 p q u w) (ValueIdx.ix2 r j) = Rows.unit 5 (headCols 5 (by decide) (row (k0_pay75 p q u w) r)) j := by
  show _ = _ * Rows.lscale _
  simp only [Rows.lscale, headCols, row]
  simp only [← ix2_eq_valueIdx]
  unfold k0_pay81
  generalize k0_pay75 p q u w = y
  pointwise

theorem head6_at (p q : FVec Ideal S1x3072 .f32) (u : FVec Ideal S1024x1536 .f32) (w : Vec Ideal S3x1536 .f32) (r : Fin 1024) (j : Fin 128) :
    k0_pay82 (k0_pay75 p q u w) (ValueIdx.ix2 r j) = Rows.unit 6 (headCols 6 (by decide) (row (k0_pay75 p q u w) r)) j := by
  show _ = _ * Rows.lscale _
  simp only [Rows.lscale, headCols, row]
  simp only [← ix2_eq_valueIdx]
  unfold k0_pay82
  generalize k0_pay75 p q u w = y
  pointwise

theorem head7_at (p q : FVec Ideal S1x3072 .f32) (u : FVec Ideal S1024x1536 .f32) (w : Vec Ideal S3x1536 .f32) (r : Fin 1024) (j : Fin 128) :
    k0_pay83 (k0_pay75 p q u w) (ValueIdx.ix2 r j) = Rows.unit 7 (headCols 7 (by decide) (row (k0_pay75 p q u w) r)) j := by
  show _ = _ * Rows.lscale _
  simp only [Rows.lscale, headCols, row]
  simp only [← ix2_eq_valueIdx]
  unfold k0_pay83
  generalize k0_pay75 p q u w = y
  pointwise

theorem head8_at (p q : FVec Ideal S1x3072 .f32) (u : FVec Ideal S1024x1536 .f32) (w : Vec Ideal S3x1536 .f32) (r : Fin 1024) (j : Fin 128) :
    k0_pay84 (k0_pay75 p q u w) (ValueIdx.ix2 r j) = Rows.unit 8 (headCols 8 (by decide) (row (k0_pay75 p q u w) r)) j := by
  show _ = headCols 8 (by decide) (row (k0_pay75 p q u w) r) j
  simp only [Rows.lscale, headCols, row]
  simp only [← ix2_eq_valueIdx]
  unfold k0_pay84
  generalize k0_pay75 p q u w = y
  pointwise

theorem head9_at (p q : FVec Ideal S1x3072 .f32) (u : FVec Ideal S1024x1536 .f32) (w : Vec Ideal S3x1536 .f32) (r : Fin 1024) (j : Fin 128) :
    k0_pay85 (k0_pay75 p q u w) (ValueIdx.ix2 r j) = Rows.unit 9 (headCols 9 (by decide) (row (k0_pay75 p q u w) r)) j := by
  show _ = headCols 9 (by decide) (row (k0_pay75 p q u w) r) j
  simp only [Rows.lscale, headCols, row]
  simp only [← ix2_eq_valueIdx]
  unfold k0_pay85
  generalize k0_pay75 p q u w = y
  pointwise

theorem head10_at (p q : FVec Ideal S1x3072 .f32) (u : FVec Ideal S1024x1536 .f32) (w : Vec Ideal S3x1536 .f32) (r : Fin 1024) (j : Fin 128) :
    k0_pay86 (k0_pay75 p q u w) (ValueIdx.ix2 r j) = Rows.unit 10 (headCols 10 (by decide) (row (k0_pay75 p q u w) r)) j := by
  show _ = headCols 10 (by decide) (row (k0_pay75 p q u w) r) j
  simp only [Rows.lscale, headCols, row]
  simp only [← ix2_eq_valueIdx]
  unfold k0_pay86
  generalize k0_pay75 p q u w = y
  pointwise

theorem head11_at (p q : FVec Ideal S1x3072 .f32) (u : FVec Ideal S1024x1536 .f32) (w : Vec Ideal S3x1536 .f32) (r : Fin 1024) (j : Fin 128) :
    k0_pay87 (k0_pay75 p q u w) (ValueIdx.ix2 r j) = Rows.unit 11 (headCols 11 (by decide) (row (k0_pay75 p q u w) r)) j := by
  show _ = headCols 11 (by decide) (row (k0_pay75 p q u w) r) j
  simp only [Rows.lscale, headCols, row]
  simp only [← ix2_eq_valueIdx]
  unfold k0_pay87
  generalize k0_pay75 p q u w = y
  pointwise

end Cert.Kernel5Ideal.Inproj
end
end
-- ==== Proof.InTiles.lean ====
module

public import proofs.«01_k».proof.Proof.InLaunched
public import proofs.«01_k».proof.Proof.InPays
public import Idealize.ShloMosaic.Lib.StableHlo.Run
public import Idealize.ShloMosaic.Lib.IdealHost

@[expose] public section

set_option maxRecDepth 16384

noncomputable section

namespace Cert.Kernel5Ideal.Inproj

open Idealize.ShloMosaic Idealize.ShloMosaic.TcCoe Idealize.ShloMosaic.StableHlo Idealize.SL.Sem
open Cert.Kernel5Ideal Cert.Kernel5Ideal.Gen

variable (m : (ℓ : Loc nD τ sig) → Buf (Elt Ideal) ℓ) (ρ : Dev nD → PrngReg)

/-! ## The arguments, as tables of extended reals -/

abbrev inH (c : Dev nD) : S33792x1024.Idx → EReal := m ((c : Thread nD τ).loc main_arg0)
abbrev inPre (c : Dev nD) : S1024.Idx → EReal := m ((c : Thread nD τ).loc main_arg1)
abbrev inW (c : Dev nD) : S1024x7184.Idx → EReal := m ((c : Thread nD τ).loc main_arg2)
abbrev inWcs (c : Dev nD) : S512x1024.Idx → EReal := m ((c : Thread nD τ).loc main_arg3)
abbrev inSconv (c : Dev nD) : S3x512.Idx → EReal := m ((c : Thread nD τ).loc main_arg4)
abbrev inConv (c : Dev nD) : S3x1536.Idx → EReal := m ((c : Thread nD τ).loc main_arg5)
abbrev inRate (c : Dev nD) : S2x4.Idx → EReal := m ((c : Thread nD τ).loc main_arg6)
abbrev inShift (c : Dev nD) : S2x4.Idx → EReal := m ((c : Thread nD τ).loc main_arg7)

theorem V_v14 (c : Dev nD) : V m c main_v14 = broadcastInDim S1x1024 ![1] bcast_S1024_S1x1024_1 (inPre m c) := by
  unfold V
  simp only [hostOps0, hostOps0_1, hostOps0_2, List.flatten_cons, List.flatten_nil, List.append_nil, List.cons_append, List.nil_append]
  after_results
theorem V_v16 (c : Dev nD) : V m c main_v16 = extractStridedSlice S1024x4096 ![0, 0] (inW m c) slices_S1024x7184_S1024x4096_0_0 := by
  unfold V
  simp only [hostOps0, hostOps0_1, hostOps0_2, List.flatten_cons, List.flatten_nil, List.append_nil, List.cons_append, List.nil_append]
  after_results; rfl
theorem V_v18 (c : Dev nD) : V m c main_v18 = extractStridedSlice S1024x3072 ![0, 4112] (inW m c) slices_S1024x7184_S1024x3072_0_4112 := by
  unfold V
  simp only [hostOps0, hostOps0_1, hostOps0_2, List.flatten_cons, List.flatten_nil, List.append_nil, List.cons_append, List.nil_append]
  after_results; rfl
theorem V_v19 (c : Dev nD) : V m c main_v19 = inWcs m c := by
  unfold V
  simp only [hostOps0, hostOps0_1, hostOps0_2, List.flatten_cons, List.flatten_nil, List.append_nil, List.cons_append, List.nil_append]
  after_results; rfl

theorem gain_at (g : S1024.Idx → EReal) : row (broadcastInDim S1x1024 ![1] bcast_S1024_S1x1024_1 g) 0 = fun k => g (ValueIdx.ix1 k) := by
  funext k
  simp only [row, ← ix2_eq_valueIdx, ← ix1_eq_valueIdx]
  pointwise

theorem main_cols (w : S1024x7184.Idx → EReal) (a : Fin 1024) (k : Fin 4096) :
    extractStridedSlice S1024x4096 ![0, 0] w slices_S1024x7184_S1024x4096_0_0 (ValueIdx.ix2 a k) = Rows.cols (row w) 0 a k :=
  congrArg w (funext fun b => Fin.ext (by
    match b with
    | ⟨0, _⟩ => show 0 + a.val = a.val; omega
    | ⟨1, _⟩ => show 0 + k.val = (0 + k.val) % 7184; omega))

theorem gate_cols (w : S1024x7184.Idx → EReal) (a : Fin 1024) (k : Fin 3072) :
    extractStridedSlice S1024x3072 ![0, 4112] w slices_S1024x7184_S1024x3072_0_4112 (ValueIdx.ix2 a k) = Rows.cols (row w) 4112 a k :=
  congrArg w (funext fun b => Fin.ext (by
    match b with
    | ⟨0, _⟩ => show 0 + a.val = a.val; omega
    | ⟨1, _⟩ => show 4112 + k.val = (4112 + k.val) % 7184; omega))

/-! ## The rows of the arguments a tile's rows are: tile `t` takes rows `1024 t` to `1024 t + 1023` -/

theorem pts (t : Fin cfg0.N) : t.val < 34 := lt_of_lt_of_eq t.isLt (show cfg0.N = 34 from N_0)

/-- Row `r` of tile `n`. -/
def src (n : ℕ) (r : Fin 1024) : Fin 33792 := ⟨(n * 1024 + r.val) % 33792, Nat.mod_lt _ (by decide)⟩

theorem index0 : ∀ t : Fin cfg0.N, win0_0.index t (0 : Fin 2) = min t.val 32 ∧ win0_0.index t (1 : Fin 2) = 0 := by decide +kernel
theorem index1 : ∀ t : Fin cfg0.N, win0_1.index t (0 : Fin 2) = min t.val 32 * 128 - 1 ∧ win0_1.index t (1 : Fin 2) = 0 := by decide +kernel
theorem index2 : ∀ t : Fin cfg0.N, win0_2.index t (0 : Fin 2) = min ((min t.val 32 + 1) * 128) 4223 ∧ win0_2.index t (1 : Fin 2) = 0 := by decide +kernel

theorem blk0_at (c : Dev nD) (n : ℕ) (h : n ≤ 32) (r : Fin 1024) : row (iblk m c 0 (pnt n)) r = row (inH m c) (src n r) := by
  funext k
  have hi := index0 (pnt n)
  have e : min (pnt n).val 32 = n := by show min (n % 34) 32 = n; omega
  rw [e] at hi
  unfold row iblk
  rw [View.read_apply]
  show V m c main_arg0 _ = _
  rw [V_main_arg0]
  refine congrArg (inH m c) (funext fun a => Fin.ext ?_)
  match a with
  | ⟨0, _⟩ =>
    show win0_0.index (pnt n) (0 : Fin 2) * 1024 + 1 * r.val = (n * 1024 + r.val) % 33792
    rw [hi.1]; have hr := r.isLt; clear hi e; omega
  | ⟨1, _⟩ => show win0_0.index (pnt n) (1 : Fin 2) * _ + 1 * k.val = k.val; rw [hi.2, Nat.zero_mul, Nat.one_mul, Nat.zero_add]

/-- The row before tile `n`. -/
theorem blk1_at (c : Dev nD) (n : ℕ) (h : n ≤ 32) (h0 : 0 < n) : row (iblk m c 1 (pnt n)) 7 = row (inH m c) ⟨1024 * n - 1, by omega⟩ := by
  funext k
  have hi := index1 (pnt n)
  have e : min (pnt n).val 32 = n := by show min (n % 34) 32 = n; omega
  rw [e] at hi
  unfold row iblk
  rw [View.read_apply]
  show V m c main_arg0 _ = _
  rw [V_main_arg0]
  refine congrArg (inH m c) (funext fun a => Fin.ext ?_)
  match a with
  | ⟨0, _⟩ =>
    show win0_1.index (pnt n) (0 : Fin 2) * 8 + 1 * 7 = 1024 * n - 1
    rw [hi.1]; clear hi e; omega
  | ⟨1, _⟩ => show win0_1.index (pnt n) (1 : Fin 2) * _ + 1 * k.val = k.val; rw [hi.2, Nat.zero_mul, Nat.one_mul, Nat.zero_add]

/-- The row after tile `n`. -/
theorem blk2_at (c : Dev nD) (n : ℕ) (h : n < 32) : row (iblk m c 2 (pnt n)) 0 = row (inH m c) ⟨1024 * n + 1024, by omega⟩ := by
  funext k
  have hi := index2 (pnt n)
  have e : min (pnt n).val 32 = n := by show min (n % 34) 32 = n; omega
  rw [e] at hi
  unfold row iblk
  rw [View.read_apply]
  show V m c main_arg0 _ = _
  rw [V_main_arg0]
  refine congrArg (inH m c) (funext fun a => Fin.ext ?_)
  match a with
  | ⟨0, _⟩ =>
    show win0_2.index (pnt n) (0 : Fin 2) * 8 + 1 * 0 = 1024 * n + 1024
    rw [hi.1]; clear hi e; omega
  | ⟨1, _⟩ => show win0_2.index (pnt n) (1 : Fin 2) * _ + 1 * k.val = k.val; rw [hi.2, Nat.zero_mul, Nat.one_mul, Nat.zero_add]

theorem blk3_at (c : Dev nD) (t : Fin cfg0.N) : row (iblk m c 3 t) 0 = fun k => inPre m c (ValueIdx.ix1 k) := by
  rw [← gain_at, ← V_v14]
  funext k
  unfold row iblk
  rw [View.read_apply]
  exact congrArg (V m c main_v14) (funext fun a => Fin.ext (by
    match a with
    | ⟨0, _⟩ => rfl
    | ⟨1, _⟩ => show 0 + 1 * k.val = k.val; omega))

theorem blk4_at (c : Dev nD) (t : Fin cfg0.N) : row (iblk m c 4 t) = Rows.cols (row (inW m c)) 0 := by
  funext a k
  refine (show _ = V m c main_v16 (ValueIdx.ix2 a k) from ?_).trans ?_
  · unfold row iblk
    rw [View.read_apply]
    exact congrArg (V m c main_v16) (funext fun b => Fin.ext (by
      match b with
      | ⟨0, _⟩ => show 0 + 1 * a.val = a.val; omega
      | ⟨1, _⟩ => show 0 + 1 * k.val = k.val; omega))
  · rw [V_v16]; exact main_cols _ a k

theorem blk6_at (c : Dev nD) (t : Fin cfg0.N) : row (iblk m c 6 t) = Rows.cols (row (inW m c)) 4112 := by
  funext a k
  refine (show _ = V m c main_v18 (ValueIdx.ix2 a k) from ?_).trans ?_
  · unfold row iblk
    rw [View.read_apply]
    exact congrArg (V m c main_v18) (funext fun b => Fin.ext (by
      match b with
      | ⟨0, _⟩ => show 0 + 1 * a.val = a.val; omega
      | ⟨1, _⟩ => show 0 + 1 * k.val = k.val; omega))
  · rw [V_v18]; exact gate_cols _ a k

theorem blk7_at (c : Dev nD) (t : Fin cfg0.N) : row (iblk m c 7 t) = row (inWcs m c) := by
  funext a k
  refine (show _ = V m c main_v19 (ValueIdx.ix2 a k) from ?_).trans ?_
  · unfold row iblk
    rw [View.read_apply]
    exact congrArg (V m c main_v19) (funext fun b => Fin.ext (by
      match b with
      | ⟨0, _⟩ => show 0 + 1 * a.val = a.val; omega
      | ⟨1, _⟩ => show 0 + 1 * k.val = k.val; omega))
  · rw [V_v19]; rfl

theorem blk8_at (c : Dev nD) (t : Fin cfg0.N) : row (iblk m c 8 t) = row (inSconv m c) := by
  funext a k
  refine (show _ = V m c main_arg4 (ValueIdx.ix2 a k) from ?_).trans ?_
  · unfold row iblk
    rw [View.read_apply]
    exact congrArg (V m c main_arg4) (funext fun b => Fin.ext (by
      match b with
      | ⟨0, _⟩ => show 0 + 1 * a.val = a.val; omega
      | ⟨1, _⟩ => show 0 + 1 * k.val = k.val; omega))
  · rw [V_main_arg4]; rfl

theorem blk9_at (c : Dev nD) (t : Fin cfg0.N) : row (iblk m c 9 t) = row (inConv m c) := by
  funext a k
  refine (show _ = V m c main_arg5 (ValueIdx.ix2 a k) from ?_).trans ?_
  · unfold row iblk
    rw [View.read_apply]
    exact congrArg (V m c main_arg5) (funext fun b => Fin.ext (by
      match b with
      | ⟨0, _⟩ => show 0 + 1 * a.val = a.val; omega
      | ⟨1, _⟩ => show 0 + 1 * k.val = k.val; omega))
  · rw [V_main_arg5]; rfl

theorem wHalo_at (x : Vec Ideal S1024x4096 .bf16) (w : Fin 1024 → Fin 7184 → EReal) (h : row x = Rows.cols w 0) : row (wHalo x) = Rows.cols w 512 := by
  funext a k
  have hk := k.isLt
  refine (congrArg x (funext fun b => Fin.ext ?_) : row (wHalo x) a k = row x a ⟨512 + k.val, by omega⟩).trans ?_
  · match b with
    | ⟨0, _⟩ => show 0 + 1 * a.val = a.val; omega
    | ⟨1, _⟩ => show 512 + 1 * k.val = 512 + k.val; omega
  · refine (congrFun (congrFun h a) _).trans ?_
    exact congrArg (w a) (Fin.ext (by show (0 + (512 + k.val)) % 7184 = (512 + k.val) % 7184; omega))

theorem wFourier_at (x : Vec Ideal S1024x4096 .bf16) (w : Fin 1024 → Fin 7184 → EReal) (h : row x = Rows.cols w 0) : row (wFourier x) = Rows.cols w 0 := by
  funext a k
  have hk := k.isLt
  refine (congrArg x (funext fun b => Fin.ext ?_) : row (wFourier x) a k = row x a ⟨0 + k.val, by omega⟩).trans ?_
  · match b with
    | ⟨0, _⟩ => show 0 + 1 * a.val = a.val; omega
    | ⟨1, _⟩ => show 0 + 1 * k.val = 0 + k.val; omega
  · refine (congrFun (congrFun h a) _).trans ?_
    exact congrArg (w a) (Fin.ext (by show (0 + (0 + k.val)) % 7184 = (0 + k.val) % 7184; omega))

theorem wShort_at (x : Vec Ideal S1024x4096 .bf16) (w : Fin 1024 → Fin 7184 → EReal) (h : row x = Rows.cols w 0) : row (wShort x) = Rows.cols w 512 := by
  funext a k
  have hk := k.isLt
  refine (congrArg x (funext fun b => Fin.ext ?_) : row (wShort x) a k = row x a ⟨512 + k.val, by omega⟩).trans ?_
  · match b with
    | ⟨0, _⟩ => show 0 + 1 * a.val = a.val; omega
    | ⟨1, _⟩ => show 512 + 1 * k.val = 512 + k.val; omega
  · refine (congrFun (congrFun h a) _).trans ?_
    exact congrArg (w a) (Fin.ext (by show (0 + (512 + k.val)) % 7184 = (512 + k.val) % 7184; omega))

theorem wDelta_at (x : Vec Ideal S1024x4096 .bf16) (w : Fin 1024 → Fin 7184 → EReal) (h : row x = Rows.cols w 0) : row (wDelta x) = Rows.cols w 2048 := by
  funext a k
  have hk := k.isLt
  refine (congrArg x (funext fun b => Fin.ext ?_) : row (wDelta x) a k = row x a ⟨2048 + k.val, by omega⟩).trans ?_
  · match b with
    | ⟨0, _⟩ => show 0 + 1 * a.val = a.val; omega
    | ⟨1, _⟩ => show 2048 + 1 * k.val = 2048 + k.val; omega
  · refine (congrFun (congrFun h a) _).trans ?_
    exact congrArg (w a) (Fin.ext (by show (0 + (2048 + k.val)) % 7184 = (2048 + k.val) % 7184; omega))

theorem wOut_at (x : Vec Ideal S1024x4096 .bf16) (w : Fin 1024 → Fin 7184 → EReal) (h : row x = Rows.cols w 0) : row (wOut x) = Rows.cols w 3584 := by
  funext a k
  have hk := k.isLt
  refine (congrArg x (funext fun b => Fin.ext ?_) : row (wOut x) a k = row x a ⟨3584 + k.val, by omega⟩).trans ?_
  · match b with
    | ⟨0, _⟩ => show 0 + 1 * a.val = a.val; omega
    | ⟨1, _⟩ => show 3584 + 1 * k.val = 3584 + k.val; omega
  · refine (congrFun (congrFun h a) _).trans ?_
    exact congrArg (w a) (Fin.ext (by show (0 + (3584 + k.val)) % 7184 = (3584 + k.val) % 7184; omega))

/-! ## The neighbouring rows -/

/-- Row `p` of the input, normalised. -/
def xnAt (c : Dev nD) (p : Fin 33792) : Fin 1024 → EReal := Rows.norm (row (inH m c) p) (fun k => inPre m c (ValueIdx.ix1 k))

/-- Columns of the projection of row `p`. -/
def projAt (c : Dev nD) (off n : ℕ) (p : Fin 33792) : Fin n → EReal := Rows.dot (xnAt m c p) (Rows.cols (row (inW m c)) off)

theorem xn_at (c : Dev nD) (n : ℕ) (h : n ≤ 32) (r : Fin 1024) :
    row (k0_pay6 (iblk m c 3 (pnt n)) (iblk m c 0 (pnt n))) r = xnAt m c (src n r) := by
  funext k
  refine (pay6_at _ _ r k).trans ?_
  rw [blk0_at m c n h, blk3_at]; rfl

theorem word_pos : ∀ n : Fin 33, Scalar.cmpi .sgt (word (grid0.coords (pnt n.val))) 0#32 = BitVec.ofBool (decide (0 < n.val)) := by decide +kernel
theorem word_end : ∀ n : Fin 33, Scalar.cmpi .slt (word (grid0.coords (pnt n.val))) 32#32 = BitVec.ofBool (decide (n.val < 32)) := by decide +kernel

theorem prev_at (c : Dev nD) (n : ℕ) (h : n ≤ 32) :
    row (prev m c (pnt n)) 0 = if h0 : 0 < n then projAt m c 512 3072 ⟨1024 * n - 1, by omega⟩ else fun _ => 0 := by
  funext k
  refine (pay8_at _ _ _ _ _ k).trans ?_
  rw [word_pos ⟨n, by omega⟩, Ideal.ofBits_zero_f32]
  by_cases h0 : 0 < n
  · rw [dif_pos h0, decide_eq_true h0]
    refine (pay7_prev _ _ _ _ k).trans ?_
    rw [blk1_at m c n h h0, blk3_at, wHalo_at _ _ (blk4_at m c (pnt n))]; rfl
  · rw [dif_neg h0, decide_eq_false h0]; rfl

theorem next_at (c : Dev nD) (n : ℕ) (h : n ≤ 32) :
    row (next m c (pnt n)) 0 = if h0 : n < 32 then projAt m c 512 3072 ⟨1024 * n + 1024, by omega⟩ else fun _ => 0 := by
  funext k
  refine (pay9_at _ _ k).trans ?_
  rw [word_end ⟨n, by omega⟩, Ideal.ofBits_zero_f32]
  by_cases h0 : n < 32
  · rw [dif_pos h0, decide_eq_true h0]
    refine (pay7_next _ _ _ _ k).trans ?_
    rw [blk2_at m c n h0, blk3_at, wHalo_at _ _ (blk4_at m c (pnt n))]; rfl
  · rw [dif_neg h0, decide_eq_false h0]; rfl

theorem first_row : ∀ r : Fin 1024, IntOp.cmpi CmpIPredicate.eq (BitVec.ofNat 32 r.val) 0#32 = BitVec.ofBool (decide (r.val = 0)) := by decide +kernel
theorem last_row : ∀ r : Fin 1024, IntOp.cmpi CmpIPredicate.eq (BitVec.ofNat 32 r.val) 1023#32 = BitVec.ofBool (decide (r.val = 1023)) := by decide +kernel

theorem above_eq {k : ℕ} (a : Fin k → EReal) (u : Fin 1024 → Fin k → EReal) (v : Fin 33792 → Fin k → EReal) (n : ℕ) (h : n ≤ 32)
    (hu : ∀ r, u r = v (src n r)) (ha : a = if h0 : 0 < n then v ⟨1024 * n - 1, by omega⟩ else fun _ => 0) (r : Fin 1024) :
    above a u r = Rows.before v (src n r) := by
  funext j
  have hr := r.isLt
  have e : (src n r).val = n * 1024 + r.val := by show (n * 1024 + r.val) % 33792 = _; omega
  unfold above Rows.before
  rw [first_row]
  by_cases h1 : r.val = 0
  · rw [decide_eq_true h1]
    refine (show _ = a j from rfl).trans ?_
    rw [ha]
    by_cases h0 : 0 < n
    · rw [dif_pos h0, dif_neg (by omega)]
      exact congrFun (congrArg v (Fin.ext (by show 1024 * n - 1 = (src n r).val - 1; omega))) j
    · rw [dif_neg h0, dif_pos (by omega)]
  · rw [decide_eq_false h1, dif_neg (by omega)]
    refine (show _ = u ⟨(r.val + 1024 - 1) % 1024, _⟩ j from rfl).trans ?_
    rw [hu]
    exact congrFun (congrArg v (Fin.ext (by show (n * 1024 + (r.val + 1024 - 1) % 1024) % 33792 = (src n r).val - 1; omega))) j

theorem below_eq {k : ℕ} (a : Fin k → EReal) (u : Fin 1024 → Fin k → EReal) (v : Fin 33792 → Fin k → EReal) (n : ℕ) (h : n ≤ 32)
    (hu : ∀ r, u r = v (src n r)) (ha : a = if h0 : n < 32 then v ⟨1024 * n + 1024, by omega⟩ else fun _ => 0) (r : Fin 1024) :
    below a u r = Rows.after v (src n r) := by
  funext j
  have hr := r.isLt
  have e : (src n r).val = n * 1024 + r.val := by show (n * 1024 + r.val) % 33792 = _; omega
  unfold below Rows.after
  rw [last_row]
  by_cases h1 : r.val = 1023
  · rw [decide_eq_true h1]
    refine (show _ = a j from rfl).trans ?_
    rw [ha]
    by_cases h0 : n < 32
    · rw [dif_pos h0, dif_pos (by omega)]
      exact congrFun (congrArg v (Fin.ext (by show 1024 * n + 1024 = (src n r).val + 1; omega))) j
    · rw [dif_neg h0, dif_neg (by omega)]
  · rw [decide_eq_false h1, dif_pos (by omega)]
    refine (show _ = u ⟨(r.val + 1024 - 1023) % 1024, _⟩ j from rfl).trans ?_
    rw [hu]
    exact congrFun (congrArg v (Fin.ext (by show (n * 1024 + (r.val + 1024 - 1023) % 1024) % 33792 = (src n r).val + 1; omega))) j

/-! ## A tile's results, at a row -/

/-- The six results on row `p`, but the decays. -/
def abRow (c : Dev nD) (p : Fin 33792) : Fin 1024 → EReal := Rows.dot (projAt m c 0 512 p) (row (inWcs m c))
def scRow (c : Dev nD) (p : Fin 33792) : Fin 512 → EReal := Rows.short (row (inSconv m c)) (projAt m c 512 1536) p
def qkvRow (c : Dev nD) (p : Fin 33792) : Fin 1536 → EReal := Rows.units (Rows.mixed (row (inConv m c)) (projAt m c 2048 1536) p)
def zRow (c : Dev nD) (p : Fin 33792) : Fin 512 → EReal := projAt m c 3584 512 p
def gateRow (c : Dev nD) (p : Fin 33792) (j : Fin 3072) : EReal := Ideal.logistic (projAt m c 4112 3072 p j)

theorem own_le (n : ℕ) (h : n ≤ 32) : own n = pnt n := congrArg pnt (Nat.min_eq_left h)

theorem ab_at (c : Dev nD) (n : ℕ) (h : n ≤ 32) (r : Fin 1024) (k : Fin 1024) : abAt m c n (ValueIdx.ix2 r k) = abRow m c (src n r) k := by
  unfold abAt; rw [own_le n h]
  refine (pay24_at _ _ _ r k).trans ?_
  rw [xn_at m c n h, blk7_at, wFourier_at _ _ (blk4_at m c (pnt n))]; rfl

theorem z_at (c : Dev nD) (n : ℕ) (h : n ≤ 32) (r : Fin 1024) (k : Fin 512) : zAt m c n (ValueIdx.ix2 r k) = zRow m c (src n r) k := by
  unfold zAt; rw [own_le n h]
  refine (pay2_at _ _ r k).trans ?_
  rw [xn_at m c n h, wOut_at _ _ (blk4_at m c (pnt n))]; rfl

theorem gate_at (c : Dev nD) (n : ℕ) (h : n ≤ 32) (r : Fin 1024) (k : Fin 3072) : gateAt m c n (ValueIdx.ix2 r k) = gateRow m c (src n r) k := by
  unfold gateAt; rw [own_le n h]
  refine (pay3_at _ _ r k).trans ?_
  rw [xn_at m c n h, blk6_at]; rfl

theorem short_row (c : Dev nD) (n : ℕ) (h : n ≤ 32) (r : Fin 1024) :
    row (k0_pay39 (k0_pay6 (iblk m c 3 (pnt n)) (iblk m c 0 (pnt n))) (wShort (iblk m c 4 (pnt n)))) r = projAt m c 512 1536 (src n r) := by
  funext k
  refine (pay39_at _ _ r k).trans ?_
  rw [xn_at m c n h, wShort_at _ _ (blk4_at m c (pnt n))]; rfl

theorem delta_row (c : Dev nD) (n : ℕ) (h : n ≤ 32) (r : Fin 1024) :
    row (k0_pay59 (k0_pay6 (iblk m c 3 (pnt n)) (iblk m c 0 (pnt n))) (wDelta (iblk m c 4 (pnt n)))) r = projAt m c 2048 1536 (src n r) := by
  funext k
  refine (pay59_at _ _ r k).trans ?_
  rw [xn_at m c n h, wDelta_at _ _ (blk4_at m c (pnt n))]; rfl

theorem halo_gated (c : Dev nD) (p : Fin 33792) : gated (by decide) (projAt m c 512 3072 p) = Rows.pair (projAt m c 512 1536 p) := rfl

theorem halo_tail (c : Dev nD) (p : Fin 33792) : tail (projAt m c 512 3072 p) = projAt m c 2048 1536 p := by
  funext j
  have hj := j.isLt
  have e : ∀ k, Rows.cols (n := 3072) (row (inW m c)) 512 k ⟨1536 + j.val, by omega⟩ = Rows.cols (row (inW m c)) 2048 k j := fun k =>
    congrArg (row (inW m c) k) (Fin.ext ?_)
  · unfold tail projAt Rows.dot
    simp only [e]
  show (512 + (1536 + j.val)) % 7184 = (2048 + j.val) % 7184
  omega

theorem sc_at (c : Dev nD) (n : ℕ) (h : n ≤ 32) (r : Fin 1024) (k : Fin 512) : scAt m c n (ValueIdx.ix2 r k) = scRow m c (src n r) k := by
  unfold scAt; rw [own_le n h]
  refine (pay44_at _ _ _ _ _ r k).trans ?_
  have eu : ∀ s, gated (by decide) (row (k0_pay39 (k0_pay6 (iblk m c 3 (pnt n)) (iblk m c 0 (pnt n))) (wShort (iblk m c 4 (pnt n)))) s)
      = Rows.pair (projAt m c 512 1536 (src n s)) := fun s => by rw [short_row m c n h]; rfl
  rw [above_eq _ _ (fun p => Rows.pair (projAt m c 512 1536 p)) n h eu ?_ r, below_eq _ _ (fun p => Rows.pair (projAt m c 512 1536 p)) n h eu ?_ r,
    eu, short_row m c n h, blk8_at]
  · rfl
  · rw [next_at m c n h]
    split
    · exact halo_gated m c _
    · funext j; exact mul_zero _
  · rw [prev_at m c n h]
    split
    · exact halo_gated m c _
    · funext j; exact mul_zero _

theorem mixed_at (c : Dev nD) (n : ℕ) (h : n ≤ 32) (r : Fin 1024) :
    row (k0_pay75 (prev m c (pnt n)) (next m c (pnt n)) (k0_pay59 (k0_pay6 (iblk m c 3 (pnt n)) (iblk m c 0 (pnt n))) (wDelta (iblk m c 4 (pnt n))))
        (iblk m c 9 (pnt n))) r
      = Rows.mixed (row (inConv m c)) (projAt m c 2048 1536) (src n r) := by
  funext k
  refine (pay75_at _ _ _ _ r k).trans ?_
  rw [above_eq _ _ (projAt m c 2048 1536) n h (delta_row m c n h) ?_ r, below_eq _ _ (projAt m c 2048 1536) n h (delta_row m c n h) ?_ r,
    delta_row m c n h, blk9_at]
  · rfl
  · rw [next_at m c n h]
    split
    · exact halo_tail m c _
    · rfl
  · rw [prev_at m c n h]
    split
    · exact halo_tail m c _
    · rfl

theorem cut_eq (k : ℕ) (hk : k < 12) (x : Fin 1536 → EReal) : headCols k hk x = Rows.cut k x := by
  funext j
  have hj := j.isLt
  exact congrArg x (Fin.ext (by show 128 * k + j.val = (128 * k + j.val) % 1536; omega))

theorem head_at (p q : FVec Ideal S1x3072 .f32) (u : FVec Ideal S1024x1536 .f32) (w : Vec Ideal S3x1536 .f32) (k : ℕ) (hk : k < 12) (r : Fin 1024)
    (j : Fin 128) : headOf p q u w k (ValueIdx.ix2 r j) = Rows.unit k (Rows.cut k (row (k0_pay75 p q u w) r)) j := by
  rw [← cut_eq k hk]
  match k, hk with
  | 0, _ => exact head0_at p q u w r j
  | 1, _ => exact head1_at p q u w r j
  | 2, _ => exact head2_at p q u w r j
  | 3, _ => exact head3_at p q u w r j
  | 4, _ => exact head4_at p q u w r j
  | 5, _ => exact head5_at p q u w r j
  | 6, _ => exact head6_at p q u w r j
  | 7, _ => exact head7_at p q u w r j
  | 8, _ => exact head8_at p q u w r j
  | 9, _ => exact head9_at p q u w r j
  | 10, _ => exact head10_at p q u w r j
  | 11, _ => exact head11_at p q u w r j
  | k + 12, hk => exact absurd hk (Nat.not_lt.2 (Nat.le_add_left _ _))

theorem qkv_at (c : Dev nD) (n : ℕ) (h : n ≤ 32) (r : Fin 1024) (k : Fin 1536) : qkvAt m c n (ValueIdx.ix2 r k) = qkvRow m c (src n r) k := by
  have hk := k.isLt
  unfold qkvAt; rw [own_le n h]
  refine (head_at _ _ _ _ (k.val / 128) (by omega) r ⟨k.val % 128, Nat.mod_lt _ (by decide)⟩).trans ?_
  rw [mixed_at m c n h]; rfl

end Cert.Kernel5Ideal.Inproj
end
end
-- ==== Proof.InArrays.lean ====
module

public import proofs.«01_k».proof.Proof.InTiles

@[expose] public section

set_option maxRecDepth 16384

noncomputable section

namespace Cert.Kernel5Ideal.Inproj

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

theorem src_eq (n : ℕ) (h : n ≤ 32) (r : Fin 1024) : src n r = ⟨n * 1024 + r.val, by omega⟩ := Fin.ext (Nat.mod_eq_of_lt (by omega))

theorem index11 : ∀ t : Fin cfg0.N, win0_11.index t (0 : Fin 2) = min t.val 32 ∧ win0_11.index t (1 : Fin 2) = 0 := by decide +kernel
theorem flush11 (t : Fin cfg0.N) : (cfg0.win 11).flush t = decide (t.val ≠ 32) :=
  ((cfg0.win 11).flush_eq_flushF t).trans ((by decide +kernel : ∀ t : Fin grid0.N, win0_11.flushF t = decide (t.val ≠ 32)) t)

theorem ab_after (c : Dev nD) (t : Fin cfg0.N) (r : Fin 1024) (k : Fin 1024) (h : t.val ≠ 32) :
    (dats m 0 c).after 11 t (ValueIdx.ix2 r k) = abRow m c (src (min t.val 32) r) k := by
  have hN := pts t
  rw [after11]
  refine (congrFun (show abAt m c t.val = abAt m c (min t.val 32) from ?_) _).trans (ab_at m c _ (Nat.min_le_right _ _) r k)
  unfold abAt own
  rw [Nat.min_assoc, Nat.min_self]

/-- What the array of result 0 is shown to hold. -/
def abRes (c : Dev nD) : Buf (Elt Ideal) ((c : Thread nD τ).loc main_v20_0) :=
  fun i : S33792x1024.Idx => abRow m c ⟨(i 0).val, (i 0).isLt⟩ ⟨(i 1).val, (i 1).isLt⟩

theorem ab_flushed (c : Dev nD) (t : Fin cfg0.N) (hf : (cfg0.win 11).flush t = true) :
    (dats m 0 c).flushed 11 t = ((cfg0.win 11).blk t).view.read (Elt Ideal) (abRes m c) := by
  have h : t.val ≠ 32 := of_decide_eq_true ((flush11 t).symm.trans hf)
  have hi := index11 t
  have hN := pts t
  have hb : min t.val 32 ≤ 32 := by omega
  show (cfg0.win 11).cut (grid0.coords t) ((dats m 0 c).after 11 t) = _
  funext j
  have hj0 : (j 0).val < 1024 := (j 0).isLt
  rw [View.read_apply]
  have e0 : win0_11.index t (0 : Fin 2) * 1024 + 1 * (j 0).val = (min t.val 32) * 1024 + (j 0).val := by rw [hi.1, Nat.one_mul]
  have e1 : win0_11.index t (1 : Fin 2) * 1024 + 1 * (j 1).val = (j 1).val := by rw [hi.2, Nat.zero_mul, Nat.one_mul, Nat.zero_add]
  refine (show _ = (dats m 0 c).after 11 t (ValueIdx.ix2 ⟨(j 0).val, hj0⟩ ⟨(j 1).val, (j 1).isLt⟩) from ?_).trans ?_
  · exact congrArg ((dats m 0 c).after 11 t) (funext fun a => by match a with | ⟨0, _⟩ => rfl | ⟨1, _⟩ => rfl)
  · rw [ab_after m c t _ _ h]
    show _ = abRow m c ⟨win0_11.index t (0 : Fin 2) * 1024 + 1 * (j 0).val, _⟩ ⟨win0_11.index t (1 : Fin 2) * 1024 + 1 * (j 1).val, _⟩
    have es := src_eq (min t.val 32) hb ⟨(j 0).val, hj0⟩
    simp only [e0, e1, es]

theorem ab_mem (t : Fin cfg0.N) (i : S33792x1024.Idx) :
    i ∈ ((cfg0.win 11).blk t).view.set ↔ (min t.val 32) * 1024 ≤ (i 0 : ℕ) ∧ (i 0 : ℕ) < (min t.val 32) * 1024 + 1024 := by
  show i ∈ ((View.whole main_v20_0).slice (win0_11.rect t)).set ↔ _
  rw [View.set_slice_whole, Rect.mem_set_unit]
  have h1 : (i 1 : ℕ) < 1024 := (i 1).isLt
  have hi := index11 t
  refine ⟨fun h => ?_, fun h a => ?_⟩
  · have : win0_11.index t (0 : Fin 2) * 1024 ≤ (i 0 : ℕ) ∧ (i 0 : ℕ) < win0_11.index t (0 : Fin 2) * 1024 + 1024 := h 0
    rwa [hi.1] at this
  · match a with
    | ⟨0, _⟩ => show win0_11.index t (0 : Fin 2) * 1024 ≤ (i 0 : ℕ) ∧ (i 0 : ℕ) < win0_11.index t (0 : Fin 2) * 1024 + 1024; rw [hi.1]; exact h
    | ⟨1, _⟩ =>
      show win0_11.index t (1 : Fin 2) * 1024 ≤ (i 1 : ℕ) ∧ (i 1 : ℕ) < win0_11.index t (1 : Fin 2) * 1024 + 1024
      rw [hi.2, Nat.zero_mul]; exact ⟨Nat.zero_le _, by rwa [Nat.zero_add]⟩

theorem ab_cover (i : S33792x1024.Idx) : ∃ t : Fin cfg0.N, (cfg0.win 11).flush t = true ∧ i ∈ ((cfg0.win 11).blk t).view.set := by
  have h0 : (i 0 : ℕ) < 33792 := (i 0).isLt
  by_cases hl : (i 0 : ℕ) / 1024 = 32
  · have ht : 33 < cfg0.N := by rw [show cfg0.N = 34 from N_0]; omega
    refine ⟨⟨33, ht⟩, (flush11 _).trans (decide_eq_true (show (33 : ℕ) ≠ 32 by decide)), ?_⟩
    rw [ab_mem]
    dsimp only
    omega
  · have ht : (i 0 : ℕ) / 1024 < cfg0.N := by rw [show cfg0.N = 34 from N_0]; omega
    refine ⟨⟨(i 0 : ℕ) / 1024, ht⟩, (flush11 _).trans (decide_eq_true hl), ?_⟩
    rw [ab_mem]
    dsimp only
    omega

theorem ab_final (c : Dev nD) : (dats m 0 c).arrAt 11 cfg0.N = abRes m c :=
  (dats m 0 c).arrAt_eq_of_cover 11 (abRes m c) (ab_flushed m c) ab_cover

theorem index12 : ∀ t : Fin cfg0.N, win0_12.index t (0 : Fin 2) = min t.val 32 ∧ win0_12.index t (1 : Fin 2) = 0 := by decide +kernel
theorem flush12 (t : Fin cfg0.N) : (cfg0.win 12).flush t = decide (t.val ≠ 32) :=
  ((cfg0.win 12).flush_eq_flushF t).trans ((by decide +kernel : ∀ t : Fin grid0.N, win0_12.flushF t = decide (t.val ≠ 32)) t)

theorem sc_after (c : Dev nD) (t : Fin cfg0.N) (r : Fin 1024) (k : Fin 512) (h : t.val ≠ 32) :
    (dats m 0 c).after 12 t (ValueIdx.ix2 r k) = scRow m c (src (min t.val 32) r) k := by
  have hN := pts t
  rw [after12]
  refine (congrFun (show scAt m c t.val = scAt m c (min t.val 32) from ?_) _).trans (sc_at m c _ (Nat.min_le_right _ _) r k)
  unfold scAt own
  rw [Nat.min_assoc, Nat.min_self]

/-- What the array of result 1 is shown to hold. -/
def scRes (c : Dev nD) : Buf (Elt Ideal) ((c : Thread nD τ).loc main_v20_1) :=
  fun i : S33792x512.Idx => scRow m c ⟨(i 0).val, (i 0).isLt⟩ ⟨(i 1).val, (i 1).isLt⟩

theorem sc_flushed (c : Dev nD) (t : Fin cfg0.N) (hf : (cfg0.win 12).flush t = true) :
    (dats m 0 c).flushed 12 t = ((cfg0.win 12).blk t).view.read (Elt Ideal) (scRes m c) := by
  have h : t.val ≠ 32 := of_decide_eq_true ((flush12 t).symm.trans hf)
  have hi := index12 t
  have hN := pts t
  have hb : min t.val 32 ≤ 32 := by omega
  show (cfg0.win 12).cut (grid0.coords t) ((dats m 0 c).after 12 t) = _
  funext j
  have hj0 : (j 0).val < 1024 := (j 0).isLt
  rw [View.read_apply]
  have e0 : win0_12.index t (0 : Fin 2) * 1024 + 1 * (j 0).val = (min t.val 32) * 1024 + (j 0).val := by rw [hi.1, Nat.one_mul]
  have e1 : win0_12.index t (1 : Fin 2) * 512 + 1 * (j 1).val = (j 1).val := by rw [hi.2, Nat.zero_mul, Nat.one_mul, Nat.zero_add]
  refine (show _ = (dats m 0 c).after 12 t (ValueIdx.ix2 ⟨(j 0).val, hj0⟩ ⟨(j 1).val, (j 1).isLt⟩) from ?_).trans ?_
  · exact congrArg ((dats m 0 c).after 12 t) (funext fun a => by match a with | ⟨0, _⟩ => rfl | ⟨1, _⟩ => rfl)
  · rw [sc_after m c t _ _ h]
    show _ = scRow m c ⟨win0_12.index t (0 : Fin 2) * 1024 + 1 * (j 0).val, _⟩ ⟨win0_12.index t (1 : Fin 2) * 512 + 1 * (j 1).val, _⟩
    have es := src_eq (min t.val 32) hb ⟨(j 0).val, hj0⟩
    simp only [e0, e1, es]

theorem sc_mem (t : Fin cfg0.N) (i : S33792x512.Idx) :
    i ∈ ((cfg0.win 12).blk t).view.set ↔ (min t.val 32) * 1024 ≤ (i 0 : ℕ) ∧ (i 0 : ℕ) < (min t.val 32) * 1024 + 1024 := by
  show i ∈ ((View.whole main_v20_1).slice (win0_12.rect t)).set ↔ _
  rw [View.set_slice_whole, Rect.mem_set_unit]
  have h1 : (i 1 : ℕ) < 512 := (i 1).isLt
  have hi := index12 t
  refine ⟨fun h => ?_, fun h a => ?_⟩
  · have : win0_12.index t (0 : Fin 2) * 1024 ≤ (i 0 : ℕ) ∧ (i 0 : ℕ) < win0_12.index t (0 : Fin 2) * 1024 + 1024 := h 0
    rwa [hi.1] at this
  · match a with
    | ⟨0, _⟩ => show win0_12.index t (0 : Fin 2) * 1024 ≤ (i 0 : ℕ) ∧ (i 0 : ℕ) < win0_12.index t (0 : Fin 2) * 1024 + 1024; rw [hi.1]; exact h
    | ⟨1, _⟩ =>
      show win0_12.index t (1 : Fin 2) * 512 ≤ (i 1 : ℕ) ∧ (i 1 : ℕ) < win0_12.index t (1 : Fin 2) * 512 + 512
      rw [hi.2, Nat.zero_mul]; exact ⟨Nat.zero_le _, by rwa [Nat.zero_add]⟩

theorem sc_cover (i : S33792x512.Idx) : ∃ t : Fin cfg0.N, (cfg0.win 12).flush t = true ∧ i ∈ ((cfg0.win 12).blk t).view.set := by
  have h0 : (i 0 : ℕ) < 33792 := (i 0).isLt
  by_cases hl : (i 0 : ℕ) / 1024 = 32
  · have ht : 33 < cfg0.N := by rw [show cfg0.N = 34 from N_0]; omega
    refine ⟨⟨33, ht⟩, (flush12 _).trans (decide_eq_true (show (33 : ℕ) ≠ 32 by decide)), ?_⟩
    rw [sc_mem]
    dsimp only
    omega
  · have ht : (i 0 : ℕ) / 1024 < cfg0.N := by rw [show cfg0.N = 34 from N_0]; omega
    refine ⟨⟨(i 0 : ℕ) / 1024, ht⟩, (flush12 _).trans (decide_eq_true hl), ?_⟩
    rw [sc_mem]
    dsimp only
    omega

theorem sc_final (c : Dev nD) : (dats m 0 c).arrAt 12 cfg0.N = scRes m c :=
  (dats m 0 c).arrAt_eq_of_cover 12 (scRes m c) (sc_flushed m c) sc_cover

theorem index13 : ∀ t : Fin cfg0.N, win0_13.index t (0 : Fin 2) = min t.val 32 ∧ win0_13.index t (1 : Fin 2) = 0 := by decide +kernel
theorem flush13 (t : Fin cfg0.N) : (cfg0.win 13).flush t = decide (t.val ≠ 32) :=
  ((cfg0.win 13).flush_eq_flushF t).trans ((by decide +kernel : ∀ t : Fin grid0.N, win0_13.flushF t = decide (t.val ≠ 32)) t)

theorem qkv_after (c : Dev nD) (t : Fin cfg0.N) (r : Fin 1024) (k : Fin 1536) (h : t.val ≠ 32) :
    (dats m 0 c).after 13 t (ValueIdx.ix2 r k) = qkvRow m c (src (min t.val 32) r) k := by
  have hN := pts t
  rw [after13]
  refine (congrFun (show qkvAt m c t.val = qkvAt m c (min t.val 32) from ?_) _).trans (qkv_at m c _ (Nat.min_le_right _ _) r k)
  unfold qkvAt own
  rw [Nat.min_assoc, Nat.min_self]

/-- What the array of result 2 is shown to hold. -/
def qkvRes (c : Dev nD) : Buf (Elt Ideal) ((c : Thread nD τ).loc main_v20_2) :=
  fun i : S33792x1536.Idx => qkvRow m c ⟨(i 0).val, (i 0).isLt⟩ ⟨(i 1).val, (i 1).isLt⟩

theorem qkv_flushed (c : Dev nD) (t : Fin cfg0.N) (hf : (cfg0.win 13).flush t = true) :
    (dats m 0 c).flushed 13 t = ((cfg0.win 13).blk t).view.read (Elt Ideal) (qkvRes m c) := by
  have h : t.val ≠ 32 := of_decide_eq_true ((flush13 t).symm.trans hf)
  have hi := index13 t
  have hN := pts t
  have hb : min t.val 32 ≤ 32 := by omega
  show (cfg0.win 13).cut (grid0.coords t) ((dats m 0 c).after 13 t) = _
  funext j
  have hj0 : (j 0).val < 1024 := (j 0).isLt
  rw [View.read_apply]
  have e0 : win0_13.index t (0 : Fin 2) * 1024 + 1 * (j 0).val = (min t.val 32) * 1024 + (j 0).val := by rw [hi.1, Nat.one_mul]
  have e1 : win0_13.index t (1 : Fin 2) * 1536 + 1 * (j 1).val = (j 1).val := by rw [hi.2, Nat.zero_mul, Nat.one_mul, Nat.zero_add]
  refine (show _ = (dats m 0 c).after 13 t (ValueIdx.ix2 ⟨(j 0).val, hj0⟩ ⟨(j 1).val, (j 1).isLt⟩) from ?_).trans ?_
  · exact congrArg ((dats m 0 c).after 13 t) (funext fun a => by match a with | ⟨0, _⟩ => rfl | ⟨1, _⟩ => rfl)
  · rw [qkv_after m c t _ _ h]
    show _ = qkvRow m c ⟨win0_13.index t (0 : Fin 2) * 1024 + 1 * (j 0).val, _⟩ ⟨win0_13.index t (1 : Fin 2) * 1536 + 1 * (j 1).val, _⟩
    have es := src_eq (min t.val 32) hb ⟨(j 0).val, hj0⟩
    simp only [e0, e1, es]

theorem qkv_mem (t : Fin cfg0.N) (i : S33792x1536.Idx) :
    i ∈ ((cfg0.win 13).blk t).view.set ↔ (min t.val 32) * 1024 ≤ (i 0 : ℕ) ∧ (i 0 : ℕ) < (min t.val 32) * 1024 + 1024 := by
  show i ∈ ((View.whole main_v20_2).slice (win0_13.rect t)).set ↔ _
  rw [View.set_slice_whole, Rect.mem_set_unit]
  have h1 : (i 1 : ℕ) < 1536 := (i 1).isLt
  have hi := index13 t
  refine ⟨fun h => ?_, fun h a => ?_⟩
  · have : win0_13.index t (0 : Fin 2) * 1024 ≤ (i 0 : ℕ) ∧ (i 0 : ℕ) < win0_13.index t (0 : Fin 2) * 1024 + 1024 := h 0
    rwa [hi.1] at this
  · match a with
    | ⟨0, _⟩ => show win0_13.index t (0 : Fin 2) * 1024 ≤ (i 0 : ℕ) ∧ (i 0 : ℕ) < win0_13.index t (0 : Fin 2) * 1024 + 1024; rw [hi.1]; exact h
    | ⟨1, _⟩ =>
      show win0_13.index t (1 : Fin 2) * 1536 ≤ (i 1 : ℕ) ∧ (i 1 : ℕ) < win0_13.index t (1 : Fin 2) * 1536 + 1536
      rw [hi.2, Nat.zero_mul]; exact ⟨Nat.zero_le _, by rwa [Nat.zero_add]⟩

theorem qkv_cover (i : S33792x1536.Idx) : ∃ t : Fin cfg0.N, (cfg0.win 13).flush t = true ∧ i ∈ ((cfg0.win 13).blk t).view.set := by
  have h0 : (i 0 : ℕ) < 33792 := (i 0).isLt
  by_cases hl : (i 0 : ℕ) / 1024 = 32
  · have ht : 33 < cfg0.N := by rw [show cfg0.N = 34 from N_0]; omega
    refine ⟨⟨33, ht⟩, (flush13 _).trans (decide_eq_true (show (33 : ℕ) ≠ 32 by decide)), ?_⟩
    rw [qkv_mem]
    dsimp only
    omega
  · have ht : (i 0 : ℕ) / 1024 < cfg0.N := by rw [show cfg0.N = 34 from N_0]; omega
    refine ⟨⟨(i 0 : ℕ) / 1024, ht⟩, (flush13 _).trans (decide_eq_true hl), ?_⟩
    rw [qkv_mem]
    dsimp only
    omega

theorem qkv_final (c : Dev nD) : (dats m 0 c).arrAt 13 cfg0.N = qkvRes m c :=
  (dats m 0 c).arrAt_eq_of_cover 13 (qkvRes m c) (qkv_flushed m c) qkv_cover

theorem index14 : ∀ t : Fin cfg0.N, win0_14.index t (0 : Fin 2) = min t.val 32 ∧ win0_14.index t (1 : Fin 2) = 0 := by decide +kernel
theorem flush14 (t : Fin cfg0.N) : (cfg0.win 14).flush t = decide (t.val ≠ 32) :=
  ((cfg0.win 14).flush_eq_flushF t).trans ((by decide +kernel : ∀ t : Fin grid0.N, win0_14.flushF t = decide (t.val ≠ 32)) t)

theorem z_after (c : Dev nD) (t : Fin cfg0.N) (r : Fin 1024) (k : Fin 512) (h : t.val ≠ 32) :
    (dats m 0 c).after 14 t (ValueIdx.ix2 r k) = zRow m c (src (min t.val 32) r) k := by
  have hN := pts t
  rw [after14]
  refine (congrFun (show zAt m c t.val = zAt m c (min t.val 32) from ?_) _).trans (z_at m c _ (Nat.min_le_right _ _) r k)
  unfold zAt own
  rw [Nat.min_assoc, Nat.min_self]

/-- What the array of result 3 is shown to hold. -/
def zRes (c : Dev nD) : Buf (Elt Ideal) ((c : Thread nD τ).loc main_v20_3) :=
  fun i : S33792x512.Idx => zRow m c ⟨(i 0).val, (i 0).isLt⟩ ⟨(i 1).val, (i 1).isLt⟩

theorem z_flushed (c : Dev nD) (t : Fin cfg0.N) (hf : (cfg0.win 14).flush t = true) :
    (dats m 0 c).flushed 14 t = ((cfg0.win 14).blk t).view.read (Elt Ideal) (zRes m c) := by
  have h : t.val ≠ 32 := of_decide_eq_true ((flush14 t).symm.trans hf)
  have hi := index14 t
  have hN := pts t
  have hb : min t.val 32 ≤ 32 := by omega
  show (cfg0.win 14).cut (grid0.coords t) ((dats m 0 c).after 14 t) = _
  funext j
  have hj0 : (j 0).val < 1024 := (j 0).isLt
  rw [View.read_apply]
  have e0 : win0_14.index t (0 : Fin 2) * 1024 + 1 * (j 0).val = (min t.val 32) * 1024 + (j 0).val := by rw [hi.1, Nat.one_mul]
  have e1 : win0_14.index t (1 : Fin 2) * 512 + 1 * (j 1).val = (j 1).val := by rw [hi.2, Nat.zero_mul, Nat.one_mul, Nat.zero_add]
  refine (show _ = (dats m 0 c).after 14 t (ValueIdx.ix2 ⟨(j 0).val, hj0⟩ ⟨(j 1).val, (j 1).isLt⟩) from ?_).trans ?_
  · exact congrArg ((dats m 0 c).after 14 t) (funext fun a => by match a with | ⟨0, _⟩ => rfl | ⟨1, _⟩ => rfl)
  · rw [z_after m c t _ _ h]
    show _ = zRow m c ⟨win0_14.index t (0 : Fin 2) * 1024 + 1 * (j 0).val, _⟩ ⟨win0_14.index t (1 : Fin 2) * 512 + 1 * (j 1).val, _⟩
    have es := src_eq (min t.val 32) hb ⟨(j 0).val, hj0⟩
    simp only [e0, e1, es]

theorem z_mem (t : Fin cfg0.N) (i : S33792x512.Idx) :
    i ∈ ((cfg0.win 14).blk t).view.set ↔ (min t.val 32) * 1024 ≤ (i 0 : ℕ) ∧ (i 0 : ℕ) < (min t.val 32) * 1024 + 1024 := by
  show i ∈ ((View.whole main_v20_3).slice (win0_14.rect t)).set ↔ _
  rw [View.set_slice_whole, Rect.mem_set_unit]
  have h1 : (i 1 : ℕ) < 512 := (i 1).isLt
  have hi := index14 t
  refine ⟨fun h => ?_, fun h a => ?_⟩
  · have : win0_14.index t (0 : Fin 2) * 1024 ≤ (i 0 : ℕ) ∧ (i 0 : ℕ) < win0_14.index t (0 : Fin 2) * 1024 + 1024 := h 0
    rwa [hi.1] at this
  · match a with
    | ⟨0, _⟩ => show win0_14.index t (0 : Fin 2) * 1024 ≤ (i 0 : ℕ) ∧ (i 0 : ℕ) < win0_14.index t (0 : Fin 2) * 1024 + 1024; rw [hi.1]; exact h
    | ⟨1, _⟩ =>
      show win0_14.index t (1 : Fin 2) * 512 ≤ (i 1 : ℕ) ∧ (i 1 : ℕ) < win0_14.index t (1 : Fin 2) * 512 + 512
      rw [hi.2, Nat.zero_mul]; exact ⟨Nat.zero_le _, by rwa [Nat.zero_add]⟩

theorem z_cover (i : S33792x512.Idx) : ∃ t : Fin cfg0.N, (cfg0.win 14).flush t = true ∧ i ∈ ((cfg0.win 14).blk t).view.set := by
  have h0 : (i 0 : ℕ) < 33792 := (i 0).isLt
  by_cases hl : (i 0 : ℕ) / 1024 = 32
  · have ht : 33 < cfg0.N := by rw [show cfg0.N = 34 from N_0]; omega
    refine ⟨⟨33, ht⟩, (flush14 _).trans (decide_eq_true (show (33 : ℕ) ≠ 32 by decide)), ?_⟩
    rw [z_mem]
    dsimp only
    omega
  · have ht : (i 0 : ℕ) / 1024 < cfg0.N := by rw [show cfg0.N = 34 from N_0]; omega
    refine ⟨⟨(i 0 : ℕ) / 1024, ht⟩, (flush14 _).trans (decide_eq_true hl), ?_⟩
    rw [z_mem]
    dsimp only
    omega

theorem z_final (c : Dev nD) : (dats m 0 c).arrAt 14 cfg0.N = zRes m c :=
  (dats m 0 c).arrAt_eq_of_cover 14 (zRes m c) (z_flushed m c) z_cover

theorem index16 : ∀ t : Fin cfg0.N, win0_16.index t (0 : Fin 2) = min t.val 32 ∧ win0_16.index t (1 : Fin 2) = 0 := by decide +kernel
theorem flush16 (t : Fin cfg0.N) : (cfg0.win 16).flush t = decide (t.val ≠ 32) :=
  ((cfg0.win 16).flush_eq_flushF t).trans ((by decide +kernel : ∀ t : Fin grid0.N, win0_16.flushF t = decide (t.val ≠ 32)) t)

theorem gate_after (c : Dev nD) (t : Fin cfg0.N) (r : Fin 1024) (k : Fin 3072) (h : t.val ≠ 32) :
    (dats m 0 c).after 16 t (ValueIdx.ix2 r k) = gateRow m c (src (min t.val 32) r) k := by
  have hN := pts t
  rw [after16]
  refine (congrFun (show gateAt m c t.val = gateAt m c (min t.val 32) from ?_) _).trans (gate_at m c _ (Nat.min_le_right _ _) r k)
  unfold gateAt own
  rw [Nat.min_assoc, Nat.min_self]

/-- What the array of result 5 is shown to hold. -/
def gateRes (c : Dev nD) : Buf (Elt Ideal) ((c : Thread nD τ).loc main_v20_5) :=
  fun i : S33792x3072.Idx => gateRow m c ⟨(i 0).val, (i 0).isLt⟩ ⟨(i 1).val, (i 1).isLt⟩

theorem gate_flushed (c : Dev nD) (t : Fin cfg0.N) (hf : (cfg0.win 16).flush t = true) :
    (dats m 0 c).flushed 16 t = ((cfg0.win 16).blk t).view.read (Elt Ideal) (gateRes m c) := by
  have h : t.val ≠ 32 := of_decide_eq_true ((flush16 t).symm.trans hf)
  have hi := index16 t
  have hN := pts t
  have hb : min t.val 32 ≤ 32 := by omega
  show (cfg0.win 16).cut (grid0.coords t) ((dats m 0 c).after 16 t) = _
  funext j
  have hj0 : (j 0).val < 1024 := (j 0).isLt
  rw [View.read_apply]
  have e0 : win0_16.index t (0 : Fin 2) * 1024 + 1 * (j 0).val = (min t.val 32) * 1024 + (j 0).val := by rw [hi.1, Nat.one_mul]
  have e1 : win0_16.index t (1 : Fin 2) * 3072 + 1 * (j 1).val = (j 1).val := by rw [hi.2, Nat.zero_mul, Nat.one_mul, Nat.zero_add]
  refine (show _ = (dats m 0 c).after 16 t (ValueIdx.ix2 ⟨(j 0).val, hj0⟩ ⟨(j 1).val, (j 1).isLt⟩) from ?_).trans ?_
  · exact congrArg ((dats m 0 c).after 16 t) (funext fun a => by match a with | ⟨0, _⟩ => rfl | ⟨1, _⟩ => rfl)
  · rw [gate_after m c t _ _ h]
    show _ = gateRow m c ⟨win0_16.index t (0 : Fin 2) * 1024 + 1 * (j 0).val, _⟩ ⟨win0_16.index t (1 : Fin 2) * 3072 + 1 * (j 1).val, _⟩
    have es := src_eq (min t.val 32) hb ⟨(j 0).val, hj0⟩
    simp only [e0, e1, es]

theorem gate_mem (t : Fin cfg0.N) (i : S33792x3072.Idx) :
    i ∈ ((cfg0.win 16).blk t).view.set ↔ (min t.val 32) * 1024 ≤ (i 0 : ℕ) ∧ (i 0 : ℕ) < (min t.val 32) * 1024 + 1024 := by
  show i ∈ ((View.whole main_v20_5).slice (win0_16.rect t)).set ↔ _
  rw [View.set_slice_whole, Rect.mem_set_unit]
  have h1 : (i 1 : ℕ) < 3072 := (i 1).isLt
  have hi := index16 t
  refine ⟨fun h => ?_, fun h a => ?_⟩
  · have : win0_16.index t (0 : Fin 2) * 1024 ≤ (i 0 : ℕ) ∧ (i 0 : ℕ) < win0_16.index t (0 : Fin 2) * 1024 + 1024 := h 0
    rwa [hi.1] at this
  · match a with
    | ⟨0, _⟩ => show win0_16.index t (0 : Fin 2) * 1024 ≤ (i 0 : ℕ) ∧ (i 0 : ℕ) < win0_16.index t (0 : Fin 2) * 1024 + 1024; rw [hi.1]; exact h
    | ⟨1, _⟩ =>
      show win0_16.index t (1 : Fin 2) * 3072 ≤ (i 1 : ℕ) ∧ (i 1 : ℕ) < win0_16.index t (1 : Fin 2) * 3072 + 3072
      rw [hi.2, Nat.zero_mul]; exact ⟨Nat.zero_le _, by rwa [Nat.zero_add]⟩

theorem gate_cover (i : S33792x3072.Idx) : ∃ t : Fin cfg0.N, (cfg0.win 16).flush t = true ∧ i ∈ ((cfg0.win 16).blk t).view.set := by
  have h0 : (i 0 : ℕ) < 33792 := (i 0).isLt
  by_cases hl : (i 0 : ℕ) / 1024 = 32
  · have ht : 33 < cfg0.N := by rw [show cfg0.N = 34 from N_0]; omega
    refine ⟨⟨33, ht⟩, (flush16 _).trans (decide_eq_true (show (33 : ℕ) ≠ 32 by decide)), ?_⟩
    rw [gate_mem]
    dsimp only
    omega
  · have ht : (i 0 : ℕ) / 1024 < cfg0.N := by rw [show cfg0.N = 34 from N_0]; omega
    refine ⟨⟨(i 0 : ℕ) / 1024, ht⟩, (flush16 _).trans (decide_eq_true hl), ?_⟩
    rw [gate_mem]
    dsimp only
    omega

theorem gate_final (c : Dev nD) : (dats m 0 c).arrAt 16 cfg0.N = gateRes m c :=
  (dats m 0 c).arrAt_eq_of_cover 16 (gateRes m c) (gate_flushed m c) gate_cover

end Cert.Kernel5Ideal.Inproj
end
end
-- ==== Proof.InRef.lean ====
module

public import proofs.«01_k».proof.Proof.InRows
public import proofs.«01_k».proof.Proof.Gen.Reference5Ideal.Run
public import proofs.«01_k».proof.Proof.Gen.Reference5Ideal.Read
public import Idealize.ShloMosaic.Lib.ValueIdxCore
public import Idealize.ShloMosaic.Lib.IdealHost
public import Idealize.ShloMosaic.Lib.Pointwise

@[expose] public section

set_option maxRecDepth 16384

noncomputable section

namespace Cert.Reference5Ideal.Inproj

open Idealize.ShloMosaic
open Cert.Reference5Ideal Cert.Reference5Ideal.Read

variable (x0 : S33792x1024.Idx → EReal) (x1 : S1024.Idx → EReal) (x2 : S1024x7184.Idx → EReal) (x3 : S512x1024.Idx → EReal)
  (x4 : S3x512.Idx → EReal) (x5 : S3x1536.Idx → EReal) (x6 x7 : S2x4.Idx → EReal)

/-- A vector and a table read by their coordinates. -/
abbrev vec {a : ℕ} (g : (⟨1, ![a]⟩ : Shape).Idx → EReal) : Fin a → EReal := fun k => g (ValueIdx.ix1 k)
abbrev mat {a b : ℕ} (w : (⟨2, ![a, b]⟩ : Shape).Idx → EReal) : Fin a → Fin b → EReal := fun i j => w (ValueIdx.ix2 i j)

/-! ## The projection of a row -/

theorem v7_at (p : Fin 33792) : val_main_v7 (F := Ideal) x0 (ValueIdx.ix2 p (0 : Fin 1)) = Rows.scale (mat x0 p) := by
  rw [val_main_v7_apply, val_main_v6_apply, val_main_v5_apply, val_main_cst_1_apply, val_main_v4_apply, val_main_v3_apply,
    val_main_cst_0_apply, val_main_v2_apply, val_main_v1_apply]
  have e : ∀ k : Fin 1024, val_main_v0 (F := Ideal) x0 (idx_main_v1 (idx_main_v2 (ValueIdx.ix2 p (0 : Fin 1))) k) = mat x0 p k * mat x0 p k := fun k => by
    rw [val_main_v0_apply, show idx_main_v1 (idx_main_v2 (ValueIdx.ix2 p (0 : Fin 1))) k = ValueIdx.ix2 p k from
      funext fun a => by match a with | ⟨0, _⟩ => rfl | ⟨1, _⟩ => rfl]; rfl
  simp only [e]
  rw [val_main_cst_apply]
  show Ideal.rsqrt (Ideal.div (Ideal.ofBits .f32 0x00000000#32 + _) _ + _) = _
  rw [Ideal.ofBits_zero_f32, zero_add]; rfl

/-- Row `p`, normalised, and columns of its projection. -/
abbrev xn (p : Fin 33792) : Fin 1024 → EReal := Rows.norm (mat x0 p) (vec x1)
abbrev proj (off n : ℕ) (p : Fin 33792) : Fin n → EReal := Rows.dot (xn x0 x1 p) (Rows.cols (mat x2) off)

theorem v12_at (p : Fin 33792) (k : Fin 1024) : val_main_v12 (F := Ideal) x0 x1 (ValueIdx.ix2 p k) = xn x0 x1 p k := by
  rw [val_main_v12_apply, val_main_v9_apply, val_main_v8_apply, val_main_v11_apply, val_main_v10_apply,
    show idx_main_v8 (ValueIdx.ix2 p k) = ValueIdx.ix2 p (0 : Fin 1) from funext fun a => by match a with | ⟨0, _⟩ => rfl | ⟨1, _⟩ => rfl, v7_at,
    show idx_main_v10 (idx_main_v11 (ValueIdx.ix2 p k)) = ValueIdx.ix1 k from funext fun a => by match a with | ⟨0, _⟩ => rfl]
  rfl

theorem v13_at (p : Fin 33792) (c : Fin 7184) : val_main_v13 (F := Ideal) x0 x1 x2 (ValueIdx.ix2 p c) = ∑ k, xn x0 x1 p k * mat x2 k c := by
  rw [val_main_v13_apply]
  refine Finset.sum_congr rfl fun k _ => ?_
  rw [show lidx_main_v13 (ValueIdx.ix2 p c) k = ValueIdx.ix2 p k from funext fun a => by match a with | ⟨0, _⟩ => rfl | ⟨1, _⟩ => rfl,
    show ridx_main_v13 (ValueIdx.ix2 p c) k = ValueIdx.ix2 k c from funext fun a => by match a with | ⟨0, _⟩ => rfl | ⟨1, _⟩ => rfl, v12_at]

theorem v14_at (p : Fin 33792) (c : Fin 512) : val_main_v14 (F := Ideal) x0 x1 x2 (ValueIdx.ix2 p c) = proj x0 x1 x2 0 512 p c := by
  have hc := c.isLt
  rw [val_main_v14_apply, show idx_main_v14 (ValueIdx.ix2 p c) = ValueIdx.ix2 p ⟨(0 + c.val) % 7184, Nat.mod_lt _ (by decide)⟩ from funext fun a => by
    match a with
    | ⟨0, _⟩ => exact Fin.ext (by first | rfl | (show 0 + p.val = p.val; omega))
    | ⟨1, _⟩ => exact Fin.ext (by first | (show 0 + c.val = (0 + c.val) % 7184; omega) | (show c.val = (0 + c.val) % 7184; omega)), v13_at]
  rfl

theorem v15_at (p : Fin 33792) (c : Fin 1536) : val_main_v15 (F := Ideal) x0 x1 x2 (ValueIdx.ix2 p c) = proj x0 x1 x2 512 1536 p c := by
  have hc := c.isLt
  rw [val_main_v15_apply, show idx_main_v15 (ValueIdx.ix2 p c) = ValueIdx.ix2 p ⟨(512 + c.val) % 7184, Nat.mod_lt _ (by decide)⟩ from funext fun a => by
    match a with
    | ⟨0, _⟩ => exact Fin.ext (by first | rfl | (show 0 + p.val = p.val; omega))
    | ⟨1, _⟩ => exact Fin.ext (by first | (show 512 + c.val = (512 + c.val) % 7184; omega) | (show c.val = (512 + c.val) % 7184; omega)), v13_at]
  rfl

theorem v16_at (p : Fin 33792) (c : Fin 1536) : val_main_v16 (F := Ideal) x0 x1 x2 (ValueIdx.ix2 p c) = proj x0 x1 x2 2048 1536 p c := by
  have hc := c.isLt
  rw [val_main_v16_apply, show idx_main_v16 (ValueIdx.ix2 p c) = ValueIdx.ix2 p ⟨(2048 + c.val) % 7184, Nat.mod_lt _ (by decide)⟩ from funext fun a => by
    match a with
    | ⟨0, _⟩ => exact Fin.ext (by first | rfl | (show 0 + p.val = p.val; omega))
    | ⟨1, _⟩ => exact Fin.ext (by first | (show 2048 + c.val = (2048 + c.val) % 7184; omega) | (show c.val = (2048 + c.val) % 7184; omega)), v13_at]
  rfl

theorem v17_at (p : Fin 33792) (c : Fin 512) : val_main_v17 (F := Ideal) x0 x1 x2 (ValueIdx.ix2 p c) = proj x0 x1 x2 3584 512 p c := by
  have hc := c.isLt
  rw [val_main_v17_apply, show idx_main_v17 (ValueIdx.ix2 p c) = ValueIdx.ix2 p ⟨(3584 + c.val) % 7184, Nat.mod_lt _ (by decide)⟩ from funext fun a => by
    match a with
    | ⟨0, _⟩ => exact Fin.ext (by first | rfl | (show 0 + p.val = p.val; omega))
    | ⟨1, _⟩ => exact Fin.ext (by first | (show 3584 + c.val = (3584 + c.val) % 7184; omega) | (show c.val = (3584 + c.val) % 7184; omega)), v13_at]
  rfl

theorem v18_at (p : Fin 33792) (c : Fin 8) : val_main_v18 (F := Ideal) x0 x1 x2 (ValueIdx.ix2 p c) = proj x0 x1 x2 4096 8 p c := by
  have hc := c.isLt
  rw [val_main_v18_apply, show idx_main_v18 (ValueIdx.ix2 p c) = ValueIdx.ix2 p ⟨(4096 + c.val) % 7184, Nat.mod_lt _ (by decide)⟩ from funext fun a => by
    match a with
    | ⟨0, _⟩ => exact Fin.ext (by first | rfl | (show 0 + p.val = p.val; omega))
    | ⟨1, _⟩ => exact Fin.ext (by first | (show 4096 + c.val = (4096 + c.val) % 7184; omega) | (show c.val = (4096 + c.val) % 7184; omega)), v13_at]
  rfl

theorem v19_at (p : Fin 33792) (c : Fin 8) : val_main_v19 (F := Ideal) x0 x1 x2 (ValueIdx.ix2 p c) = proj x0 x1 x2 4104 8 p c := by
  have hc := c.isLt
  rw [val_main_v19_apply, show idx_main_v19 (ValueIdx.ix2 p c) = ValueIdx.ix2 p ⟨(4104 + c.val) % 7184, Nat.mod_lt _ (by decide)⟩ from funext fun a => by
    match a with
    | ⟨0, _⟩ => exact Fin.ext (by first | rfl | (show 0 + p.val = p.val; omega))
    | ⟨1, _⟩ => exact Fin.ext (by first | (show 4104 + c.val = (4104 + c.val) % 7184; omega) | (show c.val = (4104 + c.val) % 7184; omega)), v13_at]
  rfl

theorem v20_at (p : Fin 33792) (c : Fin 3072) : val_main_v20 (F := Ideal) x0 x1 x2 (ValueIdx.ix2 p c) = proj x0 x1 x2 4112 3072 p c := by
  have hc := c.isLt
  rw [val_main_v20_apply, show idx_main_v20 (ValueIdx.ix2 p c) = ValueIdx.ix2 p ⟨(4112 + c.val) % 7184, Nat.mod_lt _ (by decide)⟩ from funext fun a => by
    match a with
    | ⟨0, _⟩ => exact Fin.ext (by first | rfl | (show 0 + p.val = p.val; omega))
    | ⟨1, _⟩ => exact Fin.ext (by first | (show 4112 + c.val = (4112 + c.val) % 7184; omega) | (show c.val = (4112 + c.val) % 7184; omega)), v13_at]
  rfl

/-! ## The rows beside a row -/

/-- A row put on either end. -/
theorem pad_rows {n : ℕ} (x : (⟨2, ![33792, n]⟩ : Shape).Idx → EReal) (v : S_.Idx → EReal)
    (h : (⟨2, ![33792, n]⟩ : Shape).Pads ![1, 0] ![1, 0] ![0, 0] ⟨2, ![33794, n]⟩) (hu : 0 < S_.numel) (P : Fin 33794) (j : Fin n) :
    pad ⟨2, ![33794, n]⟩ ![1, 0] ![1, 0] ![0, 0] x v h hu (ValueIdx.ix2 P j)
      = if hp : 1 ≤ P.val ∧ P.val < 33793 then x (ValueIdx.ix2 ⟨P.val - 1, by omega⟩ j) else v (Shape.Idx.first hu) := by
  unfold pad
  by_cases hp : 1 ≤ P.val ∧ P.val < 33793
  · rw [dif_pos hp, dif_pos (fun a => ?_)]
    · refine congrArg x (funext fun a => Fin.ext ?_)
      match a with
      | ⟨0, _⟩ => show (P.val - 1) / (0 + 1) = P.val - 1; omega
      | ⟨1, _⟩ => show (j.val - 0) / (0 + 1) = j.val; omega
    · have hj := j.isLt
      match a with
      | ⟨0, _⟩ => show 1 ≤ P.val ∧ (P.val - 1) % (0 + 1) = 0 ∧ (P.val - 1) / (0 + 1) < 33792; omega
      | ⟨1, _⟩ => show 0 ≤ j.val ∧ (j.val - 0) % (0 + 1) = 0 ∧ (j.val - 0) / (0 + 1) < n; omega
  · rw [dif_neg hp, dif_neg (fun hin => hp ?_)]
    have h0 : 1 ≤ P.val ∧ (P.val - 1) % (0 + 1) = 0 ∧ (P.val - 1) / (0 + 1) < 33792 := hin 0
    omega

theorem zero_word : FloatOps.sitofp (F := Ideal) .f32 (0#32 : BitVec 32) = 0 := by
  show (((0#32 : BitVec 32).toInt : ℝ) : EReal) = 0
  simp

theorem row_before {n : ℕ} (x : (⟨2, ![33792, n]⟩ : Shape).Idx → EReal) (v : S_.Idx → EReal)
    (h : (⟨2, ![33792, n]⟩ : Shape).Pads ![1, 0] ![1, 0] ![0, 0] ⟨2, ![33794, n]⟩) (hu : 0 < S_.numel) (hv : v (Shape.Idx.first hu) = 0)
    (u : Fin 33792 → Fin n → EReal) (hx : ∀ p j, x (ValueIdx.ix2 p j) = u p j) (p : Fin 33792) (j : Fin n) (P : Fin 33794) (hP : P.val = p.val) :
    pad ⟨2, ![33794, n]⟩ ![1, 0] ![1, 0] ![0, 0] x v h hu (ValueIdx.ix2 P j) = Rows.before u p j := by
  have hp := p.isLt
  rw [pad_rows]
  unfold Rows.before
  by_cases h0 : p.val = 0
  · rw [dif_pos h0, dif_neg (by omega), hv]
  · rw [dif_neg h0, dif_pos (by omega), hx]
    exact congrFun (congrArg u (Fin.ext (by show P.val - 1 = p.val - 1; omega))) j

theorem row_after {n : ℕ} (x : (⟨2, ![33792, n]⟩ : Shape).Idx → EReal) (v : S_.Idx → EReal)
    (h : (⟨2, ![33792, n]⟩ : Shape).Pads ![1, 0] ![1, 0] ![0, 0] ⟨2, ![33794, n]⟩) (hu : 0 < S_.numel) (hv : v (Shape.Idx.first hu) = 0)
    (u : Fin 33792 → Fin n → EReal) (hx : ∀ p j, x (ValueIdx.ix2 p j) = u p j) (p : Fin 33792) (j : Fin n) (P : Fin 33794) (hP : P.val = p.val + 2) :
    pad ⟨2, ![33794, n]⟩ ![1, 0] ![1, 0] ![0, 0] x v h hu (ValueIdx.ix2 P j) = Rows.after u p j := by
  have hp := p.isLt
  rw [pad_rows]
  unfold Rows.after
  by_cases h0 : p.val + 1 < 33792
  · rw [dif_pos h0, dif_pos (by omega), hx]
    exact congrFun (congrArg u (Fin.ext (by show P.val - 1 = p.val + 1; omega))) j
  · rw [dif_neg h0, dif_neg (by omega), hv]

theorem row_itself {n : ℕ} (x : (⟨2, ![33792, n]⟩ : Shape).Idx → EReal) (v : S_.Idx → EReal)
    (h : (⟨2, ![33792, n]⟩ : Shape).Pads ![1, 0] ![1, 0] ![0, 0] ⟨2, ![33794, n]⟩) (hu : 0 < S_.numel)
    (u : Fin 33792 → Fin n → EReal) (hx : ∀ p j, x (ValueIdx.ix2 p j) = u p j) (p : Fin 33792) (j : Fin n) (P : Fin 33794) (hP : P.val = p.val + 1) :
    pad ⟨2, ![33794, n]⟩ ![1, 0] ![1, 0] ![0, 0] x v h hu (ValueIdx.ix2 P j) = u p j := by
  have hp := p.isLt
  rw [pad_rows, dif_pos (by omega), hx]
  exact congrFun (congrArg u (Fin.ext (by show P.val - 1 = p.val; omega))) j

theorem v24_at (p : Fin 33792) (j : Fin 512) : val_main_v24 (F := Ideal) x0 x1 x2 (ValueIdx.ix2 p j) = Rows.pair (proj x0 x1 x2 512 1536 p) j := by
  have hj := j.isLt
  rw [val_main_v24_apply, val_main_v22_apply, val_main_v23_apply,
    show idx_main_v22 (ValueIdx.ix2 p j) = ValueIdx.ix2 p ⟨512 + j.val, by omega⟩ from funext fun a => by
      match a with
      | ⟨0, _⟩ => exact Fin.ext (by first | rfl | (show 0 + p.val = p.val; omega))
      | ⟨1, _⟩ => exact Fin.ext (by first | rfl | (show 512 + j.val = 512 + j.val; omega)),
    show idx_main_v23 (ValueIdx.ix2 p j) = ValueIdx.ix2 p ⟨1024 + j.val, by omega⟩ from funext fun a => by
      match a with
      | ⟨0, _⟩ => exact Fin.ext (by first | rfl | (show 0 + p.val = p.val; omega))
      | ⟨1, _⟩ => exact Fin.ext (by first | rfl | (show 1024 + j.val = 1024 + j.val; omega)), v15_at, v15_at]
  rfl

theorem v21_at (p : Fin 33792) (j : Fin 512) : val_main_v21 (F := Ideal) x0 x1 x2 (ValueIdx.ix2 p j) = proj x0 x1 x2 512 1536 p ⟨j.val, by omega⟩ := by
  have hj := j.isLt
  rw [val_main_v21_apply,
    show idx_main_v21 (ValueIdx.ix2 p j) = ValueIdx.ix2 p ⟨j.val, by omega⟩ from funext fun a => by
      match a with
      | ⟨0, _⟩ => exact Fin.ext (by first | rfl | (show 0 + p.val = p.val; omega))
      | ⟨1, _⟩ => exact Fin.ext (by first | rfl | (show 0 + j.val = j.val; omega)), v15_at]

theorem v28_at (p : Fin 33792) (j : Fin 512) : val_main_v28 (F := Ideal) x0 x1 x2 (ValueIdx.ix2 p j) = Rows.before (fun q => Rows.pair (proj x0 x1 x2 512 1536 q)) p j := by
  have hp := p.isLt
  rw [val_main_v28_apply, show idx_main_v28 (ValueIdx.ix2 p j) = ValueIdx.ix2 ⟨p.val + 0, by omega⟩ j from funext fun a => by
    match a with
    | ⟨0, _⟩ => exact Fin.ext (by first | rfl | (show 0 + p.val = p.val + 0; omega))
    | ⟨1, _⟩ => exact Fin.ext (by first | rfl | (show 0 + j.val = j.val; omega))]
  exact row_before _ _ _ _ zero_word (fun q => Rows.pair (proj x0 x1 x2 512 1536 q)) (v24_at x0 x1 x2) p j _ rfl

theorem v34_at (p : Fin 33792) (j : Fin 512) : val_main_v34 (F := Ideal) x0 x1 x2 (ValueIdx.ix2 p j) = (fun q => Rows.pair (proj x0 x1 x2 512 1536 q)) p j := by
  have hp := p.isLt
  rw [val_main_v34_apply, show idx_main_v34 (ValueIdx.ix2 p j) = ValueIdx.ix2 ⟨p.val + 1, by omega⟩ j from funext fun a => by
    match a with
    | ⟨0, _⟩ => exact Fin.ext (by first | rfl | (show 1 + p.val = p.val + 1; omega))
    | ⟨1, _⟩ => exact Fin.ext (by first | rfl | (show 0 + j.val = j.val; omega))]
  exact row_itself _ _ _ _ (fun q => Rows.pair (proj x0 x1 x2 512 1536 q)) (v24_at x0 x1 x2) p j _ rfl

theorem v41_at (p : Fin 33792) (j : Fin 512) : val_main_v41 (F := Ideal) x0 x1 x2 (ValueIdx.ix2 p j) = Rows.after (fun q => Rows.pair (proj x0 x1 x2 512 1536 q)) p j := by
  have hp := p.isLt
  rw [val_main_v41_apply, show idx_main_v41 (ValueIdx.ix2 p j) = ValueIdx.ix2 ⟨p.val + 2, by omega⟩ j from funext fun a => by
    match a with
    | ⟨0, _⟩ => exact Fin.ext (by first | rfl | (show 2 + p.val = p.val + 2; omega))
    | ⟨1, _⟩ => exact Fin.ext (by first | rfl | (show 0 + j.val = j.val; omega))]
  exact row_after _ _ _ _ zero_word (fun q => Rows.pair (proj x0 x1 x2 512 1536 q)) (v24_at x0 x1 x2) p j _ rfl

theorem v30_at (p : Fin 33792) (j : Fin 512) : val_main_v30 (F := Ideal) x4 (ValueIdx.ix2 p j) = mat x4 0 j := by
  have hj := j.isLt
  rw [val_main_v30_apply, val_main_v29_apply, val_main_v27_apply, val_main_v26_apply]
  refine congrArg x4 (funext fun a => Fin.ext ?_)
  match a with
  | ⟨0, _⟩ => rfl
  | ⟨1, _⟩ => first | rfl | (show j.val % 512 = j.val; omega) | (show 0 + j.val % 512 = j.val; omega)

theorem v36_at (p : Fin 33792) (j : Fin 512) : val_main_v36 (F := Ideal) x4 (ValueIdx.ix2 p j) = mat x4 1 j := by
  have hj := j.isLt
  rw [val_main_v36_apply, val_main_v35_apply, val_main_v33_apply, val_main_v32_apply]
  refine congrArg x4 (funext fun a => Fin.ext ?_)
  match a with
  | ⟨0, _⟩ => rfl
  | ⟨1, _⟩ => first | rfl | (show j.val % 512 = j.val; omega) | (show 0 + j.val % 512 = j.val; omega)

theorem v43_at (p : Fin 33792) (j : Fin 512) : val_main_v43 (F := Ideal) x4 (ValueIdx.ix2 p j) = mat x4 2 j := by
  have hj := j.isLt
  rw [val_main_v43_apply, val_main_v42_apply, val_main_v40_apply, val_main_v39_apply]
  refine congrArg x4 (funext fun a => Fin.ext ?_)
  match a with
  | ⟨0, _⟩ => rfl
  | ⟨1, _⟩ => first | rfl | (show j.val % 512 = j.val; omega) | (show 0 + j.val % 512 = j.val; omega)

theorem v50_at (p : Fin 33792) (j : Fin 1536) : val_main_v50 (F := Ideal) x0 x1 x2 (ValueIdx.ix2 p j) = Rows.before (proj x0 x1 x2 2048 1536) p j := by
  have hp := p.isLt
  rw [val_main_v50_apply, show idx_main_v50 (ValueIdx.ix2 p j) = ValueIdx.ix2 ⟨p.val + 0, by omega⟩ j from funext fun a => by
    match a with
    | ⟨0, _⟩ => exact Fin.ext (by first | rfl | (show 0 + p.val = p.val + 0; omega))
    | ⟨1, _⟩ => exact Fin.ext (by first | rfl | (show 0 + j.val = j.val; omega))]
  exact row_before _ _ _ _ zero_word (proj x0 x1 x2 2048 1536) (v16_at x0 x1 x2) p j _ rfl

theorem v56_at (p : Fin 33792) (j : Fin 1536) : val_main_v56 (F := Ideal) x0 x1 x2 (ValueIdx.ix2 p j) = (proj x0 x1 x2 2048 1536) p j := by
  have hp := p.isLt
  rw [val_main_v56_apply, show idx_main_v56 (ValueIdx.ix2 p j) = ValueIdx.ix2 ⟨p.val + 1, by omega⟩ j from funext fun a => by
    match a with
    | ⟨0, _⟩ => exact Fin.ext (by first | rfl | (show 1 + p.val = p.val + 1; omega))
    | ⟨1, _⟩ => exact Fin.ext (by first | rfl | (show 0 + j.val = j.val; omega))]
  exact row_itself _ _ _ _ (proj x0 x1 x2 2048 1536) (v16_at x0 x1 x2) p j _ rfl

theorem v63_at (p : Fin 33792) (j : Fin 1536) : val_main_v63 (F := Ideal) x0 x1 x2 (ValueIdx.ix2 p j) = Rows.after (proj x0 x1 x2 2048 1536) p j := by
  have hp := p.isLt
  rw [val_main_v63_apply, show idx_main_v63 (ValueIdx.ix2 p j) = ValueIdx.ix2 ⟨p.val + 2, by omega⟩ j from funext fun a => by
    match a with
    | ⟨0, _⟩ => exact Fin.ext (by first | rfl | (show 2 + p.val = p.val + 2; omega))
    | ⟨1, _⟩ => exact Fin.ext (by first | rfl | (show 0 + j.val = j.val; omega))]
  exact row_after _ _ _ _ zero_word (proj x0 x1 x2 2048 1536) (v16_at x0 x1 x2) p j _ rfl

theorem v52_at (p : Fin 33792) (j : Fin 1536) : val_main_v52 (F := Ideal) x5 (ValueIdx.ix2 p j) = mat x5 0 j := by
  have hj := j.isLt
  rw [val_main_v52_apply, val_main_v51_apply, val_main_v49_apply, val_main_v48_apply]
  refine congrArg x5 (funext fun a => Fin.ext ?_)
  match a with
  | ⟨0, _⟩ => rfl
  | ⟨1, _⟩ => first | rfl | (show j.val % 1536 = j.val; omega) | (show 0 + j.val % 1536 = j.val; omega)

theorem v58_at (p : Fin 33792) (j : Fin 1536) : val_main_v58 (F := Ideal) x5 (ValueIdx.ix2 p j) = mat x5 1 j := by
  have hj := j.isLt
  rw [val_main_v58_apply, val_main_v57_apply, val_main_v55_apply, val_main_v54_apply]
  refine congrArg x5 (funext fun a => Fin.ext ?_)
  match a with
  | ⟨0, _⟩ => rfl
  | ⟨1, _⟩ => first | rfl | (show j.val % 1536 = j.val; omega) | (show 0 + j.val % 1536 = j.val; omega)

theorem v65_at (p : Fin 33792) (j : Fin 1536) : val_main_v65 (F := Ideal) x5 (ValueIdx.ix2 p j) = mat x5 2 j := by
  have hj := j.isLt
  rw [val_main_v65_apply, val_main_v64_apply, val_main_v62_apply, val_main_v61_apply]
  refine congrArg x5 (funext fun a => Fin.ext ?_)
  match a with
  | ⟨0, _⟩ => rfl
  | ⟨1, _⟩ => first | rfl | (show j.val % 1536 = j.val; omega) | (show 0 + j.val % 1536 = j.val; omega)

theorem v46_at (p : Fin 33792) (j : Fin 512) : val_main_v46 (F := Ideal) x0 x1 x2 x4 (ValueIdx.ix2 p j)
    = Rows.short (mat x4) (proj x0 x1 x2 512 1536) p j := by
  rw [val_main_v46_apply, v21_at, val_main_v45_apply, val_main_v38_apply, val_main_v31_apply, val_main_v37_apply, val_main_v44_apply,
    v30_at, v28_at, v36_at, v34_at, v43_at, v41_at]
  rfl

theorem v67_at (p : Fin 33792) (j : Fin 1536) : val_main_v67 (F := Ideal) x0 x1 x2 x5 (ValueIdx.ix2 p j)
    = Rows.conv (mat x5) (Rows.before (proj x0 x1 x2 2048 1536) p) (proj x0 x1 x2 2048 1536 p) (Rows.after (proj x0 x1 x2 2048 1536) p) j := by
  rw [val_main_v67_apply, val_main_v60_apply, val_main_v53_apply, val_main_v59_apply, val_main_v66_apply,
    v52_at, v50_at, v58_at, v56_at, v65_at, v63_at]
  rfl

theorem v68_at (p : Fin 33792) (j : Fin 1536) : val_main_v68 (F := Ideal) x0 x1 x2 x5 (ValueIdx.ix2 p j)
    = Rows.mixed (mat x5) (proj x0 x1 x2 2048 1536) p j := by
  rw [val_main_v68_apply, val_main_call2_v5_apply, val_main_call2_v4_apply, val_main_call2_v3_apply, val_main_call2_v2_apply,
    val_main_call2_v1_apply, val_main_call2_v0_apply, val_main_call2_cst_apply, val_main_call2_cst_0_apply, v67_at]
  show _ * Ideal.div (Ideal.ofBits .f32 0x3F800000#32) (Ideal.ofBits .f32 0x3F800000#32 + Ideal.exp (-_)) = _
  rw [Ideal.ofBits_one_f32]; rfl

theorem v72_at (p : Fin 33792) (h : Fin 4) (j : Fin 128) : val_main_v72 (F := Ideal) x0 x1 x2 x5 (ValueIdx.ix3 p h j)
    = Rows.cut (0 + h.val) (Rows.mixed (mat x5) (proj x0 x1 x2 2048 1536) p) j := by
  have hh := h.isLt
  have hj := j.isLt
  rw [val_main_v72_apply, val_main_v69_apply,
    show idx_main_v69 (idx_main_v72 (ValueIdx.ix3 p h j)) = ValueIdx.ix2 p ⟨(128 * (0 + h.val) + j.val) % 1536, Nat.mod_lt _ (by decide)⟩ from funext fun a => by
      match a with
      | ⟨0, _⟩ => exact Fin.ext (by first | (show ((p.val * 4 + h.val) * 128 + j.val) / 512 = p.val; omega) | (show 0 + ((p.val * 4 + h.val) * 128 + j.val) / 512 = p.val; omega))
      | ⟨1, _⟩ => exact Fin.ext (by first | (show 0 + ((p.val * 4 + h.val) * 128 + j.val) % 512 = (128 * (0 + h.val) + j.val) % 1536; omega) | (show ((p.val * 4 + h.val) * 128 + j.val) % 512 = (128 * (0 + h.val) + j.val) % 1536; omega)), v68_at]
  rfl

theorem v78_at (p : Fin 33792) (h : Fin 4) : val_main_v78 (F := Ideal) x0 x1 x2 x5 (ValueIdx.ix3 p h (0 : Fin 1))
    = Rows.lscale (Rows.cut (0 + h.val) (Rows.mixed (mat x5) (proj x0 x1 x2 2048 1536) p)) := by
  rw [val_main_v78_apply, val_main_v77_apply, val_main_v76_apply, val_main_cst_4_apply, val_main_v75_apply, val_main_v74_apply]
  have e : ∀ k : Fin 128, val_main_v73 (F := Ideal) x0 x1 x2 x5 (idx_main_v74 (idx_main_v75 (ValueIdx.ix3 p h (0 : Fin 1))) k)
      = Rows.cut (0 + h.val) (Rows.mixed (mat x5) (proj x0 x1 x2 2048 1536) p) k * Rows.cut (0 + h.val) (Rows.mixed (mat x5) (proj x0 x1 x2 2048 1536) p) k := fun k => by
    rw [val_main_v73_apply, show idx_main_v74 (idx_main_v75 (ValueIdx.ix3 p h (0 : Fin 1))) k = ValueIdx.ix3 p h k from
      funext fun a => by match a with | ⟨0, _⟩ => rfl | ⟨1, _⟩ => rfl | ⟨2, _⟩ => rfl, v72_at]; rfl
  simp only [e]
  rw [val_main_cst_3_apply]
  show Ideal.rsqrt ((Ideal.ofBits .f32 0x00000000#32 + _) + _) = _
  rw [Ideal.ofBits_zero_f32, zero_add]; rfl

theorem v80_at (p : Fin 33792) (h : Fin 4) (j : Fin 128) : val_main_v80 (F := Ideal) x0 x1 x2 x5 (ValueIdx.ix3 p h j)
    = Rows.cut (0 + h.val) (Rows.mixed (mat x5) (proj x0 x1 x2 2048 1536) p) j
      * Rows.lscale (Rows.cut (0 + h.val) (Rows.mixed (mat x5) (proj x0 x1 x2 2048 1536) p)) := by
  rw [val_main_v80_apply, v72_at, val_main_v79_apply, show idx_main_v79 (ValueIdx.ix3 p h j) = ValueIdx.ix3 p h (0 : Fin 1) from
    funext fun a => by match a with | ⟨0, _⟩ => rfl | ⟨1, _⟩ => rfl | ⟨2, _⟩ => rfl, v78_at]; rfl

theorem v83_at (p : Fin 33792) (h : Fin 4) (j : Fin 128) : val_main_v83 (F := Ideal) x0 x1 x2 x5 (ValueIdx.ix3 p h j)
    = Rows.cut (4 + h.val) (Rows.mixed (mat x5) (proj x0 x1 x2 2048 1536) p) j := by
  have hh := h.isLt
  have hj := j.isLt
  rw [val_main_v83_apply, val_main_v70_apply,
    show idx_main_v70 (idx_main_v83 (ValueIdx.ix3 p h j)) = ValueIdx.ix2 p ⟨(128 * (4 + h.val) + j.val) % 1536, Nat.mod_lt _ (by decide)⟩ from funext fun a => by
      match a with
      | ⟨0, _⟩ => exact Fin.ext (by first | (show ((p.val * 4 + h.val) * 128 + j.val) / 512 = p.val; omega) | (show 0 + ((p.val * 4 + h.val) * 128 + j.val) / 512 = p.val; omega))
      | ⟨1, _⟩ => exact Fin.ext (by first | (show 512 + ((p.val * 4 + h.val) * 128 + j.val) % 512 = (128 * (4 + h.val) + j.val) % 1536; omega) | (show ((p.val * 4 + h.val) * 128 + j.val) % 512 = (128 * (4 + h.val) + j.val) % 1536; omega)), v68_at]
  rfl

theorem v89_at (p : Fin 33792) (h : Fin 4) : val_main_v89 (F := Ideal) x0 x1 x2 x5 (ValueIdx.ix3 p h (0 : Fin 1))
    = Rows.lscale (Rows.cut (4 + h.val) (Rows.mixed (mat x5) (proj x0 x1 x2 2048 1536) p)) := by
  rw [val_main_v89_apply, val_main_v88_apply, val_main_v87_apply, val_main_cst_7_apply, val_main_v86_apply, val_main_v85_apply]
  have e : ∀ k : Fin 128, val_main_v84 (F := Ideal) x0 x1 x2 x5 (idx_main_v85 (idx_main_v86 (ValueIdx.ix3 p h (0 : Fin 1))) k)
      = Rows.cut (4 + h.val) (Rows.mixed (mat x5) (proj x0 x1 x2 2048 1536) p) k * Rows.cut (4 + h.val) (Rows.mixed (mat x5) (proj x0 x1 x2 2048 1536) p) k := fun k => by
    rw [val_main_v84_apply, show idx_main_v85 (idx_main_v86 (ValueIdx.ix3 p h (0 : Fin 1))) k = ValueIdx.ix3 p h k from
      funext fun a => by match a with | ⟨0, _⟩ => rfl | ⟨1, _⟩ => rfl | ⟨2, _⟩ => rfl, v83_at]; rfl
  simp only [e]
  rw [val_main_cst_6_apply]
  show Ideal.rsqrt ((Ideal.ofBits .f32 0x00000000#32 + _) + _) = _
  rw [Ideal.ofBits_zero_f32, zero_add]; rfl

theorem v91_at (p : Fin 33792) (h : Fin 4) (j : Fin 128) : val_main_v91 (F := Ideal) x0 x1 x2 x5 (ValueIdx.ix3 p h j)
    = Rows.cut (4 + h.val) (Rows.mixed (mat x5) (proj x0 x1 x2 2048 1536) p) j
      * Rows.lscale (Rows.cut (4 + h.val) (Rows.mixed (mat x5) (proj x0 x1 x2 2048 1536) p)) := by
  rw [val_main_v91_apply, v83_at, val_main_v90_apply, show idx_main_v90 (ValueIdx.ix3 p h j) = ValueIdx.ix3 p h (0 : Fin 1) from
    funext fun a => by match a with | ⟨0, _⟩ => rfl | ⟨1, _⟩ => rfl | ⟨2, _⟩ => rfl, v89_at]; rfl

theorem v92_at (p : Fin 33792) (j : Fin 512) : val_main_v92 (F := Ideal) x0 x1 x2 x5 (ValueIdx.ix2 p j)
    = Rows.units (Rows.mixed (mat x5) (proj x0 x1 x2 2048 1536) p) ⟨j.val, by omega⟩ := by
  have hj := j.isLt
  rw [val_main_v92_apply, show idx_main_v92 (ValueIdx.ix2 p j) = ValueIdx.ix3 p ⟨j.val / 128, by omega⟩ ⟨j.val % 128, Nat.mod_lt _ (by decide)⟩ from funext fun a => by
    match a with
    | ⟨0, _⟩ => exact Fin.ext (by show (p.val * 512 + j.val) / 512 = p.val; omega)
    | ⟨1, _⟩ => exact Fin.ext (by show (p.val * 512 + j.val) / 128 % 4 = j.val / 128; omega)
    | ⟨2, _⟩ => exact Fin.ext (by show (p.val * 512 + j.val) % 128 = j.val % 128; omega),
    val_main_v82_apply, v80_at, val_main_v81_apply, val_main_cst_5_apply]
  simp only [Nat.zero_add]
  unfold Rows.units Rows.unit
  dsimp only
  rw [if_pos (by omega)]; rfl

theorem v93_at (p : Fin 33792) (j : Fin 512) : val_main_v93 (F := Ideal) x0 x1 x2 x5 (ValueIdx.ix2 p j)
    = Rows.units (Rows.mixed (mat x5) (proj x0 x1 x2 2048 1536) p) ⟨512 + j.val, by omega⟩ := by
  have hj := j.isLt
  rw [val_main_v93_apply, show idx_main_v93 (ValueIdx.ix2 p j) = ValueIdx.ix3 p ⟨j.val / 128, by omega⟩ ⟨j.val % 128, Nat.mod_lt _ (by decide)⟩ from funext fun a => by
    match a with
    | ⟨0, _⟩ => exact Fin.ext (by show (p.val * 512 + j.val) / 512 = p.val; omega)
    | ⟨1, _⟩ => exact Fin.ext (by show (p.val * 512 + j.val) / 128 % 4 = j.val / 128; omega)
    | ⟨2, _⟩ => exact Fin.ext (by show (p.val * 512 + j.val) % 128 = j.val % 128; omega), v91_at]
  unfold Rows.units Rows.unit
  have e1 : (512 + j.val) / 128 = 4 + j.val / 128 := by omega
  have e2 : (512 + j.val) % 128 = j.val % 128 := by omega
  simp only [e1, e2]
  rw [if_neg (by omega), if_pos (by omega)]

theorem v71_at (p : Fin 33792) (j : Fin 512) : val_main_v71 (F := Ideal) x0 x1 x2 x5 (ValueIdx.ix2 p j)
    = Rows.units (Rows.mixed (mat x5) (proj x0 x1 x2 2048 1536) p) ⟨1024 + j.val, by omega⟩ := by
  have hj := j.isLt
  rw [val_main_v71_apply, show idx_main_v71 (ValueIdx.ix2 p j) = ValueIdx.ix2 p ⟨1024 + j.val, by omega⟩ from funext fun a => by
    match a with
    | ⟨0, _⟩ => exact Fin.ext (by first | rfl | (show 0 + p.val = p.val; omega))
    | ⟨1, _⟩ => exact Fin.ext rfl, v68_at]
  unfold Rows.units Rows.unit
  dsimp only
  rw [if_neg (by omega), if_neg (by omega)]
  exact congrArg _ (Fin.ext (by show 1024 + j.val = (128 * ((1024 + j.val) / 128) + (1024 + j.val) % 128) % 1536; omega))

theorem v94_at (p : Fin 33792) (j : Fin 1536) : val_main_v94 (F := Ideal) x0 x1 x2 x5 (ValueIdx.ix2 p j)
    = Rows.units (Rows.mixed (mat x5) (proj x0 x1 x2 2048 1536) p) j := by
  have key : val_main_v94 (F := Ideal) x0 x1 x2 x5 (ValueIdx.ix2 p j)
      = if h : j.val < 512 then val_main_v92 (F := Ideal) x0 x1 x2 x5 (ValueIdx.ix2 p ⟨j.val, h⟩)
        else if h' : j.val < 1024 then val_main_v93 (F := Ideal) x0 x1 x2 x5 (ValueIdx.ix2 p ⟨j.val - 512, by omega⟩)
        else val_main_v71 (F := Ideal) x0 x1 x2 x5 (ValueIdx.ix2 p ⟨j.val - 1024, by omega⟩) := by
    simp only [← ix2_eq_valueIdx]
    unfold val_main_v94
    generalize val_main_v92 (F := Ideal) x0 x1 x2 x5 = a
    generalize val_main_v93 (F := Ideal) x0 x1 x2 x5 = b
    generalize val_main_v71 (F := Ideal) x0 x1 x2 x5 = d
    pointwise
    have e : j.val - 512 < 512 ↔ j.val < 1024 := by omega
    simp only [e, Nat.sub_sub]
  rw [key]
  split
  · rw [v92_at]
  split
  · rw [v93_at]; exact congrArg _ (Fin.ext (by show 512 + (j.val - 512) = j.val; omega))
  · rw [v71_at]; exact congrArg _ (Fin.ext (by show 1024 + (j.val - 1024) = j.val; omega))

/-! ## The results, but the decays -/

theorem v132_at (p : Fin 33792) (k : Fin 1024) : val_main_v132 (F := Ideal) x0 x1 x2 x3 (ValueIdx.ix2 p k)
    = Rows.dot (proj x0 x1 x2 0 512 p) (mat x3) k := by
  rw [val_main_v132_apply, val_main_v131_apply]
  refine Finset.sum_congr rfl fun i _ => ?_
  rw [show lidx_main_v131 (ValueIdx.ix2 p k) i = ValueIdx.ix2 p i from funext fun a => by match a with | ⟨0, _⟩ => rfl | ⟨1, _⟩ => rfl,
    show ridx_main_v131 (ValueIdx.ix2 p k) i = ValueIdx.ix2 i k from funext fun a => by match a with | ⟨0, _⟩ => rfl | ⟨1, _⟩ => rfl, v14_at]

theorem v133_at (p : Fin 33792) (k : Fin 512) : val_main_v133 (F := Ideal) x0 x1 x2 x4 (ValueIdx.ix2 p k)
    = Rows.short (mat x4) (proj x0 x1 x2 512 1536) p k := by
  rw [val_main_v133_apply]; exact v46_at x0 x1 x2 x4 p k

theorem v134_at (p : Fin 33792) (k : Fin 1536) : val_main_v134 (F := Ideal) x0 x1 x2 x5 (ValueIdx.ix2 p k)
    = Rows.units (Rows.mixed (mat x5) (proj x0 x1 x2 2048 1536) p) k := by
  rw [val_main_v134_apply]; exact v94_at x0 x1 x2 x5 p k

theorem v135_at (p : Fin 33792) (k : Fin 512) : val_main_v135 (F := Ideal) x0 x1 x2 (ValueIdx.ix2 p k) = proj x0 x1 x2 3584 512 p k := by
  rw [val_main_v135_apply]; exact v17_at x0 x1 x2 p k

theorem v142_at (p : Fin 33792) (k : Fin 3072) : val_main_v142 (F := Ideal) x0 x1 x2 (ValueIdx.ix2 p k) = Ideal.logistic (proj x0 x1 x2 4112 3072 p k) := by
  rw [val_main_v142_apply, val_main_v141_apply, val_main_v140_apply, val_main_v139_apply, val_main_v138_apply, val_main_v137_apply,
    val_main_v136_apply, val_main_cst_15_apply, val_main_cst_16_apply, v20_at]
  show Ideal.div (Ideal.ofBits .f32 0x3F800000#32) (Ideal.ofBits .f32 0x3F800000#32 + Ideal.exp (-_)) = _
  rw [Ideal.ofBits_one_f32]; rfl

end Cert.Reference5Ideal.Inproj
end
end
-- ==== Proof.InDecays.lean ====
module

public import proofs.«01_k».proof.Proof.InPays

@[expose] public section

set_option maxRecDepth 16384

noncomputable section

namespace Cert.Kernel5Ideal.Inproj

open Idealize.ShloMosaic
open Cert.Kernel5Ideal Cert.Kernel5Ideal.Gen

/-- A step of a prefix sum: each row gains the row `d` before it, where its place `c` in its chunk is at least `d`. -/
def rise (c : Fin 128 → BitVec 32) (d : ℕ) (g : Fin 128 → EReal) (r : Fin 128) : EReal :=
  g r + Scalar.select (IntOp.cmpi CmpIPredicate.sge (c r) (BitVec.ofNat 32 d)) (g ⟨(r.val + 128 - d) % 128, Nat.mod_lt _ (by decide)⟩)
    (Ideal.ofBits .f32 0x00000000#32)

/-- A step of a suffix sum: each row gains the row `128 - e` after it, where its place `c` in its chunk is below `t`. -/
def fall (c : Fin 128 → BitVec 32) (t e : ℕ) (g : Fin 128 → EReal) (r : Fin 128) : EReal :=
  g r + Scalar.select (IntOp.cmpi CmpIPredicate.slt (c r) (BitVec.ofNat 32 t)) (g ⟨(r.val + 128 - e) % 128, Nat.mod_lt _ (by decide)⟩)
    (Ideal.ofBits .f32 0x00000000#32)

/-- A column of a 128-row block. -/
def col (x : FVec Ideal S128x128 .f32) (l : Fin 128) (r : Fin 128) : EReal := x (ValueIdx.ix2 r l)

/-- The places in the chunks. -/
def place (c : IVec S128x1 32) (r : Fin 128) : BitVec 32 := c (ValueIdx.ix2 r 0)

theorem pay16_at (lg : Vec Ideal S128x128 .f32) (lane : IVec S1x128 32) (pos rows : IVec S128x1 32) (a b : Vec Ideal S1x128 .f32)
    (r l : Fin 128) :
    k0_pay16 (k0_pay12 lg lane pos a b) (k0_pay13 rows) (k0_pay14 lg lane pos a b) (Scalar.ofBits .f32 0x00000000#32) (k0_pay15 rows)
        (ValueIdx.ix2 r l)
      = rise (place (k0_pay13 rows)) 4 (rise (place (k0_pay13 rows)) 2 (rise (place (k0_pay13 rows)) 1 (col (k0_pay12 lg lane pos a b) l))) r := by
  simp only [rise, place, col]
  simp only [← ix2_eq_valueIdx]
  unfold k0_pay16 k0_pay14 k0_pay15
  generalize k0_pay12 lg lane pos a b = y
  generalize k0_pay13 rows = c
  pointwise

theorem pay17_at (y : FVec Ideal S128x128 .f32) (c : IVec S128x1 32) (r l : Fin 128) :
    k0_pay17 y c (ValueIdx.ix2 r l) = fall (place c) 60 124 (fall (place c) 62 126 (fall (place c) 63 127 (col y l))) r := by
  simp only [fall, place, col]
  simp only [← ix2_eq_valueIdx]
  unfold k0_pay17
  pointwise

theorem pay19_at (y : FVec Ideal S128x128 .f32) (c : IVec S128x1 32) (r l : Fin 128) :
    k0_pay19 c y (ValueIdx.ix2 r l) = fall (place c) 48 112 (fall (place c) 56 120 (col y l)) r := by
  simp only [fall, place, col]
  simp only [← ix2_eq_valueIdx]
  unfold k0_pay19
  pointwise

theorem pay20_at (y : FVec Ideal S128x128 .f32) (c : IVec S128x1 32) (r l : Fin 128) :
    k0_pay20 c y k0_pay18 (ValueIdx.ix2 r l) = rise (place c) 32 (rise (place c) 16 (rise (place c) 8 (col y l))) r := by
  simp only [rise, place, col]
  simp only [← ix2_eq_valueIdx]
  unfold k0_pay20 k0_pay18
  pointwise

theorem pay23_at (lane : IVec S1x128 32) (bg y z : FVec Ideal S128x128 .f32) (c : IVec S128x1 32) (r l : Fin 128) :
    k0_pay23 lane bg (k0_pay19 c y) z (k0_pay21 c y) (Scalar.ofBits .f32 0x00000000#32) (k0_pay22 c) (ValueIdx.ix2 r l)
      = Scalar.select (IntOp.cmpi CmpIPredicate.slt (lane (ValueIdx.ix2 0 l)) 8#32) (bg (ValueIdx.ix2 r l))
          (Scalar.select (IntOp.cmpi CmpIPredicate.slt (lane (ValueIdx.ix2 0 l)) 12#32) (z (ValueIdx.ix2 r l))
            (fall (place c) 32 96 (col (k0_pay19 c y) l) r)) := by
  simp only [fall, place, col]
  simp only [← ix2_eq_valueIdx]
  unfold k0_pay23 k0_pay21 k0_pay22
  generalize k0_pay19 c y = v
  pointwise

/-- The decay of one lane: its logit, and its two parameters. -/
def decayAt (l a b : EReal) : EReal := (Ideal.ofBits .f32 0x00000000#32 - Ideal.exp a) * Rows.softplus (l + b)

theorem pay12_at (lg : Vec Ideal S128x128 .f32) (lane : IVec S1x128 32) (pos : IVec S128x1 32) (a b : Vec Ideal S1x128 .f32)
    (r l : Fin 128) :
    k0_pay12 lg lane pos a b (ValueIdx.ix2 r l)
      = Scalar.select (IntOp.cmpi CmpIPredicate.slt (pos (ValueIdx.ix2 r 0)) 4160#32)
          (Scalar.select (IntOp.cmpi CmpIPredicate.sge (pos (ValueIdx.ix2 r 0)) 48#32)
            (Scalar.select (IntOp.cmpi CmpIPredicate.slt (lane (ValueIdx.ix2 0 l)) 8#32) (Ideal.logistic (lg (ValueIdx.ix2 r l)))
              (decayAt (lg (ValueIdx.ix2 r l)) (a (ValueIdx.ix2 0 l)) (b (ValueIdx.ix2 0 l))))
            (Ideal.ofBits .f32 0x00000000#32))
          (Ideal.ofBits .f32 0x00000000#32) := by
  simp only [decayAt, Rows.softplus]
  simp only [← ix2_eq_valueIdx]
  unfold k0_pay12
  pointwise
  rfl

theorem pay13_at (r : Fin 128) : k0_pay13 (iota .tc S128x1 32 [0] iota_S128x1_d0_w32) (ValueIdx.ix2 r 0) = BitVec.ofNat 32 r.val &&& 63#32 := by
  simp only [← ix2_eq_valueIdx]
  unfold k0_pay13
  pointwise
  rfl

end Cert.Kernel5Ideal.Inproj
end
end
-- ==== Proof.InSums.lean ====
module

public import proofs.«01_k».proof.Proof.InDecays

@[expose] public section

set_option maxRecDepth 16384

noncomputable section

namespace Cert.Kernel5Ideal.Inproj

open Idealize.ShloMosaic
open Cert.Kernel5Ideal Cert.Kernel5Ideal.Gen

/-- The word of a row's place in its chunk. -/
def spot (r : Fin 128) : BitVec 32 := BitVec.ofNat 32 r.val &&& 63#32

theorem spot_ge : ∀ (d : Fin 33) (r : Fin 128),
    IntOp.cmpi CmpIPredicate.sge (spot r) (BitVec.ofNat 32 d.val) = if d.val ≤ r.val % 64 then 1#1 else 0#1 := by decide +kernel

theorem spot_lt : ∀ (t : Fin 64) (r : Fin 128),
    IntOp.cmpi CmpIPredicate.slt (spot r) (BitVec.ofNat 32 t.val) = if r.val % 64 < t.val then 1#1 else 0#1 := by decide +kernel

theorem pick (p : Prop) [Decidable p] (a b : EReal) : Scalar.select (if p then 1#1 else 0#1) a b = if p then a else b := by
  by_cases h : p
  · rw [if_pos h, if_pos h]; rfl
  · rw [if_neg h, if_neg h]; rfl

/-- The sum of the (at most) `d` rows up to a row, in its chunk. -/
def upTo (G : ℕ → EReal) (d : ℕ) (r : Fin 128) : EReal := ∑ k ∈ Finset.range (min d (r.val % 64 + 1)), G (r.val - k)
/-- The sum of the (at most) `d` rows from a row on, in its chunk. -/
def from_ (G : ℕ → EReal) (d : ℕ) (r : Fin 128) : EReal := ∑ k ∈ Finset.range (min d (64 - r.val % 64)), G (r.val + k)

theorem rise_step (G : ℕ → EReal) (d : ℕ) (hd : 1 ≤ d) (h32 : d ≤ 32) (g : Fin 128 → EReal) (hg : g = upTo G d) :
    rise spot d g = upTo G (d + d) := by
  funext r
  have hr := r.isLt
  unfold rise
  rw [spot_ge ⟨d, by omega⟩ r, pick, Ideal.ofBits_zero_f32, hg]
  unfold upTo
  dsimp only
  by_cases h : d ≤ r.val % 64
  · have e1 : (r.val + 128 - d) % 128 = r.val - d := by omega
    have e2 : min d (r.val % 64 + 1) = d := by omega
    have e3 : min (d + d) (r.val % 64 + 1) = d + min d (r.val % 64 - d + 1) := by omega
    have e4 : (r.val - d) % 64 = r.val % 64 - d := by omega
    rw [if_pos h, e1, e2, e3, e4, Finset.sum_range_add]
    refine congrArg _ (Finset.sum_congr rfl fun k _ => congrArg G ?_)
    omega
  · have e : min (d + d) (r.val % 64 + 1) = min d (r.val % 64 + 1) := by omega
    rw [if_neg h, add_zero, e]

theorem fall_step (G : ℕ → EReal) (d t e : ℕ) (hd : 1 ≤ d) (h32 : d ≤ 32) (ht : t = 64 - d) (he : e = 128 - d) (g : Fin 128 → EReal)
    (hg : g = from_ G d) : fall spot t e g = from_ G (d + d) := by
  funext r
  have hr := r.isLt
  unfold fall
  rw [spot_lt ⟨t, by omega⟩ r, pick, Ideal.ofBits_zero_f32, hg]
  unfold from_
  dsimp only
  by_cases h : r.val % 64 < t
  · have e1 : (r.val + 128 - e) % 128 = r.val + d := by omega
    have e2 : min d (64 - r.val % 64) = d := by omega
    have e3 : min (d + d) (64 - r.val % 64) = d + min d (64 - (r.val % 64 + d)) := by omega
    have e4 : (r.val + d) % 64 = r.val % 64 + d := by omega
    rw [if_pos h, e1, e2, e3, e4, Finset.sum_range_add]
    refine congrArg _ (Finset.sum_congr rfl fun k _ => congrArg G ?_)
    omega
  · have e : min (d + d) (64 - r.val % 64) = min d (64 - r.val % 64) := by omega
    rw [if_neg h, add_zero, e]

theorem upTo_one (G : ℕ → EReal) : (fun r : Fin 128 => G r.val) = upTo G 1 := by
  funext r
  unfold upTo
  rw [show min 1 (r.val % 64 + 1) = 1 by omega, Finset.sum_range_one]; rfl

theorem from_one (G : ℕ → EReal) : (fun r : Fin 128 => G r.val) = from_ G 1 := by
  funext r
  unfold from_
  have hr := r.isLt
  rw [show min 1 (64 - r.val % 64) = 1 by omega, Finset.sum_range_one]; rfl

theorem rises (G : ℕ → EReal) : rise spot 32 (rise spot 16 (rise spot 8 (rise spot 4 (rise spot 2 (rise spot 1 fun r => G r.val))))) = upTo G 64 :=
  rise_step G 32 (by decide) (by decide) _ (rise_step G 16 (by decide) (by decide) _ (rise_step G 8 (by decide) (by decide) _
    (rise_step G 4 (by decide) (by decide) _ (rise_step G 2 (by decide) (by decide) _ (rise_step G 1 (by decide) (by decide) _ (upTo_one G))))))

theorem falls (G : ℕ → EReal) :
    fall spot 32 96 (fall spot 48 112 (fall spot 56 120 (fall spot 60 124 (fall spot 62 126 (fall spot 63 127 fun r => G r.val))))) = from_ G 64 :=
  fall_step G 32 _ _ (by decide) (by decide) rfl rfl _ (fall_step G 16 _ _ (by decide) (by decide) rfl rfl _ (fall_step G 8 _ _ (by decide) (by decide) rfl rfl _
    (fall_step G 4 _ _ (by decide) (by decide) rfl rfl _ (fall_step G 2 _ _ (by decide) (by decide) rfl rfl _ (fall_step G 1 _ _ (by decide) (by decide) rfl rfl _ (from_one G))))))

/-- What a lane of a row of a block holds: a beta, or a sum of the chunk's decays up to the row, or from it on. -/
def laneOf (G : ℕ → EReal) (l : Fin 128) (r : Fin 128) : EReal :=
  if l.val < 8 then G r.val else if l.val < 12 then upTo G 64 r else from_ G 64 r

theorem lane_lt : ∀ (l : Fin 128), IntOp.cmpi CmpIPredicate.slt (BitVec.ofNat 32 l.val) 8#32 = (if l.val < 8 then 1#1 else 0#1)
    ∧ IntOp.cmpi CmpIPredicate.slt (BitVec.ofNat 32 l.val) 12#32 = (if l.val < 12 then 1#1 else 0#1) := by decide +kernel

theorem place_eq : place (k0_pay13 (iota .tc S128x1 32 [0] iota_S128x1_d0_w32)) = spot := funext fun r => pay13_at r

theorem lane_at (l : Fin 128) : (iota .tc S1x128 32 [1] iota_S1x128_d1_w32 : IVec S1x128 32) (ValueIdx.ix2 0 l) = BitVec.ofNat 32 l.val := by
  pointwise

/-- The lanes of a block of 128 rows, from the values `G` of a lane's masked rows. -/
theorem decays_at (pos : IVec S128x1 32) (lg : Vec Ideal S128x128 .f32) (a b : Vec Ideal S1x128 .f32) (G : ℕ → EReal) (l : Fin 128)
    (hG : ∀ r : Fin 128, k0_pay12 lg (iota .tc S1x128 32 [1] iota_S1x128_d1_w32) pos a b (ValueIdx.ix2 r l) = G r.val) (r : Fin 128) :
    decays pos lg a b (ValueIdx.ix2 r l) = laneOf G l r := by
  unfold decays
  dsimp only
  rw [pay23_at]
  have hc : col (k0_pay12 lg (iota .tc S1x128 32 [1] iota_S1x128_d1_w32) pos a b) l = fun r => G r.val := funext fun r => hG r
  have hs : col (k0_pay17 (k0_pay12 lg (iota .tc S1x128 32 [1] iota_S1x128_d1_w32) pos a b) (k0_pay13 (iota .tc S128x1 32 [0] iota_S128x1_d0_w32))) l
      = fall spot 60 124 (fall spot 62 126 (fall spot 63 127 fun r => G r.val)) := by
    funext q; unfold col; rw [pay17_at, place_eq, hc]
  have hs' : ∀ y : FVec Ideal S128x128 .f32, col (k0_pay19 (k0_pay13 (iota .tc S128x1 32 [0] iota_S128x1_d0_w32)) y) l
      = fall spot 48 112 (fall spot 56 120 (col y l)) := fun y => by
    funext q; unfold col; rw [pay19_at, place_eq]; rfl
  have hp : col (k0_pay16 (k0_pay12 lg (iota .tc S1x128 32 [1] iota_S1x128_d1_w32) pos a b) (k0_pay13 (iota .tc S128x1 32 [0] iota_S128x1_d0_w32))
        (k0_pay14 lg (iota .tc S1x128 32 [1] iota_S1x128_d1_w32) pos a b) (Scalar.ofBits .f32 0x00000000#32)
        (k0_pay15 (iota .tc S128x1 32 [0] iota_S128x1_d0_w32))) l
      = rise spot 4 (rise spot 2 (rise spot 1 fun r => G r.val)) := by
    funext q; unfold col; rw [pay16_at, place_eq, hc]
  rw [pay20_at, hs', hs, hp, place_eq, lane_at, (lane_lt l).1, (lane_lt l).2, pick, pick, hG, rises, falls]
  rfl

end Cert.Kernel5Ideal.Inproj
end
end
-- ==== Proof.InLanes.lean ====
module

public import proofs.«01_k».proof.Proof.InRows
public import Idealize.ShloMosaic.Lib.IdealHost

@[expose] public section

noncomputable section

/-! What a lane of a row of the decays holds. -/

namespace Cert.Rows

open Idealize.ShloMosaic

/-- The columns the two logits take, and zeros after. -/
def padCols {n : ℕ} (w : Fin n → Fin 7184 → EReal) (k : Fin n) (l : Fin 128) : EReal :=
  if l.val < 16 then w k ⟨(4096 + l.val) % 7184, Nat.mod_lt _ (by decide)⟩ else 0

/-- A parameter of the eight decay lanes, from lane 8, and zeros elsewhere. -/
def padPar (x : Fin 2 → Fin 4 → EReal) (l : Fin 128) : EReal :=
  if 8 ≤ l.val ∧ l.val < 16 then x ⟨(l.val - 8) / 4 % 2, Nat.mod_lt _ (by decide)⟩ ⟨(l.val - 8) % 4, Nat.mod_lt _ (by decide)⟩ else 0

/-- The logarithm of a decay: its logit, its rate and its shift. -/
def decay (l a b : EReal) : EReal := (Ideal.ofBits .f32 0x00000000#32 - Ideal.exp a) * softplus (l + b)

/-- A row outside the sequence proper holds zero. -/
def held (q : ℕ) (x : EReal) : EReal := if q % 4224 < 4160 then (if 48 ≤ q % 4224 then x else 0) else 0

/-- The value of a lane before the sums. -/
def value (lg a b : Fin 128 → EReal) (l : Fin 128) : EReal := if l.val < 8 then Ideal.logistic (lg l) else decay (lg l) (a l) (b l)

def lane (lg : Fin 33792 → Fin 128 → EReal) (a b : Fin 128 → EReal) (l : Fin 128) (q : ℕ) : EReal :=
  held q (value (lg ⟨q % 33792, Nat.mod_lt _ (by decide)⟩) a b l)

/-- A beta, or the sum of the chunk's decays up to a row, or from it on. -/
def sums (G : ℕ → EReal) (l p : ℕ) : EReal :=
  if l < 8 then G p else if l < 12 then ∑ k ∈ Finset.range (p % 64 + 1), G (p - k) else ∑ k ∈ Finset.range (64 - p % 64), G (p + k)

def lanes (lg : Fin 33792 → Fin 128 → EReal) (a b : Fin 128 → EReal) (p : ℕ) (l : Fin 128) : EReal := sums (lane lg a b l) l.val p

end Cert.Rows
end
end
-- ==== Proof.InMasks.lean ====
module

public import proofs.«01_k».proof.Proof.InSums
public import proofs.«01_k».proof.Proof.InLanes
public import proofs.«01_k».proof.Proof.InTiles
public import Idealize.ShloMosaic.Lib.Routing.OpsOne

@[expose] public section

set_option maxRecDepth 16384

noncomputable section

namespace Cert.Kernel5Ideal.Inproj

open Idealize.ShloMosaic Idealize.ShloMosaic.TcCoe Idealize.ShloMosaic.StableHlo Idealize.SL.Sem
open Cert.Kernel5Ideal Cert.Kernel5Ideal.Gen

/-! ## Where a row lies in its sequence -/

/-- The first row of a tile, and the first row of its sequence, as words. -/
def firstWord (tile : BitVec 32) : BitVec 32 := Scalar.muli (Scalar.maxsi tile 0#32) 1024#32
def seqWord (tile : BitVec 32) : BitVec 32 :=
  let v60 : BitVec 32 := firstWord tile
  let v64 : BitVec 32 := Scalar.divsi v60 4224#32
  let v65 : BitVec 1 := Scalar.cmpi .sgt v60 0#32
  let v66 : BitVec 32 := Scalar.extui v65
  let v67 : BitVec 1 := Scalar.cmpi .slt v60 0#32
  let v68 : BitVec 32 := Scalar.extui v67
  let v69 : BitVec 32 := Scalar.subi v66 v68
  let v70 : BitVec 1 := Scalar.cmpi .sgt 4224#32 0#32
  let v71 : BitVec 32 := Scalar.extui v70
  let v72 : BitVec 1 := Scalar.cmpi .slt 4224#32 0#32
  let v73 : BitVec 32 := Scalar.extui v72
  let v74 : BitVec 32 := Scalar.subi v71 v73
  let v75 : BitVec 1 := Scalar.cmpi .ne v69 v74
  let v76 : BitVec 32 := Scalar.remsi v60 4224#32
  let v77 : BitVec 1 := Scalar.cmpi .ne v76 0#32
  let v78 : BitVec 1 := Scalar.andi v75 v77
  let v79 : BitVec 32 := Scalar.subi v64 1#32
  Scalar.muli (Scalar.select v78 v79 v64) 4224#32

/-- A place at most one sequence too far, brought back. -/
def wrap (x : BitVec 32) : BitVec 32 := Scalar.select (IntOp.cmpi CmpIPredicate.sge x 4224#32) (x - 4224#32) x

theorem posOf_at (tile off : BitVec 32) (r : Fin 128) :
    posOf tile off (ValueIdx.ix2 r 0) = wrap (firstWord tile + off + BitVec.ofNat 32 r.val - seqWord tile) := by
  unfold posOf wrap firstWord
  dsimp only
  generalize hs : Scalar.muli (Scalar.select _ _ _) 4224#32 = s
  have e : s = seqWord tile := hs.symm
  rw [← e]
  clear hs e
  pointwise
  rfl

theorem words : ∀ n : Fin 33, firstWord (BitVec.ofNat 32 n.val) = BitVec.ofNat 32 (1024 * n.val)
    ∧ seqWord (BitVec.ofNat 32 n.val) = BitVec.ofNat 32 (4224 * (1024 * n.val / 4224)) := by decide +kernel

theorem wrap_lt : ∀ x : Fin 5248, IntOp.cmpi CmpIPredicate.slt (wrap (BitVec.ofNat 32 x.val)) 4160#32 = (if x.val % 4224 < 4160 then 1#1 else 0#1)
    ∧ IntOp.cmpi CmpIPredicate.sge (wrap (BitVec.ofNat 32 x.val)) 48#32 = (if 48 ≤ x.val % 4224 then 1#1 else 0#1) := by decide +kernel

theorem pos_at (n h : ℕ) (hn : n ≤ 32) (hh : h < 8) (r : Fin 128) :
    IntOp.cmpi CmpIPredicate.slt (posOf (BitVec.ofNat 32 n) (BitVec.ofNat 32 (128 * h)) (ValueIdx.ix2 r 0)) 4160#32
        = (if (1024 * n + 128 * h + r.val) % 4224 < 4160 then 1#1 else 0#1)
      ∧ IntOp.cmpi CmpIPredicate.sge (posOf (BitVec.ofNat 32 n) (BitVec.ofNat 32 (128 * h)) (ValueIdx.ix2 r 0)) 48#32
        = (if 48 ≤ (1024 * n + 128 * h + r.val) % 4224 then 1#1 else 0#1) := by
  have hr := r.isLt
  have hw := words ⟨n, by omega⟩
  dsimp only at hw
  rw [posOf_at, hw.1, hw.2, ← BitVec.ofNat_add, ← BitVec.ofNat_add]
  obtain ⟨X, hX, hb⟩ : ∃ X, 1024 * n + 128 * h + r.val = X + 4224 * (1024 * n / 4224) ∧ X < 5248 := ⟨1024 * n % 4224 + 128 * h + r.val, by omega, by omega⟩
  have em : (1024 * n + 128 * h + r.val) % 4224 = X % 4224 := by omega
  rw [em, hX, BitVec.ofNat_add, BitVec.add_sub_cancel]
  exact wrap_lt ⟨X, hb⟩

/-! ## The padded columns and parameters -/

variable (m : (ℓ : Loc nD τ sig) → Buf (Elt Ideal) ℓ)

theorem V_v2 (c : Dev nD) : V m c main_v2 = pad S1024x128 ![0, 0] ![0, 112] ![0, 0]
    (extractStridedSlice S1024x16 ![0, 4096] (inW m c) slices_S1024x7184_S1024x16_0_4096) (sitofp (F := Ideal) .f32 (constantI S_ 32 0#32))
    pads_S1024x16_S1024x128_000_01120 h_S_ := by
  unfold V
  simp only [hostOps0, hostOps0_1, hostOps0_2, List.flatten_cons, List.flatten_nil, List.append_nil, List.cons_append, List.nil_append]
  after_results; rfl

/-- The two index words of a set. -/
def cell (i : BitVec 32) : IVec S2 32 :=
  concatenate S2 0 [⟨S1, broadcastInDim S1 ![] bcast_S_S1 (constantI S_ 32 i)⟩, ⟨S1, broadcastInDim S1 ![] bcast_S_S1 (constantI S_ 32 8#32)⟩] concatenates_S1_S1_S2_d0

theorem V_v13 (c : Dev nD) : V m c main_v13
    = Host.scatter scatter_S8x128_S2_S8_0_0_01_0 (fun _ b => b)
        (Host.scatter scatter_S8x128_S2_S8_0_0_01_0 (fun _ b => b) (broadcastInDim S8x128 ![] bcast_S_S8x128 (constant (F := Ideal) S_ .f32 0x00000000#32))
          (cell 0#32) (shapeCast S8 (inRate m c) shapeCasts_S2x4_S8))
        (cell 1#32) (shapeCast S8 (inShift m c) shapeCasts_S2x4_S8) := by
  unfold V
  simp only [hostOps0, hostOps0_1, hostOps0_2, List.flatten_cons, List.flatten_nil, List.append_nil, List.cons_append, List.nil_append]
  after_results; rfl

theorem lands_at (idx : IVec S2 32) (k : Fin 8) (r : Fin 8) (l : Fin 128) :
    scatter_S8x128_S2_S8_0_0_01_0.resultIdx? (ValueIdx.ix1 k) idx = some (ValueIdx.ix2 r l)
      ↔ (idx (ValueIdx.ix1 (0 : Fin 2))).toInt = r.val ∧ (idx (ValueIdx.ix1 (1 : Fin 2))).toInt + (k.val : Int) = l.val := by
  have w0 : scatter_S8x128_S2_S8_0_0_01_0.window (ValueIdx.ix1 k) 0 = 0 := by
    unfold ScatterDims.window
    rw [dif_neg fun h => (of_decide_eq_true (List.mem_filter.1 h).2) (List.mem_singleton.2 rfl)]
  have w1 : scatter_S8x128_S2_S8_0_0_01_0.window (ValueIdx.ix1 k) 1 = k.val := by
    unfold ScatterDims.window
    rw [dif_pos (show (1 : Fin 2) ∈ scatter_S8x128_S2_S8_0_0_01_0.sKept from List.mem_singleton.2 rfl)]
    rfl
  rw [Routing.resultIdx?_ix2, Routing.start_pair _ rfl rfl, Routing.start_pair _ rfl rfl, w0, w1]
  omega

theorem cell_at (i : BitVec 32) : cell i (ValueIdx.ix1 (0 : Fin 2)) = i ∧ cell i (ValueIdx.ix1 (1 : Fin 2)) = 8#32 := ⟨rfl, rfl⟩

/-- Eight entries set from lane 8 of a row. -/
theorem set_at (x : S8x128.Idx → EReal) (u : S8.Idx → EReal) (i : BitVec 32) (n : ℕ) (hi : i.toInt = n) (r : Fin 8) (l : Fin 128) :
    Host.scatter scatter_S8x128_S2_S8_0_0_01_0 (fun _ b => b) x (cell i) u (ValueIdx.ix2 r l)
      = if h : r.val = n ∧ 8 ≤ l.val ∧ l.val < 16 then u (ValueIdx.ix1 ⟨l.val - 8, by omega⟩) else x (ValueIdx.ix2 r l) := by
  have key : ∀ k : S8.Idx, scatter_S8x128_S2_S8_0_0_01_0.resultIdx? k (cell i) = some (ValueIdx.ix2 r l) ↔ n = r.val ∧ 8 + (k 0).val = l.val := fun k => by
    obtain ⟨q, rfl⟩ : ∃ q : Fin 8, k = ValueIdx.ix1 q := ⟨k 0, ValueIdx.eq_ix1 k⟩
    rw [lands_at, (cell_at i).1, (cell_at i).2, hi, show (8#32 : BitVec 32).toInt = 8 by decide]
    show ((n : Int) = (r.val : Int) ∧ (8 : Int) + (q.val : Int) = (l.val : Int)) ↔ (n = r.val ∧ 8 + q.val = l.val)
    omega
  by_cases h : r.val = n ∧ 8 ≤ l.val ∧ l.val < 16
  · rw [dif_pos h]
    refine Routing.scatter_set_hit _ x _ u _ _ (fun k hk => ?_) (ValueIdx.ix1 ⟨l.val - 8, by omega⟩) ((key _).2 ?_)
    · obtain ⟨q, rfl⟩ : ∃ q : Fin 8, k = ValueIdx.ix1 q := ⟨k 0, ValueIdx.eq_ix1 k⟩
      have hq : 8 + q.val = l.val := ((key _).1 hk).2
      exact congrArg (fun t : Fin 8 => u (ValueIdx.ix1 t)) (Fin.ext (by show q.val = l.val - 8; omega))
    · show n = r.val ∧ 8 + (l.val - 8) = l.val
      omega
  · rw [dif_neg h]
    refine Routing.scatter_set_miss _ x _ u _ fun k hk => h ?_
    obtain ⟨q, rfl⟩ : ∃ q : Fin 8, k = ValueIdx.ix1 q := ⟨k 0, ValueIdx.eq_ix1 k⟩
    have hq : n = r.val ∧ 8 + q.val = l.val := (key _).1 hk
    have hb := q.isLt
    omega

theorem flat_at (x : S2x4.Idx → EReal) (q : Fin 8) : shapeCast S8 x shapeCasts_S2x4_S8 (ValueIdx.ix1 q)
    = row x ⟨q.val / 4 % 2, Nat.mod_lt _ (by decide)⟩ ⟨q.val % 4, Nat.mod_lt _ (by decide)⟩ := by
  have hq := q.isLt
  refine (shapeCast_apply x shapeCasts_S2x4_S8 (ValueIdx.ix1 q)
    (ValueIdx.ix2 ⟨q.val / 4 % 2, Nat.mod_lt _ (by decide)⟩ ⟨q.val % 4, Nat.mod_lt _ (by decide)⟩) ?_).trans rfl
  rw [Shape.rowMajor_val_two, Shape.rowMajor_val_one]
  show q.val / 4 % 2 * 4 + q.val % 4 = q.val
  omega

end Cert.Kernel5Ideal.Inproj
end
end
-- ==== Proof.InGates.lean ====
module

public import proofs.«01_k».proof.Proof.InArrays
public import proofs.«01_k».proof.Proof.InSums
public import proofs.«01_k».proof.Proof.InMasks
public import proofs.«01_k».proof.Proof.InLanes

@[expose] public section

set_option maxRecDepth 16384

noncomputable section

namespace Cert.Kernel5Ideal.Inproj

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

theorem pad_cols (x : S1024x16.Idx → EReal) (v : S_.Idx → EReal) (hv : v (Shape.Idx.first h_S_) = 0) (a : Fin 1024) (l : Fin 128) :
    pad S1024x128 ![0, 0] ![0, 112] ![0, 0] x v pads_S1024x16_S1024x128_000_01120 h_S_ (ValueIdx.ix2 a l)
      = if h : l.val < 16 then x (ValueIdx.ix2 a ⟨l.val, h⟩) else 0 := by
  have ha := a.isLt
  unfold pad
  by_cases h : l.val < 16
  · rw [dif_pos h, dif_pos (fun b => ?_)]
    · refine congrArg x (funext fun b => Fin.ext ?_)
      match b with
      | ⟨0, _⟩ => show (a.val - 0) / (0 + 1) = a.val; omega
      | ⟨1, _⟩ => show (l.val - 0) / (0 + 1) = l.val; omega
    · match b with
      | ⟨0, _⟩ => show 0 ≤ a.val ∧ (a.val - 0) % (0 + 1) = 0 ∧ (a.val - 0) / (0 + 1) < 1024; omega
      | ⟨1, _⟩ => show 0 ≤ l.val ∧ (l.val - 0) % (0 + 1) = 0 ∧ (l.val - 0) / (0 + 1) < 16; omega
  · rw [dif_neg h, dif_neg (fun hin => h ?_), hv]
    have h1 : 0 ≤ l.val ∧ (l.val - 0) % (0 + 1) = 0 ∧ (l.val - 0) / (0 + 1) < 16 := hin 1
    omega

theorem blk5_at (c : Dev nD) (t : Fin cfg0.N) : row (iblk m c 5 t) = Rows.padCols (row (inW m c)) := by
  funext a l
  refine (show _ = V m c main_v2 (ValueIdx.ix2 a l) from ?_).trans ?_
  · unfold row iblk
    rw [View.read_apply]
    exact congrArg (V m c main_v2) (funext fun b => Fin.ext (by
      match b with
      | ⟨0, _⟩ => show 0 + 1 * a.val = a.val; omega
      | ⟨1, _⟩ => show 0 + 1 * l.val = l.val; omega))
  · rw [V_v2, pad_cols _ _ (show (((0#32 : BitVec 32).toInt : ℝ) : EReal) = 0 by simp)]
    unfold Rows.padCols
    by_cases h : l.val < 16
    · rw [dif_pos h, if_pos h]
      exact congrArg (inW m c) (funext fun b => Fin.ext (by
        match b with
        | ⟨0, _⟩ => show 0 + a.val = a.val; omega
        | ⟨1, _⟩ => show 4096 + l.val = (4096 + l.val) % 7184; omega))
    · rw [dif_neg h, if_neg h]

theorem par_row (c : Dev nD) (t : Fin cfg0.N) (r : Fin 8) (l : Fin 128) : iblk m c 10 t (ValueIdx.ix2 r l) = V m c main_v13 (ValueIdx.ix2 r l) := by
  unfold iblk
  rw [View.read_apply]
  exact congrArg (V m c main_v13) (funext fun b => Fin.ext (by
    match b with
    | ⟨0, _⟩ => show 0 + 1 * r.val = r.val; omega
    | ⟨1, _⟩ => show 0 + 1 * l.val = l.val; omega))

theorem v13_at (c : Dev nD) (l : Fin 128) : V m c main_v13 (ValueIdx.ix2 (0 : Fin 8) l) = Rows.padPar (row (inRate m c)) l
    ∧ V m c main_v13 (ValueIdx.ix2 (1 : Fin 8) l) = Rows.padPar (row (inShift m c)) l := by
  rw [V_v13, set_at _ _ 1#32 1 (by decide), set_at _ _ 1#32 1 (by decide), set_at _ _ 0#32 0 (by decide), set_at _ _ 0#32 0 (by decide)]
  unfold Rows.padPar
  have hz : (broadcastInDim S8x128 ![] bcast_S_S8x128 (constant (F := Ideal) S_ .f32 0x00000000#32) : S8x128.Idx → EReal) (ValueIdx.ix2 (0 : Fin 8) l) = 0
      ∧ (broadcastInDim S8x128 ![] bcast_S_S8x128 (constant (F := Ideal) S_ .f32 0x00000000#32) : S8x128.Idx → EReal) (ValueIdx.ix2 (1 : Fin 8) l) = 0 :=
    ⟨Ideal.ofBits_zero_f32, Ideal.ofBits_zero_f32⟩
  by_cases h : 8 ≤ l.val ∧ l.val < 16
  · rw [if_pos h, if_pos h, dif_neg (fun q => absurd q.1 (by decide)), dif_pos ⟨rfl, h⟩, dif_pos ⟨rfl, h⟩, flat_at, flat_at]
    exact ⟨rfl, rfl⟩
  · rw [if_neg h, if_neg h, dif_neg (fun q => h q.2), dif_neg (fun q => h q.2), dif_neg (fun q => h q.2), dif_neg (fun q => h q.2)]
    exact hz

theorem par0_at (x : Vec Ideal S8x128 .f32) (l : Fin 128) : par0 x (ValueIdx.ix2 0 l) = x (ValueIdx.ix2 (0 : Fin 8) l) :=
  congrArg x (funext fun b => Fin.ext (by
    match b with
    | ⟨0, _⟩ => rfl
    | ⟨1, _⟩ => show 0 + 1 * l.val = l.val; omega))

theorem par1_at (x : Vec Ideal S8x128 .f32) (l : Fin 128) : par1 x (ValueIdx.ix2 0 l) = x (ValueIdx.ix2 (1 : Fin 8) l) :=
  congrArg x (funext fun b => Fin.ext (by
    match b with
    | ⟨0, _⟩ => rfl
    | ⟨1, _⟩ => show 0 + 1 * l.val = l.val; omega))

/-- The logits of row `p`. -/
def logRow (c : Dev nD) (p : Fin 33792) : Fin 128 → EReal := Rows.dot (xnAt m c p) (Rows.padCols (row (inW m c)))

/-- The decays of row `p`. -/
def dncRow (c : Dev nD) (p : Fin 33792) (l : Fin 128) : EReal :=
  Rows.lanes (logRow m c) (Rows.padPar (row (inRate m c))) (Rows.padPar (row (inShift m c))) p.val l

theorem lg_at (c : Dev nD) (n : ℕ) (h : n ≤ 32) (r : Fin 1024) (l : Fin 128) : lgAt m c n (ValueIdx.ix2 r l) = logRow m c (src n r) l := by
  unfold lgAt lgOf
  refine (pay147_at _ _ r l).trans ?_
  rw [xn_at m c n h, blk5_at]; rfl

theorem slab_at (x : Vec Ideal S1024x128 .f32) (k : ℕ) (hk : k < 8) (r l : Fin 128) :
    slab x k (ValueIdx.ix2 r l) = x (ValueIdx.ix2 ⟨128 * k + r.val, by omega⟩ l) :=
  congrArg x (funext fun b => Fin.ext (by
    match b with
    | ⟨0, _⟩ => show (128 * k + r.val) % 1024 = 128 * k + r.val; omega
    | ⟨1, _⟩ => rfl))

theorem masked_at (c : Dev nD) (n : ℕ) (h : n ≤ 32) (k : ℕ) (hk : k < 8) (t : Fin cfg0.N) (r l : Fin 128) :
    k0_pay12 (slab (lgAt m c n) k) (iota .tc S1x128 32 [1] iota_S1x128_d1_w32) (posOf (BitVec.ofNat 32 n) (BitVec.ofNat 32 (128 * k)))
        (par0 (iblk m c 10 t)) (par1 (iblk m c 10 t)) (ValueIdx.ix2 r l)
      = Rows.lane (logRow m c) (Rows.padPar (row (inRate m c))) (Rows.padPar (row (inShift m c))) l (1024 * n + 128 * k + r.val) := by
  have hr := r.isLt
  rw [pay12_at, (pos_at n k h hk r).1, (pos_at n k h hk r).2, lane_at, (lane_lt l).1, pick, pick, pick, Ideal.ofBits_zero_f32, slab_at _ k hk,
    lg_at m c n h, par0_at, par1_at, par_row, par_row, (v13_at m c l).1, (v13_at m c l).2,
    show src n ⟨128 * k + r.val, by omega⟩ = ⟨(1024 * n + 128 * k + r.val) % 33792, Nat.mod_lt _ (by decide)⟩ from
      Fin.ext (by show (n * 1024 + (128 * k + r.val)) % 33792 = _; congr 1; omega)]
  rfl

theorem laneOf_at (G : ℕ → EReal) (b : ℕ) (l r : Fin 128) : laneOf (fun q => G (128 * b + q)) l r = Rows.sums G l.val (128 * b + r.val) := by
  have hr := r.isLt
  unfold laneOf Rows.sums upTo from_
  by_cases h8 : l.val < 8
  · rw [if_pos h8, if_pos h8]
  · rw [if_neg h8, if_neg h8]
    by_cases h12 : l.val < 12
    · rw [if_pos h12, if_pos h12, show min 64 (r.val % 64 + 1) = (128 * b + r.val) % 64 + 1 by omega]
      refine Finset.sum_congr rfl fun k hk => congrArg G ?_
      have := Finset.mem_range.1 hk
      omega
    · rw [if_neg h12, if_neg h12, show min 64 (64 - r.val % 64) = 64 - (128 * b + r.val) % 64 by omega]
      refine Finset.sum_congr rfl fun k hk => congrArg G ?_
      omega

theorem dnc_at (c : Dev nD) (n : ℕ) (h : n ≤ 32) (r : Fin 1024) (k : Fin 128) : dncAt m c (n + 1) (ValueIdx.ix2 r k) = dncRow m c (src n r) k := by
  have hr := r.isLt
  refine (decays_at _ _ _ _ (fun q => Rows.lane (logRow m c) (Rows.padPar (row (inRate m c))) (Rows.padPar (row (inShift m c))) k (128 * (8 * n + r.val / 128) + q)) k
    (fun q => ?_) ⟨r.val % 128, Nat.mod_lt _ (by decide)⟩ :
    dncAt m c (n + 1) (ValueIdx.ix2 r k) = _).trans ?_
  · refine (masked_at m c n h (r.val / 128) (by omega) (pnt (n + 1)) q k).trans (congrArg _ ?_)
    omega
  · refine (laneOf_at _ (8 * n + r.val / 128) k ⟨r.val % 128, Nat.mod_lt _ (by decide)⟩).trans ?_
    refine congrArg (Rows.sums _ k.val) ?_
    show 128 * (8 * n + r.val / 128) + r.val % 128 = (n * 1024 + r.val) % 33792
    omega

theorem index15 : ∀ t : Fin cfg0.N, win0_15.index t (0 : Fin 2) = t.val - 1 ∧ win0_15.index t (1 : Fin 2) = 0 := by decide +kernel
theorem flush15 (t : Fin cfg0.N) : (cfg0.win 15).flush t = decide (t.val ≠ 0) :=
  ((cfg0.win 15).flush_eq_flushF t).trans ((by decide +kernel : ∀ t : Fin grid0.N, win0_15.flushF t = decide (t.val ≠ 0)) t)

theorem dnc_after (c : Dev nD) (t : Fin cfg0.N) (r : Fin 1024) (k : Fin 128) (h : t.val ≠ 0) :
    (dats m 0 c).after 15 t (ValueIdx.ix2 r k) = dncRow m c (src (t.val - 1) r) k := by
  have hN := pts t
  rw [after15]
  obtain ⟨n, hn⟩ : ∃ n, t.val = n + 1 := ⟨t.val - 1, by omega⟩
  rw [hn]
  exact dnc_at m c n (by omega) r k

/-- What the array of result 4 is shown to hold. -/
def dncRes (c : Dev nD) : Buf (Elt Ideal) ((c : Thread nD τ).loc main_v20_4) :=
  fun i : S33792x128.Idx => dncRow m c ⟨(i 0).val, (i 0).isLt⟩ ⟨(i 1).val, (i 1).isLt⟩

theorem dnc_flushed (c : Dev nD) (t : Fin cfg0.N) (hf : (cfg0.win 15).flush t = true) :
    (dats m 0 c).flushed 15 t = ((cfg0.win 15).blk t).view.read (Elt Ideal) (dncRes m c) := by
  have h : t.val ≠ 0 := of_decide_eq_true ((flush15 t).symm.trans hf)
  have hi := index15 t
  have hN := pts t
  have hb : t.val - 1 ≤ 32 := by omega
  show (cfg0.win 15).cut (grid0.coords t) ((dats m 0 c).after 15 t) = _
  funext j
  have hj0 : (j 0).val < 1024 := (j 0).isLt
  rw [View.read_apply]
  have e0 : win0_15.index t (0 : Fin 2) * 1024 + 1 * (j 0).val = (t.val - 1) * 1024 + (j 0).val := by rw [hi.1, Nat.one_mul]
  have e1 : win0_15.index t (1 : Fin 2) * 128 + 1 * (j 1).val = (j 1).val := by rw [hi.2, Nat.zero_mul, Nat.one_mul, Nat.zero_add]
  refine (show _ = (dats m 0 c).after 15 t (ValueIdx.ix2 ⟨(j 0).val, hj0⟩ ⟨(j 1).val, (j 1).isLt⟩) from ?_).trans ?_
  · exact congrArg ((dats m 0 c).after 15 t) (funext fun a => by match a with | ⟨0, _⟩ => rfl | ⟨1, _⟩ => rfl)
  · rw [dnc_after m c t _ _ h]
    show _ = dncRow m c ⟨win0_15.index t (0 : Fin 2) * 1024 + 1 * (j 0).val, _⟩ ⟨win0_15.index t (1 : Fin 2) * 128 + 1 * (j 1).val, _⟩
    have es := src_eq (t.val - 1) hb ⟨(j 0).val, hj0⟩
    simp only [e0, e1, es]

theorem dnc_mem (t : Fin cfg0.N) (i : S33792x128.Idx) :
    i ∈ ((cfg0.win 15).blk t).view.set ↔ (t.val - 1) * 1024 ≤ (i 0 : ℕ) ∧ (i 0 : ℕ) < (t.val - 1) * 1024 + 1024 := by
  show i ∈ ((View.whole main_v20_4).slice (win0_15.rect t)).set ↔ _
  rw [View.set_slice_whole, Rect.mem_set_unit]
  have h1 : (i 1 : ℕ) < 128 := (i 1).isLt
  have hi := index15 t
  refine ⟨fun h => ?_, fun h a => ?_⟩
  · have : win0_15.index t (0 : Fin 2) * 1024 ≤ (i 0 : ℕ) ∧ (i 0 : ℕ) < win0_15.index t (0 : Fin 2) * 1024 + 1024 := h 0
    rwa [hi.1] at this
  · match a with
    | ⟨0, _⟩ => show win0_15.index t (0 : Fin 2) * 1024 ≤ (i 0 : ℕ) ∧ (i 0 : ℕ) < win0_15.index t (0 : Fin 2) * 1024 + 1024; rw [hi.1]; exact h
    | ⟨1, _⟩ =>
      show win0_15.index t (1 : Fin 2) * 128 ≤ (i 1 : ℕ) ∧ (i 1 : ℕ) < win0_15.index t (1 : Fin 2) * 128 + 128
      rw [hi.2, Nat.zero_mul]; exact ⟨Nat.zero_le _, by rwa [Nat.zero_add]⟩

theorem dnc_cover (i : S33792x128.Idx) : ∃ t : Fin cfg0.N, (cfg0.win 15).flush t = true ∧ i ∈ ((cfg0.win 15).blk t).view.set := by
  have h0 : (i 0 : ℕ) < 33792 := (i 0).isLt
  have ht : (i 0 : ℕ) / 1024 + 1 < cfg0.N := by rw [show cfg0.N = 34 from N_0]; omega
  refine ⟨⟨(i 0 : ℕ) / 1024 + 1, ht⟩, (flush15 _).trans (decide_eq_true (Nat.succ_ne_zero _)), ?_⟩
  rw [dnc_mem]
  dsimp only
  omega

theorem dnc_final (c : Dev nD) : (dats m 0 c).arrAt 15 cfg0.N = dncRes m c :=
  (dats m 0 c).arrAt_eq_of_cover 15 (dncRes m c) (dnc_flushed m c) dnc_cover

end Cert.Kernel5Ideal.Inproj
end
end
-- ==== Proof.InRefGates.lean ====
module

public import proofs.«01_k».proof.Proof.InRef
public import proofs.«01_k».proof.Proof.InLanes

@[expose] public section

set_option maxRecDepth 16384

noncomputable section

namespace Cert.Reference5Ideal.Inproj

open Idealize.ShloMosaic
open Cert.Reference5Ideal Cert.Reference5Ideal.Gen Cert.Reference5Ideal.Read

variable (x0 : S33792x1024.Idx → EReal) (x1 : S1024.Idx → EReal) (x2 : S1024x7184.Idx → EReal) (x6 x7 : S2x4.Idx → EReal)

/-! ## The paddings -/

theorem pad_vec (x : S8.Idx → EReal) (v : S_.Idx → EReal) (hv : v (Shape.Idx.first h_S_) = 0) (j : Fin 120) :
    pad S120 ![0] ![112] ![0] x v pads_S8_S120_01120 h_S_ (ValueIdx.ix1 j) = if h : j.val < 8 then x (ValueIdx.ix1 ⟨j.val, h⟩) else 0 := by
  unfold pad
  by_cases h : j.val < 8
  · rw [dif_pos h, dif_pos (fun b => ?_)]
    · refine congrArg x (funext fun b => Fin.ext ?_)
      match b with
      | ⟨0, _⟩ => show (j.val - 0) / (0 + 1) = j.val; omega
    · match b with
      | ⟨0, _⟩ => show 0 ≤ j.val ∧ (j.val - 0) % (0 + 1) = 0 ∧ (j.val - 0) / (0 + 1) < 8; omega
  · rw [dif_neg h, dif_neg (fun hin => h ?_), hv]
    have h1 : 0 ≤ j.val ∧ (j.val - 0) % (0 + 1) = 0 ∧ (j.val - 0) / (0 + 1) < 8 := hin 0
    omega

theorem pad_mat (x : S33792x8.Idx → EReal) (v : S_.Idx → EReal) (hv : v (Shape.Idx.first h_S_) = 0) (p : Fin 33792) (j : Fin 120) :
    pad S33792x120 ![0, 0] ![0, 112] ![0, 0] x v pads_S33792x8_S33792x120_000_01120 h_S_ (ValueIdx.ix2 p j)
      = if h : j.val < 8 then x (ValueIdx.ix2 p ⟨j.val, h⟩) else 0 := by
  have hp := p.isLt
  unfold pad
  by_cases h : j.val < 8
  · rw [dif_pos h, dif_pos (fun b => ?_)]
    · refine congrArg x (funext fun b => Fin.ext ?_)
      match b with
      | ⟨0, _⟩ => show (p.val - 0) / (0 + 1) = p.val; omega
      | ⟨1, _⟩ => show (j.val - 0) / (0 + 1) = j.val; omega
    · match b with
      | ⟨0, _⟩ => show 0 ≤ p.val ∧ (p.val - 0) % (0 + 1) = 0 ∧ (p.val - 0) / (0 + 1) < 33792; omega
      | ⟨1, _⟩ => show 0 ≤ j.val ∧ (j.val - 0) % (0 + 1) = 0 ∧ (j.val - 0) / (0 + 1) < 8; omega
  · rw [dif_neg h, dif_neg (fun hin => h ?_), hv]
    have h1 : 0 ≤ j.val ∧ (j.val - 0) % (0 + 1) = 0 ∧ (j.val - 0) / (0 + 1) < 8 := hin 1
    omega

theorem pad_seq {C : ℕ} (x : (⟨3, ![8, 4112, C]⟩ : Shape).Idx → EReal) (v : S_.Idx → EReal) (hu : 0 < S_.numel) (hv : v (Shape.Idx.first hu) = 0)
    (h : (⟨3, ![8, 4112, C]⟩ : Shape).Pads ![0, 48, 0] ![0, 64, 0] ![0, 0, 0] ⟨3, ![8, 4224, C]⟩) (s : Fin 8) (P : Fin 4224) (j : Fin C) :
    pad ⟨3, ![8, 4224, C]⟩ ![0, 48, 0] ![0, 64, 0] ![0, 0, 0] x v h hu (ValueIdx.ix3 s P j)
      = if hp : 48 ≤ P.val ∧ P.val < 4160 then x (ValueIdx.ix3 s ⟨P.val - 48, by omega⟩ j) else 0 := by
  have hs := s.isLt
  have hj := j.isLt
  unfold pad
  by_cases hp : 48 ≤ P.val ∧ P.val < 4160
  · rw [dif_pos hp, dif_pos (fun b => ?_)]
    · refine congrArg x (funext fun b => Fin.ext ?_)
      match b with
      | ⟨0, _⟩ => show (s.val - 0) / (0 + 1) = s.val; omega
      | ⟨1, _⟩ => show (P.val - 48) / (0 + 1) = P.val - 48; omega
      | ⟨2, _⟩ => show (j.val - 0) / (0 + 1) = j.val; omega
    · match b with
      | ⟨0, _⟩ => show 0 ≤ s.val ∧ (s.val - 0) % (0 + 1) = 0 ∧ (s.val - 0) / (0 + 1) < 8; omega
      | ⟨1, _⟩ => show 48 ≤ P.val ∧ (P.val - 48) % (0 + 1) = 0 ∧ (P.val - 48) / (0 + 1) < 4112; omega
      | ⟨2, _⟩ => show 0 ≤ j.val ∧ (j.val - 0) % (0 + 1) = 0 ∧ (j.val - 0) / (0 + 1) < C; omega
  · rw [dif_neg hp, dif_neg (fun hin => hp ?_), hv]
    have h1 : 48 ≤ P.val ∧ (P.val - 48) % (0 + 1) = 0 ∧ (P.val - 48) / (0 + 1) < 4112 := hin 1
    omega

/-! ## The rates, the shifts and the logits -/

/-- The logits of row `p`. -/
abbrev logs (p : Fin 33792) : Fin 128 → EReal := Rows.dot (xn x0 x1 p) (Rows.padCols (mat x2))

/-- Decay lane `j`. -/
def up (j : Fin 120) : Fin 128 := ⟨8 + j.val, by omega⟩

theorem v102_at (j : Fin 120) : val_main_v102 (F := Ideal) x6 (ValueIdx.ix1 j) = Rows.padPar (mat x6) (up j) := by
  unfold val_main_v102
  rw [pad_vec _ _ zero_word]
  unfold Rows.padPar up
  by_cases h : j.val < 8
  · rw [dif_pos h, if_pos (by dsimp only; omega), val_main_v101_apply]
    exact congrArg x6 (funext fun b => Fin.ext (by
      match b with
      | ⟨0, _⟩ => show j.val / 4 = (8 + j.val - 8) / 4 % 2; omega
      | ⟨1, _⟩ => show j.val % 4 = (8 + j.val - 8) % 4; omega))
  · rw [dif_neg h, if_neg (by dsimp only; omega)]

theorem v107_at (j : Fin 120) : val_main_v107 (F := Ideal) x7 (ValueIdx.ix1 j) = Rows.padPar (mat x7) (up j) := by
  unfold val_main_v107
  rw [pad_vec _ _ zero_word]
  unfold Rows.padPar up
  by_cases h : j.val < 8
  · rw [dif_pos h, if_pos (by dsimp only; omega), val_main_v106_apply]
    exact congrArg x7 (funext fun b => Fin.ext (by
      match b with
      | ⟨0, _⟩ => show j.val / 4 = (8 + j.val - 8) / 4 % 2; omega
      | ⟨1, _⟩ => show j.val % 4 = (8 + j.val - 8) % 4; omega))
  · rw [dif_neg h, if_neg (by dsimp only; omega)]

theorem v105_at (p : Fin 33792) (j : Fin 120) : val_main_v105 (F := Ideal) x0 x1 x2 (ValueIdx.ix2 p j) = logs x0 x1 x2 p (up j) := by
  unfold val_main_v105
  rw [pad_mat _ _ zero_word]
  unfold logs Rows.dot Rows.padCols up
  by_cases h : j.val < 8
  · rw [dif_pos h, v19_at]
    refine Finset.sum_congr rfl fun k _ => ?_
    rw [if_pos (by dsimp only; omega)]
    exact congrArg (fun t => xn x0 x1 p k * mat x2 k t) (Fin.ext (by show (4104 + j.val) % 7184 = (4096 + (8 + j.val)) % 7184; omega))
  · rw [dif_neg h]
    refine (Finset.sum_eq_zero fun k _ => ?_).symm
    rw [if_neg (by dsimp only; omega), mul_zero]

theorem v100_at (p : Fin 33792) (j : Fin 8) : val_main_v100 (F := Ideal) x0 x1 x2 (ValueIdx.ix2 p j)
    = Rows.value (logs x0 x1 x2 p) (Rows.padPar (mat x6)) (Rows.padPar (mat x7)) ⟨j.val, by omega⟩ := by
  have hj := j.isLt
  rw [val_main_v100_apply, val_main_v99_apply, val_main_v98_apply, val_main_v97_apply, val_main_v96_apply, val_main_v95_apply,
    val_main_cst_8_apply, val_main_cst_9_apply, v18_at]
  unfold Rows.value
  rw [if_pos hj]
  have e : proj x0 x1 x2 4096 8 p j = logs x0 x1 x2 p ⟨j.val, by omega⟩ := by
    unfold proj logs Rows.dot Rows.padCols
    refine Finset.sum_congr rfl fun k _ => ?_
    rw [if_pos (by dsimp only; omega)]; rfl
  rw [e]
  show Ideal.div (Ideal.ofBits .f32 0x3F800000#32) (Ideal.ofBits .f32 0x3F800000#32 + Ideal.exp (-_)) = _
  rw [Ideal.ofBits_one_f32]; rfl

theorem v110_at (p : Fin 33792) (j : Fin 120) : val_main_v110 (F := Ideal) x0 x1 x2 x7 (ValueIdx.ix2 p j)
    = logs x0 x1 x2 p (up j) + Rows.padPar (mat x7) (up j) := by
  rw [val_main_v110_apply, val_main_v109_apply, val_main_v108_apply, v105_at,
    show idx_main_v108 (idx_main_v109 (ValueIdx.ix2 p j)) = ValueIdx.ix1 j from funext fun a => by match a with | ⟨0, _⟩ => rfl, v107_at]
  rfl

theorem v111_at (p : Fin 33792) (j : Fin 120) : val_main_v111 (F := Ideal) x0 x1 x2 x7 (ValueIdx.ix2 p j)
    = Rows.softplus (logs x0 x1 x2 p (up j) + Rows.padPar (mat x7) (up j)) := by
  rw [val_main_v111_apply, val_main_call6_v4_apply]
  have e : ∀ y : EReal, (FloatOps.cmpf (F := Ideal) (φ := .f32) .une y y : BitVec 1) = 0#1 := fun y => by
    show BitVec.ofBool (decide (y ≠ y)) = 0#1
    simp
  rw [e]
  refine (show _ = val_main_call6_v11 (F := Ideal) x0 x1 x2 x7 (ValueIdx.ix2 p j) from rfl).trans ?_
  rw [val_main_call6_v11_apply, val_main_call6_v1_apply, val_main_call6_v0_apply, val_main_call6_cst_apply, val_main_call6_v10_apply,
    val_main_call6_v9_apply, val_main_call6_v8_apply, val_main_call6_v7_apply, val_main_call6_v3_apply, val_main_call6_v2_apply,
    val_main_call6_cst_apply, v110_at]
  generalize logs x0 x1 x2 p (up j) + Rows.padPar (mat x7) (up j) = y
  unfold Rows.softplus
  show max y (Ideal.ofBits .f32 0x00000000#32) + Ideal.log1p (Ideal.exp (-(max (y - Ideal.ofBits .f32 0x00000000#32) (-(y - Ideal.ofBits .f32 0x00000000#32))))) = _
  rw [Ideal.ofBits_zero_f32, sub_zero, zero_sub]

theorem v114_at (p : Fin 33792) (j : Fin 120) : val_main_v114 (F := Ideal) x0 x1 x2 x6 x7 (ValueIdx.ix2 p j)
    = Rows.value (logs x0 x1 x2 p) (Rows.padPar (mat x6)) (Rows.padPar (mat x7)) (up j) := by
  rw [val_main_v114_apply, val_main_v113_apply, val_main_v112_apply, v111_at,
    show idx_main_v112 (idx_main_v113 (ValueIdx.ix2 p j)) = ValueIdx.ix1 j from funext fun a => by match a with | ⟨0, _⟩ => rfl,
    val_main_v104_apply, val_main_v103_apply, v102_at]
  unfold Rows.value Rows.decay
  rw [if_neg (show ¬(up j).val < 8 by unfold up; dsimp only; omega), Ideal.ofBits_zero_f32, zero_sub]
  rfl

/-! ## The rows of a chunk -/

theorem v118_at (c : Fin 528) (r : Fin 64) (j : Fin 8) : val_main_v118 (F := Ideal) x0 x1 x2 (ValueIdx.ix3 c r j)
    = Rows.lane (logs x0 x1 x2) (Rows.padPar (mat x6)) (Rows.padPar (mat x7)) ⟨j.val, by omega⟩ (64 * c.val + r.val) := by
  have hc := c.isLt
  have hr := r.isLt
  have hj := j.isLt
  rw [val_main_v118_apply, show idx_main_v118 (ValueIdx.ix3 c r j)
      = ValueIdx.ix3 ⟨(64 * c.val + r.val) / 4224, by omega⟩ ⟨(64 * c.val + r.val) % 4224, Nat.mod_lt _ (by decide)⟩ j from funext fun a => Fin.ext (by
        match a with
        | ⟨0, _⟩ => show ((c.val * 64 + r.val) * 8 + j.val) / 33792 = (64 * c.val + r.val) / 4224; omega
        | ⟨1, _⟩ => show ((c.val * 64 + r.val) * 8 + j.val) / 8 % 4224 = (64 * c.val + r.val) % 4224; omega
        | ⟨2, _⟩ => show ((c.val * 64 + r.val) * 8 + j.val) % 8 = j.val; omega)]
  unfold val_main_v117
  rw [pad_seq _ _ _ zero_word]
  unfold Rows.lane Rows.held
  dsimp only
  by_cases h : 48 ≤ (64 * c.val + r.val) % 4224 ∧ (64 * c.val + r.val) % 4224 < 4160
  · rw [dif_pos h, if_pos h.2, if_pos h.1, val_main_v116_apply, val_main_v115_apply]
    refine (congrArg (val_main_v100 (F := Ideal) x0 x1 x2) (funext fun a => Fin.ext ?_)).trans
      (v100_at x0 x1 x2 x6 x7 ⟨(64 * c.val + r.val) % 33792, Nat.mod_lt _ (by decide)⟩ j)
    match a with
    | ⟨0, _⟩ => show (((64 * c.val + r.val) / 4224 * 4224 + (48 + ((64 * c.val + r.val) % 4224 - 48))) * 8 + j.val) / 8 = (64 * c.val + r.val) % 33792; omega
    | ⟨1, _⟩ => show (((64 * c.val + r.val) / 4224 * 4224 + (48 + ((64 * c.val + r.val) % 4224 - 48))) * 8 + j.val) % 8 = j.val; omega
  · rw [dif_neg h]
    by_cases h2 : (64 * c.val + r.val) % 4224 < 4160
    · rw [if_pos h2, if_neg (fun h1 => h ⟨h1, h2⟩)]
    · rw [if_neg h2]

/-- The masked decays of lane `l`. -/
abbrev G (l : Fin 128) : ℕ → EReal := Rows.lane (logs x0 x1 x2) (Rows.padPar (mat x6)) (Rows.padPar (mat x7)) l

theorem v122_at (c : Fin 528) (r : Fin 64) (j : Fin 120) : val_main_v122 (F := Ideal) x0 x1 x2 x6 x7 (ValueIdx.ix3 c r j)
    = G x0 x1 x2 x6 x7 (up j) (64 * c.val + r.val) := by
  have hc := c.isLt
  have hr := r.isLt
  have hj := j.isLt
  rw [val_main_v122_apply, show idx_main_v122 (ValueIdx.ix3 c r j)
      = ValueIdx.ix3 ⟨(64 * c.val + r.val) / 4224, by omega⟩ ⟨(64 * c.val + r.val) % 4224, Nat.mod_lt _ (by decide)⟩ j from funext fun a => Fin.ext (by
        match a with
        | ⟨0, _⟩ => show ((c.val * 64 + r.val) * 120 + j.val) / 506880 = (64 * c.val + r.val) / 4224; omega
        | ⟨1, _⟩ => show ((c.val * 64 + r.val) * 120 + j.val) / 120 % 4224 = (64 * c.val + r.val) % 4224; omega
        | ⟨2, _⟩ => show ((c.val * 64 + r.val) * 120 + j.val) % 120 = j.val; omega)]
  unfold val_main_v121
  rw [pad_seq _ _ _ zero_word]
  unfold G Rows.lane Rows.held
  dsimp only
  by_cases h : 48 ≤ (64 * c.val + r.val) % 4224 ∧ (64 * c.val + r.val) % 4224 < 4160
  · rw [dif_pos h, if_pos h.2, if_pos h.1, val_main_v120_apply, val_main_v119_apply]
    refine (congrArg (val_main_v114 (F := Ideal) x0 x1 x2 x6 x7) (funext fun a => Fin.ext ?_)).trans
      (v114_at x0 x1 x2 x6 x7 ⟨(64 * c.val + r.val) % 33792, Nat.mod_lt _ (by decide)⟩ j)
    match a with
    | ⟨0, _⟩ => show (((64 * c.val + r.val) / 4224 * 4224 + (48 + ((64 * c.val + r.val) % 4224 - 48))) * 120 + j.val) / 120 = (64 * c.val + r.val) % 33792; omega
    | ⟨1, _⟩ => show (((64 * c.val + r.val) / 4224 * 4224 + (48 + ((64 * c.val + r.val) % 4224 - 48))) * 120 + j.val) % 120 = j.val; omega
  · rw [dif_neg h]
    by_cases h2 : (64 * c.val + r.val) % 4224 < 4160
    · rw [if_pos h2, if_neg (fun h1 => h ⟨h1, h2⟩)]
    · rw [if_neg h2]

/-! ## The running sums -/

theorem foldl_sum {N : ℕ} (g : Fin N → EReal) (l : List (Fin N)) : ∀ v : EReal, l.foldl (fun r n => r + g n) v = v + (l.map g).sum := by
  induction l with
  | nil => intro v; exact (add_zero v).symm
  | cons a l ih => intro v; rw [List.foldl_cons, ih, List.map_cons, List.sum_cons, add_assoc]

theorem window_sum (f : ℕ → EReal) (r : ℕ) (hr : r < 64) :
    ∑ n ∈ Finset.range 64, (if 63 ≤ r + n then f (r + n - 63) else 0) = ∑ k ∈ Finset.range (r + 1), f (r - k) := by
  rw [← Finset.sum_range_reflect]
  refine (congrArg (fun M => ∑ k ∈ Finset.range M, (if 63 ≤ r + (63 - k) then f (r + (63 - k) - 63) else 0)) (show 64 = (r + 1) + (63 - r) by omega)).trans ?_
  rw [Finset.sum_range_add, Finset.sum_eq_zero (s := Finset.range (63 - r)) (fun k hk => if_neg (by have := Finset.mem_range.1 hk; omega)), add_zero]
  refine Finset.sum_congr rfl fun k hk => ?_
  have := Finset.mem_range.1 hk
  rw [if_pos (by omega)]
  exact congrArg f (by omega)

theorem coords (n : Fin (⟨3, ![1, 64, 1]⟩ : Shape).numel) : ((⟨3, ![1, 64, 1]⟩ : Shape).rowMajor.symm n 0).val = 0
    ∧ ((⟨3, ![1, 64, 1]⟩ : Shape).rowMajor.symm n 1).val = n.val ∧ ((⟨3, ![1, 64, 1]⟩ : Shape).rowMajor.symm n 2).val = 0 := by
  have h : ((⟨3, ![1, 64, 1]⟩ : Shape).rowMajor ((⟨3, ![1, 64, 1]⟩ : Shape).rowMajor.symm n)).val = n.val := by rw [Equiv.apply_symm_apply]
  rw [Shape.rowMajor_val_three] at h
  have h0 : ((⟨3, ![1, 64, 1]⟩ : Shape).rowMajor.symm n 0).val < 1 := ((⟨3, ![1, 64, 1]⟩ : Shape).rowMajor.symm n 0).isLt
  have h2 : ((⟨3, ![1, 64, 1]⟩ : Shape).rowMajor.symm n 2).val < 1 := ((⟨3, ![1, 64, 1]⟩ : Shape).rowMajor.symm n 2).isLt
  have h' : (((⟨3, ![1, 64, 1]⟩ : Shape).rowMajor.symm n 0).val * 64 + ((⟨3, ![1, 64, 1]⟩ : Shape).rowMajor.symm n 1).val) * 1
    + ((⟨3, ![1, 64, 1]⟩ : Shape).rowMajor.symm n 2).val = n.val := h
  omega

/-- A running sum over the rows of each chunk. -/
theorem running_at (x : S528x64x120.Idx → EReal) (v : S_.Idx → EReal) (hv : v (Shape.Idx.first h_S_) = 0) (c : Fin 528) (r : Fin 64) (j : Fin 120)
    (f : ℕ → EReal) (hx : ∀ q : Fin 64, x (ValueIdx.ix3 c q j) = f q.val) :
    Host.reduceWindowAdd (F := Ideal) (φ := .f32) ![1, 64, 1] ![1, 1, 1] ![0, 63, 0] ![0, 0, 0] x v
        reduceWindows_S528x64x120_S528x64x120_w1s1p0_0_w64s1p63_0_w1s1p0_0 h_S_ (ValueIdx.ix3 c r j)
      = ∑ k ∈ Finset.range (r.val + 1), f (r.val - k) := by
  have hc := c.isLt
  have hr := r.isLt
  have hj := j.isLt
  rw [← window_sum f r.val hr]
  unfold Host.reduceWindowAdd
  rw [Ideal.hostReduceWindowAdd_def]
  unfold Ideal.hostReduceWindowAdd Host.reduceWindow
  dsimp only
  refine (foldl_sum _ _ _).trans ?_
  rw [hv, zero_add, ← Fin.sum_univ_def]
  refine (Finset.sum_congr rfl (g := fun n => if 63 ≤ r.val + n.val then f (r.val + n.val - 63) else 0) fun n _ => ?_).trans ?_
  · obtain ⟨w0, w1, w2⟩ := coords n
    have hn : n.val < 64 := lt_of_lt_of_eq n.isLt (by decide)
    by_cases h : 63 ≤ r.val + n.val
    · rw [if_pos h, dif_pos (fun a => ?_)]
      · refine (congrArg x (funext fun a => Fin.ext ?_)).trans (hx ⟨r.val + n.val - 63, by omega⟩)
        match a with
        | ⟨0, _⟩ => show c.val * 1 + ((⟨3, ![1, 64, 1]⟩ : Shape).rowMajor.symm n 0).val - 0 = c.val; omega
        | ⟨1, _⟩ => show r.val * 1 + ((⟨3, ![1, 64, 1]⟩ : Shape).rowMajor.symm n 1).val - 63 = r.val + n.val - 63; omega
        | ⟨2, _⟩ => show j.val * 1 + ((⟨3, ![1, 64, 1]⟩ : Shape).rowMajor.symm n 2).val - 0 = j.val; omega
      · match a with
        | ⟨0, _⟩ =>
          show 0 ≤ c.val * 1 + ((⟨3, ![1, 64, 1]⟩ : Shape).rowMajor.symm n 0).val ∧ c.val * 1 + ((⟨3, ![1, 64, 1]⟩ : Shape).rowMajor.symm n 0).val - 0 < 528
          omega
        | ⟨1, _⟩ =>
          show 63 ≤ r.val * 1 + ((⟨3, ![1, 64, 1]⟩ : Shape).rowMajor.symm n 1).val ∧ r.val * 1 + ((⟨3, ![1, 64, 1]⟩ : Shape).rowMajor.symm n 1).val - 63 < 64
          omega
        | ⟨2, _⟩ =>
          show 0 ≤ j.val * 1 + ((⟨3, ![1, 64, 1]⟩ : Shape).rowMajor.symm n 2).val ∧ j.val * 1 + ((⟨3, ![1, 64, 1]⟩ : Shape).rowMajor.symm n 2).val - 0 < 120
          omega
    · rw [if_neg h, dif_neg fun hin => h ?_]
      have h1 : 63 ≤ r.val * 1 + ((⟨3, ![1, 64, 1]⟩ : Shape).rowMajor.symm n 1).val
        ∧ r.val * 1 + ((⟨3, ![1, 64, 1]⟩ : Shape).rowMajor.symm n 1).val - 63 < 64 := hin 1
      omega
  · rw [← Finset.sum_range (fun n => if 63 ≤ r.val + n then f (r.val + n - 63) else 0)]
    exact congrArg (fun M => ∑ n ∈ Finset.range M, (if 63 ≤ r.val + n then f (r.val + n - 63) else 0))
      (show (⟨3, ![1, 64, 1]⟩ : Shape).numel = 64 by decide)

theorem v123_at (c : Fin 528) (r : Fin 64) (j : Fin 120) : val_main_v123 (F := Ideal) x0 x1 x2 x6 x7 (ValueIdx.ix3 c r j)
    = ∑ k ∈ Finset.range (r.val + 1), G x0 x1 x2 x6 x7 (up j) (64 * c.val + (r.val - k)) := by
  unfold val_main_v123
  exact running_at _ _ Ideal.ofBits_zero_f32 c r j (fun q => G x0 x1 x2 x6 x7 (up j) (64 * c.val + q)) fun q => v122_at x0 x1 x2 x6 x7 c q j

theorem flip_at (x : S528x64x120.Idx → EReal) (c : Fin 528) (r : Fin 64) (j : Fin 120) :
    Host.reverse [1] x (ValueIdx.ix3 c r j) = x (ValueIdx.ix3 c ⟨63 - r.val, by omega⟩ j) := by
  have hr := r.isLt
  unfold Host.reverse
  refine congrArg x (funext fun a => ?_)
  match a with
  | ⟨0, _⟩ => rfl
  | ⟨1, _⟩ => exact Fin.ext (by show 64 - (r.val + 1) = 63 - r.val; omega)
  | ⟨2, _⟩ => rfl

theorem v126_at (c : Fin 528) (r : Fin 64) (j : Fin 120) : val_main_v126 (F := Ideal) x0 x1 x2 x6 x7 (ValueIdx.ix3 c r j)
    = ∑ k ∈ Finset.range (64 - r.val), G x0 x1 x2 x6 x7 (up j) (64 * c.val + (r.val + k)) := by
  have hr := r.isLt
  unfold val_main_v126
  rw [flip_at]
  unfold val_main_v125
  rw [running_at _ _ Ideal.ofBits_zero_f32 c ⟨63 - r.val, by omega⟩ j (fun q => G x0 x1 x2 x6 x7 (up j) (64 * c.val + (63 - q))) (fun q => by
    unfold val_main_v124
    rw [flip_at, v122_at])]
  rw [show 63 - r.val + 1 = 64 - r.val by omega]
  refine Finset.sum_congr rfl fun k hk => congrArg _ ?_
  have := Finset.mem_range.1 hk
  dsimp only
  omega

theorem v129_at (c : Fin 528) (r : Fin 64) (l : Fin 128) : val_main_v129 (F := Ideal) x0 x1 x2 x6 x7 (ValueIdx.ix3 c r l)
    = if h : l.val < 8 then val_main_v118 (F := Ideal) x0 x1 x2 (ValueIdx.ix3 c r ⟨l.val, h⟩)
      else if h' : l.val < 12 then val_main_v127 (F := Ideal) x0 x1 x2 x6 x7 (ValueIdx.ix3 c r ⟨l.val - 8, by omega⟩)
      else val_main_v128 (F := Ideal) x0 x1 x2 x6 x7 (ValueIdx.ix3 c r ⟨l.val - 12, by omega⟩) := by
  simp only [← ix3_eq_valueIdx]
  unfold val_main_v129
  generalize val_main_v118 (F := Ideal) x0 x1 x2 = a
  generalize val_main_v127 (F := Ideal) x0 x1 x2 x6 x7 = b
  generalize val_main_v128 (F := Ideal) x0 x1 x2 x6 x7 = d
  pointwise
  have e : l.val - 8 < 4 ↔ l.val < 12 := by omega
  simp only [e, Nat.sub_sub]

theorem low_at (c : Fin 528) (r : Fin 64) (j : Fin 4) : idx_main_v127 (ValueIdx.ix3 c r j) = ValueIdx.ix3 c r (⟨j.val, by omega⟩ : Fin 120) := by
  funext a
  match a with
  | ⟨0, _⟩ => rfl
  | ⟨1, _⟩ => rfl
  | ⟨2, _⟩ => rfl

theorem high_at (c : Fin 528) (r : Fin 64) (j : Fin 116) : idx_main_v128 (ValueIdx.ix3 c r j) = ValueIdx.ix3 c r (⟨4 + j.val, by omega⟩ : Fin 120) := by
  funext a
  match a with
  | ⟨0, _⟩ => rfl
  | ⟨1, _⟩ => rfl
  | ⟨2, _⟩ => rfl

theorem chunk_at (p : Fin 33792) (l : Fin 128) : idx_main_v130 (ValueIdx.ix2 p l)
    = ValueIdx.ix3 (⟨p.val / 64, by omega⟩ : Fin 528) (⟨p.val % 64, Nat.mod_lt _ (by decide)⟩ : Fin 64) l := by
  have hp := p.isLt
  have hl := l.isLt
  funext a
  match a with
  | ⟨0, _⟩ => exact Fin.ext (show (p.val * 128 + l.val) / 8192 = p.val / 64 by omega)
  | ⟨1, _⟩ => exact Fin.ext (show (p.val * 128 + l.val) / 128 % 64 = p.val % 64 by omega)
  | ⟨2, _⟩ => exact Fin.ext (show (p.val * 128 + l.val) % 128 = l.val by omega)

theorem v130_at (p : Fin 33792) (l : Fin 128) : val_main_v130 (F := Ideal) x0 x1 x2 x6 x7 (ValueIdx.ix2 p l)
    = Rows.lanes (logs x0 x1 x2) (Rows.padPar (mat x6)) (Rows.padPar (mat x7)) p.val l := by
  have hp := p.isLt
  have hl := l.isLt
  rw [val_main_v130_apply, chunk_at, v129_at]
  have e : 64 * (p.val / 64) + p.val % 64 = p.val := by omega
  unfold Rows.lanes Rows.sums
  by_cases h8 : l.val < 8
  · rw [dif_pos h8, if_pos h8]
    refine (v118_at x0 x1 x2 x6 x7 ⟨p.val / 64, by omega⟩ ⟨p.val % 64, Nat.mod_lt _ (by decide)⟩ ⟨l.val, h8⟩).trans ?_
    exact congrArg (G x0 x1 x2 x6 x7 l) e
  · rw [dif_neg h8, if_neg h8]
    by_cases h12 : l.val < 12
    · rw [dif_pos h12, if_pos h12, val_main_v127_apply, low_at]
      refine (v123_at x0 x1 x2 x6 x7 ⟨p.val / 64, by omega⟩ ⟨p.val % 64, Nat.mod_lt _ (by decide)⟩ ⟨l.val - 8, by omega⟩).trans ?_
      refine Finset.sum_congr rfl fun k hk => ?_
      have hk : k < p.val % 64 + 1 := Finset.mem_range.1 hk
      rw [show up ⟨l.val - 8, by omega⟩ = l from Fin.ext (by show 8 + (l.val - 8) = l.val; omega)]
      exact congrArg (G x0 x1 x2 x6 x7 l) (by show 64 * (p.val / 64) + (p.val % 64 - k) = p.val - k; omega)
    · rw [dif_neg h12, if_neg h12, val_main_v128_apply, high_at]
      refine (v126_at x0 x1 x2 x6 x7 ⟨p.val / 64, by omega⟩ ⟨p.val % 64, Nat.mod_lt _ (by decide)⟩ ⟨4 + (l.val - 12), by omega⟩).trans ?_
      refine Finset.sum_congr rfl fun k _ => ?_
      rw [show up ⟨4 + (l.val - 12), by omega⟩ = l from Fin.ext (by show 8 + (4 + (l.val - 12)) = l.val; omega)]
      exact congrArg (G x0 x1 x2 x6 x7 l) (by show 64 * (p.val / 64) + (p.val % 64 + k) = p.val + k; omega)

end Cert.Reference5Ideal.Inproj
end
end
-- ==== Proof.InEqual.lean ====
module

public import proofs.«01_k».proof.Proof.InArrays
public import proofs.«01_k».proof.Proof.InRef
public import proofs.«01_k».proof.Proof.InGates
public import proofs.«01_k».proof.Proof.InRefGates

@[expose] public section

set_option maxRecDepth 16384

noncomputable section

namespace Cert.Kernel5Ideal.Inproj

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

/-- The run, read: the result arrays, the arguments unchanged. -/
theorem run : θ_run defs (onTc (τ := τ) (main (F := Ideal))) ⟨m, fun _ => 0, ρ⟩ (fun r => ∀ c : Dev nD,
      r.2.mem ((c.tc : Thread nD τ).loc main_v20_0) = abRes m c
      ∧ r.2.mem ((c.tc : Thread nD τ).loc main_v20_1) = scRes m c
      ∧ r.2.mem ((c.tc : Thread nD τ).loc main_v20_2) = qkvRes m c
      ∧ r.2.mem ((c.tc : Thread nD τ).loc main_v20_3) = zRes m c
      ∧ r.2.mem ((c.tc : Thread nD τ).loc main_v20_4) = dncRes m c
      ∧ r.2.mem ((c.tc : Thread nD τ).loc main_v20_5) = gateRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 11).trans (ab_final m c), ((h.1.1 c).1 12).trans (sc_final m c),
      ((h.1.1 c).1 13).trans (qkv_final m c), ((h.1.1 c).1 14).trans (z_final m c), ((h.1.1 c).1 15).trans (dnc_final m c),
      ((h.1.1 c).1 16).trans (gate_final m c), h.2.1 c⟩)
    (θ_run_and (run_main m ρ) (unchanged m ρ))

end Cert.Kernel5Ideal.Inproj

namespace Cert.Equal5

open Idealize.ShloMosaic Idealize.ShloMosaic.TcCoe

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The two programs are started on the same arguments. -/
abbrev Same : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
    ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
    ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
    ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
    ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
    ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
    ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
    ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)

theorem ab_eq (h : Same m m' c) :
    Cert.Reference5Ideal.Read.val_main_v132 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))
      = Cert.Kernel5Ideal.Inproj.abRes m c := by
  obtain ⟨h0, h1, h2, h3, h4, h5, h6, h7⟩ := h
  rw [h0, h1, h2, h3]
  funext i
  obtain ⟨r, k, rfl⟩ : ∃ (r : Fin 33792) (k : Fin 1024), i = ValueIdx.ix2 r k := ⟨i 0, i 1, ValueIdx.eq_ix2 i⟩
  exact Cert.Reference5Ideal.Inproj.v132_at _ _ _ _ r k

theorem sc_eq (h : Same m m' c) :
    Cert.Reference5Ideal.Read.val_main_v133 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg4))
      = Cert.Kernel5Ideal.Inproj.scRes m c := by
  obtain ⟨h0, h1, h2, h3, h4, h5, h6, h7⟩ := h
  rw [h0, h1, h2, h4]
  funext i
  obtain ⟨r, k, rfl⟩ : ∃ (r : Fin 33792) (k : Fin 512), i = ValueIdx.ix2 r k := ⟨i 0, i 1, ValueIdx.eq_ix2 i⟩
  exact Cert.Reference5Ideal.Inproj.v133_at _ _ _ _ r k

theorem qkv_eq (h : Same m m' c) :
    Cert.Reference5Ideal.Read.val_main_v134 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg5))
      = Cert.Kernel5Ideal.Inproj.qkvRes m c := by
  obtain ⟨h0, h1, h2, h3, h4, h5, h6, h7⟩ := h
  rw [h0, h1, h2, h5]
  funext i
  obtain ⟨r, k, rfl⟩ : ∃ (r : Fin 33792) (k : Fin 1536), i = ValueIdx.ix2 r k := ⟨i 0, i 1, ValueIdx.eq_ix2 i⟩
  exact Cert.Reference5Ideal.Inproj.v134_at _ _ _ _ r k

theorem z_eq (h : Same m m' c) :
    Cert.Reference5Ideal.Read.val_main_v135 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = Cert.Kernel5Ideal.Inproj.zRes m c := by
  obtain ⟨h0, h1, h2, h3, h4, h5, h6, h7⟩ := h
  rw [h0, h1, h2]
  funext i
  obtain ⟨r, k, rfl⟩ : ∃ (r : Fin 33792) (k : Fin 512), i = ValueIdx.ix2 r k := ⟨i 0, i 1, ValueIdx.eq_ix2 i⟩
  exact Cert.Reference5Ideal.Inproj.v135_at _ _ _ r k

theorem dnc_eq (h : Same m m' c) :
    Cert.Reference5Ideal.Read.val_main_v130 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7))
      = Cert.Kernel5Ideal.Inproj.dncRes m c := by
  obtain ⟨h0, h1, h2, h3, h4, h5, h6, h7⟩ := h
  rw [h0, h1, h2, h6, h7]
  funext i
  obtain ⟨r, k, rfl⟩ : ∃ (r : Fin 33792) (k : Fin 128), i = ValueIdx.ix2 r k := ⟨i 0, i 1, ValueIdx.eq_ix2 i⟩
  exact Cert.Reference5Ideal.Inproj.v130_at _ _ _ _ _ r k

theorem gate_eq (h : Same m m' c) :
    Cert.Reference5Ideal.Read.val_main_v142 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = Cert.Kernel5Ideal.Inproj.gateRes m c := by
  obtain ⟨h0, h1, h2, h3, h4, h5, h6, h7⟩ := h
  rw [h0, h1, h2]
  funext i
  obtain ⟨r, k, rfl⟩ : ∃ (r : Fin 33792) (k : Fin 3072), i = ValueIdx.ix2 r k := ⟨i 0, i 1, ValueIdx.eq_ix2 i⟩
  exact Cert.Reference5Ideal.Inproj.v142_at _ _ _ r k

end Cert.Equal5
end
end
-- ==== Proof.InRefRun.lean ====
module

public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Reference5Ideal.Inproj

open Idealize.ShloMosaic Idealize.ShloMosaic.TcCoe Idealize.SL.Sem Idealize.ShloMosaic.StableHlo
open Cert.Reference5Ideal Cert.Reference5Ideal.Read

variable (m : (ℓ : Loc nD τ sig) → Buf (Elt Ideal) ℓ) (ρ : Dev nD → PrngReg)

/-- What a device is left with: the results, the arguments unchanged. -/
def Left (c : Dev nD) (μ : (ℓ : Loc nD τ sig) → Buf (Elt Ideal) ℓ) : Prop :=
  μ ((c.tc : Thread nD τ).loc main_v132) = val_main_v132 (F := Ideal) (m ((c.tc : Thread nD τ).loc main_arg0)) (m ((c.tc : Thread nD τ).loc main_arg1)) (m ((c.tc : Thread nD τ).loc main_arg2)) (m ((c.tc : Thread nD τ).loc main_arg3))
  ∧ μ ((c.tc : Thread nD τ).loc main_v133) = val_main_v133 (F := Ideal) (m ((c.tc : Thread nD τ).loc main_arg0)) (m ((c.tc : Thread nD τ).loc main_arg1)) (m ((c.tc : Thread nD τ).loc main_arg2)) (m ((c.tc : Thread nD τ).loc main_arg4))
  ∧ μ ((c.tc : Thread nD τ).loc main_v134) = val_main_v134 (F := Ideal) (m ((c.tc : Thread nD τ).loc main_arg0)) (m ((c.tc : Thread nD τ).loc main_arg1)) (m ((c.tc : Thread nD τ).loc main_arg2)) (m ((c.tc : Thread nD τ).loc main_arg5))
  ∧ μ ((c.tc : Thread nD τ).loc main_v135) = val_main_v135 (F := Ideal) (m ((c.tc : Thread nD τ).loc main_arg0)) (m ((c.tc : Thread nD τ).loc main_arg1)) (m ((c.tc : Thread nD τ).loc main_arg2))
  ∧ μ ((c.tc : Thread nD τ).loc main_v130) = val_main_v130 (F := Ideal) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
  ∧ μ ((c.tc : Thread nD τ).loc main_v142) = val_main_v142 (F := Ideal) (m ((c.tc : Thread nD τ).loc main_arg0)) (m ((c.tc : Thread nD τ).loc main_arg1)) (m ((c.tc : Thread nD τ).loc main_arg2))
  ∧ μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)

theorem run_read : θ_run defs (onTc (τ := τ) (main (F := Ideal))) ⟨m, fun _ => 0, ρ⟩ (fun r => ∀ c : Dev nD, Left m c r.2.mem) :=
  (θ_run defs _ _).mono (fun r h c => by
    obtain ⟨h0, h1, h2, h3, h4, h5, h6⟩ := h c
    exact ⟨h0.trans (val_main_v132_eq (launchContents m c)), h1.trans (val_main_v133_eq (launchContents m c)), h2.trans (val_main_v134_eq (launchContents m c)), h3.trans (val_main_v135_eq (launchContents m c)), h4.trans (val_main_v130_eq (launchContents m c)),
      h5.trans (val_main_v142_eq (launchContents m c)), h6⟩) (Value.run m ρ)

/-- The reference has no counters. -/
theorem no_counters : sig.nSem + sig.nDmaSem = 0 := by decide +kernel

theorem at_rest (s : MemSt nD τ sig (Elt Ideal)) : s.sem = fun _ => 0 := sem_eq_zero_of_no_sems no_counters s

theorem unchanged : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ?_) (run_read m ρ)
  refine And.intro (fun c => ?_) (at_rest r.2)
  obtain ⟨_, _, _, _, _, _, h⟩ := h c
  exact h

end Cert.Reference5Ideal.Inproj
end
end
-- ==== Proof.InFrame.lean ====
module

public import proofs.«01_k».proof.Proof.InLaunched
public import proofs.«01_k».proof.Proof.Gen.Kernel5
public import proofs.«01_k».proof.Defs

@[expose] public section

noncomputable section

namespace Cert.Kernel5Ideal.Inproj

open Idealize.ShloMosaic Idealize.SL.Sem

/-- The two programs print the same body table and the same host code. -/
theorem sig_eq : Cert.Kernel5.sig = Cert.Kernel5Ideal.sig := by sl_kernel_rfl

theorem defs_eq : @Cert.Kernel5.defs Bits _ _ = @Cert.Kernel5Ideal.defs Bits _ _ := by sl_kernel_rfl

theorem main_eq : @Cert.Kernel5.main Bits _ _ = @Cert.Kernel5Ideal.main Bits _ _ := by sl_kernel_rfl

/-- The kernel runs to the end, the arguments unchanged and the counters at zero. -/
theorem frame_words : Cert.quiescent_Kernel5 := fun m ρ _ => by
  rw [defs_eq, main_eq]
  exact unchanged (F := Bits) m ρ

end Cert.Kernel5Ideal.Inproj

end
end
-- ==== Proof.lean ====
/- The proof of the claims: each program runs to the end with its arguments unchanged and its counters at zero, and the
   result of each kernel's ideal reading is its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.Gen.Kernel4
public import proofs.«01_k».proof.Proof.Gen.Kernel5
public import proofs.«01_k».proof.Proof.Gen.Kernel4.Skeleton
public import proofs.«01_k».proof.Proof.Gen.Kernel5.Skeleton
public import proofs.«01_k».proof.Proof.Gen.Kernel4.Launch
public import proofs.«01_k».proof.Proof.Gen.Kernel5.Launch
public import proofs.«01_k».proof.Proof.Gen.Kernel4.Points
public import proofs.«01_k».proof.Proof.Gen.Kernel5.Points
public import proofs.«01_k».proof.Proof.Gen.Kernel4.Frame
public import proofs.«01_k».proof.Proof.Gen.Kernel5.Frame
public import proofs.«01_k».proof.Proof.Gen.Kernel4Ideal
public import proofs.«01_k».proof.Proof.Gen.Kernel5Ideal
public import proofs.«01_k».proof.Proof.Gen.Kernel4Ideal.Skeleton
public import proofs.«01_k».proof.Proof.Gen.Kernel5Ideal.Skeleton
public import proofs.«01_k».proof.Proof.Gen.Kernel4Ideal.Launch
public import proofs.«01_k».proof.Proof.Gen.Kernel5Ideal.Launch
public import proofs.«01_k».proof.Proof.Gen.Kernel4Ideal.Points
public import proofs.«01_k».proof.Proof.Gen.Kernel5Ideal.Points
public import proofs.«01_k».proof.Proof.Gen.Kernel4Ideal.Frame
public import proofs.«01_k».proof.Proof.Gen.Kernel5Ideal.Frame
public import proofs.«01_k».proof.Proof.Gen.Reference4Ideal
public import proofs.«01_k».proof.Proof.Gen.Reference5Ideal
public import proofs.«01_k».proof.Proof.Gen.Reference4Ideal.Run
public import proofs.«01_k».proof.Proof.Gen.Reference5Ideal.Run
public import proofs.«01_k».proof.Proof.Gen.Reference4Ideal.Read
public import proofs.«01_k».proof.Proof.Gen.Reference5Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Equal2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Equal3
public import proofs.«01_k».proof.Proof.MergeEqual
public import proofs.«01_k».proof.Proof.InEqual
public import proofs.«01_k».proof.Proof.InRefRun
public import proofs.«01_k».proof.Proof.InFrame
public import Idealize.ShloMosaic.Adequacy
public import Idealize.ShloMosaic.Init

@[expose] public section

noncomputable section

namespace Cert.Proof

open Idealize.ShloMosaic Idealize.SL.Sem

/-- The two programs print the same body table. -/
theorem defs_eq : @Cert.Kernel.defs Bits _ _ = @Cert.KernelIdeal.defs Bits _ _ := by sl_kernel_rfl

/-- The kernel runs to the end, the arguments unchanged and the counters at zero. -/
theorem frame_kernel : Cert.quiescent_Kernel := fun m ρ _ => by
  rw [defs_eq]
  exact Cert.KernelIdeal.Ffn.unchanged (F := Bits) m ρ

theorem frame_kernelIdeal : Cert.quiescent_KernelIdeal := fun m ρ _ => Cert.KernelIdeal.Ffn.unchanged (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem values : Cert.algebraic_KernelIdeal_ReferenceIdeal := fun m ρ m' ρ' _ hin =>
  ⟨Cert.KernelIdeal.Ffn.result m, Cert.KernelIdeal.Ffn.run m ρ,
    (θ_run Cert.ReferenceIdeal.defs _ _).mono
      (fun r h c => ⟨(h c).1.trans (Cert.Equal.reference_eq m m' c (hin c)), (h c).2⟩) (Cert.ReferenceIdeal.Value.run m' ρ')⟩

/-- The two programs print the same body table. -/
theorem defs2_eq : @Cert.Kernel2.defs Bits _ _ = @Cert.Kernel2Ideal.defs Bits _ _ := by sl_kernel_rfl

/-- The kernel runs to the end, the arguments unchanged and the counters at zero. -/
theorem frame_kernel2 : Cert.quiescent_Kernel2 := fun m ρ _ => by
  rw [defs2_eq]
  exact Cert.Kernel2Ideal.Ffn.unchanged (F := Bits) m ρ

theorem frame_kernel2Ideal : Cert.quiescent_Kernel2Ideal := fun m ρ _ => Cert.Kernel2Ideal.Ffn.unchanged (F := Ideal) m ρ

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem values2 : Cert.algebraic_Kernel2Ideal_Reference2Ideal := fun m ρ m' ρ' _ hin =>
  ⟨Cert.Kernel2Ideal.Ffn.result m, Cert.Kernel2Ideal.Ffn.run m ρ,
    (θ_run Cert.Reference2Ideal.defs _ _).mono
      (fun r h c => ⟨(h c).1.trans (Cert.Equal2.reference_eq m m' c (hin c)), (h c).2⟩) (Cert.Reference2Ideal.Value.run m' ρ')⟩

/-- The two programs print the same body table. -/
theorem defs3_eq : @Cert.Kernel3.defs Bits _ _ = @Cert.Kernel3Ideal.defs Bits _ _ := by sl_kernel_rfl

/-- The kernel runs to the end, the arguments unchanged and the counters at zero. -/
theorem frame_kernel3 : Cert.quiescent_Kernel3 := fun m ρ _ => by
  rw [defs3_eq]
  exact Cert.Kernel3Ideal.Ffn.unchanged (F := Bits) m ρ

theorem frame_kernel3Ideal : Cert.quiescent_Kernel3Ideal := fun m ρ _ => Cert.Kernel3Ideal.Ffn.unchanged (F := Ideal) m ρ

theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem values3 : Cert.algebraic_Kernel3Ideal_Reference3Ideal := fun m ρ m' ρ' _ hin =>
  ⟨Cert.Kernel3Ideal.Ffn.result m, Cert.Kernel3Ideal.Ffn.run m ρ,
    (θ_run Cert.Reference3Ideal.defs _ _).mono
      (fun r h c => ⟨(h c).1.trans (Cert.Equal3.reference_eq m m' c (hin c)), (h c).2⟩) (Cert.Reference3Ideal.Value.run m' ρ')⟩

/-- Program 4, the end of the mixer: the kernel and its reference run to the end, the arguments unchanged. -/
theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem values4 : Cert.algebraic_Kernel4Ideal_Reference4Ideal := fun m ρ m' ρ' _ hin =>
  ⟨Cert.Kernel4Ideal.Merge.result m, Cert.Kernel4Ideal.Merge.run m ρ,
    (θ_run Cert.Reference4Ideal.defs _ _).mono
      (fun r h c => ⟨(h c).1.trans (Cert.Equal4.reference_eq m m' c (hin c)), (h c).2⟩) (Cert.Reference4Ideal.Value.run m' ρ')⟩

/-- Program 5, the projections at the start of the mixer. -/
theorem frame_kernel5 : Cert.quiescent_Kernel5 := Cert.Kernel5Ideal.Inproj.frame_words

theorem frame_kernel5Ideal : Cert.quiescent_Kernel5Ideal := fun m ρ _ => Cert.Kernel5Ideal.Inproj.unchanged (F := Ideal) m ρ

theorem frame_reference5 : Cert.quiescent_Reference5Ideal := fun m ρ _ => Cert.Reference5Ideal.Inproj.unchanged m ρ

theorem values5 : Cert.algebraic_Kernel5Ideal_Reference5Ideal := fun m ρ m' ρ' _ hin =>
  ⟨Cert.Kernel5Ideal.Inproj.abRes m, Cert.Kernel5Ideal.Inproj.scRes m, Cert.Kernel5Ideal.Inproj.qkvRes m, Cert.Kernel5Ideal.Inproj.zRes m,
    Cert.Kernel5Ideal.Inproj.dncRes m, Cert.Kernel5Ideal.Inproj.gateRes m, Cert.Kernel5Ideal.Inproj.run m ρ,
    (θ_run Cert.Reference5Ideal.defs _ _).mono
      (fun r h c => ⟨(h c).1.trans (Cert.Equal5.ab_eq m m' c (hin c)), (h c).2.1.trans (Cert.Equal5.sc_eq m m' c (hin c)),
        (h c).2.2.1.trans (Cert.Equal5.qkv_eq m m' c (hin c)), (h c).2.2.2.1.trans (Cert.Equal5.z_eq m m' c (hin c)),
        (h c).2.2.2.2.1.trans (Cert.Equal5.dnc_eq m m' c (hin c)), (h c).2.2.2.2.2.1.trans (Cert.Equal5.gate_eq m m' c (hin c)), (h c).2.2.2.2.2.2⟩)
      (Cert.Reference5Ideal.Inproj.run_read m' ρ')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    frame_kernel, frame_kernelIdeal, frame_reference, frame_kernel2, frame_kernel2Ideal, frame_reference2, frame_kernel3, frame_kernel3Ideal, frame_reference3,
    frame_kernel4, frame_kernel4Ideal, frame_reference4, frame_kernel5, frame_kernel5Ideal, frame_reference5,
    trivial, values, trivial, values2, trivial, values3, trivial, values4, trivial, values5⟩

end Cert.Proof

end
